-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)) (v4 : (c : Dev Cert.Kernel2Ideal.nD) → Buf (Elt Ideal) ((c.tc : Thread Cert.Kernel2Ideal.nD Cert.Kernel2Ideal.τ).loc Cert.Kernel2Ideal.main_v1_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_v1_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_v61) = v2 c
          ∧ r.2.mem ((c.tc : Thread Cert.Reference2Ideal.nD Cert.Reference2Ideal.τ).loc Cert.Reference2Ideal.main_v62) = v3 c
          ∧ r.2.mem ((c.tc : Thread Cert.Reference2Ideal.nD Cert.Reference2Ideal.τ).loc Cert.Reference2Ideal.main_v66) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)) (v5 : (c : Dev Cert.Kernel3Ideal.nD) → Buf (Elt Ideal) ((c.tc : Thread Cert.Kernel3Ideal.nD Cert.Kernel3Ideal.τ).loc Cert.Kernel3Ideal.main_v1_5)) (v6 : (c : Dev Cert.Kernel3Ideal.nD) → Buf (Elt Ideal) ((c.tc : Thread Cert.Kernel3Ideal.nD Cert.Kernel3Ideal.τ).loc Cert.Kernel3Ideal.main_v1_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_v1_4) = v4 c
          ∧ r.2.mem ((c.tc : Thread Cert.Kernel3Ideal.nD Cert.Kernel3Ideal.τ).loc Cert.Kernel3Ideal.main_v1_5) = v5 c
          ∧ r.2.mem ((c.tc : Thread Cert.Kernel3Ideal.nD Cert.Kernel3Ideal.τ).loc Cert.Kernel3Ideal.main_v1_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v71) = v1 c
          ∧ r.2.mem ((c.tc : Thread Cert.Reference3Ideal.nD Cert.Reference3Ideal.τ).loc Cert.Reference3Ideal.main_v73) = v2 c
          ∧ r.2.mem ((c.tc : Thread Cert.Reference3Ideal.nD Cert.Reference3Ideal.τ).loc Cert.Reference3Ideal.main_v74) = v3 c
          ∧ r.2.mem ((c.tc : Thread Cert.Reference3Ideal.nD Cert.Reference3Ideal.τ).loc Cert.Reference3Ideal.main_v78) = v4 c
          ∧ r.2.mem ((c.tc : Thread Cert.Reference3Ideal.nD Cert.Reference3Ideal.τ).loc Cert.Reference3Ideal.main_v79) = v5 c
          ∧ r.2.mem ((c.tc : Thread Cert.Reference3Ideal.nD Cert.Reference3Ideal.τ).loc Cert.Reference3Ideal.main_v80) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S1024x8192 : Shape := ⟨2, ![1024, 8192]⟩
abbrev S16x1024x128 : Shape := ⟨3, ![16, 1024, 128]⟩
abbrev S2x64x512x256 : Shape := ⟨4, ![2, 64, 512, 256]⟩
abbrev S2x64x256x256 : Shape := ⟨4, ![2, 64, 256, 256]⟩
abbrev S2x2x64x128 : Shape := ⟨4, ![2, 2, 64, 128]⟩
abbrev S2x2048x2048 : Shape := ⟨3, ![2, 2048, 2048]⟩
abbrev S1x2048x2048 : Shape := ⟨3, ![1, 2048, 2048]⟩
abbrev S128x8192 : Shape := ⟨2, ![128, 8192]⟩
abbrev S16x128x128 : Shape := ⟨3, ![16, 128, 128]⟩
abbrev S1x8x512x256 : Shape := ⟨4, ![1, 8, 512, 256]⟩
abbrev S1x8x256x256 : Shape := ⟨4, ![1, 8, 256, 256]⟩
abbrev S1x2x8x128 : Shape := ⟨4, ![1, 2, 8, 128]⟩
abbrev S1x256x2048 : Shape := ⟨3, ![1, 256, 2048]⟩
abbrev S5120x128 : Shape := ⟨2, ![5120, 128]⟩
abbrev S8x256x640 : Shape := ⟨3, ![8, 256, 640]⟩
abbrev S256x2048 : Shape := ⟨2, ![256, 2048]⟩
abbrev S16x128 : Shape := ⟨2, ![16, 128]⟩
abbrev S1x16x128 : Shape := ⟨3, ![1, 16, 128]⟩
abbrev S16x640 : Shape := ⟨2, ![16, 640]⟩
abbrev S256x640 : Shape := ⟨2, ![256, 640]⟩
abbrev S1x1x512x256 : Shape := ⟨4, ![1, 1, 512, 256]⟩
abbrev S512x256 : Shape := ⟨2, ![512, 256]⟩
abbrev S512x640 : Shape := ⟨2, ![512, 640]⟩
abbrev S1x256x640 : Shape := ⟨3, ![1, 256, 640]⟩
abbrev S640x256 : Shape := ⟨2, ![640, 256]⟩
abbrev S640x128 : Shape := ⟨2, ![640, 128]⟩
abbrev S1x1x8x128 : Shape := ⟨4, ![1, 1, 8, 128]⟩
abbrev S8x128 : Shape := ⟨2, ![8, 128]⟩
abbrev S896x128 : Shape := ⟨2, ![896, 128]⟩
abbrev S1x1x256x256 : Shape := ⟨4, ![1, 1, 256, 256]⟩
abbrev S256x256 : Shape := ⟨2, ![256, 256]⟩

abbrev nBuf : Space → Nat
  | .hbm => 9
  | .vmem => 23
  | .smem => 0
  | _ => 0

abbrev bufTy : (tb : Table) → Fin (tcTables nBuf tb) → BufTy
  | .hbm, ⟨0, _⟩ => ⟨S1024x8192, .bf16⟩
  | .hbm, ⟨1, _⟩ => ⟨S16x1024x128, .bf16⟩
  | .hbm, ⟨2, _⟩ => ⟨S2x64x512x256, .bf16⟩
  | .hbm, ⟨3, _⟩ => ⟨S2x64x256x256, .bf16⟩
  | .hbm, ⟨4, _⟩ => ⟨S2x2x64x128, .f32⟩
  | .hbm, ⟨5, _⟩ => ⟨S2x2048x2048, .f32⟩
  | .hbm, ⟨6, _⟩ => ⟨S1024x8192, .bf16⟩
  | .hbm, ⟨7, _⟩ => ⟨S16x1024x128, .bf16⟩
  | .hbm, ⟨8, _⟩ => ⟨S1x2048x2048, .bf16⟩
  | .local _ .vmem, ⟨0, _⟩ => ⟨S128x8192, .bf16⟩
  | .local _ .vmem, ⟨1, _⟩ => ⟨S128x8192, .bf16⟩
  | .local _ .vmem, ⟨2, _⟩ => ⟨S16x128x128, .bf16⟩
  | .local _ .vmem, ⟨3, _⟩ => ⟨S16x128x128, .bf16⟩
  | .local _ .vmem, ⟨4, _⟩ => ⟨S1x8x512x256, .bf16⟩
  | .local _ .vmem, ⟨5, _⟩ => ⟨S1x8x512x256, .bf16⟩
  | .local _ .vmem, ⟨6, _⟩ => ⟨S1x8x256x256, .bf16⟩
  | .local _ .vmem, ⟨7, _⟩ => ⟨S1x8x256x256, .bf16⟩
  | .local _ .vmem, ⟨8, _⟩ => ⟨S1x2x8x128, .f32⟩
  | .local _ .vmem, ⟨9, _⟩ => ⟨S1x2x8x128, .f32⟩
  | .local _ .vmem, ⟨10, _⟩ => ⟨S1x256x2048, .f32⟩
  | .local _ .vmem, ⟨11, _⟩ => ⟨S1x256x2048, .f32⟩
  | .local _ .vmem, ⟨12, _⟩ => ⟨S128x8192, .bf16⟩
  | .local _ .vmem, ⟨13, _⟩ => ⟨S128x8192, .bf16⟩
  | .local _ .vmem, ⟨14, _⟩ => ⟨S16x128x128, .bf16⟩
  | .local _ .vmem, ⟨15, _⟩ => ⟨S16x128x128, .bf16⟩
  | .local _ .vmem, ⟨16, _⟩ => ⟨S1x256x2048, .bf16⟩
  | .local _ .vmem, ⟨17, _⟩ => ⟨S1x256x2048, .bf16⟩
  | .local _ .vmem, ⟨18, _⟩ => ⟨S5120x128, .f32⟩
  | .local _ .vmem, ⟨19, _⟩ => ⟨S5120x128, .f32⟩
  | .local _ .vmem, ⟨20, _⟩ => ⟨S5120x128, .f32⟩
  | .local _ .vmem, ⟨21, _⟩ => ⟨S5120x128, .f32⟩
  | .local _ .vmem, ⟨22, _⟩ => ⟨S8x256x640, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v1067 : BitVec 32 := Scalar.addi c0_i32 c16_i32
  let c1_i32 : BitVec 32 := 1#32
  ⟨c0_i32, v1067, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32_2949 : BitVec 32 := 512#32
  let v2695 : BitVec 32 := Scalar.addi arg15 c512_i32_2949
  let c8_i32 : BitVec 32 := 8#32
  let v2697 : BitVec 32 := Scalar.muli v2695 c8_i32
  v2697
def k0_mult2 (k0_t1 : Fin k0_t1_loop.trips) : BitVec 32 :=
  let c527_i32 : BitVec 32 := 527#32
  let c0_i32 : BitVec 32 := 0#32
  let c1_i32 : BitVec 32 := 1#32
  let arg15 : BitVec 32 := Scf.iv c0_i32 c1_i32 k0_t1
  let v2696 : BitVec 32 := Scalar.subi c527_i32 arg15
  let c8_i32_2950 : BitVec 32 := 8#32
  let v2699 : BitVec 32 := Scalar.muli v2696 c8_i32_2950
  v2699
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c512_i32_2949 : BitVec 32 := 512#32
  let v2695 : BitVec 32 := Scalar.addi arg15 c512_i32_2949
  let c8_i32 : BitVec 32 := 8#32
  let v2697 : BitVec 32 := Scalar.muli v2695 c8_i32
  let v2698 : BitVec 32 := v2697
  let v2701 : Index := Scalar.indexCast v2698
  let c0_2951 : Index := 0#32
  ![v2701.toNat, 0]
def k0_off2 (k0_t1 : Fin k0_t1_loop.trips) : Fin 2 → Nat :=
  let c527_i32 : BitVec 32 := 527#32
  let c0_i32 : BitVec 32 := 0#32
  let c1_i32 : BitVec 32 := 1#32
  let arg15 : BitVec 32 := Scf.iv c0_i32 c1_i32 k0_t1
  let v2696 : BitVec 32 := Scalar.subi c527_i32 arg15
  let c8_i32_2950 : BitVec 32 := 8#32
  let v2699 : BitVec 32 := Scalar.muli v2696 c8_i32_2950
  let v2700 : BitVec 32 := v2699
  let v2706 : Index := Scalar.indexCast v2700
  let c0_2952 : Index := 0#32
  ![v2706.toNat, 0]
@[reducible] def k0_t2_loop : Scf.Loop 32 :=
  let c16_i32_1442 : BitVec 32 := 16#32
  let c512_i32 : BitVec 32 := 512#32
  let v1069 : BitVec 32 := Scalar.addi c16_i32_1442 c512_i32
  let c1_i32_1443 : BitVec 32 := 1#32
  ⟨c16_i32_1442, v1069, c1_i32_1443⟩
def k0_mult3 (k0_t2 : Fin k0_t2_loop.trips) : BitVec 32 :=
  let c16_i32_1442 : BitVec 32 := 16#32
  let c1_i32_1443 : BitVec 32 := 1#32
  let arg15 : BitVec 32 := Scf.iv c16_i32_1442 c1_i32_1443 k0_t2
  let c_m16_i32 : BitVec 32 := 4294967280#32
  let v2695 : BitVec 32 := Scalar.addi arg15 c_m16_i32
  let c8_i32 : BitVec 32 := 8#32
  let v2697 : BitVec 32 := Scalar.muli v2695 c8_i32
  v2697
def k0_mult4 (k0_t2 : Fin k0_t2_loop.trips) : BitVec 32 :=
  let c527_i32 : BitVec 32 := 527#32
  let c16_i32_1442 : BitVec 32 := 16#32
  let c1_i32_1443 : BitVec 32 := 1#32
  let arg15 : BitVec 32 := Scf.iv c16_i32_1442 c1_i32_1443 k0_t2
  let v2696 : BitVec 32 := Scalar.subi c527_i32 arg15
  let c8_i32_2949 : BitVec 32 := 8#32
  let v2699 : BitVec 32 := Scalar.muli v2696 c8_i32_2949
  v2699
def k0_off3 (k0_t2 : Fin k0_t2_loop.trips) : Fin 2 → Nat :=
  let c16_i32_1442 : BitVec 32 := 16#32
  let c1_i32_1443 : BitVec 32 := 1#32
  let arg15 : BitVec 32 := Scf.iv c16_i32_1442 c1_i32_1443 k0_t2
  let c_m16_i32 : BitVec 32 := 4294967280#32
  let v2695 : BitVec 32 := Scalar.addi arg15 c_m16_i32
  let c8_i32 : BitVec 32 := 8#32
  let v2697 : BitVec 32 := Scalar.muli v2695 c8_i32
  let v2698 : BitVec 32 := v2697
  let v2701 : Index := Scalar.indexCast v2698
  let c0_2950 : Index := 0#32
  ![v2701.toNat, 0]
def k0_off4 (k0_t2 : Fin k0_t2_loop.trips) : Fin 2 → Nat :=
  let c527_i32 : BitVec 32 := 527#32
  let c16_i32_1442 : BitVec 32 := 16#32
  let c1_i32_1443 : BitVec 32 := 1#32
  let arg15 : BitVec 32 := Scf.iv c16_i32_1442 c1_i32_1443 k0_t2
  let v2696 : BitVec 32 := Scalar.subi c527_i32 arg15
  let c8_i32_2949 : BitVec 32 := 8#32
  let v2699 : BitVec 32 := Scalar.muli v2696 c8_i32_2949
  let v2700 : BitVec 32 := v2699
  let v2706 : Index := Scalar.indexCast v2700
  let c0_2951 : Index := 0#32
  ![v2706.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1024x8192 : Shape := ⟨2, ![1024, 8192]⟩
abbrev S16x1024x128 : Shape := ⟨3, ![16, 1024, 128]⟩
abbrev S2x64x512x256 : Shape := ⟨4, ![2, 64, 512, 256]⟩
abbrev S2x64x256x256 : Shape := ⟨4, ![2, 64, 256, 256]⟩
abbrev S2x2x64x128 : Shape := ⟨4, ![2, 2, 64, 128]⟩
abbrev S2x2048x2048 : Shape := ⟨3, ![2, 2048, 2048]⟩
abbrev S1x64x256x256 : Shape := ⟨4, ![1, 64, 256, 256]⟩
abbrev S64x256x256 : Shape := ⟨3, ![64, 256, 256]⟩
abbrev S64x16x4x16x128 : Shape := ⟨5, ![64, 16, 4, 16, 128]⟩
abbrev S64x16x16x4x128 : Shape := ⟨5, ![64, 16, 16, 4, 128]⟩
abbrev S64x256x512 : Shape := ⟨3, ![64, 256, 512]⟩
abbrev S16x64x16x128 : Shape := ⟨4, ![16, 64, 16, 128]⟩
abbrev S64x16x16x128 : Shape := ⟨4, ![64, 16, 16, 128]⟩
abbrev S64x256x128 : Shape := ⟨3, ![64, 256, 128]⟩
abbrev S64x256x640 : Shape := ⟨3, ![64, 256, 640]⟩
abbrev S64x256x528 : Shape := ⟨3, ![64, 256, 528]⟩
abbrev S528x64x256 : Shape := ⟨3, ![528, 64, 256]⟩
abbrev S16x64x256 : Shape := ⟨3, ![16, 64, 256]⟩
abbrev S512x64x256 : Shape := ⟨3, ![512, 64, 256]⟩
abbrev S528x64x2x128 : Shape := ⟨4, ![528, 64, 2, 128]⟩
abbrev S_ : Shape := ⟨0, ![]⟩
abbrev S1x1x64x128 : Shape := ⟨4, ![1, 1, 64, 128]⟩
abbrev S64x128 : Shape := ⟨2, ![64, 128]⟩
abbrev S1x64x256 : Shape := ⟨3, ![1, 64, 256]⟩
abbrev S64x256 : Shape := ⟨2, ![64, 256]⟩
abbrev S1x2048x2048 : Shape := ⟨3, ![1, 2048, 2048]⟩

abbrev nBuf : Space → Nat
  | .hbm => 138
  | .vmem => 0
  | .smem => 0
  | _ => 0

abbrev hbmTy0_0 (i : Nat) : BufTy := match i % 128 with
  | 0 => ⟨S1024x8192, .bf16⟩
  | 1 => ⟨S16x1024x128, .bf16⟩
  | 2 => ⟨S2x64x512x256, .bf16⟩
  | 3 => ⟨S2x64x256x256, .bf16⟩
  | 4 => ⟨S2x2x64x128, .f32⟩
  | 5 => ⟨S2x2048x2048, .f32⟩
  | 6 => ⟨S1x64x256x256, .bf16⟩
  | 7 => ⟨S64x256x256, .bf16⟩
  | 8 => ⟨S64x256x256, .f32⟩
  | 9 => ⟨S1024x8192, .f32⟩
  | 10 => ⟨S64x16x4x16x128, .f32⟩
  | 11 => ⟨S64x16x16x4x128, .f32⟩
  | 12 => ⟨S64x256x512, .f32⟩
  | 13 => ⟨S16x1024x128, .f32⟩
  | 14 => ⟨S16x64x16x128, .f32⟩
  | 15 => ⟨S64x16x16x128, .f32⟩
  | 16 => ⟨S64x256x128, .f32⟩
  | 17 => ⟨S64x256x640, .f32⟩
  | 18 => ⟨S64x256x640, .f32⟩
  | 19 => ⟨S64x256x528, .f32⟩
  | 20 => ⟨S528x64x256, .f32⟩
  | 21 => ⟨S16x64x256, .f32⟩
  | 22 => ⟨S512x64x256, .f32⟩
  | 23 => ⟨S528x64x256, .f32⟩
  | 24 => ⟨S528x64x256, .f32⟩
  | 25 => ⟨S528x64x2x128, .i32⟩
  | 26 => ⟨S528x64x256, .i32⟩
  | 27 => ⟨S_, .i32⟩
  | 28 => ⟨S528x64x256, .i32⟩
  | 29 => ⟨S528x64x256, .i1⟩
  | 30 => ⟨S528x64x256, .f32⟩
  | 31 => ⟨S1x1x64x128, .f32⟩
  | 32 => ⟨S64x128, .f32⟩
  | 33 => ⟨S1x1x64x128, .f32⟩
  | 34 => ⟨S64x128, .f32⟩
  | 35 => ⟨S_, .f32⟩
  | 36 => ⟨S64x128, .f32⟩
  | 37 => ⟨S_, .f32⟩
  | 38 => ⟨S528x64x256, .f32⟩
  | 39 => ⟨S_, .i32⟩
  | 40 => ⟨S_, .i32⟩
  | 41 => ⟨S528x64x256, .f32⟩
  | 42 => ⟨S64x128, .f32⟩
  | 43 => ⟨S64x128, .f32⟩
  | 44 => ⟨S_, .i32⟩
  | 45 => ⟨S_, .i32⟩
  | 46 => ⟨S64x128, .f32⟩
  | 47 => ⟨S64x128, .f32⟩
  | 48 => ⟨S528x64x256, .f32⟩
  | 49 => ⟨S_, .i32⟩
  | 50 => ⟨S_, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S1x64x256, .f32⟩
  | 62 => ⟨S64x256, .f32⟩
  | 63 => ⟨S64x256, .f32⟩
  | 64 => ⟨S1x64x256, .f32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S528x64x256, .f32⟩
  | 74 => ⟨S64x128, .f32⟩
  | 75 => ⟨S64x128, .f32⟩
  | 76 => ⟨S64x128, .f32⟩
  | 77 => ⟨S64x128, .f32⟩
  | 78 => ⟨S64x128, .f32⟩
  | 79 => ⟨S64x128, .f32⟩
  | 80 => ⟨S64x128, .f32⟩
  | 81 => ⟨S64x128, .f32⟩
  | 82 => ⟨S64x128, .f32⟩
  | 83 => ⟨S64x128, .f32⟩
  | 84 => ⟨S_, .i32⟩
  | 85 => ⟨S_, .i32⟩
  | 86 => ⟨S512x64x256, .f32⟩
  | 87 => ⟨S16x64x256, .f32⟩
  | 88 => ⟨S528x64x256, .f32⟩
  | 89 => ⟨S528x64x256, .f32⟩
  | 90 => ⟨S528x64x2x128, .i32⟩
  | 91 => ⟨S528x64x256, .i32⟩
  | 92 => ⟨S_, .i32⟩
  | 93 => ⟨S528x64x256, .i32⟩
  | 94 => ⟨S528x64x256, .i1⟩
  | 95 => ⟨S528x64x256, .f32⟩
  | 96 => ⟨S64x256x528, .f32⟩
  | 97 => ⟨S_, .f32⟩
  | 98 => ⟨S64x256x640, .f32⟩
  | 99 => ⟨S1x64x256x256, .bf16⟩
  | 100 => ⟨S64x256x256, .bf16⟩
  | 101 => ⟨S64x256x256, .f32⟩
  | 102 => ⟨S1024x8192, .f32⟩
  | 103 => ⟨S64x16x4x16x128, .f32⟩
  | 104 => ⟨S64x16x16x4x128, .f32⟩
  | 105 => ⟨S64x256x512, .f32⟩
  | 106 => ⟨S16x1024x128, .f32⟩
  | 107 => ⟨S16x64x16x128, .f32⟩
  | 108 => ⟨S64x16x16x128, .f32⟩
  | 109 => ⟨S64x256x128, .f32⟩
  | 110 => ⟨S64x256x640, .f32⟩
  | 111 => ⟨S64x256x640, .f32⟩
  | 112 => ⟨S1x64x256x256, .bf16⟩
  | 113 => ⟨S64x256x256, .bf16⟩
  | 114 => ⟨S64x256x256, .f32⟩
  | 115 => ⟨S64x256x640, .f32⟩
  | 116 => ⟨S64x256x640, .f32⟩
  | 117 => ⟨S64x256x640, .bf16⟩
  | 118 => ⟨S64x256x512, .bf16⟩
  | 119 => ⟨S64x16x16x4x128, .bf16⟩
  | 120 => ⟨S64x16x4x16x128, .bf16⟩
  | 121 => ⟨S1024x8192, .bf16⟩
  | 122 => ⟨S64x256x128, .bf16⟩
  | 123 => ⟨S64x16x16x128, .bf16⟩
  | 124 => ⟨S16x64x16x128, .bf16⟩
  | 125 => ⟨S16x1024x128, .bf16⟩
  | 126 => ⟨S1x2048x2048, .i32⟩
  | 127 => ⟨S_, .i32⟩
  | _ => ⟨S1024x8192, .bf16⟩

abbrev hbmTy0_1 (i : Nat) : BufTy := match i % 128 with
  | 0 => ⟨S1x2048x2048, .i32⟩
  | 1 => ⟨S1x2048x2048, .i1⟩
  | 2 => ⟨S_, .f32⟩
  | 3 => ⟨S1x2048x2048, .f32⟩
  | 4 => ⟨S_, .f32⟩
  | 5 => ⟨S1x2048x2048, .f32⟩
  | 6 => ⟨S1x2048x2048, .f32⟩
  | 7 => ⟨S1x2048x2048, .f32⟩
  | 8 => ⟨S1x2048x2048, .f32⟩
  | 9 => ⟨S1x2048x2048, .bf16⟩
  | _ => ⟨S1024x8192, .bf16⟩

abbrev hbmTy (i : Nat) : BufTy := match i / 128 with
  | 0 => hbmTy0_0 i
  | 1 => hbmTy0_1 i
  | _ => ⟨S1024x8192, .bf16⟩

abbrev bufTy : (tb : Table) → Fin (tcTables nBuf tb) → BufTy
  | .hbm, ⟨i, _⟩ => hbmTy i
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst : Ref sig .tc := ⟨.hbm, 35, rfl⟩
abbrev main_v28 : Ref sig .tc := ⟨.hbm, 36, rfl⟩
abbrev main_cst_0 : Ref sig .tc := ⟨.hbm, 37, rfl⟩
abbrev main_v29 : Ref sig .tc := ⟨.hbm, 38, rfl⟩
abbrev main_c_1 : Ref sig .tc := ⟨.hbm, 39, rfl⟩
abbrev main_c_2 : Ref sig .tc := ⟨.hbm, 40, rfl⟩
abbrev main_v30_0 : Ref sig .tc := ⟨.hbm, 41, rfl⟩
abbrev main_v30_1 : Ref sig .tc := ⟨.hbm, 42, rfl⟩
abbrev main_v30_2 : Ref sig .tc := ⟨.hbm, 43, rfl⟩
abbrev main_v30_3 : Ref sig .tc := ⟨.hbm, 44, rfl⟩
abbrev main_v30_4 : Ref sig .tc := ⟨.hbm, 45, rfl⟩
abbrev main_v30_5 : Ref sig .tc := ⟨.hbm, 46, rfl⟩
abbrev main_v30_6 : Ref sig .tc := ⟨.hbm, 47, rfl⟩
abbrev main_v30_7 : Ref sig .tc := ⟨.hbm, 48, rfl⟩
abbrev main_while0c_c_15 : Ref sig .tc := ⟨.hbm, 49, rfl⟩
abbrev main_while0c_v78 : Ref sig .tc := ⟨.hbm, 50, rfl⟩
abbrev main_while0b_c_15 : Ref sig .tc := ⟨.hbm, 51, rfl⟩
abbrev main_while0b_v78 : Ref sig .tc := ⟨.hbm, 52, rfl⟩
abbrev main_while0b_c_16 : Ref sig .tc := ⟨.hbm, 53, rfl⟩
abbrev main_while0b_v79 : Ref sig .tc := ⟨.hbm, 54, rfl⟩
abbrev main_while0b_v80 : Ref sig .tc := ⟨.hbm, 55, rfl⟩
abbrev main_while0b_c_17 : Ref sig .tc := ⟨.hbm, 56, rfl⟩
abbrev main_while0b_v81 : Ref sig .tc := ⟨.hbm, 57, rfl⟩
abbrev main_while0b_v82 : Ref sig .tc := ⟨.hbm, 58, rfl⟩
abbrev main_while0b_c_18 : Ref sig .tc := ⟨.hbm, 59, rfl⟩
abbrev main_while0b_c_19 : Ref sig .tc := ⟨.hbm, 60, rfl⟩
abbrev main_while0b_v83 : Ref sig .tc := ⟨.hbm, 61, rfl⟩
abbrev main_while0b_v84 : Ref sig .tc := ⟨.hbm, 62, rfl⟩
abbrev main_while0b_v85 : Ref sig .tc := ⟨.hbm, 63, rfl⟩
abbrev main_while0b_v86 : Ref sig .tc := ⟨.hbm, 64, rfl⟩
abbrev main_while0b_c_20 : Ref sig .tc := ⟨.hbm, 65, rfl⟩
abbrev main_while0b_v87 : Ref sig .tc := ⟨.hbm, 66, rfl⟩
abbrev main_while0b_v88 : Ref sig .tc := ⟨.hbm, 67, rfl⟩
abbrev main_while0b_c_21 : Ref sig .tc := ⟨.hbm, 68, rfl⟩
abbrev main_while0b_v89 : Ref sig .tc := ⟨.hbm, 69, rfl⟩
abbrev main_while0b_v90 : Ref sig .tc := ⟨.hbm, 70, rfl⟩
abbrev main_while0b_c_22 : Ref sig .tc := ⟨.hbm, 71, rfl⟩
abbrev main_while0b_c_23 : Ref sig .tc := ⟨.hbm, 72, rfl⟩
abbrev main_while0b_v91 : Ref sig .tc := ⟨.hbm, 73, rfl⟩
abbrev main_while0b_v92 : Ref sig .tc := ⟨.hbm, 74, rfl⟩
abbrev main_while0b_v93 : Ref sig .tc := ⟨.hbm, 75, rfl⟩
abbrev main_while0b_v94 : Ref sig .tc := ⟨.hbm, 76, rfl⟩
abbrev main_while0b_v95 : Ref sig .tc := ⟨.hbm, 77, rfl⟩
abbrev main_while0b_v96 : Ref sig .tc := ⟨.hbm, 78, rfl⟩
abbrev main_while0b_v97 : Ref sig .tc := ⟨.hbm, 79, rfl⟩
abbrev main_while0b_v98 : Ref sig .tc := ⟨.hbm, 80, rfl⟩
abbrev main_while0b_v99 : Ref sig .tc := ⟨.hbm, 81, rfl⟩
abbrev main_while0b_v100 : Ref sig .tc := ⟨.hbm, 82, rfl⟩
abbrev main_while0b_v101 : Ref sig .tc := ⟨.hbm, 83, rfl⟩
abbrev main_while0b_c_24 : Ref sig .tc := ⟨.hbm, 84, rfl⟩
abbrev main_while0b_v102 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_c_3 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_cst_4 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_c_5 : Ref sig .tc := ⟨.hbm, 127, rfl⟩
abbrev main_v70 : Ref sig .tc := ⟨.hbm, 128, rfl⟩
abbrev main_v71 : Ref sig .tc := ⟨.hbm, 129, rfl⟩
abbrev main_cst_6 : Ref sig .tc := ⟨.hbm, 130, rfl⟩
abbrev main_v72 : Ref sig .tc := ⟨.hbm, 131, rfl⟩
abbrev main_cst_7 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩

abbrev nD : Nat := 1
abbrev τ : Topo := Topo.v7x

variable {F : FTy → Type} [FloatOps F]

abbrev main_while0_count : Scf.Loop 32 := ⟨0#32, 528#32, 1#32⟩
-- ==== Kernel2.lean ====
abbrev S1x8192x2048 : Shape := ⟨3, ![1, 8192, 2048]⟩
abbrev S4x3x2048 : Shape := ⟨3, ![4, 3, 2048]⟩
abbrev S1x2048x2048 : Shape := ⟨3, ![1, 2048, 2048]⟩
abbrev S1x2048x4096 : Shape := ⟨3, ![1, 2048, 4096]⟩
abbrev S512x16x2048 : Shape := ⟨3, ![512, 16, 2048]⟩
abbrev S1024x8192 : Shape := ⟨2, ![1024, 8192]⟩
abbrev S8192x1024 : Shape := ⟨2, ![8192, 1024]⟩
abbrev S1x3x2048 : Shape := ⟨3, ![1, 3, 2048]⟩
abbrev S1x1024x2048 : Shape := ⟨3, ![1, 1024, 2048]⟩
abbrev S1x2048x1024 : Shape := ⟨3, ![1, 2048, 1024]⟩
abbrev S1024x512 : Shape := ⟨2, ![1024, 512]⟩
abbrev S512x1024 : Shape := ⟨2, ![512, 1024]⟩
abbrev S2x4x128x2048 : Shape := ⟨4, ![2, 4, 128, 2048]⟩
abbrev S2x4 : Shape := ⟨2, ![2, 4]⟩
abbrev S512x2048 : Shape := ⟨2, ![512, 2048]⟩
abbrev S1x1 : Shape := ⟨2, ![1, 1]⟩
abbrev S_ : Shape := ⟨0, ![]⟩
abbrev S1x1x128x2048 : Shape := ⟨4, ![1, 1, 128, 2048]⟩
abbrev S128x2048 : Shape := ⟨2, ![128, 2048]⟩
abbrev S128x1x2048 : Shape := ⟨3, ![128, 1, 2048]⟩
abbrev S1x1x2048 : Shape := ⟨3, ![1, 1, 2048]⟩
abbrev S1x2048 : Shape := ⟨2, ![1, 2048]⟩
abbrev S128 : Shape := ⟨1, ![128]⟩
abbrev S128x1 : Shape := ⟨2, ![128, 1]⟩
abbrev S1024x2048 : Shape := ⟨2, ![1024, 2048]⟩
abbrev S2048x1024 : Shape := ⟨2, ![2048, 1024]⟩

abbrev nBuf : Space → Nat
  | .hbm => 10
  | .vmem => 19
  | .smem => 0
  | _ => 0

abbrev bufTy : (tb : Table) → Fin (tcTables nBuf tb) → BufTy
  | .hbm, ⟨0, _⟩ => ⟨S1x8192x2048, .f32⟩
  | .hbm, ⟨1, _⟩ => ⟨S4x3x2048, .f32⟩
  | .hbm, ⟨2, _⟩ => ⟨S1x2048x2048, .bf16⟩
  | .hbm, ⟨3, _⟩ => ⟨S1x2048x4096, .bf16⟩
  | .hbm, ⟨4, _⟩ => ⟨S512x16x2048, .f32⟩
  | .hbm, ⟨5, _⟩ => ⟨S1024x8192, .bf16⟩
  | .hbm, ⟨6, _⟩ => ⟨S1024x8192, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .local _ .vmem, ⟨0, _⟩ => ⟨S1x3x2048, .f32⟩
  | .local _ .vmem, ⟨1, _⟩ => ⟨S1x1024x2048, .bf16⟩
  | .local _ .vmem, ⟨2, _⟩ => ⟨S1x1024x2048, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S2x4x128x2048, .f32⟩
  | .local _ .vmem, ⟨18, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch2 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_3 : BitVec 32 := 0#32
  let v12 : BitVec 1 := Scalar.cmpi .eq v1 c0_i32_3
  let v13 : BitVec 32 := Scalar.extui v12
  let c0_i32_4 : BitVec 32 := 0#32
  let v14 : BitVec 1 := Scalar.cmpi .ne v13 c0_i32_4
  v14

def k0_off1 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_154 : BitVec 32 := 0#32
  ![v11.toNat, 0]
def k0_off2 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_153 : BitVec 32 := 0#32
  let c0_i32_155 : BitVec 32 := 0#32
  let c0_i32_156 : BitVec 32 := 0#32
  ![v11.toNat, 0, 0, 0]
def k0_off3 (i : grid0.Coords) (c0_i32_143 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_129 : BitVec 32 := 0#32
  let v239 : BitVec 1 := Scalar.cmpi .sgt v1 c0_i32_129
  let v240 : BitVec 32 := Scalar.extui v239
  let c0_i32_130 : BitVec 32 := 0#32
  let v241 : BitVec 1 := Scalar.cmpi .slt v1 c0_i32_130
  let v242 : BitVec 32 := Scalar.extui v241
  let v243 : BitVec 32 := Scalar.subi v240 v242
  let c4_i32_128 : BitVec 32 := 4#32
  let c0_i32_131 : BitVec 32 := 0#32
  let v244 : BitVec 1 := Scalar.cmpi .sgt c4_i32_128 c0_i32_131
  let v245 : BitVec 32 := Scalar.extui v244
  let c0_i32_132 : BitVec 32 := 0#32
  let v246 : BitVec 1 := Scalar.cmpi .slt c4_i32_128 c0_i32_132
  let v247 : BitVec 32 := Scalar.extui v246
  let v248 : BitVec 32 := Scalar.subi v245 v247
  let v249 : BitVec 1 := Scalar.cmpi .ne v243 v248
  let v250 : BitVec 32 := Scalar.remsi v1 c4_i32_128
  let c0_i32_133 : BitVec 32 := 0#32
  let v251 : BitVec 1 := Scalar.cmpi .ne v250 c0_i32_133
  let v252 : BitVec 1 := Scalar.andi v249 v251
  let v238 : BitVec 32 := Scalar.divsi v1 c4_i32_128
  let c1_i32_134 : BitVec 32 := 1#32
  let v253 : BitVec 32 := Scalar.subi v238 c1_i32_134
  let v254 : BitVec 32 := Scalar.select v252 v253 v238
  let c128_i32_141 : BitVec 32 := 128#32
  let v265 : BitVec 32 := Scalar.muli v254 c128_i32_141
  let c4_i32_135 : BitVec 32 := 4#32
  let c0_i32_136 : BitVec 32 := 0#32
  let v255 : BitVec 1 := Scalar.cmpi .eq c4_i32_135 c0_i32_136
  let c1_i32_137 : BitVec 32 := 1#32
  let v256 : BitVec 32 := Scalar.select v255 c1_i32_137 c4_i32_135
  let v257 : BitVec 32 := Scalar.remsi v1 v256
  let c0_i32_139 : BitVec 32 := 0#32
  let v259 : BitVec 1 := Scalar.cmpi .slt v257 c0_i32_139
  let c0_i32_140 : BitVec 32 := 0#32
  let v260 : BitVec 1 := Scalar.cmpi .slt v256 c0_i32_140
  let v261 : BitVec 1 := Scalar.xori v259 v260
  let c0_i32_138 : BitVec 32 := 0#32
  let v258 : BitVec 1 := Scalar.cmpi .ne v257 c0_i32_138
  let v262 : BitVec 1 := Scalar.andi v261 v258
  let v263 : BitVec 32 := Scalar.addi v257 v256
  let v264 : BitVec 32 := Scalar.select v262 v263 v257
  let c4_i32_142 : BitVec 32 := 4#32
  let v266 : BitVec 32 := Scalar.muli v264 c4_i32_142
  let v267 : BitVec 32 := Scalar.addi v266 c0_i32_143
  let c0_i32_157 : BitVec 32 := 0#32
  ![v265.toNat, v267.toNat, 0]
def k0_off4 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_159 : BitVec 32 := 1#32
  ![v11.toNat, 1]
def k0_off5 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_158 : BitVec 32 := 1#32
  let c0_i32_160 : BitVec 32 := 0#32
  let c0_i32_161 : BitVec 32 := 0#32
  ![v11.toNat, 1, 0, 0]
def k0_off6 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32_164 : BitVec 32 := 2#32
  ![v11.toNat, 2]
def k0_off7 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32_163 : BitVec 32 := 2#32
  let c0_i32_165 : BitVec 32 := 0#32
  let c0_i32_166 : BitVec 32 := 0#32
  ![v11.toNat, 2, 0, 0]
def k0_off8 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c3_i32_169 : BitVec 32 := 3#32
  ![v11.toNat, 3]
def k0_off9 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c3_i32_168 : BitVec 32 := 3#32
  let c0_i32_170 : BitVec 32 := 0#32
  let c0_i32_171 : BitVec 32 := 0#32
  ![v11.toNat, 3, 0, 0]
def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_5 : BitVec 32 := 1#32
  let v15 : BitVec 32 := Scalar.addi v1 c1_i32_5
  let c16_i32 : BitVec 32 := 16#32
  let v16 : BitVec 1 := Scalar.cmpi .slt v15 c16_i32
  let v17 : BitVec 32 := Scalar.extui v16
  let c0_i32_6 : BitVec 32 := 0#32
  let v18 : BitVec 1 := Scalar.cmpi .ne v17 c0_i32_6
  v18

def k0_off10 (i : grid0.Coords) : Fin 2 → Nat :=
  let c1_i32_129 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v239 : BitVec 32 := Scalar.subi c1_i32_129 v11
  let c0_i32_156 : BitVec 32 := 0#32
  ![v239.toNat, 0]
def k0_off11 (i : grid0.Coords) : Fin 4 → Nat :=
  let c1_i32_129 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v239 : BitVec 32 := Scalar.subi c1_i32_129 v11
  let c0_i32_155 : BitVec 32 := 0#32
  let c0_i32_157 : BitVec 32 := 0#32
  let c0_i32_158 : BitVec 32 := 0#32
  ![v239.toNat, 0, 0, 0]
def k0_off12 (i : grid0.Coords) (c0_i32_145 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_128 : BitVec 32 := 1#32
  let v238 : BitVec 32 := Scalar.addi v1 c1_i32_128
  let c0_i32_131 : BitVec 32 := 0#32
  let v241 : BitVec 1 := Scalar.cmpi .sgt v238 c0_i32_131
  let v242 : BitVec 32 := Scalar.extui v241
  let c0_i32_132 : BitVec 32 := 0#32
  let v243 : BitVec 1 := Scalar.cmpi .slt v238 c0_i32_132
  let v244 : BitVec 32 := Scalar.extui v243
  let v245 : BitVec 32 := Scalar.subi v242 v244
  let c4_i32_130 : BitVec 32 := 4#32
  let c0_i32_133 : BitVec 32 := 0#32
  let v246 : BitVec 1 := Scalar.cmpi .sgt c4_i32_130 c0_i32_133
  let v247 : BitVec 32 := Scalar.extui v246
  let c0_i32_134 : BitVec 32 := 0#32
  let v248 : BitVec 1 := Scalar.cmpi .slt c4_i32_130 c0_i32_134
  let v249 : BitVec 32 := Scalar.extui v248
  let v250 : BitVec 32 := Scalar.subi v247 v249
  let v251 : BitVec 1 := Scalar.cmpi .ne v245 v250
  let v252 : BitVec 32 := Scalar.remsi v238 c4_i32_130
  let c0_i32_135 : BitVec 32 := 0#32
  let v253 : BitVec 1 := Scalar.cmpi .ne v252 c0_i32_135
  let v254 : BitVec 1 := Scalar.andi v251 v253
  let v240 : BitVec 32 := Scalar.divsi v238 c4_i32_130
  let c1_i32_136 : BitVec 32 := 1#32
  let v255 : BitVec 32 := Scalar.subi v240 c1_i32_136
  let v256 : BitVec 32 := Scalar.select v254 v255 v240
  let c128_i32_143 : BitVec 32 := 128#32
  let v267 : BitVec 32 := Scalar.muli v256 c128_i32_143
  let c4_i32_137 : BitVec 32 := 4#32
  let c0_i32_138 : BitVec 32 := 0#32
  let v257 : BitVec 1 := Scalar.cmpi .eq c4_i32_137 c0_i32_138
  let c1_i32_139 : BitVec 32 := 1#32
  let v258 : BitVec 32 := Scalar.select v257 c1_i32_139 c4_i32_137
  let v259 : BitVec 32 := Scalar.remsi v238 v258
  let c0_i32_141 : BitVec 32 := 0#32
  let v261 : BitVec 1 := Scalar.cmpi .slt v259 c0_i32_141
  let c0_i32_142 : BitVec 32 := 0#32
  let v262 : BitVec 1 := Scalar.cmpi .slt v258 c0_i32_142
  let v263 : BitVec 1 := Scalar.xori v261 v262
  let c0_i32_140 : BitVec 32 := 0#32
  let v260 : BitVec 1 := Scalar.cmpi .ne v259 c0_i32_140
  let v264 : BitVec 1 := Scalar.andi v263 v260
  let v265 : BitVec 32 := Scalar.addi v259 v258
  let v266 : BitVec 32 := Scalar.select v264 v265 v259
  let c4_i32_144 : BitVec 32 := 4#32
  let v268 : BitVec 32 := Scalar.muli v266 c4_i32_144
  let v269 : BitVec 32 := Scalar.addi v268 c0_i32_145
  let c0_i32_159 : BitVec 32 := 0#32
  ![v267.toNat, v269.toNat, 0]
def k0_off13 (i : grid0.Coords) : Fin 2 → Nat :=
  let c1_i32_129 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v239 : BitVec 32 := Scalar.subi c1_i32_129 v11
  let c1_i32_161 : BitVec 32 := 1#32
  ![v239.toNat, 1]
def k0_off14 (i : grid0.Coords) : Fin 4 → Nat :=
  let c1_i32_129 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v239 : BitVec 32 := Scalar.subi c1_i32_129 v11
  let c1_i32_160 : BitVec 32 := 1#32
  let c0_i32_162 : BitVec 32 := 0#32
  let c0_i32_163 : BitVec 32 := 0#32
  ![v239.toNat, 1, 0, 0]
def k0_off15 (i : grid0.Coords) : Fin 2 → Nat :=
  let c1_i32_129 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v239 : BitVec 32 := Scalar.subi c1_i32_129 v11
  let c2_i32_166 : BitVec 32 := 2#32
  ![v239.toNat, 2]
def k0_off16 (i : grid0.Coords) : Fin 4 → Nat :=
  let c1_i32_129 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v239 : BitVec 32 := Scalar.subi c1_i32_129 v11
  let c2_i32_165 : BitVec 32 := 2#32
  let c0_i32_167 : BitVec 32 := 0#32
  let c0_i32_168 : BitVec 32 := 0#32
  ![v239.toNat, 2, 0, 0]
def k0_off17 (i : grid0.Coords) : Fin 2 → Nat :=
  let c1_i32_129 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v239 : BitVec 32 := Scalar.subi c1_i32_129 v11
  let c3_i32_171 : BitVec 32 := 3#32
  ![v239.toNat, 3]
def k0_off18 (i : grid0.Coords) : Fin 4 → Nat :=
  let c1_i32_129 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v239 : BitVec 32 := Scalar.subi c1_i32_129 v11
  let c3_i32_170 : BitVec 32 := 3#32
  let c0_i32_172 : BitVec 32 := 0#32
  let c0_i32_173 : BitVec 32 := 0#32
  ![v239.toNat, 3, 0, 0]
def k0_off19 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_31 : BitVec 32 := 0#32
  ![v11.toNat, 0]
def k0_off20 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_30 : BitVec 32 := 0#32
  let c0_i32_32 : BitVec 32 := 0#32
  let c0_i32_33 : BitVec 32 := 0#32
  ![v11.toNat, 0, 0, 0]
def k0_off21 (i : grid0.Coords) (c0_i32_21 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_8 : BitVec 32 := 0#32
  let v20 : BitVec 1 := Scalar.cmpi .sgt v1 c0_i32_8
  let v21 : BitVec 32 := Scalar.extui v20
  let c0_i32_9 : BitVec 32 := 0#32
  let v22 : BitVec 1 := Scalar.cmpi .slt v1 c0_i32_9
  let v23 : BitVec 32 := Scalar.extui v22
  let v24 : BitVec 32 := Scalar.subi v21 v23
  let c4_i32_7 : BitVec 32 := 4#32
  let c0_i32_10 : BitVec 32 := 0#32
  let v25 : BitVec 1 := Scalar.cmpi .sgt c4_i32_7 c0_i32_10
  let v26 : BitVec 32 := Scalar.extui v25
  let c0_i32_11 : BitVec 32 := 0#32
  let v27 : BitVec 1 := Scalar.cmpi .slt c4_i32_7 c0_i32_11
  let v28 : BitVec 32 := Scalar.extui v27
  let v29 : BitVec 32 := Scalar.subi v26 v28
  let v30 : BitVec 1 := Scalar.cmpi .ne v24 v29
  let v31 : BitVec 32 := Scalar.remsi v1 c4_i32_7
  let c0_i32_12 : BitVec 32 := 0#32
  let v32 : BitVec 1 := Scalar.cmpi .ne v31 c0_i32_12
  let v33 : BitVec 1 := Scalar.andi v30 v32
  let v19 : BitVec 32 := Scalar.divsi v1 c4_i32_7
  let c1_i32_13 : BitVec 32 := 1#32
  let v34 : BitVec 32 := Scalar.subi v19 c1_i32_13
  let v35 : BitVec 32 := Scalar.select v33 v34 v19
  let c128_i32 : BitVec 32 := 128#32
  let v46 : BitVec 32 := Scalar.muli v35 c128_i32
  let c4_i32_14 : BitVec 32 := 4#32
  let c0_i32_15 : BitVec 32 := 0#32
  let v36 : BitVec 1 := Scalar.cmpi .eq c4_i32_14 c0_i32_15
  let c1_i32_16 : BitVec 32 := 1#32
  let v37 : BitVec 32 := Scalar.select v36 c1_i32_16 c4_i32_14
  let v38 : BitVec 32 := Scalar.remsi v1 v37
  let c0_i32_18 : BitVec 32 := 0#32
  let v40 : BitVec 1 := Scalar.cmpi .slt v38 c0_i32_18
  let c0_i32_19 : BitVec 32 := 0#32
  let v41 : BitVec 1 := Scalar.cmpi .slt v37 c0_i32_19
  let v42 : BitVec 1 := Scalar.xori v40 v41
  let c0_i32_17 : BitVec 32 := 0#32
  let v39 : BitVec 1 := Scalar.cmpi .ne v38 c0_i32_17
  let v43 : BitVec 1 := Scalar.andi v42 v39
  let v44 : BitVec 32 := Scalar.addi v38 v37
  let v45 : BitVec 32 := Scalar.select v43 v44 v38
  let c4_i32_20 : BitVec 32 := 4#32
  let v47 : BitVec 32 := Scalar.muli v45 c4_i32_20
  let v48 : BitVec 32 := Scalar.addi v47 c0_i32_21
  let c0_i32_34 : BitVec 32 := 0#32
  ![v46.toNat, v48.toNat, 0]
def k0_off22 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_36 : BitVec 32 := 1#32
  ![v11.toNat, 1]
def k0_off23 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_35 : BitVec 32 := 1#32
  let c0_i32_37 : BitVec 32 := 0#32
  let c0_i32_38 : BitVec 32 := 0#32
  ![v11.toNat, 1, 0, 0]
def k0_off24 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32_41 : BitVec 32 := 2#32
  ![v11.toNat, 2]
def k0_off25 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32_40 : BitVec 32 := 2#32
  let c0_i32_42 : BitVec 32 := 0#32
  let c0_i32_43 : BitVec 32 := 0#32
  ![v11.toNat, 2, 0, 0]
def k0_off26 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c3_i32_46 : BitVec 32 := 3#32
  ![v11.toNat, 3]
def k0_off27 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c3_i32_45 : BitVec 32 := 3#32
  let c0_i32_47 : BitVec 32 := 0#32
  let c0_i32_48 : BitVec 32 := 0#32
  ![v11.toNat, 3, 0, 0]
def k0_off28 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v86 : Index := Scalar.indexCast v11
  let c0_54 : Index := 0#32
  let c0_55 : Index := 0#32
  let c0_56 : Index := 0#32
  ![v86.toNat, 0, 0, 0]
def k0_off29 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v115 : Index := Scalar.indexCast v11
  let c1_64 : Index := 1#32
  let c0_65 : Index := 0#32
  let c0_66 : Index := 0#32
  ![v115.toNat, 1, 0, 0]
def k0_off30 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v144 : Index := Scalar.indexCast v11
  let c2 : Index := 2#32
  let c0_74 : Index := 0#32
  let c0_75 : Index := 0#32
  ![v144.toNat, 2, 0, 0]
def k0_off31 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v173 : Index := Scalar.indexCast v11
  let c3 : Index := 3#32
  let c0_83 : Index := 0#32
  let c0_84 : Index := 0#32
  ![v173.toNat, 3, 0, 0]
def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1x3x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S1x8192x2048 : Shape := ⟨3, ![1, 8192, 2048]⟩
abbrev S4x3x2048 : Shape := ⟨3, ![4, 3, 2048]⟩
abbrev S1x2048x2048 : Shape := ⟨3, ![1, 2048, 2048]⟩
abbrev S1x2048x4096 : Shape := ⟨3, ![1, 2048, 4096]⟩
abbrev S1x1x2048 : Shape := ⟨3, ![1, 1, 2048]⟩
abbrev S1x2048 : Shape := ⟨2, ![1, 2048]⟩
abbrev S4x128x16x2048 : Shape := ⟨4, ![4, 128, 16, 2048]⟩
abbrev S4x16x128x2048 : Shape := ⟨4, ![4, 16, 128, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024x2048 : Shape := ⟨3, ![1, 1024, 2048]⟩
abbrev S1024x2048 : Shape := ⟨2, ![1024, 2048]⟩
abbrev S1024x8192 : Shape := ⟨2, ![1024, 8192]⟩
abbrev S1x2048x1024 : Shape := ⟨3, ![1, 2048, 1024]⟩
abbrev S2048x1024 : Shape := ⟨2, ![2048, 1024]⟩
abbrev S8192x1024 : Shape := ⟨2, ![8192, 1024]⟩

abbrev nBuf : Space → Nat
  | .hbm => 77
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S4x3x2048, .f32⟩
  | .hbm, ⟨2, _⟩ => ⟨S1x2048x2048, .bf16⟩
  | .hbm, ⟨3, _⟩ => ⟨S1x2048x4096, .bf16⟩
  | .hbm, ⟨4, _⟩ => ⟨S1x1x2048, .f32⟩
  | .hbm, ⟨5, _⟩ => ⟨S1x2048, .f32⟩
  | .hbm, ⟨6, _⟩ => ⟨S1x1x2048, .f32⟩
  | .hbm, ⟨7, _⟩ => ⟨S1x2048, .f32⟩
  | .hbm, ⟨8, _⟩ => ⟨S4x128x16x2048, .f32⟩
  | .hbm, ⟨9, _⟩ => ⟨S4x16x128x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S1x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .bf16⟩
  | .hbm, ⟨40, _⟩ => ⟨S8192x2048, .f32⟩
  | .hbm, ⟨41, _⟩ => ⟨S1x1024x2048, .bf16⟩
  | .hbm, ⟨42, _⟩ => ⟨S1024x2048, .bf16⟩
  | .hbm, ⟨43, _⟩ => ⟨S1024x2048, .f32⟩
  | .hbm, ⟨44, _⟩ => ⟨S1024x8192, .f32⟩
  | .hbm, ⟨45, _⟩ => ⟨S1x1024x2048, .bf16⟩
  | .hbm, ⟨46, _⟩ => ⟨S1024x2048, .bf16⟩
  | .hbm, ⟨47, _⟩ => ⟨S1024x2048, .f32⟩
  | .hbm, ⟨48, _⟩ => ⟨S1024x8192, .f32⟩
  | .hbm, ⟨49, _⟩ => ⟨S1x2048x1024, .bf16⟩
  | .hbm, ⟨50, _⟩ => ⟨S2048x1024, .bf16⟩
  | .hbm, ⟨51, _⟩ => ⟨S2048x1024, .f32⟩
  | .hbm, ⟨52, _⟩ => ⟨S8192x1024, .f32⟩
  | .hbm, ⟨53, _⟩ => ⟨S1x2048x1024, .bf16⟩
  | .hbm, ⟨54, _⟩ => ⟨S2048x1024, .bf16⟩
  | .hbm, ⟨55, _⟩ => ⟨S2048x1024, .f32⟩
  | .hbm, ⟨56, _⟩ => ⟨S8192x1024, .f32⟩
  | .hbm, ⟨57, _⟩ => ⟨S1x2048x1024, .bf16⟩
  | .hbm, ⟨58, _⟩ => ⟨S2048x1024, .bf16⟩
  | .hbm, ⟨59, _⟩ => ⟨S2048x1024, .f32⟩
  | .hbm, ⟨60, _⟩ => ⟨S8192x1024, .f32⟩
  | .hbm, ⟨61, _⟩ => ⟨S1x2048x1024, .bf16⟩
  | .hbm, ⟨62, _⟩ => ⟨S2048x1024, .bf16⟩
  | .hbm, ⟨63, _⟩ => ⟨S2048x1024, .f32⟩
  | .hbm, ⟨64, _⟩ => ⟨S8192x1024, .f32⟩
  | .hbm, ⟨65, _⟩ => ⟨S1024x8192, .bf16⟩
  | .hbm, ⟨66, _⟩ => ⟨S1024x8192, .f32⟩
  | .hbm, ⟨67, _⟩ => ⟨S1024x8192, .f32⟩
  | .hbm, ⟨68, _⟩ => ⟨S1024x8192, .f32⟩
  | .hbm, ⟨69, _⟩ => ⟨S1024x8192, .bf16⟩
  | .hbm, ⟨70, _⟩ => ⟨S8192x1024, .f32⟩
  | .hbm, ⟨71, _⟩ => ⟨S8192x1024, .bf16⟩
  | .hbm, ⟨72, _⟩ => ⟨S8192x1024, .bf16⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩

abbrev nD : Nat := 1
abbrev τ : Topo := Topo.v7x

variable {F : FTy → Type} [FloatOps F]
-- ==== Kernel3.lean ====
abbrev S1x8192x2048 : Shape := ⟨3, ![1, 8192, 2048]⟩
abbrev S4x3x2048 : Shape := ⟨3, ![4, 3, 2048]⟩
abbrev S1x2048x2048 : Shape := ⟨3, ![1, 2048, 2048]⟩
abbrev S1x2048x4096 : Shape := ⟨3, ![1, 2048, 4096]⟩
abbrev S2x2048x6144 : Shape := ⟨3, ![2, 2048, 6144]⟩
abbrev S512x16x2048 : Shape := ⟨3, ![512, 16, 2048]⟩
abbrev S1024x8192 : Shape := ⟨2, ![1024, 8192]⟩
abbrev S8192x1024 : Shape := ⟨2, ![8192, 1024]⟩
abbrev S1x3x2048 : Shape := ⟨3, ![1, 3, 2048]⟩
abbrev S1x1024x2048 : Shape := ⟨3, ![1, 1024, 2048]⟩
abbrev S1x2048x1024 : Shape := ⟨3, ![1, 2048, 1024]⟩
abbrev S1x128x6144 : Shape := ⟨3, ![1, 128, 6144]⟩
abbrev S1024x512 : Shape := ⟨2, ![1024, 512]⟩
abbrev S512x1024 : Shape := ⟨2, ![512, 1024]⟩
abbrev S1x128x4096 : Shape := ⟨3, ![1, 128, 4096]⟩
abbrev S1x2048x128 : Shape := ⟨3, ![1, 2048, 128]⟩
abbrev S2x4x128x2048 : Shape := ⟨4, ![2, 4, 128, 2048]⟩
abbrev S2x4 : Shape := ⟨2, ![2, 4]⟩
abbrev S512x2048 : Shape := ⟨2, ![512, 2048]⟩
abbrev S128x6144 : Shape := ⟨2, ![128, 6144]⟩
abbrev S128x1024 : Shape := ⟨2, ![128, 1024]⟩
abbrev S1024x128 : Shape := ⟨2, ![1024, 128]⟩
abbrev S1x1024x128 : Shape := ⟨3, ![1, 1024, 128]⟩
abbrev S128x3072 : Shape := ⟨2, ![128, 3072]⟩
abbrev S1x128x3072 : Shape := ⟨3, ![1, 128, 3072]⟩
abbrev S1x128x1024 : Shape := ⟨3, ![1, 128, 1024]⟩
abbrev S1x1 : Shape := ⟨2, ![1, 1]⟩
abbrev S_ : Shape := ⟨0, ![]⟩
abbrev S1x1x128x2048 : Shape := ⟨4, ![1, 1, 128, 2048]⟩
abbrev S128x2048 : Shape := ⟨2, ![128, 2048]⟩
abbrev S128x1x2048 : Shape := ⟨3, ![128, 1, 2048]⟩
abbrev S1x1x2048 : Shape := ⟨3, ![1, 1, 2048]⟩
abbrev S1x2048 : Shape := ⟨2, ![1, 2048]⟩
abbrev S128 : Shape := ⟨1, ![128]⟩
abbrev S128x1 : Shape := ⟨2, ![128, 1]⟩
abbrev S1024x2048 : Shape := ⟨2, ![1024, 2048]⟩
abbrev S2048x1024 : Shape := ⟨2, ![2048, 1024]⟩

abbrev nBuf : Space → Nat
  | .hbm => 13
  | .vmem => 25
  | .smem => 0
  | _ => 0

abbrev bufTy : (tb : Table) → Fin (tcTables nBuf tb) → BufTy
  | .hbm, ⟨0, _⟩ => ⟨S1x8192x2048, .f32⟩
  | .hbm, ⟨1, _⟩ => ⟨S4x3x2048, .f32⟩
  | .hbm, ⟨2, _⟩ => ⟨S1x2048x2048, .bf16⟩
  | .hbm, ⟨3, _⟩ => ⟨S1x2048x4096, .bf16⟩
  | .hbm, ⟨4, _⟩ => ⟨S2x2048x6144, .f32⟩
  | .hbm, ⟨5, _⟩ => ⟨S512x16x2048, .f32⟩
  | .hbm, ⟨6, _⟩ => ⟨S1024x8192, .bf16⟩
  | .hbm, ⟨7, _⟩ => ⟨S1024x8192, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S1x2048x4096, .bf16⟩
  | .hbm, ⟨12, _⟩ => ⟨S1x2048x2048, .bf16⟩
  | .local _ .vmem, ⟨0, _⟩ => ⟨S1x3x2048, .f32⟩
  | .local _ .vmem, ⟨1, _⟩ => ⟨S1x1024x2048, .bf16⟩
  | .local _ .vmem, ⟨2, _⟩ => ⟨S1x1024x2048, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x128x6144, .f32⟩
  | .local _ .vmem, ⟨8, _⟩ => ⟨S1x128x6144, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1x128x4096, .bf16⟩
  | .local _ .vmem, ⟨20, _⟩ => ⟨S1x128x4096, .bf16⟩
  | .local _ .vmem, ⟨21, _⟩ => ⟨S1x2048x128, .bf16⟩
  | .local _ .vmem, ⟨22, _⟩ => ⟨S1x2048x128, .bf16⟩
  | .local _ .vmem, ⟨23, _⟩ => ⟨S2x4x128x2048, .f32⟩
  | .local _ .vmem, ⟨24, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev main_v1_6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch2 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c0_i32_16 : BitVec 32 := 0#32
  let v40 : BitVec 1 := Scalar.cmpi .eq v29 c0_i32_16
  let v41 : BitVec 32 := Scalar.extui v40
  let c0_i32_17 : BitVec 32 := 0#32
  let v42 : BitVec 1 := Scalar.cmpi .ne v41 c0_i32_17
  v42

def k0_off1 (i : grid0.Coords) : Fin 2 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_169 : BitVec 32 := 0#32
  ![v39.toNat, 0]
def k0_off2 (i : grid0.Coords) : Fin 4 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_168 : BitVec 32 := 0#32
  let c0_i32_170 : BitVec 32 := 0#32
  let c0_i32_171 : BitVec 32 := 0#32
  ![v39.toNat, 0, 0, 0]
def k0_off3 (i : grid0.Coords) (c0_i32_158 : BitVec 32) : Fin 3 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c0_i32_144 : BitVec 32 := 0#32
  let v267 : BitVec 1 := Scalar.cmpi .sgt v29 c0_i32_144
  let v268 : BitVec 32 := Scalar.extui v267
  let c0_i32_145 : BitVec 32 := 0#32
  let v269 : BitVec 1 := Scalar.cmpi .slt v29 c0_i32_145
  let v270 : BitVec 32 := Scalar.extui v269
  let v271 : BitVec 32 := Scalar.subi v268 v270
  let c4_i32_143 : BitVec 32 := 4#32
  let c0_i32_146 : BitVec 32 := 0#32
  let v272 : BitVec 1 := Scalar.cmpi .sgt c4_i32_143 c0_i32_146
  let v273 : BitVec 32 := Scalar.extui v272
  let c0_i32_147 : BitVec 32 := 0#32
  let v274 : BitVec 1 := Scalar.cmpi .slt c4_i32_143 c0_i32_147
  let v275 : BitVec 32 := Scalar.extui v274
  let v276 : BitVec 32 := Scalar.subi v273 v275
  let v277 : BitVec 1 := Scalar.cmpi .ne v271 v276
  let v278 : BitVec 32 := Scalar.remsi v29 c4_i32_143
  let c0_i32_148 : BitVec 32 := 0#32
  let v279 : BitVec 1 := Scalar.cmpi .ne v278 c0_i32_148
  let v280 : BitVec 1 := Scalar.andi v277 v279
  let v266 : BitVec 32 := Scalar.divsi v29 c4_i32_143
  let c1_i32_149 : BitVec 32 := 1#32
  let v281 : BitVec 32 := Scalar.subi v266 c1_i32_149
  let v282 : BitVec 32 := Scalar.select v280 v281 v266
  let c128_i32_156 : BitVec 32 := 128#32
  let v293 : BitVec 32 := Scalar.muli v282 c128_i32_156
  let c4_i32_150 : BitVec 32 := 4#32
  let c0_i32_151 : BitVec 32 := 0#32
  let v283 : BitVec 1 := Scalar.cmpi .eq c4_i32_150 c0_i32_151
  let c1_i32_152 : BitVec 32 := 1#32
  let v284 : BitVec 32 := Scalar.select v283 c1_i32_152 c4_i32_150
  let v285 : BitVec 32 := Scalar.remsi v29 v284
  let c0_i32_154 : BitVec 32 := 0#32
  let v287 : BitVec 1 := Scalar.cmpi .slt v285 c0_i32_154
  let c0_i32_155 : BitVec 32 := 0#32
  let v288 : BitVec 1 := Scalar.cmpi .slt v284 c0_i32_155
  let v289 : BitVec 1 := Scalar.xori v287 v288
  let c0_i32_153 : BitVec 32 := 0#32
  let v286 : BitVec 1 := Scalar.cmpi .ne v285 c0_i32_153
  let v290 : BitVec 1 := Scalar.andi v289 v286
  let v291 : BitVec 32 := Scalar.addi v285 v284
  let v292 : BitVec 32 := Scalar.select v290 v291 v285
  let c4_i32_157 : BitVec 32 := 4#32
  let v294 : BitVec 32 := Scalar.muli v292 c4_i32_157
  let v295 : BitVec 32 := Scalar.addi v294 c0_i32_158
  let c0_i32_172 : BitVec 32 := 0#32
  ![v293.toNat, v295.toNat, 0]
def k0_off4 (i : grid0.Coords) : Fin 2 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c1_i32_174 : BitVec 32 := 1#32
  ![v39.toNat, 1]
def k0_off5 (i : grid0.Coords) : Fin 4 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c1_i32_173 : BitVec 32 := 1#32
  let c0_i32_175 : BitVec 32 := 0#32
  let c0_i32_176 : BitVec 32 := 0#32
  ![v39.toNat, 1, 0, 0]
def k0_off6 (i : grid0.Coords) : Fin 2 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c2_i32_179 : BitVec 32 := 2#32
  ![v39.toNat, 2]
def k0_off7 (i : grid0.Coords) : Fin 4 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c2_i32_178 : BitVec 32 := 2#32
  let c0_i32_180 : BitVec 32 := 0#32
  let c0_i32_181 : BitVec 32 := 0#32
  ![v39.toNat, 2, 0, 0]
def k0_off8 (i : grid0.Coords) : Fin 2 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c3_i32_184 : BitVec 32 := 3#32
  ![v39.toNat, 3]
def k0_off9 (i : grid0.Coords) : Fin 4 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c3_i32_183 : BitVec 32 := 3#32
  let c0_i32_185 : BitVec 32 := 0#32
  let c0_i32_186 : BitVec 32 := 0#32
  ![v39.toNat, 3, 0, 0]
def k0_cond2 (i : grid0.Coords) : BitVec 1 :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c1_i32_18 : BitVec 32 := 1#32
  let v43 : BitVec 32 := Scalar.addi v29 c1_i32_18
  let c16_i32 : BitVec 32 := 16#32
  let v44 : BitVec 1 := Scalar.cmpi .slt v43 c16_i32
  let v45 : BitVec 32 := Scalar.extui v44
  let c0_i32_19 : BitVec 32 := 0#32
  let v46 : BitVec 1 := Scalar.cmpi .ne v45 c0_i32_19
  v46

def k0_off10 (i : grid0.Coords) : Fin 2 → Nat :=
  let c1_i32_144 : BitVec 32 := 1#32
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v267 : BitVec 32 := Scalar.subi c1_i32_144 v39
  let c0_i32_171 : BitVec 32 := 0#32
  ![v267.toNat, 0]
def k0_off11 (i : grid0.Coords) : Fin 4 → Nat :=
  let c1_i32_144 : BitVec 32 := 1#32
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v267 : BitVec 32 := Scalar.subi c1_i32_144 v39
  let c0_i32_170 : BitVec 32 := 0#32
  let c0_i32_172 : BitVec 32 := 0#32
  let c0_i32_173 : BitVec 32 := 0#32
  ![v267.toNat, 0, 0, 0]
def k0_off12 (i : grid0.Coords) (c0_i32_160 : BitVec 32) : Fin 3 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c1_i32_143 : BitVec 32 := 1#32
  let v266 : BitVec 32 := Scalar.addi v29 c1_i32_143
  let c0_i32_146 : BitVec 32 := 0#32
  let v269 : BitVec 1 := Scalar.cmpi .sgt v266 c0_i32_146
  let v270 : BitVec 32 := Scalar.extui v269
  let c0_i32_147 : BitVec 32 := 0#32
  let v271 : BitVec 1 := Scalar.cmpi .slt v266 c0_i32_147
  let v272 : BitVec 32 := Scalar.extui v271
  let v273 : BitVec 32 := Scalar.subi v270 v272
  let c4_i32_145 : BitVec 32 := 4#32
  let c0_i32_148 : BitVec 32 := 0#32
  let v274 : BitVec 1 := Scalar.cmpi .sgt c4_i32_145 c0_i32_148
  let v275 : BitVec 32 := Scalar.extui v274
  let c0_i32_149 : BitVec 32 := 0#32
  let v276 : BitVec 1 := Scalar.cmpi .slt c4_i32_145 c0_i32_149
  let v277 : BitVec 32 := Scalar.extui v276
  let v278 : BitVec 32 := Scalar.subi v275 v277
  let v279 : BitVec 1 := Scalar.cmpi .ne v273 v278
  let v280 : BitVec 32 := Scalar.remsi v266 c4_i32_145
  let c0_i32_150 : BitVec 32 := 0#32
  let v281 : BitVec 1 := Scalar.cmpi .ne v280 c0_i32_150
  let v282 : BitVec 1 := Scalar.andi v279 v281
  let v268 : BitVec 32 := Scalar.divsi v266 c4_i32_145
  let c1_i32_151 : BitVec 32 := 1#32
  let v283 : BitVec 32 := Scalar.subi v268 c1_i32_151
  let v284 : BitVec 32 := Scalar.select v282 v283 v268
  let c128_i32_158 : BitVec 32 := 128#32
  let v295 : BitVec 32 := Scalar.muli v284 c128_i32_158
  let c4_i32_152 : BitVec 32 := 4#32
  let c0_i32_153 : BitVec 32 := 0#32
  let v285 : BitVec 1 := Scalar.cmpi .eq c4_i32_152 c0_i32_153
  let c1_i32_154 : BitVec 32 := 1#32
  let v286 : BitVec 32 := Scalar.select v285 c1_i32_154 c4_i32_152
  let v287 : BitVec 32 := Scalar.remsi v266 v286
  let c0_i32_156 : BitVec 32 := 0#32
  let v289 : BitVec 1 := Scalar.cmpi .slt v287 c0_i32_156
  let c0_i32_157 : BitVec 32 := 0#32
  let v290 : BitVec 1 := Scalar.cmpi .slt v286 c0_i32_157
  let v291 : BitVec 1 := Scalar.xori v289 v290
  let c0_i32_155 : BitVec 32 := 0#32
  let v288 : BitVec 1 := Scalar.cmpi .ne v287 c0_i32_155
  let v292 : BitVec 1 := Scalar.andi v291 v288
  let v293 : BitVec 32 := Scalar.addi v287 v286
  let v294 : BitVec 32 := Scalar.select v292 v293 v287
  let c4_i32_159 : BitVec 32 := 4#32
  let v296 : BitVec 32 := Scalar.muli v294 c4_i32_159
  let v297 : BitVec 32 := Scalar.addi v296 c0_i32_160
  let c0_i32_174 : BitVec 32 := 0#32
  ![v295.toNat, v297.toNat, 0]
def k0_off13 (i : grid0.Coords) : Fin 2 → Nat :=
  let c1_i32_144 : BitVec 32 := 1#32
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v267 : BitVec 32 := Scalar.subi c1_i32_144 v39
  let c1_i32_176 : BitVec 32 := 1#32
  ![v267.toNat, 1]
def k0_off14 (i : grid0.Coords) : Fin 4 → Nat :=
  let c1_i32_144 : BitVec 32 := 1#32
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v267 : BitVec 32 := Scalar.subi c1_i32_144 v39
  let c1_i32_175 : BitVec 32 := 1#32
  let c0_i32_177 : BitVec 32 := 0#32
  let c0_i32_178 : BitVec 32 := 0#32
  ![v267.toNat, 1, 0, 0]
def k0_off15 (i : grid0.Coords) : Fin 2 → Nat :=
  let c1_i32_144 : BitVec 32 := 1#32
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v267 : BitVec 32 := Scalar.subi c1_i32_144 v39
  let c2_i32_181 : BitVec 32 := 2#32
  ![v267.toNat, 2]
def k0_off16 (i : grid0.Coords) : Fin 4 → Nat :=
  let c1_i32_144 : BitVec 32 := 1#32
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v267 : BitVec 32 := Scalar.subi c1_i32_144 v39
  let c2_i32_180 : BitVec 32 := 2#32
  let c0_i32_182 : BitVec 32 := 0#32
  let c0_i32_183 : BitVec 32 := 0#32
  ![v267.toNat, 2, 0, 0]
def k0_off17 (i : grid0.Coords) : Fin 2 → Nat :=
  let c1_i32_144 : BitVec 32 := 1#32
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v267 : BitVec 32 := Scalar.subi c1_i32_144 v39
  let c3_i32_186 : BitVec 32 := 3#32
  ![v267.toNat, 3]
def k0_off18 (i : grid0.Coords) : Fin 4 → Nat :=
  let c1_i32_144 : BitVec 32 := 1#32
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v267 : BitVec 32 := Scalar.subi c1_i32_144 v39
  let c3_i32_185 : BitVec 32 := 3#32
  let c0_i32_187 : BitVec 32 := 0#32
  let c0_i32_188 : BitVec 32 := 0#32
  ![v267.toNat, 3, 0, 0]
def k0_off19 (i : grid0.Coords) : Fin 2 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_44 : BitVec 32 := 0#32
  ![v39.toNat, 0]
def k0_off20 (i : grid0.Coords) : Fin 4 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_43 : BitVec 32 := 0#32
  let c0_i32_45 : BitVec 32 := 0#32
  let c0_i32_46 : BitVec 32 := 0#32
  ![v39.toNat, 0, 0, 0]
def k0_off21 (i : grid0.Coords) (c0_i32_34 : BitVec 32) : Fin 3 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c0_i32_21 : BitVec 32 := 0#32
  let v48 : BitVec 1 := Scalar.cmpi .sgt v29 c0_i32_21
  let v49 : BitVec 32 := Scalar.extui v48
  let c0_i32_22 : BitVec 32 := 0#32
  let v50 : BitVec 1 := Scalar.cmpi .slt v29 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v29 c4_i32_20
  let c0_i32_25 : BitVec 32 := 0#32
  let v60 : BitVec 1 := Scalar.cmpi .ne v59 c0_i32_25
  let v61 : BitVec 1 := Scalar.andi v58 v60
  let v47 : BitVec 32 := Scalar.divsi v29 c4_i32_20
  let c1_i32_26 : BitVec 32 := 1#32
  let v62 : BitVec 32 := Scalar.subi v47 c1_i32_26
  let v63 : BitVec 32 := Scalar.select v61 v62 v47
  let c128_i32 : BitVec 32 := 128#32
  let v74 : BitVec 32 := Scalar.muli v63 c128_i32
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v29 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v75 : BitVec 32 := Scalar.muli v73 c4_i32_33
  let v76 : BitVec 32 := Scalar.addi v75 c0_i32_34
  let c0_i32_47 : BitVec 32 := 0#32
  ![v74.toNat, v76.toNat, 0]
def k0_off22 (i : grid0.Coords) : Fin 2 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c1_i32_49 : BitVec 32 := 1#32
  ![v39.toNat, 1]
def k0_off23 (i : grid0.Coords) : Fin 4 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c1_i32_48 : BitVec 32 := 1#32
  let c0_i32_50 : BitVec 32 := 0#32
  let c0_i32_51 : BitVec 32 := 0#32
  ![v39.toNat, 1, 0, 0]
def k0_off24 (i : grid0.Coords) : Fin 2 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c2_i32_54 : BitVec 32 := 2#32
  ![v39.toNat, 2]
def k0_off25 (i : grid0.Coords) : Fin 4 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c2_i32_53 : BitVec 32 := 2#32
  let c0_i32_55 : BitVec 32 := 0#32
  let c0_i32_56 : BitVec 32 := 0#32
  ![v39.toNat, 2, 0, 0]
def k0_off26 (i : grid0.Coords) : Fin 2 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c3_i32_59 : BitVec 32 := 3#32
  ![v39.toNat, 3]
def k0_off27 (i : grid0.Coords) : Fin 4 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c3_i32_58 : BitVec 32 := 3#32
  let c0_i32_60 : BitVec 32 := 0#32
  let c0_i32_61 : BitVec 32 := 0#32
  ![v39.toNat, 3, 0, 0]
def k0_off28 (i : grid0.Coords) : Fin 4 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v114 : Index := Scalar.indexCast v39
  let c0_68 : Index := 0#32
  let c0_69 : Index := 0#32
  let c0_70 : Index := 0#32
  ![v114.toNat, 0, 0, 0]
def k0_off29 (i : grid0.Coords) : Fin 4 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v143 : Index := Scalar.indexCast v39
  let c1_79 : Index := 1#32
  let c0_80 : Index := 0#32
  let c0_81 : Index := 0#32
  ![v143.toNat, 1, 0, 0]
def k0_off30 (i : grid0.Coords) : Fin 4 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v172 : Index := Scalar.indexCast v39
  let c2 : Index := 2#32
  let c0_89 : Index := 0#32
  let c0_90 : Index := 0#32
  ![v172.toNat, 2, 0, 0]
def k0_off31 (i : grid0.Coords) : Fin 4 → Nat :=
  let arg0 : BitVec 32 := BitVec.ofNat 32 (i 0).val
  let c4_i32 : BitVec 32 := 4#32
  let v28 : BitVec 32 := Scalar.muli arg0 c4_i32
  let arg1 : BitVec 32 := BitVec.ofNat 32 (i 1).val
  let v29 : BitVec 32 := Scalar.addi v28 arg1
  let c2_i32 : BitVec 32 := 2#32
  let c0_i32 : BitVec 32 := 0#32
  let v30 : BitVec 1 := Scalar.cmpi .eq c2_i32 c0_i32
  let c1_i32 : BitVec 32 := 1#32
  let v31 : BitVec 32 := Scalar.select v30 c1_i32 c2_i32
  let v32 : BitVec 32 := Scalar.remsi v29 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v201 : Index := Scalar.indexCast v39
  let c3 : Index := 3#32
  let c0_98 : Index := 0#32
  let c0_99 : Index := 0#32
  ![v201.toNat, 3, 0, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_15 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

abbrev stage0_0 : Fin 1 → Memref sig .tc .vmem S1x3x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2048x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S1x8192x2048 : Shape := ⟨3, ![1, 8192, 2048]⟩
abbrev S4x3x2048 : Shape := ⟨3, ![4, 3, 2048]⟩
abbrev S1x2048x2048 : Shape := ⟨3, ![1, 2048, 2048]⟩
abbrev S1x2048x4096 : Shape := ⟨3, ![1, 2048, 4096]⟩
abbrev S2x2048x6144 : Shape := ⟨3, ![2, 2048, 6144]⟩
abbrev S1x2048x6144 : Shape := ⟨3, ![1, 2048, 6144]⟩
abbrev S1x2048x1024 : Shape := ⟨3, ![1, 2048, 1024]⟩
abbrev S_ : Shape := ⟨0, ![]⟩
abbrev S1x2048x3072 : Shape := ⟨3, ![1, 2048, 3072]⟩
abbrev S1x1x2048 : Shape := ⟨3, ![1, 1, 2048]⟩
abbrev S1x2048 : Shape := ⟨2, ![1, 2048]⟩
abbrev S4x128x16x2048 : Shape := ⟨4, ![4, 128, 16, 2048]⟩
abbrev S4x16x128x2048 : Shape := ⟨4, ![4, 16, 128, 2048]⟩
abbrev S8192x2048 : Shape := ⟨2, ![8192, 2048]⟩
abbrev S8192 : Shape := ⟨1, ![8192]⟩
abbrev S8192x1 : Shape := ⟨2, ![8192, 1]⟩
abbrev S1x1024x2048 : Shape := ⟨3, ![1, 1024, 2048]⟩
abbrev S1024x2048 : Shape := ⟨2, ![1024, 2048]⟩
abbrev S1024x8192 : Shape := ⟨2, ![1024, 8192]⟩
abbrev S2048x1024 : Shape := ⟨2, ![2048, 1024]⟩
abbrev S8192x1024 : Shape := ⟨2, ![8192, 1024]⟩

abbrev nBuf : Space → Nat
  | .hbm => 94
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S4x3x2048, .f32⟩
  | .hbm, ⟨2, _⟩ => ⟨S1x2048x2048, .bf16⟩
  | .hbm, ⟨3, _⟩ => ⟨S1x2048x4096, .bf16⟩
  | .hbm, ⟨4, _⟩ => ⟨S2x2048x6144, .f32⟩
  | .hbm, ⟨5, _⟩ => ⟨S1x2048x6144, .f32⟩
  | .hbm, ⟨6, _⟩ => ⟨S1x2048x1024, .f32⟩
  | .hbm, ⟨7, _⟩ => ⟨S1x2048x1024, .f32⟩
  | .hbm, ⟨8, _⟩ => ⟨S_, .f32⟩
  | .hbm, ⟨9, _⟩ => ⟨S1x2048x1024, .f32⟩
  | .hbm, ⟨10, _⟩ => ⟨S1x2048x1024, .f32⟩
  | .hbm, ⟨11, _⟩ => ⟨S1x2048x2048, .f32⟩
  | .hbm, ⟨12, _⟩ => ⟨S1x2048x2048, .f32⟩
  | .hbm, ⟨13, _⟩ => ⟨S1x2048x3072, .f32⟩
  | .hbm, ⟨14, _⟩ => ⟨S1x2048x1024, .f32⟩
  | .hbm, ⟨15, _⟩ => ⟨S_, .f32⟩
  | .hbm, ⟨16, _⟩ => ⟨S1x2048x1024, .f32⟩
  | .hbm, ⟨17, _⟩ => ⟨S1x2048x1024, .f32⟩
  | .hbm, ⟨18, _⟩ => ⟨S1x2048x4096, .f32⟩
  | .hbm, ⟨19, _⟩ => ⟨S1x1x2048, .f32⟩
  | .hbm, ⟨20, _⟩ => ⟨S1x2048, .f32⟩
  | .hbm, ⟨21, _⟩ => ⟨S1x1x2048, .f32⟩
  | .hbm, ⟨22, _⟩ => ⟨S1x2048, .f32⟩
  | .hbm, ⟨23, _⟩ => ⟨S4x128x16x2048, .f32⟩
  | .hbm, ⟨24, _⟩ => ⟨S4x16x128x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S1x2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .bf16⟩
  | .hbm, ⟨55, _⟩ => ⟨S8192x2048, .f32⟩
  | .hbm, ⟨56, _⟩ => ⟨S1x1024x2048, .bf16⟩
  | .hbm, ⟨57, _⟩ => ⟨S1024x2048, .bf16⟩
  | .hbm, ⟨58, _⟩ => ⟨S1024x2048, .f32⟩
  | .hbm, ⟨59, _⟩ => ⟨S1024x8192, .f32⟩
  | .hbm, ⟨60, _⟩ => ⟨S1x1024x2048, .bf16⟩
  | .hbm, ⟨61, _⟩ => ⟨S1024x2048, .bf16⟩
  | .hbm, ⟨62, _⟩ => ⟨S1024x2048, .f32⟩
  | .hbm, ⟨63, _⟩ => ⟨S1024x8192, .f32⟩
  | .hbm, ⟨64, _⟩ => ⟨S1x2048x1024, .bf16⟩
  | .hbm, ⟨65, _⟩ => ⟨S2048x1024, .bf16⟩
  | .hbm, ⟨66, _⟩ => ⟨S2048x1024, .f32⟩
  | .hbm, ⟨67, _⟩ => ⟨S8192x1024, .f32⟩
  | .hbm, ⟨68, _⟩ => ⟨S1x2048x1024, .bf16⟩
  | .hbm, ⟨69, _⟩ => ⟨S2048x1024, .bf16⟩
  | .hbm, ⟨70, _⟩ => ⟨S2048x1024, .f32⟩
  | .hbm, ⟨71, _⟩ => ⟨S8192x1024, .f32⟩
  | .hbm, ⟨72, _⟩ => ⟨S1x2048x1024, .bf16⟩
  | .hbm, ⟨73, _⟩ => ⟨S2048x1024, .bf16⟩
  | .hbm, ⟨74, _⟩ => ⟨S2048x1024, .f32⟩
  | .hbm, ⟨75, _⟩ => ⟨S8192x1024, .f32⟩
  | .hbm, ⟨76, _⟩ => ⟨S1x2048x1024, .bf16⟩
  | .hbm, ⟨77, _⟩ => ⟨S2048x1024, .bf16⟩
  | .hbm, ⟨78, _⟩ => ⟨S2048x1024, .f32⟩
  | .hbm, ⟨79, _⟩ => ⟨S8192x1024, .f32⟩
  | .hbm, ⟨80, _⟩ => ⟨S1024x8192, .bf16⟩
  | .hbm, ⟨81, _⟩ => ⟨S1024x8192, .f32⟩
  | .hbm, ⟨82, _⟩ => ⟨S1024x8192, .f32⟩
  | .hbm, ⟨83, _⟩ => ⟨S1024x8192, .f32⟩
  | .hbm, ⟨84, _⟩ => ⟨S1024x8192, .bf16⟩
  | .hbm, ⟨85, _⟩ => ⟨S8192x1024, .f32⟩
  | .hbm, ⟨86, _⟩ => ⟨S8192x1024, .bf16⟩
  | .hbm, ⟨87, _⟩ => ⟨S8192x1024, .bf16⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .bf16⟩
  | .hbm, ⟨92, _⟩ => ⟨S1x2048x4096, .bf16⟩
  | .hbm, ⟨93, _⟩ => ⟨S1x2048x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.S5.Loops.lean ====
/-
  Hand-written, untrusted. The two counted loops of the scan: each carries the state of the forward lanes and of the
  backward lanes in one pair (real, imaginary), stores the pair AS IT ARRIVES into the state buffers — the forward lanes
  under one lane mask into the forward slot, the others under the complement into the backward slot — and then takes the
  step `h ← a·h + s` on complex pairs. Stated here: each loop's exact course (`st1`, `st2`, by recursion on the trip) and
  the invariants the run of the body goes through the loops by.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

noncomputable section

namespace Cert.Proof.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- Memref `M`'s buffer on core `c`: its contents type, and its elements held at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

variable (c : Dev nD) (i : grid0.Coords)
  (arg1 : Memref sig .tc .vmem S128x8192 .bf16) (harg1 : arg1.IsWhole)
  (arg2 : Memref sig .tc .vmem S16x128x128 .bf16) (harg2 : arg2.IsWhole)
  (arg3 : Memref sig .tc .vmem S1x8x512x256 .bf16) (harg3 : arg3.IsWhole)
  (arg4 : Memref sig .tc .vmem S1x8x256x256 .bf16) (harg4 : arg4.IsWhole)
  (arg5 : Memref sig .tc .vmem S1x2x8x128 .f32) (harg5 : arg5.IsWhole)
  (arg6 : Memref sig .tc .vmem S1x256x2048 .f32) (harg6 : arg6.IsWhole)
  (arg7 : Memref sig .tc .vmem S128x8192 .bf16) (harg7 : arg7.IsWhole)
  (arg8 : Memref sig .tc .vmem S16x128x128 .bf16) (harg8 : arg8.IsWhole)
  (arg9 : Memref sig .tc .vmem S1x256x2048 .bf16) (harg9 : arg9.IsWhole)
  (arg10 : Memref sig .tc .vmem S5120x128 .f32) (harg10 : arg10.IsWhole)
  (arg11 : Memref sig .tc .vmem S5120x128 .f32) (harg11 : arg11.IsWhole)
  (arg12 : Memref sig .tc .vmem S5120x128 .f32) (harg12 : arg12.IsWhole)
  (arg13 : Memref sig .tc .vmem S5120x128 .f32) (harg13 : arg13.IsWhole)
  (arg14 : Memref sig .tc .vmem S8x256x640 .f32) (harg14 : arg14.IsWhole)
  (v1041 : FVec F S640x256 .f32) (v1042 : FVec F S640x128 .f32) (v1050 : Vec F S1x1x8x128 .f32) (v1052 : Vec F S1x1x8x128 .f32)

/-- A load of one slot's eight rows. -/
abbrev rd (M : Memref sig .tc .vmem S5120x128 .f32) (off : Fin 2 → Nat) (inb : ∀ a, off a + S8x128.size a ≤ S5120x128.size a) (f : M.view.ty.Contents (Elt F)) : Vec F S8x128 .f32 :=
  M.view.readAt (Elt F) (Rect.unit (s := S5120x128) off S8x128.size inb).toLoadRect f

/-- A store of one slot's eight rows under a lane mask. -/
abbrev wr (M : Memref sig .tc .vmem S5120x128 .f32) (off : Fin 2 → Nat) (inb : ∀ a, off a + S8x128.size a ≤ S5120x128.size a) (f : M.view.ty.Contents (Elt F))
    (v : FVec F S8x128 .f32) (mask : IVec S8x128 1) : M.view.ty.Contents (Elt F) :=
  (M.access (Rect.unit (s := S5120x128) off S8x128.size inb)).write (Elt F) f v (IVec.on mask)

variable (F) in
/-- The carried pair and the contents of the two state buffers. -/
abbrev St (arg12 arg13 : Memref sig .tc .vmem S5120x128 .f32) : Type := (FVec F S8x128 .f32 × FVec F S8x128 .f32) × Bf (F := F) c arg12 × Bf (F := F) c arg13

/-! ## Loop 1 -/

section Loop1

variable (X10 : Bf (F := F) c arg10) (X11 : Bf (F := F) c arg11) (F12 : Bf (F := F) c arg12) (F13 : Bf (F := F) c arg13)

/-- What trip `k` of loop 1 takes from the carried pair and the two state buffers to the next. -/
def next1 (k : Fin k0_t1_loop.trips) (s : St F c arg12 arg13) : St F c arg12 arg13 :=
  ((k0_pay16 (k0_pay187 v1050) (k0_pay188 v1052) k0_pay189 s.1.1 s.1.2 (rd arg10 (k0_off1 k) (k0_off1_inb k) X10) (rd arg10 (k0_off2 k) (k0_off2_inb k) X10),
    k0_pay194 (k0_pay15 k0_pay189 (rd arg11 (k0_off1 k) (k0_off1_inb k) X11) (rd arg11 (k0_off2 k) (k0_off2_inb k) X11)) (k0_pay17 (k0_pay187 v1050) (k0_pay188 v1052) s.1.1 s.1.2)),
   wr arg12 (k0_off2 k) (k0_off2_inb k) (wr arg12 (k0_off1 k) (k0_off1_inb k) s.2.1 (k0_pay7 s.1.1) (k0_pay8 k0_pay189)) (k0_pay9 s.1.1) (k0_pay10 k0_pay190),
   wr arg13 (k0_off2 k) (k0_off2_inb k) (wr arg13 (k0_off1 k) (k0_off1_inb k) s.2.2 (k0_pay11 s.1.2) (k0_pay12 k0_pay189)) (k0_pay13 s.1.2) (k0_pay14 k0_pay190))

/-- The carried pair and the two state buffers before trip `k` of loop 1, from those at its entry. -/
def st1 (init : FVec F S8x128 .f32 × FVec F S8x128 .f32) : ℕ → St F c arg12 arg13
  | 0 => (init, F12, F13)
  | k + 1 => if h : k < k0_t1_loop.trips then next1 c arg10 arg11 arg12 arg13 v1050 v1052 X10 X11 ⟨k, h⟩ (st1 init k) else st1 init k

theorem st1_succ (init : FVec F S8x128 .f32 × FVec F S8x128 .f32) (k : Fin k0_t1_loop.trips) :
    st1 c arg10 arg11 arg12 arg13 v1050 v1052 X10 X11 F12 F13 init (k.val + 1)
      = next1 c arg10 arg11 arg12 arg13 v1050 v1052 X10 X11 k (st1 c arg10 arg11 arg12 arg13 v1050 v1052 X10 X11 F12 F13 init k.val) := by
  rw [st1, dif_pos k.isLt]

/-- The real parts' buffer, and the imaginary parts', before trip `k`. -/
def re1 (init : FVec F S8x128 .f32 × FVec F S8x128 .f32) : ℕ → Bf (F := F) c arg12
  | 0 => F12
  | k + 1 => (st1 c arg10 arg11 arg12 arg13 v1050 v1052 X10 X11 F12 F13 init (k + 1)).2.1
def im1 (init : FVec F S8x128 .f32 × FVec F S8x128 .f32) : ℕ → Bf (F := F) c arg13
  | 0 => F13
  | k + 1 => (st1 c arg10 arg11 arg12 arg13 v1050 v1052 X10 X11 F12 F13 init (k + 1)).2.2
theorem re1_eq (init : FVec F S8x128 .f32 × FVec F S8x128 .f32) : ∀ k, re1 c arg10 arg11 arg12 arg13 v1050 v1052 X10 X11 F12 F13 init k
    = (st1 c arg10 arg11 arg12 arg13 v1050 v1052 X10 X11 F12 F13 init k).2.1
  | 0 => rfl
  | _ + 1 => rfl
theorem im1_eq (init : FVec F S8x128 .f32 × FVec F S8x128 .f32) : ∀ k, im1 c arg10 arg11 arg12 arg13 v1050 v1052 X10 X11 F12 F13 init k
    = (st1 c arg10 arg11 arg12 arg13 v1050 v1052 X10 X11 F12 F13 init k).2.2
  | 0 => rfl
  | _ + 1 => rfl

set_option warn.classDefReducibility false in
/-- Loop 1's invariant: the state inputs are only read; the carried pair and the two state buffers are `st1`'s. -/
@[sl_loop] def loopInv1 (init : FVec F S8x128 .f32 × FVec F S8x128 .f32) :
    LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 v1041 v1042 v1050 v1052 init where
  inv k acc := iprop(⌜acc = (st1 c arg10 arg11 arg12 arg13 v1050 v1052 X10 X11 F12 F13 init k).1⌝ ∗ pt c arg10 X10 ∗ pt c arg11 X11
    ∗ pt c arg12 (re1 c arg10 arg11 arg12 arg13 v1050 v1052 X10 X11 F12 F13 init k)
    ∗ pt c arg13 (im1 c arg10 arg11 arg12 arg13 v1050 v1052 X10 X11 F12 F13 init k))
  step k acc := by
    rw [re1_eq, im1_eq, re1_eq, im1_eq, st1_succ]
    iintro ⟨%hacc, H10, H11, H12, H13⟩
    generalize st1 c arg10 arg11 arg12 arg13 v1050 v1052 X10 X11 F12 F13 init k.val = s at *
    obtain ⟨⟨a, b⟩, s12, s13⟩ := s
    obtain rfl := hacc
    unfold k0_t1_body
    dsimp only
    sl_exec
    sl_step
    isplitr
    · ipureintro; rfl
    isplitl [H10]; · iexact H10
    isplitl [H11]; · iexact H11
    isplitl [H12]; · iexact H12
    iexact H13

/-- After the loop: the buffers' contents under names of their own, with what they are. -/
instance loopExit1 (init : FVec F S8x128 .f32 × FVec F S8x128 .f32) :
    LoopExit (loopInv1 c i arg1 harg1 arg2 harg2 arg3 harg3 arg4 harg4 arg5 harg5 arg6 harg6 arg7 harg7 arg8 harg8 arg9 harg9 arg10 harg10 arg11 harg11 arg12 harg12 arg13 harg13 arg14 harg14 v1041 v1042 v1050 v1052 X10 X11 F12 F13 init) where
  post acc := iprop(∃ (f12 : Bf (F := F) c arg12) (f13 : Bf (F := F) c arg13),
    ⌜(acc, f12, f13) = st1 c arg10 arg11 arg12 arg13 v1050 v1052 X10 X11 F12 F13 init k0_t1_loop.trips⌝
    ∗ pt c arg10 X10 ∗ pt c arg11 X11 ∗ pt c arg12 f12 ∗ pt c arg13 f13)
  exit acc := by
    show iprop(⌜acc = (st1 c arg10 arg11 arg12 arg13 v1050 v1052 X10 X11 F12 F13 init k0_t1_loop.trips).1⌝ ∗ pt c arg10 X10 ∗ pt c arg11 X11
      ∗ pt c arg12 (re1 c arg10 arg11 arg12 arg13 v1050 v1052 X10 X11 F12 F13 init k0_t1_loop.trips)
      ∗ pt c arg13 (im1 c arg10 arg11 arg12 arg13 v1050 v1052 X10 X11 F12 F13 init k0_t1_loop.trips)) ⊢ _
    iintro ⟨%hacc, H10, H11, H12, H13⟩
    iexists _; iexists _
    isplitr
    · ipureintro; rw [hacc]
    isplitl [H10]; · iexact H10
    isplitl [H11]; · iexact H11
    isplitl [H12]; · iexact H12
    iexact H13

end Loop1

/-! ## Loop 2 -/

section Loop2

variable (X10 : Bf (F := F) c arg10) (X11 : Bf (F := F) c arg11) (F12 : Bf (F := F) c arg12) (F13 : Bf (F := F) c arg13)

/-- What trip `k` of loop 2 takes from the carried pair and the two state buffers to the next. -/
def next2 (k : Fin k0_t2_loop.trips) (s : St F c arg12 arg13) : St F c arg12 arg13 :=
  ((k0_pay27 (k0_pay187 v1050) (k0_pay188 v1052) k0_pay189 s.1.1 s.1.2 (rd arg10 (k0_off3 k) (k0_off3_inb k) X10) (rd arg10 (k0_off4 k) (k0_off4_inb k) X10),
    k0_pay195 (k0_pay26 k0_pay189 (rd arg11 (k0_off3 k) (k0_off3_inb k) X11) (rd arg11 (k0_off4 k) (k0_off4_inb k) X11)) (k0_pay28 (k0_pay187 v1050) (k0_pay188 v1052) s.1.1 s.1.2)),
   wr arg12 (k0_off4 k) (k0_off4_inb k) (wr arg12 (k0_off3 k) (k0_off3_inb k) s.2.1 (k0_pay18 s.1.1) (k0_pay19 k0_pay189)) (k0_pay20 s.1.1) (k0_pay21 k0_pay190),
   wr arg13 (k0_off4 k) (k0_off4_inb k) (wr arg13 (k0_off3 k) (k0_off3_inb k) s.2.2 (k0_pay22 s.1.2) (k0_pay23 k0_pay189)) (k0_pay24 s.1.2) (k0_pay25 k0_pay190))

/-- The carried pair and the two state buffers before trip `k` of loop 2, from those at its entry. -/
def st2 (init : FVec F S8x128 .f32 × FVec F S8x128 .f32) : ℕ → St F c arg12 arg13
  | 0 => (init, F12, F13)
  | k + 1 => if h : k < k0_t2_loop.trips then next2 c arg10 arg11 arg12 arg13 v1050 v1052 X10 X11 ⟨k, h⟩ (st2 init k) else st2 init k

theorem st2_succ (init : FVec F S8x128 .f32 × FVec F S8x128 .f32) (k : Fin k0_t2_loop.trips) :
    st2 c arg10 arg11 arg12 arg13 v1050 v1052 X10 X11 F12 F13 init (k.val + 1)
      = next2 c arg10 arg11 arg12 arg13 v1050 v1052 X10 X11 k (st2 c arg10 arg11 arg12 arg13 v1050 v1052 X10 X11 F12 F13 init k.val) := by
  rw [st2, dif_pos k.isLt]

/-- The real parts' buffer, and the imaginary parts', before trip `k`. -/
def re2 (init : FVec F S8x128 .f32 × FVec F S8x128 .f32) : ℕ → Bf (F := F) c arg12
  | 0 => F12
  | k + 1 => (st2 c arg10 arg11 arg12 arg13 v1050 v1052 X10 X11 F12 F13 init (k + 1)).2.1
def im2 (init : FVec F S8x128 .f32 × FVec F S8x128 .f32) : ℕ → Bf (F := F) c arg13
  | 0 => F13
  | k + 1 => (st2 c arg10 arg11 arg12 arg13 v1050 v1052 X10 X11 F12 F13 init (k + 1)).2.2
theorem re2_eq (init : FVec F S8x128 .f32 × FVec F S8x128 .f32) : ∀ k, re2 c arg10 arg11 arg12 arg13 v1050 v1052 X10 X11 F12 F13 init k
    = (st2 c arg10 arg11 arg12 arg13 v1050 v1052 X10 X11 F12 F13 init k).2.1
  | 0 => rfl
  | _ + 1 => rfl
theorem im2_eq (init : FVec F S8x128 .f32 × FVec F S8x128 .f32) : ∀ k, im2 c arg10 arg11 arg12 arg13 v1050 v1052 X10 X11 F12 F13 init k
    = (st2 c arg10 arg11 arg12 arg13 v1050 v1052 X10 X11 F12 F13 init k).2.2
  | 0 => rfl
  | _ + 1 => rfl

set_option warn.classDefReducibility false in
/-- Loop 2's invariant: the state inputs are only read; the carried pair and the two state buffers are `st2`'s. -/
@[sl_loop] def loopInv2 (init : FVec F S8x128 .f32 × FVec F S8x128 .f32) :
    LoopInvTy_k0_t2 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 v1041 v1042 v1050 v1052 init where
  inv k acc := iprop(⌜acc = (st2 c arg10 arg11 arg12 arg13 v1050 v1052 X10 X11 F12 F13 init k).1⌝ ∗ pt c arg10 X10 ∗ pt c arg11 X11
    ∗ pt c arg12 (re2 c arg10 arg11 arg12 arg13 v1050 v1052 X10 X11 F12 F13 init k)
    ∗ pt c arg13 (im2 c arg10 arg11 arg12 arg13 v1050 v1052 X10 X11 F12 F13 init k))
  step k acc := by
    rw [re2_eq, im2_eq, re2_eq, im2_eq, st2_succ]
    iintro ⟨%hacc, H10, H11, H12, H13⟩
    generalize st2 c arg10 arg11 arg12 arg13 v1050 v1052 X10 X11 F12 F13 init k.val = s at *
    obtain ⟨⟨a, b⟩, s12, s13⟩ := s
    obtain rfl := hacc
    unfold k0_t2_body
    dsimp only
    sl_exec
    sl_step
    isplitr
    · ipureintro; rfl
    isplitl [H10]; · iexact H10
    isplitl [H11]; · iexact H11
    isplitl [H12]; · iexact H12
    iexact H13

/-- After the loop: the buffers' contents under names of their own, with what they are. -/
instance loopExit2 (init : FVec F S8x128 .f32 × FVec F S8x128 .f32) :
    LoopExit (loopInv2 c i arg1 harg1 arg2 harg2 arg3 harg3 arg4 harg4 arg5 harg5 arg6 harg6 arg7 harg7 arg8 harg8 arg9 harg9 arg10 harg10 arg11 harg11 arg12 harg12 arg13 harg13 arg14 harg14 v1041 v1042 v1050 v1052 X10 X11 F12 F13 init) where
  post acc := iprop(∃ (f12 : Bf (F := F) c arg12) (f13 : Bf (F := F) c arg13),
    ⌜(acc, f12, f13) = st2 c arg10 arg11 arg12 arg13 v1050 v1052 X10 X11 F12 F13 init k0_t2_loop.trips⌝
    ∗ pt c arg10 X10 ∗ pt c arg11 X11 ∗ pt c arg12 f12 ∗ pt c arg13 f13)
  exit acc := by
    show iprop(⌜acc = (st2 c arg10 arg11 arg12 arg13 v1050 v1052 X10 X11 F12 F13 init k0_t2_loop.trips).1⌝ ∗ pt c arg10 X10 ∗ pt c arg11 X11
      ∗ pt c arg12 (re2 c arg10 arg11 arg12 arg13 v1050 v1052 X10 X11 F12 F13 init k0_t2_loop.trips)
      ∗ pt c arg13 (im2 c arg10 arg11 arg12 arg13 v1050 v1052 X10 X11 F12 F13 init k0_t2_loop.trips)) ⊢ _
    iintro ⟨%hacc, H10, H11, H12, H13⟩
    iexists _; iexists _
    isplitr
    · ipureintro; rw [hacc]
    isplitl [H10]; · iexact H10
    isplitl [H11]; · iexact H11
    isplitl [H12]; · iexact H12
    iexact H13

end Loop2

end Cert.Proof.S5

end
-- ==== Proof.S5.Block.lean ====
/-
  Hand-written, untrusted. The values of one grid step's eight groups, as functions of the blocks the step reads:
  a group's channel planes side by side (`zcat`), its local part and its state inputs (`yloc`, `sre`, `sim`), its result
  (`yb`) from the state buffers' contents; and the lists of stores these values leave in the scratch buffers and in the
  result blocks.
-/
module

public import proofs.«01_k».proof.Proof.S5.Loops

@[expose] public section

noncomputable section

namespace Cert.Proof.S5

open Cert.KernelIdeal Cert.KernelIdeal.Gen
open Idealize.ShloMosaic Idealize.ShloMosaic.TcCoe

variable {F : FTy → Type} [FloatOps F]

variable (c : Dev nD)
  (arg1 : Memref sig .tc .vmem S128x8192 .bf16)
  (arg2 : Memref sig .tc .vmem S16x128x128 .bf16)
  (arg3 : Memref sig .tc .vmem S1x8x512x256 .bf16)
  (arg4 : Memref sig .tc .vmem S1x8x256x256 .bf16)
  (arg12 : Memref sig .tc .vmem S5120x128 .f32)
  (arg13 : Memref sig .tc .vmem S5120x128 .f32)
  (arg14 : Memref sig .tc .vmem S8x256x640 .f32)
  (f1 : Bf (F := F) c arg1) (f2 : Bf (F := F) c arg2) (f3 : Bf (F := F) c arg3) (f4 : Bf (F := F) c arg4)
  (h12 : Bf (F := F) c arg12) (h13 : Bf (F := F) c arg13)

theorem tile_inb (g : Fin 8) (t : Fin 16) (b : Fin 4) :
    ∀ a, (![16 * g.val, 2048 * b.val + 128 * t.val] : Fin 2 → ℕ) a + S16x128.size a ≤ S128x8192.size a :=
  Fin.forall_fin_two.mpr ⟨show 16 * g.val + 16 ≤ 128 by omega, show 2048 * b.val + 128 * t.val + 128 ≤ 8192 by omega⟩

theorem ctile_inb (g : Fin 8) (t : Fin 16) :
    ∀ a, (![t.val, 16 * g.val, 0] : Fin 3 → ℕ) a + S1x16x128.size a ≤ S16x128x128.size a := by
  intro a; fin_cases a
  · show t.val + 1 ≤ 16; omega
  · show 16 * g.val + 16 ≤ 128; omega
  · show 0 + 128 ≤ 128; omega

theorem w1_inb (g : Fin 8) : ∀ a, (![0, g.val, 0, 0] : Fin 4 → ℕ) a + S1x1x512x256.size a ≤ S1x8x512x256.size a := by
  intro a; fin_cases a
  · show 0 + 1 ≤ 1; omega
  · show g.val + 1 ≤ 8; omega
  · show 0 + 512 ≤ 512; omega
  · show 0 + 256 ≤ 256; omega

theorem w2_inb (g : Fin 8) : ∀ a, (![0, g.val, 0, 0] : Fin 4 → ℕ) a + S1x1x256x256.size a ≤ S1x8x256x256.size a := by
  intro a; fin_cases a
  · show 0 + 1 ≤ 1; omega
  · show g.val + 1 ≤ 8; omega
  · show 0 + 256 ≤ 256; omega
  · show 0 + 256 ≤ 256; omega

theorem yl_inb (g : Fin 8) : ∀ a, (![g.val, 0, 0] : Fin 3 → ℕ) a + S1x256x640.size a ≤ S8x256x640.size a := by
  intro a; fin_cases a
  · show g.val + 1 ≤ 8; omega
  · show 0 + 256 ≤ 256; omega
  · show 0 + 640 ≤ 640; omega

theorem str_inb (g : Fin 8) (a : Fin 2) :
    (![g.val, 0] : Fin 2 → ℕ) a + (![8, 1] : Fin 2 → ℕ) a * (S640x128.size a - 1) < S5120x128.size a := by
  revert a
  exact Fin.forall_fin_two.mpr ⟨show g.val + 8 * (640 - 1) < 5120 by omega, show 0 + 1 * (128 - 1) < 128 by omega⟩

/-- The rows of one group in a state buffer: every eighth row from the group's own. -/
abbrev strip (g : Fin 8) : Rect S5120x128 where
  off := ![g.val, 0]
  size := S640x128.size
  stride := ![8, 1]
  inb a := Or.inr (str_inb g a)
  stride_pos := spos_8_1

/-- The latent's tile of group `g`, token `t` of a chunk, lane tile `b`. -/
def tile (g : Fin 8) (t : Fin 16) (b : Fin 4) : Vec F S16x128 .bf16 :=
  View.readAt (Elt F) arg1.view (Rect.unit (s := S128x8192) ![16 * g.val, 2048 * b.val + 128 * t.val] S16x128.size (tile_inb g t b)).toLoadRect f1

/-- The context's tile of group `g`, token `t` of a chunk. -/
def ctile (g : Fin 8) (t : Fin 16) : Vec F S1x16x128 .bf16 :=
  View.readAt (Elt F) arg2.view (Rect.unit (s := S16x128x128) ![t.val, 16 * g.val, 0] S1x16x128.size (ctile_inb g t)).toLoadRect f2

/-- One token's channels, all chunks. -/
def plane (g : Fin 8) (t : Fin 16) : FVec F S16x640 .bf16 :=
  concatenate S16x640 1 [⟨S16x128, tile c arg1 f1 g t 0⟩, ⟨S16x128, tile c arg1 f1 g t 1⟩, ⟨S16x128, tile c arg1 f1 g t 2⟩,
    ⟨S16x128, tile c arg1 f1 g t 3⟩, ⟨S16x128, shapeCast S16x128 (ctile c arg2 f2 g t) shapeCasts_S1x16x128_S16x128⟩]
    concatenates_S16x128_S16x128_S16x128_S16x128_S16x128_S16x640_d1

/-- A group's channels by token and channel, all chunks. -/
def zcat (g : Fin 8) : FVec F S256x640 .bf16 :=
  concatenate S256x640 0 [⟨S16x640, plane c arg1 arg2 f1 f2 g 0⟩, ⟨S16x640, plane c arg1 arg2 f1 f2 g 1⟩, ⟨S16x640, plane c arg1 arg2 f1 f2 g 2⟩,
    ⟨S16x640, plane c arg1 arg2 f1 f2 g 3⟩, ⟨S16x640, plane c arg1 arg2 f1 f2 g 4⟩, ⟨S16x640, plane c arg1 arg2 f1 f2 g 5⟩,
    ⟨S16x640, plane c arg1 arg2 f1 f2 g 6⟩, ⟨S16x640, plane c arg1 arg2 f1 f2 g 7⟩, ⟨S16x640, plane c arg1 arg2 f1 f2 g 8⟩,
    ⟨S16x640, plane c arg1 arg2 f1 f2 g 9⟩, ⟨S16x640, plane c arg1 arg2 f1 f2 g 10⟩, ⟨S16x640, plane c arg1 arg2 f1 f2 g 11⟩,
    ⟨S16x640, plane c arg1 arg2 f1 f2 g 12⟩, ⟨S16x640, plane c arg1 arg2 f1 f2 g 13⟩, ⟨S16x640, plane c arg1 arg2 f1 f2 g 14⟩,
    ⟨S16x640, plane c arg1 arg2 f1 f2 g 15⟩]
    concatenates_S16x640_S16x640_S16x640_S16x640_S16x640_S16x640_S16x640_S16x640_S16x640_S16x640_S16x640_S16x640_S16x640_S16x640_S16x640_S16x640_S256x640_d0

/-- A group's first operator. -/
def w1 (g : Fin 8) : Vec F S1x1x512x256 .bf16 :=
  View.readAt (Elt F) arg3.view (Rect.unit (s := S1x8x512x256) ![0, g.val, 0, 0] S1x1x512x256.size (w1_inb g)).toLoadRect f3

/-- The first operator on a group's channels: the local part above, the state inputs below. -/
def r1 (g : Fin 8) : FVec F S512x640 .f32 :=
  matmul dot_S512x256_S256x640_S512x640_1_0_0_1_n_n none (shapeCast S512x256 (w1 c arg3 f3 g) shapeCasts_S1x1x512x256_S512x256)
    (zcat c arg1 arg2 f1 f2 g) (constant S512x640 .f32 0x00000000#32)

def yloc (g : Fin 8) : FVec F S1x256x640 .f32 :=
  shapeCast S1x256x640 (extractStridedSlice S256x640 ![0, 0] (r1 c arg1 arg2 arg3 f1 f2 f3 g) slices_S512x640_o0_0_S256x640) shapeCasts_S256x640_S1x256x640

/-- The state inputs by chunk. -/
def sin (g : Fin 8) : FVec F S640x256 .f32 :=
  transpose S640x256 [1, 0] (extractStridedSlice S256x640 ![256, 0] (r1 c arg1 arg2 arg3 f1 f2 f3 g) slices_S512x640_o256_0_S256x640) transposes_S256x640_p1_0_S640x256

def sre (g : Fin 8) : FVec F S640x128 .f32 :=
  shapeCast S640x128 (extractStridedSlice S640x128 ![0, 0] (sin c arg1 arg2 arg3 f1 f2 f3 g) slices_S640x256_o0_0_S640x128) shapeCasts_S640x128_S640x128

def sim (g : Fin 8) : FVec F S640x128 .f32 :=
  shapeCast S640x128 (extractStridedSlice S640x128 ![0, 128] (sin c arg1 arg2 arg3 f1 f2 f3 g) slices_S640x256_o0_128_S640x128) shapeCasts_S640x128_S640x128

/-- The groups of a step, last first: the order a list of stores names them in. -/
abbrev gs : List (Fin 8) := [7, 6, 5, 4, 3, 2, 1, 0]
abbrev ts : List (Fin 16) := [15, 14, 13, 12, 11, 10, 9, 8, 7, 6, 5, 4, 3, 2, 1, 0]
abbrev bs : List (Fin 4) := [3, 2, 1, 0]

def sreL : List (View.Piece (Elt F) S5120x128 .f32) := gs.map fun g => ⟨strip g, sre c arg1 arg2 arg3 f1 f2 f3 g⟩
def simL : List (View.Piece (Elt F) S5120x128 .f32) := gs.map fun g => ⟨strip g, sim c arg1 arg2 arg3 f1 f2 f3 g⟩
def ylocL : List (View.Piece (Elt F) S8x256x640 .f32) :=
  gs.map fun g => ⟨Rect.unit (s := S8x256x640) ![g.val, 0, 0] S1x256x640.size (yl_inb g), yloc c arg1 arg2 arg3 f1 f2 f3 g⟩

/-- A group's result, from the states before each chunk. -/
def yb (g : Fin 8) : FVec F S256x640 .bf16 :=
  k0_pay196 (View.readAt (Elt F) arg12.view (strip g).toLoadRect h12) (View.readAt (Elt F) arg13.view (strip g).toLoadRect h13)
    (arg14.view.readCov (ylocL c arg1 arg2 arg3 f1 f2 f3) (Rect.unit (s := S8x256x640) ![g.val, 0, 0] S1x256x640.size (yl_inb g)).toLoadRect)
    (View.readAt (Elt F) arg4.view (Rect.unit (s := S1x8x256x256) ![0, g.val, 0, 0] S1x1x256x256.size (w2_inb g)).toLoadRect f4)

theorem sl_wf (t : Fin 16) (b : Fin 5) : S256x640.Slices ![16 * t.val, 128 * b.val] S16x128 := by
  revert t b; decide

/-- One store into the latent's result: a piece of a group's result. -/
abbrev yP (Y : Fin 8 → FVec F S256x640 .bf16) (g : Fin 8) (t : Fin 16) (b : Fin 4) : View.Piece (Elt F) S128x8192 .bf16 :=
  ⟨Rect.unit (s := S128x8192) ![16 * g.val, 2048 * b.val + 128 * t.val] S16x128.size (tile_inb g t b),
    extractStridedSlice S16x128 ![16 * t.val, 128 * b.val] (Y g) (sl_wf t b.castSucc)⟩

/-- The stores into the latent's result. -/
def yL (Y : Fin 8 → FVec F S256x640 .bf16) : List (View.Piece (Elt F) S128x8192 .bf16) :=
  gs.foldr (fun g L => ts.foldr (fun t L => yP Y g t 3 :: yP Y g t 2 :: yP Y g t 1 :: yP Y g t 0 :: L) L) []

/-- The stores into the context's. -/
def ycL (Y : Fin 8 → FVec F S256x640 .bf16) : List (View.Piece (Elt F) S16x128x128 .bf16) :=
  gs.flatMap fun g => ts.map fun t =>
    ⟨Rect.unit (s := S16x128x128) ![t.val, 16 * g.val, 0] S1x16x128.size (ctile_inb g t),
      shapeCast S1x16x128 (extractStridedSlice S16x128 ![16 * t.val, 512] (Y g) (sl_wf t 4)) shapeCasts_S16x128_S1x16x128⟩

end Cert.Proof.S5

end
-- ==== Proof.S5.Body.lean ====
/-
  Hand-written, untrusted. The body of one grid step, run once: the stores it leaves in the three result blocks (Block.lean),
  over the blocks it read and the state buffers' contents after the two loops (`st1`, `st2` of Loops.lean).
-/
module

public import proofs.«01_k».proof.Proof.S5.Block

@[expose] public section

noncomputable section

namespace Cert.Proof.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- One grid step. -/
theorem body_run (c : Dev nD) (i : grid0.Coords)
  (arg1 : Memref sig .tc .vmem S128x8192 .bf16) (harg1 : arg1.IsWhole)
  (arg2 : Memref sig .tc .vmem S16x128x128 .bf16) (harg2 : arg2.IsWhole)
  (arg3 : Memref sig .tc .vmem S1x8x512x256 .bf16) (harg3 : arg3.IsWhole)
  (arg4 : Memref sig .tc .vmem S1x8x256x256 .bf16) (harg4 : arg4.IsWhole)
  (arg5 : Memref sig .tc .vmem S1x2x8x128 .f32) (harg5 : arg5.IsWhole)
  (arg6 : Memref sig .tc .vmem S1x256x2048 .f32) (harg6 : arg6.IsWhole)
  (arg7 : Memref sig .tc .vmem S128x8192 .bf16) (harg7 : arg7.IsWhole)
  (arg8 : Memref sig .tc .vmem S16x128x128 .bf16) (harg8 : arg8.IsWhole)
  (arg9 : Memref sig .tc .vmem S1x256x2048 .bf16) (harg9 : arg9.IsWhole)
  (arg10 : Memref sig .tc .vmem S5120x128 .f32) (harg10 : arg10.IsWhole)
  (arg11 : Memref sig .tc .vmem S5120x128 .f32) (harg11 : arg11.IsWhole)
  (arg12 : Memref sig .tc .vmem S5120x128 .f32) (harg12 : arg12.IsWhole)
  (arg13 : Memref sig .tc .vmem S5120x128 .f32) (harg13 : arg13.IsWhole)
  (arg14 : Memref sig .tc .vmem S8x256x640 .f32) (harg14 : arg14.IsWhole)
    (f1 : Bf (F := F) c arg1)
    (f2 : Bf (F := F) c arg2)
    (f3 : Bf (F := F) c arg3)
    (f4 : Bf (F := F) c arg4)
    (f5 : Bf (F := F) c arg5)
    (f6 : Bf (F := F) c arg6)
    (f7 : Bf (F := F) c arg7)
    (f8 : Bf (F := F) c arg8)
    (f9 : Bf (F := F) c arg9)
    (f10 : Bf (F := F) c arg10)
    (f11 : Bf (F := F) c arg11)
    (f12 : Bf (F := F) c arg12)
    (f13 : Bf (F := F) c arg13)
    (f14 : Bf (F := F) c arg14)
    (K : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14
        ∗ (iprop(pt c arg1 f1 ∗ pt c arg2 f2 ∗ pt c arg3 f3 ∗ pt c arg4 f4 ∗ pt c arg5 f5 ∗ pt c arg6 f6
          ∗ (∃ (a b : FVec F S8x128 .f32 × FVec F S8x128 .f32) (g12 h12 : Bf (F := F) c arg12) (g13 h13 : Bf (F := F) c arg13),
            ⌜(a, g12, g13) = st1 c arg10 arg11 arg12 arg13 (View.readAt (Elt F) arg5.view (Rect.unit (s := S1x2x8x128) ![0, 0, 0, 0] S1x1x8x128.size inb_S1x2x8x128_S1x1x8x128_0_0_0_0).toLoadRect f5) (View.readAt (Elt F) arg5.view (Rect.unit (s := S1x2x8x128) ![0, 1, 0, 0] S1x1x8x128.size inb_S1x2x8x128_S1x1x8x128_0_1_0_0).toLoadRect f5)
                (arg10.view.writes (Elt F) f10 (sreL c arg1 arg2 arg3 f1 f2 f3)) (arg11.view.writes (Elt F) f11 (simL c arg1 arg2 arg3 f1 f2 f3))
                (arg12.view.writes (Elt F) f12 [⟨Rect.unit (s := S5120x128) ![4224, 0] S896x128.size inb_S5120x128_S896x128_4224_0, k0_pay191⟩]) (arg13.view.writes (Elt F) f13 [⟨Rect.unit (s := S5120x128) ![4224, 0] S896x128.size inb_S5120x128_S896x128_4224_0, k0_pay192⟩]) (k0_pay193, k0_pay193) k0_t1_loop.trips⌝
            ∗ ⌜(b, h12, h13) = st2 c arg10 arg11 arg12 arg13 (View.readAt (Elt F) arg5.view (Rect.unit (s := S1x2x8x128) ![0, 0, 0, 0] S1x1x8x128.size inb_S1x2x8x128_S1x1x8x128_0_0_0_0).toLoadRect f5) (View.readAt (Elt F) arg5.view (Rect.unit (s := S1x2x8x128) ![0, 1, 0, 0] S1x1x8x128.size inb_S1x2x8x128_S1x1x8x128_0_1_0_0).toLoadRect f5)
                (arg10.view.writes (Elt F) f10 (sreL c arg1 arg2 arg3 f1 f2 f3)) (arg11.view.writes (Elt F) f11 (simL c arg1 arg2 arg3 f1 f2 f3))
                g12 g13 (a.1, a.2) k0_t2_loop.trips⌝
            ∗ pt c arg7 (arg7.view.writes (Elt F) arg7.view.junk (yL (yb c arg1 arg2 arg3 arg4 arg12 arg13 arg14 f1 f2 f3 f4 h12 h13)))
            ∗ pt c arg8 (arg8.view.writes (Elt F) arg8.view.junk (ycL (yb c arg1 arg2 arg3 arg4 arg12 arg13 arg14 f1 f2 f3 f4 h12 h13)))
            ∗ pt c arg9 (arg9.view.writes (Elt F) arg9.view.junk [⟨Rect.unit (s := S1x256x2048) ![0, 0, 0] S1x256x2048.size inb_S1x256x2048_S1x256x2048_0_0_0, k0_pay29 i (View.readAt (Elt F) arg6.view (Rect.unit (s := S1x256x2048) ![0, 0, 0] S1x256x2048.size inb_S1x256x2048_S1x256x2048_0_0_0).toLoadRect f6)⟩]))
          ∗ (∃ f, pt c arg10 f) ∗ (∃ f, pt c arg11 f) ∗ (∃ f, pt c arg12 f) ∗ (∃ f, pt c arg13 f) ∗ (∃ f, pt c arg14 f)) -∗ K ⟨⟩))
      ⊢ wp frame (wpE (defs₀ (F := F)) 𝒱₀ c none) Set.univ (cc0_s5 i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨H1, H2, H3, H4, H5, H6, H7, H8, H9, H10, H11, H12, H13, H14, Hk⟩
  sl_exec_parts!
  have eY : yb c arg1 arg2 arg3 arg4 arg12 arg13 arg14 f1 f2 f3 f4 f12L2 f13L3 = ![body_run.sl.r_91 c arg1 arg2 arg3 arg4 arg12 arg13 arg14 f1 f2 f3 f4 f12L2 f13L3, body_run.sl.r_93 c arg1 arg2 arg3 arg4 arg12 arg13 arg14 f1 f2 f3 f4 f12L2 f13L3, body_run.sl.r_97 c arg1 arg2 arg3 arg4 arg12 arg13 arg14 f1 f2 f3 f4 f12L2 f13L3, body_run.sl.r_99 c arg1 arg2 arg3 arg4 arg12 arg13 arg14 f1 f2 f3 f4 f12L2 f13L3, body_run.sl.r_101 c arg1 arg2 arg3 arg4 arg12 arg13 arg14 f1 f2 f3 f4 f12L2 f13L3, body_run.sl.r_103 c arg1 arg2 arg3 arg4 arg12 arg13 arg14 f1 f2 f3 f4 f12L2 f13L3, body_run.sl.r_105 c arg1 arg2 arg3 arg4 arg12 arg13 arg14 f1 f2 f3 f4 f12L2 f13L3, body_run.sl.r_109 c arg1 arg2 arg3 arg4 arg12 arg13 arg14 f1 f2 f3 f4 f12L2 f13L3] := by
    funext g; fin_cases g <;> rfl
  have e7 : body_run.sl.H7_512 c arg1 arg2 arg3 arg4 arg12 arg13 arg14 f1 f2 f3 f4 f12L2 f13L3 = yL (yb c arg1 arg2 arg3 arg4 arg12 arg13 arg14 f1 f2 f3 f4 f12L2 f13L3) := by rw [eY]; rfl
  have e8 : body_run.sl.H8_128 c arg1 arg2 arg3 arg4 arg12 arg13 arg14 f1 f2 f3 f4 f12L2 f13L3 = ycL (yb c arg1 arg2 arg3 arg4 arg12 arg13 arg14 f1 f2 f3 f4 f12L2 f13L3) := by rw [eY]; rfl
  rw [e7, e8]
  clear eY e7 e8
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7 H8 H9]
  · iexists _; iexists _; iexists _; iexists _; iexists _; iexists _
    isplitr
    · ipureintro; exact hL0
    isplitr
    · ipureintro; exact hL5
    isplitl [H7]; · iexact H7
    isplitl [H8]; · iexact H8
    iexact H9
  isplitl [HL6]; · iexists _; iexact HL6
  isplitl [HL7]; · iexists _; iexact HL7
  isplitl [HL8]; · iexists _; iexact HL8
  isplitl [HL9]; · iexists _; iexact HL9
  iexists _; iexact H14

end Cert.Proof.S5

end
-- ==== Proof.S5.Scan.lean ====
/-
  Hand-written, untrusted. What the two counted loops leave in the state buffers: at every row the state before the
  chunk of that row, in the order its lane's direction takes the chunks in (`traj`), and zero past the last chunk.
  The two loops are one course of 528 steps; at step `n` the forward lanes are at chunk `cf n` and the others at `cb n`.
-/
module

public import proofs.«01_k».proof.Proof.S5.Block
public import Idealize.ShloMosaic.Lib.ValueIdxCore
public import Idealize.ShloMosaic.Lib.TopK.GroupedStream

@[expose] public section

noncomputable section

namespace Cert.Proof.S5

open Cert.KernelIdeal Cert.KernelIdeal.Gen
open Idealize.ShloMosaic Idealize.ShloMosaic.TcCoe

variable {F : FTy → Type} [FloatOps F]

/-- The forward lanes' chunk at a step: the sixteen context chunks (laid behind the latent's) first. -/
def cf (n : ℕ) : ℕ := if n < 16 then n + 512 else n - 16
/-- The backward lanes'. -/
def cb (n : ℕ) : ℕ := 527 - n
/-- The step at which a row of a state buffer is at its chunk. -/
def tm (y : S5120x128.Idx) : ℕ :=
  if (y 1).val < 64 then (if 4096 ≤ (y 0).val then (y 0).val / 8 - 512 else (y 0).val / 8 + 16) else 527 - (y 0).val / 8

/-- A row's place among its chunk's eight. -/
def sub (y : S5120x128.Idx) : S8x128.Idx := ix2 ⟨(y 0).val % 8, Nat.mod_lt _ (by omega)⟩ (y 1)
/-- Chunk `s`'s row of a place among eight. -/
def row (s : ℕ) (x : S8x128.Idx) : S5120x128.Idx := ix2 ⟨(8 * s + (x 0).val) % 5120, Nat.mod_lt _ (by omega)⟩ (x 1)

/-- What a step reads of a state input: each lane at its direction's chunk. -/
def pick (S : S5120x128.Idx → F .f32) (n : ℕ) : FVec F S8x128 .f32 :=
  fun x => if (x 1).val < 64 then S (row (cf n) x) else S (row (cb n) x)

/-- The carried pair before each step. -/
def traj (AR AI : FVec F S8x128 .f32) (SR SI : S5120x128.Idx → F .f32) : ℕ → FVec F S8x128 .f32 × FVec F S8x128 .f32
  | 0 => (k0_pay193, k0_pay193)
  | n + 1 =>
    let h := traj AR AI SR SI n
    (addf (subf (mulf AR h.1) (mulf AI h.2)) (pick SR n), addf (addf (mulf AR h.2) (mulf AI h.1)) (pick SI n))

theorem traj_zero (AR AI : FVec F S8x128 .f32) (SR SI : S5120x128.Idx → F .f32) : traj AR AI SR SI 0 = (k0_pay193, k0_pay193) := by
  rw [traj]
theorem traj_succ (AR AI : FVec F S8x128 .f32) (SR SI : S5120x128.Idx → F .f32) (n : ℕ) : traj AR AI SR SI (n + 1)
    = (addf (subf (mulf AR (traj AR AI SR SI n).1) (mulf AI (traj AR AI SR SI n).2)) (pick SR n),
      addf (addf (mulf AR (traj AR AI SR SI n).2) (mulf AI (traj AR AI SR SI n).1)) (pick SI n)) := by
  rw [traj]

/-- The state buffer after both loops, of one part of the carried pair. -/
def states (T : ℕ → FVec F S8x128 .f32) : S5120x128.Idx → F .f32 :=
  fun y => if (y 0).val < 4224 then T (tm y) (sub y) else FloatOps.ofBits .f32 0x00000000#32

/-! ## The lane masks -/

theorem mask_fwd (x : S8x128.Idx) : k0_pay189 x = 1 ↔ (x 1).val < 64 := by
  have h : ∀ l : Fin 128, IntOp.cmpi .slt (BitVec.ofNat 32 (0 * 128 + l.val)) 64#32 = 1 ↔ l.val < 64 := by decide
  exact h (x 1)

theorem mask_bwd (x : S8x128.Idx) : k0_pay190 x = 1 ↔ ¬ (x 1).val < 64 := by
  have h : ∀ l : Fin 128, IntOp.xori (IntOp.cmpi .slt (BitVec.ofNat 32 (0 * 128 + l.val)) 64#32) 1#1 = 1 ↔ ¬ l.val < 64 := by decide
  exact h (x 1)

theorem cast_self {α : Type} (v : S8x128.Idx → α) (h) : shapeCast S8x128 v h = v := by
  funext x
  exact congrArg v (by simp)

/-! ## One masked store -/

theorem read_wr (M : Memref sig .tc .vmem S5120x128 .f32) (off : Fin 2 → ℕ) (inb) (s : ℕ) (ho : off = ![8 * s, 0])
    (f : M.view.ty.Contents (Elt F)) (v : FVec F S8x128 .f32) (mask : IVec S8x128 1) (y : S5120x128.Idx) :
    M.view.read (Elt F) (wr M off inb f v mask) y
      = if (y 0).val / 8 = s ∧ mask (sub y) = 1 then v (sub y) else M.view.read (Elt F) f y := by
  subst ho
  set r := Rect.unit (s := S5120x128) ![8 * s, 0] S8x128.size inb with hr
  have hemb : ∀ x : S8x128.Idx, ∀ a, (r.emb x a).val = (![8 * s, 0] : Fin 2 → ℕ) a + 1 * (x a).val := fun x a => rfl
  by_cases hy : (y 0).val / 8 = s
  · have e : r.emb (sub y) = y := by
      funext a
      apply Fin.ext
      rw [hemb]
      match a with
      | ⟨0, _⟩ => show 8 * s + 1 * ((y 0).val % 8) = (y 0).val; omega
      | ⟨1, _⟩ => show 0 + 1 * (y 1).val = (y 1).val; omega
    by_cases hm : mask (sub y) = 1
    · rw [if_pos ⟨hy, hm⟩]
      conv_lhs => rw [← e]
      exact View.read_slice_write_emb r f v ((IVec.mem_on_iff _ _).mpr hm)
    · rw [if_neg (fun h => hm h.2)]
      refine View.read_slice_write_of_not_mem r f v _ ?_
      intro h
      obtain ⟨x, hx, hxe⟩ := Finset.mem_map.mp h
      have : x = sub y := r.emb.injective (hxe.trans e.symm)
      subst this
      exact hm ((IVec.mem_on_iff _ _).mp hx)
  · rw [if_neg (fun h => hy h.1)]
    refine View.read_slice_write_of_not_mem r f v _ ?_
    intro h
    obtain ⟨x, hx, hxe⟩ := Finset.mem_map.mp h
    have h0 : (y 0).val = 8 * s + 1 * (x 0).val := by rw [← hxe]; rfl
    have := (x 0).isLt; change (x 0).val < 8 at this
    exact hy (by omega)

theorem rd_eq (M : Memref sig .tc .vmem S5120x128 .f32) (off : Fin 2 → ℕ) (inb) (s : ℕ) (ho : off = ![8 * s, 0]) (hs : s < 640)
    (f : M.view.ty.Contents (Elt F)) (x : S8x128.Idx) :
    rd M off inb f x = M.view.read (Elt F) f (row s x) := by
  subst ho
  refine congrArg (M.view.read (Elt F) f) ?_
  funext a
  apply Fin.ext
  have := (x 0).isLt; change (x 0).val < 8 at this
  match a with
  | ⟨0, _⟩ => show 8 * s + 1 * (x 0).val = (8 * s + (x 0).val) % 5120; omega
  | ⟨1, _⟩ => show 0 + 1 * (x 1).val = (x 1).val; omega

/-- A step's reading of a state input. -/
theorem pick_eq (M : Memref sig .tc .vmem S5120x128 .f32) (off off' : Fin 2 → ℕ) (inb inb') (n : ℕ) (hn : n < 528)
    (ho : off = ![8 * cf n, 0]) (ho' : off' = ![8 * cb n, 0]) (f : M.view.ty.Contents (Elt F)) :
    select k0_pay189 (rd M off inb f) (rd M off' inb' f) = pick (M.view.read (Elt F) f) n := by
  funext x
  show (if k0_pay189 x = 1 then _ else _) = _
  have h1 : cf n < 640 := by unfold cf; split <;> omega
  have h2 : cb n < 640 := by unfold cb; omega
  rw [rd_eq M off inb (cf n) ho h1, rd_eq M off' inb' (cb n) ho' h2]
  unfold pick
  by_cases h : (x 1).val < 64
  · rw [if_pos ((mask_fwd x).mpr h), if_pos h]
  · rw [if_neg (fun h' => h ((mask_fwd x).mp h')), if_neg h]

/-! ## The course of the loops -/

/-- Before step `n`: zero past the last chunk, and at each row whose step is over the state before that step. -/
def Inv (T : ℕ → FVec F S8x128 .f32) (n : ℕ) (R : S5120x128.Idx → F .f32) : Prop :=
  ∀ y, (4224 ≤ (y 0).val → R y = FloatOps.ofBits .f32 0x00000000#32) ∧ ((y 0).val < 4224 → tm y < n → R y = T (tm y) (sub y))

theorem Inv.step {T : ℕ → FVec F S8x128 .f32} {n : ℕ} (hn : n < 528) {M : Memref sig .tc .vmem S5120x128 .f32}
    {f : M.view.ty.Contents (Elt F)} (h : Inv T n (M.view.read (Elt F) f)) (off off' : Fin 2 → ℕ) (inb inb')
    (ho : off = ![8 * cf n, 0]) (ho' : off' = ![8 * cb n, 0]) (v : FVec F S8x128 .f32) (hv : v = T n) :
    Inv T (n + 1) (M.view.read (Elt F) (wr M off' inb' (wr M off inb f v k0_pay189) v k0_pay190)) := by
  subst hv
  intro y
  have h1 : (sub y 1).val = (y 1).val := rfl
  have hf := mask_fwd (sub y)
  have hb := mask_bwd (sub y)
  rw [h1] at hf hb
  have h0 : (y 0).val < 5120 := (y 0).isLt
  rw [read_wr M off' inb' (cb n) ho', read_wr M off inb (cf n) ho]
  constructor
  · intro hy
    rw [if_neg, if_neg]
    · exact (h y).1 hy
    · rintro ⟨h', -⟩; revert h'; unfold cf; split <;> omega
    · rintro ⟨h', -⟩; revert h'; unfold cb; omega
  · intro hy ht
    by_cases hl : (y 1).val < 64
    · rw [if_neg (fun h' => hb.mp h'.2 hl)]
      by_cases hs : (y 0).val / 8 = cf n
      · rw [if_pos ⟨hs, hf.mpr hl⟩]
        have : tm y = n := by
          unfold tm; rw [if_pos hl]; unfold cf at hs; split at hs <;> split <;> omega
        rw [this]
      · rw [if_neg (fun h' => hs h'.1)]
        refine (h y).2 hy ?_
        refine lt_of_le_of_ne (Nat.le_of_lt_succ ht) ?_
        intro he
        apply hs
        unfold tm at he
        rw [if_pos hl] at he
        unfold cf
        split at he <;> split <;> omega
    · by_cases hs : (y 0).val / 8 = cb n
      · rw [if_pos ⟨hs, hb.mpr hl⟩]
        have : tm y = n := by
          unfold tm; rw [if_neg hl]; unfold cb at hs; omega
        rw [this]
      · rw [if_neg (fun h' => hs h'.1), if_neg (fun h' => hl (hf.mp h'.2))]
        refine (h y).2 hy ?_
        refine lt_of_le_of_ne (Nat.le_of_lt_succ ht) ?_
        intro he
        apply hs
        unfold tm at he
        rw [if_neg hl] at he
        unfold cb
        omega

theorem Inv.done {T : ℕ → FVec F S8x128 .f32} {R : S5120x128.Idx → F .f32} (h : Inv T 528 R) : R = states T := by
  funext y
  unfold states
  split
  · rename_i hy
    refine (h y).2 hy ?_
    unfold tm; split
    · split <;> omega
    · omega
  · rename_i hy
    exact (h y).1 (by omega)

theorem Inv.start (T : ℕ → FVec F S8x128 .f32) (M : Memref sig .tc .vmem S5120x128 .f32) (f : M.view.ty.Contents (Elt F))
    (inb : ∀ a, (![4224, 0] : Fin 2 → ℕ) a + S896x128.size a ≤ S5120x128.size a)
    (z : FVec F S896x128 .f32) (hz : z = fun _ => FloatOps.ofBits .f32 0x00000000#32) :
    Inv T 0 (M.view.read (Elt F) (M.view.writes (Elt F) f [⟨Rect.unit (s := S5120x128) ![4224, 0] S896x128.size inb, z⟩])) := by
  subst hz
  intro y
  refine ⟨fun hy => ?_, fun _ h => absurd h (Nat.not_lt_zero _)⟩
  have h0 : (y 0).val < 5120 := (y 0).isLt
  refine View.read_writes_cons_hit_of_coords M.view f (Rect.unit (s := S5120x128) ![4224, 0] S896x128.size inb) (fun _ => FloatOps.ofBits .f32 0x00000000#32) [] (ix2 (n0 := 896) (n1 := 128) ⟨(y 0).val - 4224, by omega⟩ (y 1)) y ?_
  intro a
  match a with
  | ⟨0, _⟩ => show (y 0).val = 4224 + 1 * ((y 0).val - 4224); omega
  | ⟨1, _⟩ => show (y 1).val = 0 + 1 * (y 1).val; omega

theorem trips1 : k0_t1_loop.trips = 16 := by decide
theorem trips2 : k0_t2_loop.trips = 512 := by decide +kernel

section Loops

variable (c : Dev nD)
  (arg10 : Memref sig .tc .vmem S5120x128 .f32) (arg11 : Memref sig .tc .vmem S5120x128 .f32)
  (arg12 : Memref sig .tc .vmem S5120x128 .f32) (arg13 : Memref sig .tc .vmem S5120x128 .f32)
  (a0 a1 : Vec F S1x1x8x128 .f32) (X10 : Bf (F := F) c arg10) (X11 : Bf (F := F) c arg11)

/-- The course of the loops on the buffers' contents. -/
abbrev trajOf : ℕ → FVec F S8x128 .f32 × FVec F S8x128 .f32 :=
  traj (k0_pay187 a0) (k0_pay188 a1) (arg10.view.read (Elt F) X10) (arg11.view.read (Elt F) X11)

/-- The state of the loops before step `n`. -/
def At (n : ℕ) (s : St F c arg12 arg13) : Prop :=
  s.1 = trajOf c arg10 arg11 a0 a1 X10 X11 n
    ∧ Inv (fun n => (trajOf c arg10 arg11 a0 a1 X10 X11 n).1) n (arg12.view.read (Elt F) s.2.1)
    ∧ Inv (fun n => (trajOf c arg10 arg11 a0 a1 X10 X11 n).2) n (arg13.view.read (Elt F) s.2.2)

theorem At.of_next1 {k : Fin k0_t1_loop.trips} {s : St F c arg12 arg13} (h : At c arg10 arg11 arg12 arg13 a0 a1 X10 X11 k.val s) :
    At c arg10 arg11 arg12 arg13 a0 a1 X10 X11 (k.val + 1) (next1 c arg10 arg11 arg12 arg13 a0 a1 X10 X11 k s) := by
  have hk : k.val < 16 := trips1 ▸ k.isLt
  have e1 : k0_off1 k = ![8 * cf k.val, 0] := by rw [k0_off1_eq]; unfold cf; rw [if_pos hk, Nat.mul_add]
  have e2 : k0_off2 k = ![8 * cb k.val, 0] := by rw [k0_off2_eq]; unfold cb; congr 1; omega
  obtain ⟨h1, h2, h3⟩ := h
  refine ⟨?_, ?_, ?_⟩
  · unfold next1
    refine Prod.ext ?_ ?_
    · show addf (subf (mulf _ s.1.1) (mulf _ s.1.2)) (select _ _ _) = _
      rw [pick_eq arg10 _ _ _ _ k.val (by omega) e1 e2, h1]; rfl
    · show addf (addf (mulf _ s.1.2) (mulf _ s.1.1)) (select _ _ _) = _
      rw [pick_eq arg11 _ _ _ _ k.val (by omega) e1 e2, h1]; rfl
  · have := h2.step (by omega) (k0_off1 k) (k0_off2 k) (k0_off1_inb k) (k0_off2_inb k) e1 e2 s.1.1 (congrArg Prod.fst h1)
    unfold next1
    simpa only [k0_pay7, k0_pay8, k0_pay9, k0_pay10, cast_self] using this
  · have := h3.step (by omega) (k0_off1 k) (k0_off2 k) (k0_off1_inb k) (k0_off2_inb k) e1 e2 s.1.2 (congrArg Prod.snd h1)
    unfold next1
    simpa only [k0_pay11, k0_pay12, k0_pay13, k0_pay14, cast_self] using this

theorem At.of_next2 {k : Fin k0_t2_loop.trips} {s : St F c arg12 arg13} (h : At c arg10 arg11 arg12 arg13 a0 a1 X10 X11 (16 + k.val) s) :
    At c arg10 arg11 arg12 arg13 a0 a1 X10 X11 (16 + (k.val + 1)) (next2 c arg10 arg11 arg12 arg13 a0 a1 X10 X11 k s) := by
  have hk : k.val < 512 := trips2 ▸ k.isLt
  have e1 : k0_off3 k = ![8 * cf (16 + k.val), 0] := by rw [k0_off3_eq]; unfold cf; rw [if_neg (by omega)]; congr 1; omega
  have e2 : k0_off4 k = ![8 * cb (16 + k.val), 0] := by rw [k0_off4_eq]; unfold cb; congr 1; omega
  obtain ⟨h1, h2, h3⟩ := h
  rw [← Nat.add_assoc]
  refine ⟨?_, ?_, ?_⟩
  · unfold next2
    refine Prod.ext ?_ ?_
    · show addf (subf (mulf _ s.1.1) (mulf _ s.1.2)) (select _ _ _) = _
      rw [pick_eq arg10 _ _ _ _ (16 + k.val) (by omega) e1 e2, h1]; rfl
    · show addf (addf (mulf _ s.1.2) (mulf _ s.1.1)) (select _ _ _) = _
      rw [pick_eq arg11 _ _ _ _ (16 + k.val) (by omega) e1 e2, h1]; rfl
  · have := h2.step (by omega) (k0_off3 k) (k0_off4 k) (k0_off3_inb k) (k0_off4_inb k) e1 e2 s.1.1 (congrArg Prod.fst h1)
    unfold next2
    simpa only [k0_pay18, k0_pay19, k0_pay20, k0_pay21, cast_self] using this
  · have := h3.step (by omega) (k0_off3 k) (k0_off4 k) (k0_off3_inb k) (k0_off4_inb k) e1 e2 s.1.2 (congrArg Prod.snd h1)
    unfold next2
    simpa only [k0_pay22, k0_pay23, k0_pay24, k0_pay25, cast_self] using this

theorem st1_zero (F12 : Bf (F := F) c arg12) (F13 : Bf (F := F) c arg13) (init : FVec F S8x128 .f32 × FVec F S8x128 .f32) :
    st1 c arg10 arg11 arg12 arg13 a0 a1 X10 X11 F12 F13 init 0 = (init, F12, F13) := by rw [st1]
theorem st2_zero (F12 : Bf (F := F) c arg12) (F13 : Bf (F := F) c arg13) (init : FVec F S8x128 .f32 × FVec F S8x128 .f32) :
    st2 c arg10 arg11 arg12 arg13 a0 a1 X10 X11 F12 F13 init 0 = (init, F12, F13) := by rw [st2]

theorem zero191 : k0_pay191 (F := F) = fun _ => FloatOps.ofBits .f32 0x00000000#32 := by
  unfold k0_pay191; funext x; rfl
theorem zero192 : k0_pay192 (F := F) = fun _ => FloatOps.ofBits .f32 0x00000000#32 := by
  unfold k0_pay192; funext x; rfl

theorem At.start (f12 : Bf (F := F) c arg12) (f13 : Bf (F := F) c arg13)
    (inb : ∀ a, (![4224, 0] : Fin 2 → ℕ) a + S896x128.size a ≤ S5120x128.size a) :
    At c arg10 arg11 arg12 arg13 a0 a1 X10 X11 0 ((k0_pay193, k0_pay193),
      arg12.view.writes (Elt F) f12 [⟨Rect.unit (s := S5120x128) ![4224, 0] S896x128.size inb, k0_pay191⟩],
      arg13.view.writes (Elt F) f13 [⟨Rect.unit (s := S5120x128) ![4224, 0] S896x128.size inb, k0_pay192⟩]) := by
  refine ⟨(traj_zero _ _ _ _).symm, ?_, ?_⟩
  · dsimp only
    exact Inv.start _ arg12 f12 inb _ zero191
  · dsimp only
    exact Inv.start _ arg13 f13 inb _ zero192

theorem At.st1 {F12 : Bf (F := F) c arg12} {F13 : Bf (F := F) c arg13} {init : FVec F S8x128 .f32 × FVec F S8x128 .f32}
    (h : At c arg10 arg11 arg12 arg13 a0 a1 X10 X11 0 (init, F12, F13)) :
    ∀ k, k ≤ k0_t1_loop.trips → At c arg10 arg11 arg12 arg13 a0 a1 X10 X11 k (st1 c arg10 arg11 arg12 arg13 a0 a1 X10 X11 F12 F13 init k) := by
  intro k
  induction k with
  | zero => intro _; rw [st1_zero]; exact h
  | succ k ih =>
    intro hk
    have := At.of_next1 c arg10 arg11 arg12 arg13 a0 a1 X10 X11 (k := ⟨k, hk⟩) (ih (Nat.le_of_lt hk))
    rw [← st1_succ] at this
    exact this

theorem At.st2 {F12 : Bf (F := F) c arg12} {F13 : Bf (F := F) c arg13} {init : FVec F S8x128 .f32 × FVec F S8x128 .f32}
    (h : At c arg10 arg11 arg12 arg13 a0 a1 X10 X11 16 (init, F12, F13)) :
    ∀ k, k ≤ k0_t2_loop.trips → At c arg10 arg11 arg12 arg13 a0 a1 X10 X11 (16 + k) (st2 c arg10 arg11 arg12 arg13 a0 a1 X10 X11 F12 F13 init k) := by
  intro k
  induction k with
  | zero => intro _; rw [st2_zero]; exact h
  | succ k ih =>
    intro hk
    have := At.of_next2 c arg10 arg11 arg12 arg13 a0 a1 X10 X11 (k := ⟨k, hk⟩) (ih (Nat.le_of_lt hk))
    rw [← st2_succ] at this
    exact this

/-- What both loops leave in the state buffers. -/
theorem loops_states (f12 : Bf (F := F) c arg12) (f13 : Bf (F := F) c arg13)
    (inb : ∀ a, (![4224, 0] : Fin 2 → ℕ) a + S896x128.size a ≤ S5120x128.size a) (a b : FVec F S8x128 .f32 × FVec F S8x128 .f32)
    (g12 h12 : Bf (F := F) c arg12) (g13 h13 : Bf (F := F) c arg13)
    (e1 : (a, g12, g13) = st1 c arg10 arg11 arg12 arg13 a0 a1 X10 X11
      (arg12.view.writes (Elt F) f12 [⟨Rect.unit (s := S5120x128) ![4224, 0] S896x128.size inb, k0_pay191⟩])
      (arg13.view.writes (Elt F) f13 [⟨Rect.unit (s := S5120x128) ![4224, 0] S896x128.size inb, k0_pay192⟩])
      (k0_pay193, k0_pay193) k0_t1_loop.trips)
    (e2 : (b, h12, h13) = st2 c arg10 arg11 arg12 arg13 a0 a1 X10 X11 g12 g13 (a.1, a.2) k0_t2_loop.trips) :
    arg12.view.read (Elt F) h12 = states (fun n => (trajOf c arg10 arg11 a0 a1 X10 X11 n).1)
      ∧ arg13.view.read (Elt F) h13 = states (fun n => (trajOf c arg10 arg11 a0 a1 X10 X11 n).2) := by
  have h := At.st1 c arg10 arg11 arg12 arg13 a0 a1 X10 X11 (At.start c arg10 arg11 arg12 arg13 a0 a1 X10 X11 f12 f13 inb) _ le_rfl
  rw [← e1, trips1] at h
  have h := At.st2 c arg10 arg11 arg12 arg13 a0 a1 X10 X11 h _ le_rfl
  rw [← e2, trips2] at h
  exact ⟨h.2.1.done, h.2.2.done⟩

end Loops

end Cert.Proof.S5

end
-- ==== Proof.S5.Out.lean ====
/-
  Hand-written, untrusted. A grid step's results as values of its blocks alone: what the stores of Block.lean and the two
  loops (Scan.lean) leave, with the buffers they go through dropped.
-/
module

public import proofs.«01_k».proof.Proof.S5.Scan
public import Idealize.ShloMosaic.Lib.Pipeline.Value
public import Idealize.ShloMosaic.Lib.Pointwise.Index

@[expose] public section

noncomputable section

namespace Cert.Proof.S5

open Cert.KernelIdeal Cert.KernelIdeal.Gen
open Idealize.ShloMosaic Idealize.ShloMosaic.TcCoe

variable {F : FTy → Type} [FloatOps F]

/-! ## The values -/

section Values

variable (X1 : Vec F S128x8192 .bf16) (X2 : Vec F S16x128x128 .bf16) (X3 : Vec F S1x8x512x256 .bf16)
  (X4 : Vec F S1x8x256x256 .bf16) (X5 : Vec F S1x2x8x128 .f32)

/-- Group `g`'s channels by token and channel (`16·t + h`), all chunks: the latent's, then the context's. -/
def zv (g : Fin 8) : FVec F S256x640 .bf16 := fun y =>
  if h : (y 1).val < 512 then
    X1 (ix2 (n0 := 128) (n1 := 8192) ⟨16 * g.val + (y 0).val % 16, by omega⟩
      ⟨2048 * ((y 1).val / 128) + 128 * ((y 0).val / 16) + (y 1).val % 128, by
        have := (y 0).isLt; change (y 0).val < 256 at this; omega⟩)
  else
    X2 (ix3 (n0 := 16) (n1 := 128) (n2 := 128) ⟨(y 0).val / 16, by have := (y 0).isLt; change (y 0).val < 256 at this; omega⟩
      ⟨16 * g.val + (y 0).val % 16, by omega⟩
      ⟨(y 1).val - 512, by have := (y 1).isLt; change (y 1).val < 640 at this; omega⟩)

/-- The first operator on group `g`'s channels. -/
def rv (g : Fin 8) : FVec F S512x640 .f32 :=
  matmul dot_S512x256_S256x640_S512x640_1_0_0_1_n_n none (fun y => X3 (ix4 (0 : Fin 1) g (y 0) (y 1))) (zv X1 X2 g)
    (constant S512x640 .f32 0x00000000#32)

/-- The state inputs' buffers: the real parts, and the imaginary ones. -/
def SR : S5120x128.Idx → F .f32 := fun y =>
  rv X1 X2 X3 ⟨(y 0).val % 8, Nat.mod_lt _ (by omega)⟩ (ix2 (n0 := 512) (n1 := 640)
    ⟨256 + (y 1).val, by have := (y 1).isLt; change (y 1).val < 128 at this; omega⟩
    ⟨(y 0).val / 8, by have := (y 0).isLt; change (y 0).val < 5120 at this; omega⟩)
def SI : S5120x128.Idx → F .f32 := fun y =>
  rv X1 X2 X3 ⟨(y 0).val % 8, Nat.mod_lt _ (by omega)⟩ (ix2 (n0 := 512) (n1 := 640)
    ⟨384 + (y 1).val, by have := (y 1).isLt; change (y 1).val < 128 at this; omega⟩
    ⟨(y 0).val / 8, by have := (y 0).isLt; change (y 0).val < 5120 at this; omega⟩)

/-- The step's multipliers. -/
def AR : FVec F S8x128 .f32 := fun x => X5 (ix4 (0 : Fin 1) (0 : Fin 2) (x 0) (x 1))
def AI : FVec F S8x128 .f32 := fun x => X5 (ix4 (0 : Fin 1) (1 : Fin 2) (x 0) (x 1))

/-- The states before each step, and the buffers of them. -/
abbrev tv : ℕ → FVec F S8x128 .f32 × FVec F S8x128 .f32 := traj (AR X5) (AI X5) (SR X1 X2 X3) (SI X1 X2 X3)
abbrev HR : S5120x128.Idx → F .f32 := states fun n => (tv X1 X2 X3 X5 n).1
abbrev HI : S5120x128.Idx → F .f32 := states fun n => (tv X1 X2 X3 X5 n).2

/-- Group `g`'s states by chunk. -/
def hv (g : Fin 8) : FVec F S640x256 .f32 :=
  concatenate S640x256 1 [⟨S640x128, fun y => HR X1 X2 X3 X5 ((strip g).emb y)⟩, ⟨S640x128, fun y => HI X1 X2 X3 X5 ((strip g).emb y)⟩]
    concatenates_S640x128_S640x128_S640x256_d1

/-- Group `g`'s result by token and channel, all chunks. -/
def yv (g : Fin 8) : FVec F S256x640 .bf16 :=
  truncf .bf16 (addf (fun y => rv X1 X2 X3 g (ix2 (n0 := 512) (n1 := 640) ⟨(y 0).val, by have := (y 0).isLt; change (y 0).val < 256 at this; omega⟩ (y 1)))
    (matmul dot_S256x256_S640x256_S256x640_1_1_0_0_n_n none (fun y => X4 (ix4 (0 : Fin 1) g (y 0) (y 1)))
      (truncf .bf16 (hv X1 X2 X3 X5 g) bitsLt_bf16_f32) (constant S256x640 .f32 0x00000000#32))) bitsLt_bf16_f32

/-- The latent's block of the result. -/
def o7 : Vec F S128x8192 .bf16 := fun y =>
  yv X1 X2 X3 X4 X5 ⟨(y 0).val / 16, by have := (y 0).isLt; change (y 0).val < 128 at this; omega⟩ (ix2 (n0 := 256) (n1 := 640)
    ⟨16 * ((y 1).val % 2048 / 128) + (y 0).val % 16, by omega⟩
    ⟨128 * ((y 1).val / 2048) + (y 1).val % 128, by have := (y 1).isLt; change (y 1).val < 8192 at this; omega⟩)
/-- The context's. -/
def o8 : Vec F S16x128x128 .bf16 := fun y =>
  yv X1 X2 X3 X4 X5 ⟨(y 1).val / 16, by have := (y 1).isLt; change (y 1).val < 128 at this; omega⟩ (ix2 (n0 := 256) (n1 := 640)
    ⟨16 * (y 0).val + (y 1).val % 16, by have := (y 0).isLt; change (y 0).val < 16 at this; omega⟩
    ⟨512 + (y 2).val, by have := (y 2).isLt; change (y 2).val < 128 at this; omega⟩)

end Values

theorem gs_all : ∀ g : Fin 8, g ∈ gs := by decide
theorem ts_all : ∀ t : Fin 16, t ∈ ts := by decide

theorem mem_of_coords {s : Shape} (r : Rect s) (x : r.shape.Idx) (y : s.Idx) (hx : ∀ a, (y a).val = r.off a + r.stride a * (x a).val) : y ∈ r.set :=
  r.mem_set.mpr fun a => ⟨(x a).val, (x a).isLt, hx a⟩

theorem strip_cover (y : S5120x128.Idx) : ∃ g, y ∈ (strip g).set := by
  have h0 : (y 0).val < 5120 := (y 0).isLt
  refine ⟨⟨(y 0).val % 8, by omega⟩, mem_of_coords _ (ix2 (n0 := 640) (n1 := 128) ⟨(y 0).val / 8, by omega⟩ (y 1)) y ?_⟩
  intro a; match a with
    | ⟨0, _⟩ => show (y 0).val = (y 0).val % 8 + 8 * ((y 0).val / 8); omega
    | ⟨1, _⟩ => show (y 1).val = 0 + 1 * (y 1).val; omega

/-! ## The stores -/

section Stores

variable (c : Dev nD)
  (arg1 : Memref sig .tc .vmem S128x8192 .bf16) (arg2 : Memref sig .tc .vmem S16x128x128 .bf16)
  (arg3 : Memref sig .tc .vmem S1x8x512x256 .bf16) (arg4 : Memref sig .tc .vmem S1x8x256x256 .bf16)
  (arg5 : Memref sig .tc .vmem S1x2x8x128 .f32)
  (arg7 : Memref sig .tc .vmem S128x8192 .bf16) (arg8 : Memref sig .tc .vmem S16x128x128 .bf16)
  (arg10 : Memref sig .tc .vmem S5120x128 .f32) (arg11 : Memref sig .tc .vmem S5120x128 .f32)
  (arg12 : Memref sig .tc .vmem S5120x128 .f32) (arg13 : Memref sig .tc .vmem S5120x128 .f32)
  (arg14 : Memref sig .tc .vmem S8x256x640 .f32)
  (f1 : Bf (F := F) c arg1) (f2 : Bf (F := F) c arg2) (f3 : Bf (F := F) c arg3) (f4 : Bf (F := F) c arg4) (f5 : Bf (F := F) c arg5)
  {X1 : Vec F S128x8192 .bf16} {X2 : Vec F S16x128x128 .bf16} {X3 : Vec F S1x8x512x256 .bf16}
  {X4 : Vec F S1x8x256x256 .bf16} {X5 : Vec F S1x2x8x128 .f32}

theorem plane_apply (hf1 : arg1.view.read (Elt F) f1 = X1) (hf2 : arg2.view.read (Elt F) f2 = X2) (g : Fin 8) (t : Fin 16) (y : S16x640.Idx) :
    plane c arg1 arg2 f1 f2 g t y = zv X1 X2 g (ix2 (n0 := 256) (n1 := 640) ⟨16 * t.val + (y 0).val, by
      have := (y 0).isLt; change (y 0).val < 16 at this; omega⟩ (y 1)) := by
  subst hf1 hf2
  have h0 : (y 0).val < 16 := (y 0).isLt
  have h1 : (y 1).val < 640 := (y 1).isLt
  have key := concatenate_ofFn_apply (t := S16x640) (s₁ := S16x128) 1
    (fun n : Fin 5 => if h : n.val < 4 then tile c arg1 f1 g t ⟨n.val, h⟩ else shapeCast S16x128 (ctile c arg2 f2 g t) shapeCasts_S1x16x128_S16x128)
    concatenates_S16x128_S16x128_S16x128_S16x128_S16x128_S16x640_d1 rfl 128 rfl y ⟨(y 1).val / 128, by omega⟩ rfl
    (ix2 (n0 := 16) (n1 := 128) (y 0) ⟨(y 1).val % 128, by omega⟩) rfl
    (by intro b hb; match b with | ⟨0, _⟩ => rfl | ⟨1, _⟩ => exact absurd rfl hb)
  refine (show plane c arg1 arg2 f1 f2 g t y = _ from key).trans ?_
  dsimp only
  unfold zv
  by_cases h : (y 1).val < 512
  · have h' : (y 1).val / 128 < 4 := by omega
    rw [dif_pos h', dif_pos (show (ix2 (n0 := 256) (n1 := 640) _ (y 1) 1).val < 512 from h)]
    refine congrArg (arg1.view.read (Elt F) f1) ?_
    funext a
    apply Fin.ext
    match a with
    | ⟨0, _⟩ => show 16 * g.val + 1 * (y 0).val = 16 * g.val + (16 * t.val + (y 0).val) % 16; omega
    | ⟨1, _⟩ =>
      show 2048 * ((y 1).val / 128) + 128 * t.val + 1 * ((y 1).val % 128)
        = 2048 * ((y 1).val / 128) + 128 * ((16 * t.val + (y 0).val) / 16) + (y 1).val % 128
      omega
  · have h' : ¬ (y 1).val / 128 < 4 := by omega
    rw [dif_neg h', dif_neg (show ¬ (ix2 (n0 := 256) (n1 := 640) _ (y 1) 1).val < 512 from h)]
    refine (shapeCast_apply (ctile c arg2 f2 g t) shapeCasts_S1x16x128_S16x128 _ (ix3 (n0 := 1) (n1 := 16) (n2 := 128) 0 (y 0) ⟨(y 1).val % 128, by omega⟩) ?_).trans ?_
    · rw [Shape.rowMajor_val_three, Shape.rowMajor_val_two]
      show (0 * 16 + (y 0).val) * 128 + (y 1).val % 128 = (y 0).val * 128 + (y 1).val % 128
      omega
    refine congrArg (arg2.view.read (Elt F) f2) ?_
    funext a
    apply Fin.ext
    match a with
    | ⟨0, _⟩ => show t.val + 1 * 0 = (16 * t.val + (y 0).val) / 16; omega
    | ⟨1, _⟩ => show 16 * g.val + 1 * (y 0).val = 16 * g.val + (16 * t.val + (y 0).val) % 16; omega
    | ⟨2, _⟩ => show 0 + 1 * ((y 1).val % 128) = (y 1).val - 512; omega

theorem zcat_eq (hf1 : arg1.view.read (Elt F) f1 = X1) (hf2 : arg2.view.read (Elt F) f2 = X2) (g : Fin 8) :
    zcat c arg1 arg2 f1 f2 g = zv X1 X2 g := by
  funext y
  have h0 : (y 0).val < 256 := (y 0).isLt
  have key := concatenate_ofFn_apply (t := S256x640) (s₁ := S16x640) 0 (fun n : Fin 16 => plane c arg1 arg2 f1 f2 g n)
    concatenates_S16x640_S16x640_S16x640_S16x640_S16x640_S16x640_S16x640_S16x640_S16x640_S16x640_S16x640_S16x640_S16x640_S16x640_S16x640_S16x640_S256x640_d0
    rfl 16 rfl y ⟨(y 0).val / 16, by omega⟩ rfl
    (ix2 (n0 := 16) (n1 := 640) ⟨(y 0).val % 16, by omega⟩ (y 1)) rfl
    (by intro b hb; match b with | ⟨0, _⟩ => exact absurd rfl hb | ⟨1, _⟩ => rfl)
  refine (show zcat c arg1 arg2 f1 f2 g y = _ from key).trans ?_
  rw [plane_apply c arg1 arg2 f1 f2 hf1 hf2]
  refine congrArg (zv X1 X2 g) ?_
  funext a
  apply Fin.ext
  match a with
  | ⟨0, _⟩ => show 16 * ((y 0).val / 16) + (y 0).val % 16 = (y 0).val; omega
  | ⟨1, _⟩ => rfl

theorem w1_eq (hf3 : arg3.view.read (Elt F) f3 = X3) (g : Fin 8) :
    shapeCast S512x256 (w1 c arg3 f3 g) shapeCasts_S1x1x512x256_S512x256 = fun y => X3 (ix4 (0 : Fin 1) g (y 0) (y 1)) := by
  subst hf3
  funext y
  refine (shapeCast_apply (w1 c arg3 f3 g) shapeCasts_S1x1x512x256_S512x256 y (ix4 (n0 := 1) (n1 := 1) (n2 := 512) (n3 := 256) 0 0 (y 0) (y 1)) ?_).trans ?_
  · rw [Shape.rowMajor_val_four, Shape.rowMajor_val_two]
    show ((0 * 1 + 0) * 512 + (y 0).val) * 256 + (y 1).val = (y 0).val * 256 + (y 1).val
    omega
  refine congrArg (arg3.view.read (Elt F) f3) ?_
  funext a
  apply Fin.ext
  match a with
  | ⟨0, _⟩ => rfl
  | ⟨1, _⟩ => show g.val + 1 * 0 = g.val; omega
  | ⟨2, _⟩ => show 0 + 1 * (y 0).val = (y 0).val; omega
  | ⟨3, _⟩ => show 0 + 1 * (y 1).val = (y 1).val; omega

theorem w2_eq (hf4 : arg4.view.read (Elt F) f4 = X4) (g : Fin 8) :
    shapeCast S256x256 (View.readAt (Elt F) arg4.view (Rect.unit (s := S1x8x256x256) ![0, g.val, 0, 0] S1x1x256x256.size (w2_inb g)).toLoadRect f4)
      shapeCasts_S1x1x256x256_S256x256 = fun y => X4 (ix4 (0 : Fin 1) g (y 0) (y 1)) := by
  subst hf4
  funext y
  refine (shapeCast_apply _ shapeCasts_S1x1x256x256_S256x256 y (ix4 (n0 := 1) (n1 := 1) (n2 := 256) (n3 := 256) 0 0 (y 0) (y 1)) ?_).trans ?_
  · rw [Shape.rowMajor_val_four, Shape.rowMajor_val_two]
    show ((0 * 1 + 0) * 256 + (y 0).val) * 256 + (y 1).val = (y 0).val * 256 + (y 1).val
    omega
  refine congrArg (arg4.view.read (Elt F) f4) ?_
  funext a
  apply Fin.ext
  match a with
  | ⟨0, _⟩ => rfl
  | ⟨1, _⟩ => show g.val + 1 * 0 = g.val; omega
  | ⟨2, _⟩ => show 0 + 1 * (y 0).val = (y 0).val; omega
  | ⟨3, _⟩ => show 0 + 1 * (y 1).val = (y 1).val; omega

theorem coef_eq (hf5 : arg5.view.read (Elt F) f5 = X5) (n : Fin 2) (inb) (h) :
    shapeCast S8x128 (View.readAt (Elt F) arg5.view (Rect.unit (s := S1x2x8x128) ![0, n.val, 0, 0] S1x1x8x128.size inb).toLoadRect f5) h
      = fun x => X5 (ix4 (0 : Fin 1) n (x 0) (x 1)) := by
  subst hf5
  funext y
  refine (shapeCast_apply _ h y (ix4 (n0 := 1) (n1 := 1) (n2 := 8) (n3 := 128) 0 0 (y 0) (y 1)) ?_).trans ?_
  · rw [Shape.rowMajor_val_four, Shape.rowMajor_val_two]
    show ((0 * 1 + 0) * 8 + (y 0).val) * 128 + (y 1).val = (y 0).val * 128 + (y 1).val
    omega
  refine congrArg (arg5.view.read (Elt F) f5) ?_
  funext a
  apply Fin.ext
  match a with
  | ⟨0, _⟩ => rfl
  | ⟨1, _⟩ => show n.val + 1 * 0 = n.val; omega
  | ⟨2, _⟩ => show 0 + 1 * (y 0).val = (y 0).val; omega
  | ⟨3, _⟩ => show 0 + 1 * (y 1).val = (y 1).val; omega

section Inputs
variable (hf1 : arg1.view.read (Elt F) f1 = X1) (hf2 : arg2.view.read (Elt F) f2 = X2) (hf3 : arg3.view.read (Elt F) f3 = X3)
include hf1 hf2 hf3

theorem r1_eq (g : Fin 8) : r1 c arg1 arg2 arg3 f1 f2 f3 g = rv X1 X2 X3 g := by
  unfold r1 rv
  rw [w1_eq c arg3 f3 hf3, zcat_eq c arg1 arg2 f1 f2 hf1 hf2]

theorem sre_apply (g : Fin 8) (x : S640x128.Idx) : sre c arg1 arg2 arg3 f1 f2 f3 g x = SR X1 X2 X3 ((strip g).emb x) := by
  have h0 : (x 0).val < 640 := (x 0).isLt
  have h1 : (x 1).val < 128 := (x 1).isLt
  have hg := g.isLt
  unfold sre sin SR
  rw [r1_eq c arg1 arg2 arg3 f1 f2 f3 hf1 hf2 hf3]
  rw [shapeCast_apply _ shapeCasts_S640x128_S640x128 x x rfl]
  refine (extractStridedSlice_apply _ _ slices_S640x256_o0_0_S640x128 x (ix2 (n0 := 640) (n1 := 256) (x 0) ⟨(x 1).val, by omega⟩) ?_).trans ?_
  · intro a; match a with
    | ⟨0, _⟩ => show (x 0).val = 0 + (x 0).val; omega
    | ⟨1, _⟩ => show (x 1).val = 0 + (x 1).val; omega
  refine (transpose_apply _ _ transposes_S256x640_p1_0_S640x256 _ (ix2 (n0 := 256) (n1 := 640) ⟨(x 1).val, by omega⟩ (x 0)) ?_).trans ?_
  · intro a; match a with | ⟨0, _⟩ => rfl | ⟨1, _⟩ => rfl
  have e : ∀ k, (⟨((strip g).emb x 0).val % 8, k⟩ : Fin 8) = g := fun k => Fin.ext (show (g.val + 8 * (x 0).val) % 8 = g.val by omega)
  rw [e]
  refine extractStridedSlice_apply _ _ slices_S512x640_o256_0_S256x640 _ _ ?_
  intro a; match a with
    | ⟨0, _⟩ => show 256 + (0 + 1 * (x 1).val) = 256 + (x 1).val; omega
    | ⟨1, _⟩ => show (g.val + 8 * (x 0).val) / 8 = 0 + (x 0).val; omega

theorem sim_apply (g : Fin 8) (x : S640x128.Idx) : sim c arg1 arg2 arg3 f1 f2 f3 g x = SI X1 X2 X3 ((strip g).emb x) := by
  have h0 : (x 0).val < 640 := (x 0).isLt
  have h1 : (x 1).val < 128 := (x 1).isLt
  have hg := g.isLt
  unfold sim sin SI
  rw [r1_eq c arg1 arg2 arg3 f1 f2 f3 hf1 hf2 hf3]
  rw [shapeCast_apply _ shapeCasts_S640x128_S640x128 x x rfl]
  refine (extractStridedSlice_apply _ _ slices_S640x256_o0_128_S640x128 x (ix2 (n0 := 640) (n1 := 256) (x 0) ⟨128 + (x 1).val, by omega⟩) ?_).trans ?_
  · intro a; match a with
    | ⟨0, _⟩ => show (x 0).val = 0 + (x 0).val; omega
    | ⟨1, _⟩ => show 128 + (x 1).val = 128 + (x 1).val; omega
  refine (transpose_apply _ _ transposes_S256x640_p1_0_S640x256 _ (ix2 (n0 := 256) (n1 := 640) ⟨128 + (x 1).val, by omega⟩ (x 0)) ?_).trans ?_
  · intro a; match a with | ⟨0, _⟩ => rfl | ⟨1, _⟩ => rfl
  have e : ∀ k, (⟨((strip g).emb x 0).val % 8, k⟩ : Fin 8) = g := fun k => Fin.ext (show (g.val + 8 * (x 0).val) % 8 = g.val by omega)
  rw [e]
  refine extractStridedSlice_apply _ _ slices_S512x640_o256_0_S256x640 _ _ ?_
  intro a; match a with
    | ⟨0, _⟩ => show 384 + (0 + 1 * (x 1).val) = 256 + (128 + (x 1).val); omega
    | ⟨1, _⟩ => show (g.val + 8 * (x 0).val) / 8 = 0 + (x 0).val; omega

theorem read10 (f10 : Bf (F := F) c arg10) : arg10.view.read (Elt F) (arg10.view.writes (Elt F) f10 (sreL c arg1 arg2 arg3 f1 f2 f3)) = SR X1 X2 X3 := by
  funext y
  refine View.read_writes_apply_of_pieces arg10.view f10 (SR X1 X2 X3) _ ?_ y ?_
  · intro p hp x
    obtain ⟨g, -, rfl⟩ := List.mem_map.mp hp
    exact sre_apply c arg1 arg2 arg3 f1 f2 f3 hf1 hf2 hf3 g x
  · obtain ⟨g, hg⟩ := strip_cover y
    exact ⟨_, List.mem_map.mpr ⟨g, gs_all g, rfl⟩, hg⟩

theorem read11 (f11 : Bf (F := F) c arg11) : arg11.view.read (Elt F) (arg11.view.writes (Elt F) f11 (simL c arg1 arg2 arg3 f1 f2 f3)) = SI X1 X2 X3 := by
  funext y
  refine View.read_writes_apply_of_pieces arg11.view f11 (SI X1 X2 X3) _ ?_ y ?_
  · intro p hp x
    obtain ⟨g, -, rfl⟩ := List.mem_map.mp hp
    exact sim_apply c arg1 arg2 arg3 f1 f2 f3 hf1 hf2 hf3 g x
  · obtain ⟨g, hg⟩ := strip_cover y
    exact ⟨_, List.mem_map.mpr ⟨g, gs_all g, rfl⟩, hg⟩

/-- The local part of a group, as it is loaded back. -/
theorem ylocCov (g : Fin 8) :
    shapeCast S256x640 (arg14.view.readCov (ylocL c arg1 arg2 arg3 f1 f2 f3) (Rect.unit (s := S8x256x640) ![g.val, 0, 0] S1x256x640.size (yl_inb g)).toLoadRect)
      shapeCasts_S1x256x640_S256x640
    = fun y => rv X1 X2 X3 g (ix2 (n0 := 512) (n1 := 640) ⟨(y 0).val, by have := (y 0).isLt; change (y 0).val < 256 at this; omega⟩ (y 1)) := by
  funext y
  refine (shapeCast_apply _ shapeCasts_S1x256x640_S256x640 y (ix3 (n0 := 1) (n1 := 256) (n2 := 640) 0 (y 0) (y 1)) ?_).trans ?_
  · rw [Shape.rowMajor_val_three, Shape.rowMajor_val_two]
    show (0 * 256 + (y 0).val) * 640 + (y 1).val = (y 0).val * 640 + (y 1).val
    omega
  refine (View.read_writes_apply_of_pieces arg14.view arg14.view.junk
    (fun j : S8x256x640.Idx => rv X1 X2 X3 (j 0) (ix2 (n0 := 512) (n1 := 640) ⟨(j 1).val, by have := (j 1).isLt; change (j 1).val < 256 at this; omega⟩ (j 2)))
    (ylocL c arg1 arg2 arg3 f1 f2 f3) ?_ _ ?_).trans ?_
  · intro p hp x
    obtain ⟨k, -, rfl⟩ := List.mem_map.mp hp
    have x0 : (x 0).val < 1 := (x 0).isLt
    have x1 : (x 1).val < 256 := (x 1).isLt
    have x2 : (x 2).val < 640 := (x 2).isLt
    show yloc c arg1 arg2 arg3 f1 f2 f3 k x = _
    unfold yloc
    rw [r1_eq c arg1 arg2 arg3 f1 f2 f3 hf1 hf2 hf3]
    refine (shapeCast_apply _ shapeCasts_S256x640_S1x256x640 x (ix2 (n0 := 256) (n1 := 640) (x 1) (x 2)) ?_).trans ?_
    · rw [Shape.rowMajor_val_three, Shape.rowMajor_val_two]
      show (x 1).val * 640 + (x 2).val = ((x 0).val * 256 + (x 1).val) * 640 + (x 2).val
      omega
    have e : (Rect.unit (s := S8x256x640) ![k.val, 0, 0] S1x256x640.size (yl_inb k)).emb x 0 = k := Fin.ext (show k.val + 1 * (x 0).val = k.val by omega)
    rw [e]
    refine extractStridedSlice_apply _ _ slices_S512x640_o0_0_S256x640 _ _ ?_
    intro a; match a with
      | ⟨0, _⟩ => show 0 + 1 * (x 1).val = 0 + (x 1).val; omega
      | ⟨1, _⟩ => show 0 + 1 * (x 2).val = 0 + (x 2).val; omega
  · refine ⟨_, List.mem_map.mpr ⟨g, gs_all g, rfl⟩, mem_of_coords _ (ix3 (n0 := 1) (n1 := 256) (n2 := 640) 0 (y 0) (y 1)) _ ?_⟩
    intro a; rfl
  · dsimp only
    have e0 : (Rect.unit (s := S8x256x640) ![g.val, 0, 0] S1x256x640.size (yl_inb g)).toLoadRect.idx (ix3 (n0 := 1) (n1 := 256) (n2 := 640) 0 (y 0) (y 1)) 0 = g :=
      Fin.ext (show g.val + 1 * 0 = g.val by omega)
    rw [e0]
    refine congrArg (rv X1 X2 X3 g) ?_
    funext a
    apply Fin.ext
    match a with
    | ⟨0, _⟩ => show 0 + 1 * (y 0).val = (y 0).val; omega
    | ⟨1, _⟩ => show 0 + 1 * (y 1).val = (y 1).val; omega

theorem yb_eq (h12 : Bf (F := F) c arg12) (h13 : Bf (F := F) c arg13) (hf4 : arg4.view.read (Elt F) f4 = X4)
    (e12 : arg12.view.read (Elt F) h12 = HR X1 X2 X3 X5) (e13 : arg13.view.read (Elt F) h13 = HI X1 X2 X3 X5) (g : Fin 8) :
    yb c arg1 arg2 arg3 arg4 arg12 arg13 arg14 f1 f2 f3 f4 h12 h13 g = yv X1 X2 X3 X4 X5 g := by
  have e12' : View.readAt (Elt F) arg12.view (strip g).toLoadRect h12 = fun y => HR X1 X2 X3 X5 ((strip g).emb y) := by rw [← e12]; rfl
  have e13' : View.readAt (Elt F) arg13.view (strip g).toLoadRect h13 = fun y => HI X1 X2 X3 X5 ((strip g).emb y) := by rw [← e13]; rfl
  unfold yb k0_pay196
  dsimp only
  rw [ylocCov c arg1 arg2 arg3 arg14 f1 f2 f3 hf1 hf2 hf3, w2_eq c arg4 f4 hf4, e12', e13']
  rfl

end Inputs

theorem foldr_append {α β : Type} (h : α → List β) (l : List α) (L : List β) : l.foldr (fun a L => h a ++ L) L = l.flatMap h ++ L := by
  induction l with
  | nil => rfl
  | cons a l ih => rw [List.foldr_cons, ih, List.flatMap_cons, List.append_assoc]

theorem mem_yL (Y : Fin 8 → FVec F S256x640 .bf16) (p) : p ∈ yL Y ↔ ∃ g t b, p = yP Y g t b := by
  have e : yL Y = gs.flatMap (fun g => ts.flatMap fun t => [yP Y g t 3, yP Y g t 2, yP Y g t 1, yP Y g t 0]) := by
    have e1 : ∀ g L, ts.foldr (fun t L => yP Y g t 3 :: yP Y g t 2 :: yP Y g t 1 :: yP Y g t 0 :: L) L
        = ts.flatMap (fun t => [yP Y g t 3, yP Y g t 2, yP Y g t 1, yP Y g t 0]) ++ L := fun g L => foldr_append (fun t => [yP Y g t 3, yP Y g t 2, yP Y g t 1, yP Y g t 0]) ts L
    unfold yL
    simp only [e1]
    rw [foldr_append, List.append_nil]
  rw [e]
  constructor
  · intro h
    obtain ⟨g, -, h⟩ := List.mem_flatMap.mp h
    obtain ⟨t, -, h⟩ := List.mem_flatMap.mp h
    simp only [List.mem_cons, List.not_mem_nil, or_false] at h
    rcases h with h | h | h | h
    · exact ⟨g, t, 3, h⟩
    · exact ⟨g, t, 2, h⟩
    · exact ⟨g, t, 1, h⟩
    · exact ⟨g, t, 0, h⟩
  · rintro ⟨g, t, b, rfl⟩
    refine List.mem_flatMap.mpr ⟨g, gs_all g, List.mem_flatMap.mpr ⟨t, ts_all t, ?_⟩⟩
    simp only [List.mem_cons, List.not_mem_nil, or_false]
    match b with
    | 0 => exact Or.inr (Or.inr (Or.inr rfl))
    | 1 => exact Or.inr (Or.inr (Or.inl rfl))
    | 2 => exact Or.inr (Or.inl rfl)
    | 3 => exact Or.inl rfl

theorem read7 : arg7.view.read (Elt F) (arg7.view.writes (Elt F) arg7.view.junk (yL (yv X1 X2 X3 X4 X5))) = o7 X1 X2 X3 X4 X5 := by
  funext y
  have y0 : (y 0).val < 128 := (y 0).isLt
  have y1 : (y 1).val < 8192 := (y 1).isLt
  refine View.read_writes_apply_of_pieces arg7.view _ (o7 X1 X2 X3 X4 X5) _ ?_ y ?_
  · intro p hp x
    obtain ⟨g, t, b, rfl⟩ := (mem_yL _ p).mp hp
    have x0 : (x 0).val < 16 := (x 0).isLt
    have x1 : (x 1).val < 128 := (x 1).isLt
    unfold o7
    have e : ∀ k, (⟨((yP (yv X1 X2 X3 X4 X5) g t b).1.emb x 0).val / 16, k⟩ : Fin 8) = g :=
      fun k => Fin.ext (show (16 * g.val + 1 * (x 0).val) / 16 = g.val by omega)
    rw [e]
    show extractStridedSlice S16x128 ![16 * t.val, 128 * b.castSucc.val] (yv X1 X2 X3 X4 X5 g) (sl_wf t b.castSucc) x = _
    refine extractStridedSlice_apply _ _ (sl_wf t b.castSucc) x _ ?_
    have hb := b.isLt
    intro a; match a with
      | ⟨0, _⟩ =>
        show 16 * ((2048 * b.val + 128 * t.val + 1 * (x 1).val) % 2048 / 128) + (16 * g.val + 1 * (x 0).val) % 16 = 16 * t.val + (x 0).val
        omega
      | ⟨1, _⟩ =>
        show 128 * ((2048 * b.val + 128 * t.val + 1 * (x 1).val) / 2048) + (2048 * b.val + 128 * t.val + 1 * (x 1).val) % 128 = 128 * b.val + (x 1).val
        omega
  · refine ⟨_, (mem_yL _ _).mpr ⟨⟨(y 0).val / 16, by omega⟩, ⟨(y 1).val % 2048 / 128, by omega⟩, ⟨(y 1).val / 2048, by omega⟩, rfl⟩,
      mem_of_coords _ (ix2 (n0 := 16) (n1 := 128) ⟨(y 0).val % 16, by omega⟩ ⟨(y 1).val % 128, by omega⟩) y ?_⟩
    intro a; match a with
      | ⟨0, _⟩ => show (y 0).val = 16 * ((y 0).val / 16) + 1 * ((y 0).val % 16); omega
      | ⟨1, _⟩ => show (y 1).val = 2048 * ((y 1).val / 2048) + 128 * ((y 1).val % 2048 / 128) + 1 * ((y 1).val % 128); omega

theorem read8 : arg8.view.read (Elt F) (arg8.view.writes (Elt F) arg8.view.junk (ycL (yv X1 X2 X3 X4 X5))) = o8 X1 X2 X3 X4 X5 := by
  funext y
  have y0 : (y 0).val < 16 := (y 0).isLt
  have y1 : (y 1).val < 128 := (y 1).isLt
  refine View.read_writes_apply_of_pieces arg8.view _ (o8 X1 X2 X3 X4 X5) _ ?_ y ?_
  · intro p hp x
    obtain ⟨g, -, hp⟩ := List.mem_flatMap.mp hp
    obtain ⟨t, -, rfl⟩ := List.mem_map.mp hp
    have x0 : (x 0).val < 1 := (x 0).isLt
    have x1 : (x 1).val < 16 := (x 1).isLt
    have x2 : (x 2).val < 128 := (x 2).isLt
    unfold o8
    have e : ∀ k, (⟨((Rect.unit (s := S16x128x128) ![t.val, 16 * g.val, 0] S1x16x128.size (ctile_inb g t)).emb x 1).val / 16, k⟩ : Fin 8) = g :=
      fun k => Fin.ext (show (16 * g.val + 1 * (x 1).val) / 16 = g.val by omega)
    rw [e]
    show shapeCast S1x16x128 (extractStridedSlice S16x128 ![16 * t.val, 512] (yv X1 X2 X3 X4 X5 g) (sl_wf t 4)) shapeCasts_S16x128_S1x16x128 x = _
    refine (shapeCast_apply _ shapeCasts_S16x128_S1x16x128 x (ix2 (n0 := 16) (n1 := 128) (x 1) (x 2)) ?_).trans ?_
    · rw [Shape.rowMajor_val_three, Shape.rowMajor_val_two]
      show (x 1).val * 128 + (x 2).val = ((x 0).val * 16 + (x 1).val) * 128 + (x 2).val
      omega
    refine extractStridedSlice_apply _ _ (sl_wf t 4) _ _ ?_
    intro a; match a with
      | ⟨0, _⟩ => show 16 * (t.val + 1 * (x 0).val) + (16 * g.val + 1 * (x 1).val) % 16 = 16 * t.val + (x 1).val; omega
      | ⟨1, _⟩ => show 512 + (0 + 1 * (x 2).val) = 512 + (x 2).val; omega
  · refine ⟨_, List.mem_flatMap.mpr ⟨⟨(y 1).val / 16, by omega⟩, gs_all _, List.mem_map.mpr ⟨y 0, ts_all _, rfl⟩⟩,
      mem_of_coords _ (ix3 (n0 := 1) (n1 := 16) (n2 := 128) 0 ⟨(y 1).val % 16, by omega⟩ (y 2)) y ?_⟩
    intro a; match a with
      | ⟨0, _⟩ => show (y 0).val = (y 0).val + 1 * 0; omega
      | ⟨1, _⟩ => show (y 1).val = 16 * ((y 1).val / 16) + 1 * ((y 1).val % 16); omega
      | ⟨2, _⟩ => show (y 2).val = 0 + 1 * (y 2).val; omega

end Stores

end Cert.Proof.S5

end
-- ==== Proof.S5.Run.lean ====
/-
  Hand-written, untrusted. The kernel's run at any float values: one grid step from its blocks to its blocks (`body_owns`),
  the steps together (`run_main`), and the frame.
-/
module

public import proofs.«01_k».proof.Proof.S5.Body
public import proofs.«01_k».proof.Proof.S5.Out

@[expose] public section

noncomputable section

namespace Cert.Proof.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

theorem whole_read (c : Dev nD) (arg6 : Memref sig .tc .vmem S1x256x2048 .f32) (f6 : Bf (F := F) c arg6) :
    View.readAt (Elt F) arg6.view (Rect.unit (s := S1x256x2048) ![0, 0, 0] S1x256x2048.size inb_S1x256x2048_S1x256x2048_0_0_0).toLoadRect f6 = arg6.view.read (Elt F) f6 := by
  funext y
  refine congrArg (arg6.view.read (Elt F) f6) ?_
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem whole_write (c : Dev nD) (arg9 : Memref sig .tc .vmem S1x256x2048 .bf16) (f9 : Bf (F := F) c arg9) (v : FVec F S1x256x2048 .bf16) :
    arg9.view.read (Elt F) (arg9.view.writes (Elt F) f9 [⟨(Rect.unit (s := S1x256x2048) ![0, 0, 0] S1x256x2048.size inb_S1x256x2048_S1x256x2048_0_0_0), v⟩]) = v := by
  funext y
  refine View.read_writes_cons_hit_of_coords arg9.view f9 (Rect.unit (s := S1x256x2048) ![0, 0, 0] S1x256x2048.size inb_S1x256x2048_S1x256x2048_0_0_0) v [] y y ?_
  intro a
  match a with
  | ⟨0, _⟩ => show (y 0).val = 0 + 1 * (y 0).val; omega
  | ⟨1, _⟩ => show (y 1).val = 0 + 1 * (y 1).val; omega
  | ⟨2, _⟩ => show (y 2).val = 0 + 1 * (y 2).val; omega

/-- One grid step: from its input blocks, and result and scratch buffers at anything, to the result blocks' values. -/
theorem body_owns (c : Dev nD) (i : grid0.Coords)
    (arg1 : Memref sig .tc .vmem S128x8192 .bf16) (harg1 : arg1.IsWhole)
    (arg2 : Memref sig .tc .vmem S16x128x128 .bf16) (harg2 : arg2.IsWhole)
    (arg3 : Memref sig .tc .vmem S1x8x512x256 .bf16) (harg3 : arg3.IsWhole)
    (arg4 : Memref sig .tc .vmem S1x8x256x256 .bf16) (harg4 : arg4.IsWhole)
    (arg5 : Memref sig .tc .vmem S1x2x8x128 .f32) (harg5 : arg5.IsWhole)
    (arg6 : Memref sig .tc .vmem S1x256x2048 .f32) (harg6 : arg6.IsWhole)
    (arg7 : Memref sig .tc .vmem S128x8192 .bf16) (harg7 : arg7.IsWhole)
    (arg8 : Memref sig .tc .vmem S16x128x128 .bf16) (harg8 : arg8.IsWhole)
    (arg9 : Memref sig .tc .vmem S1x256x2048 .bf16) (harg9 : arg9.IsWhole)
    (arg10 : Memref sig .tc .vmem S5120x128 .f32) (harg10 : arg10.IsWhole)
    (arg11 : Memref sig .tc .vmem S5120x128 .f32) (harg11 : arg11.IsWhole)
    (arg12 : Memref sig .tc .vmem S5120x128 .f32) (harg12 : arg12.IsWhole)
    (arg13 : Memref sig .tc .vmem S5120x128 .f32) (harg13 : arg13.IsWhole)
    (arg14 : Memref sig .tc .vmem S8x256x640 .f32) (harg14 : arg14.IsWhole)
    (X1 : Vec F S128x8192 .bf16) (X2 : Vec F S16x128x128 .bf16) (X3 : Vec F S1x8x512x256 .bf16) (X4 : Vec F S1x8x256x256 .bf16) (X5 : Vec F S1x2x8x128 .f32) (X6 : Vec F S1x256x2048 .f32) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6
        ∗ (∃ d, owns (c : Thread nD τ) arg7 fullShare d) ∗ (∃ d, owns (c : Thread nD τ) arg8 fullShare d) ∗ (∃ d, owns (c : Thread nD τ) arg9 fullShare d) ∗ (∃ f, pt c arg10 f) ∗ (∃ f, pt c arg11 f) ∗ (∃ f, pt c arg12 f) ∗ (∃ f, pt c arg13 f) ∗ (∃ f, pt c arg14 f)
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6
          ∗ owns (c : Thread nD τ) arg7 fullShare (o7 X1 X2 X3 X4 X5) ∗ owns (c : Thread nD τ) arg8 fullShare (o8 X1 X2 X3 X4 X5) ∗ owns (c : Thread nD τ) arg9 fullShare (k0_pay29 i X6) ∗ (∃ f, pt c arg10 f) ∗ (∃ f, pt c arg11 f) ∗ (∃ f, pt c arg12 f) ∗ (∃ f, pt c arg13 f) ∗ (∃ f, pt c arg14 f)) -∗ K ⟨⟩))
      ⊢ wp frame (wpE (defs₀ (F := F)) 𝒱₀ c none) Set.univ (cc0_s5 i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, H10⟩, ⟨%f11, H11⟩, ⟨%f12, H12⟩, ⟨%f13, H13⟩, ⟨%f14, H14⟩, Hk⟩
  iapply (body_run c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H1, H2, H3, H4, H5, H6, ⟨%a, %b, %g12, %h12, %g13, %h13, %e1, %e2, H7, H8, H9⟩, H10, H11, H12, H13, H14⟩
  have hA : k0_pay187 (View.readAt (Elt F) arg5.view (Rect.unit (s := S1x2x8x128) ![0, 0, 0, 0] S1x1x8x128.size inb_S1x2x8x128_S1x1x8x128_0_0_0_0).toLoadRect f5) = AR X5 :=
    coef_eq c arg5 f5 hf5 0 inb_S1x2x8x128_S1x1x8x128_0_0_0_0 shapeCasts_S1x1x8x128_S8x128
  have hB : k0_pay188 (View.readAt (Elt F) arg5.view (Rect.unit (s := S1x2x8x128) ![0, 1, 0, 0] S1x1x8x128.size inb_S1x2x8x128_S1x1x8x128_0_1_0_0).toLoadRect f5) = AI X5 :=
    coef_eq c arg5 f5 hf5 1 inb_S1x2x8x128_S1x1x8x128_0_1_0_0 shapeCasts_S1x1x8x128_S8x128
  obtain ⟨e12, e13⟩ := loops_states c arg10 arg11 arg12 arg13 _ _ _ _ f12 f13 _ a b g12 h12 g13 h13 e1 e2
  unfold trajOf at e12 e13
  rw [hA, hB, read10 c arg1 arg2 arg3 arg10 f1 f2 f3 hf1 hf2 hf3, read11 c arg1 arg2 arg3 arg11 f1 f2 f3 hf1 hf2 hf3] at e12 e13
  have eY : yb c arg1 arg2 arg3 arg4 arg12 arg13 arg14 f1 f2 f3 f4 h12 h13 = yv X1 X2 X3 X4 X5 :=
    funext fun g => yb_eq c arg1 arg2 arg3 arg4 arg12 arg13 arg14 f1 f2 f3 f4 hf1 hf2 hf3 h12 h13 hf4 e12 e13 g
  rw [eY, whole_read c arg6 f6, hf6]
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; swap; · iexact H7
    ipureintro; exact read7 arg7
  isplitl [H8]
  · iexists _; isplitr; swap; · iexact H8
    ipureintro; exact read8 arg8
  isplitl [H9]
  · iexists _; isplitr; swap; · iexact H9
    ipureintro; exact whole_write c arg9 _ _
  isplitl [H10]; · iexact H10
  isplitl [H11]; · iexact H11
  isplitl [H12]; · iexact H12
  isplitl [H13]; · iexact H13
  iexact H14

/-! ## The pipeline's proof data -/

variable (m : (ℓ : Loc nD τ sig) → Buf (Elt F) ℓ) (ρ : Dev nD → PrngReg)

/-- The arrays as the call finds them; after a step each input's buffer at its block, each result's at the step's value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => o7 (iblk m c 0 t) (iblk m c 1 t) (iblk m c 2 t) (iblk m c 3 t) (iblk m c 4 t)
    | ⟨7, _⟩ => o8 (iblk m c 0 t) (iblk m c 1 t) (iblk m c 2 t) (iblk m c 3 t) (iblk m c 4 t)
    | ⟨8, _⟩ => k0_pay29 (grid0.coords t) (iblk m c 5 t)
  Φ _ := ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = o7 (iblk m c 0 t) (iblk m c 1 t) (iblk m c 2 t) (iblk m c 3 t) (iblk m c 4 t) := by dsimp only [dats]
theorem after0_7 (c : Dev nD) (t : Fin cfg0.N) : (dats m 0 c).after 7 t = o8 (iblk m c 0 t) (iblk m c 1 t) (iblk m c 2 t) (iblk m c 3 t) (iblk m c 4 t) := by dsimp only [dats]
theorem after0_8 (c : Dev nD) (t : Fin cfg0.N) : (dats m 0 c).after 8 t = k0_pay29 (grid0.coords t) (iblk m c 5 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- A scratch buffer, whole. -/
theorem scr_eq (c : Dev nD) (b : Ref sig .tc) (f : Buf (Elt F) ((c : Thread nD τ).loc b)) :
    ((((c : Thread nD τ).loc b) ↦{fullShare} f : sProp 𝕄)) = (((View.whole b).loc (c : Thread nD τ)) ↦[(View.whole b).set]{fullShare} f) := by
  rw [View.set_whole]

set_option maxHeartbeats 1000000 in
/-- The library's obligation of a grid step. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5]
  rw [show (dats m 0 c).Φ t.succ = ΦA spec0 c from rfl, show (dats m 0 c).Φ t.castSucc = ΦA spec0 c from rfl,
    show (dats m 0 c).owesAt () t.succ = (dats m 0 c).owesAt () t.castSucc from rfl,
    after0_0, after0_1, after0_2, after0_3, after0_4, after0_5, after0_6, after0_7, after0_8]
  unfold ΦA
  rw [scopedRest0_eq]
  simp only [scr_eq]
  iintro ⟨⟨⟨S0, S1, S2, S3, S4⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_owns c (grid0.coords t) _ _ _ _ _ _ _ _ _ _ _ _ _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [S0]; · iexact S0
  isplitl [S1]; · iexact S1
  isplitl [S2]; · iexact S2
  isplitl [S3]; · iexact S3
  isplitl [S4]; · iexact S4
  iintro ⟨H0, H1, H2, H3, H4, H5, H6, H7, H8, S0, S1, S2, S3, S4⟩
  isplitl [S0 S1 S2 S3 S4 HR]
  · isplitl [S0 S1 S2 S3 S4]
    · isplitl [S0]; · iexact S0
      isplitl [S1]; · iexact S1
      isplitl [S2]; · iexact S2
      isplitl [S3]; · iexact S3
      iexact S4
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The run -/

-- the library's theorem finds its implicit arguments by unifying its conclusion with this one, which unfolds plain
-- definitions in a metavariable's type
set_option backward.isDefEq.respectTransparency.types false in
/-- From any memory with zero counters every run of the kernel ends, its arrays at what the proof data say and every
    counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.Proof.S5

end
-- ==== Proof.S5.Spec.lean ====
/-
  Hand-written, untrusted. The scan's results over the extended reals, as sums and one recursion over whole arrays: what
  both programs are shown to compute. A group has 16 channels; a chunk is 16 tokens, so that a group's chunk has 256
  numbers (token by token); chunks 0…511 are the latent's, 512…527 the context's, and those after it padding.
-/
module

public import proofs.«01_k».proof.Proof.S5.Scan
public import Idealize.ShloMosaic.PureOps.Ideal.Laws

@[expose] public section

noncomputable section

namespace Cert.Proof.S5

open Idealize.ShloMosaic

section

variable (A0 : FVec Ideal ⟨2, ![1024, 8192]⟩ .bf16) (A1 : FVec Ideal ⟨3, ![16, 1024, 128]⟩ .bf16)
  (A2 : FVec Ideal ⟨4, ![2, 64, 512, 256]⟩ .bf16) (A3 : FVec Ideal ⟨4, ![2, 64, 256, 256]⟩ .bf16)
  (A4 : FVec Ideal ⟨4, ![2, 2, 64, 128]⟩ .f32) (A5 : FVec Ideal ⟨3, ![2, 2048, 2048]⟩ .f32)

/-- Group `G`'s input: number `k` of chunk `n`. -/
def uS (G : Fin 64) (k : Fin 256) (n : Fin 640) : EReal :=
  if h : n.val < 512 then
    A0 (ix2 (n0 := 1024) (n1 := 8192) ⟨16 * G.val + k.val % 16, by omega⟩
      ⟨2048 * (n.val / 128) + 128 * (k.val / 16) + n.val % 128, by omega⟩)
  else
    A1 (ix3 (n0 := 16) (n1 := 1024) (n2 := 128) ⟨k.val / 16, by omega⟩ ⟨16 * G.val + k.val % 16, by omega⟩ ⟨n.val - 512, by omega⟩)

/-- The first operator's product: its first 256 rows are the chunk's own part of the result, the others its share in the state. -/
def rS (G : Fin 64) (i : Fin 512) (n : Fin 640) : EReal :=
  ∑ k : Fin 256, A2 (ix4 (n0 := 2) (n1 := 64) (n2 := 512) (n3 := 256) 0 G i k) * uS A0 A1 G k n

/-- The chunk of lane `l` at time `n`. -/
def chS (l n : ℕ) : ℕ := if l < 64 then cf n else cb n
/-- The time at which lane `l` is at chunk `n`. -/
def tmS (l n : ℕ) : ℕ := if l < 64 then (if 512 ≤ n then n - 512 else n + 16) else 527 - n

/-- What is added to a state's lane at time `n`. -/
def inS (G : Fin 64) (q : Fin 256) (n : ℕ) : EReal :=
  rS A0 A1 A2 G ⟨256 + q.val, by omega⟩ ⟨chS (q.val % 128) n % 640, Nat.mod_lt _ (by omega)⟩

/-- The states before time `n`: real and imaginary part. -/
def trS : ℕ → Fin 64 → Fin 128 → EReal × EReal
  | 0 => fun _ _ => (0, 0)
  | n + 1 => fun G l =>
    (A4 (ix4 (n0 := 2) (n1 := 2) (n2 := 64) (n3 := 128) 0 0 G l) * (trS n G l).1
        - A4 (ix4 (n0 := 2) (n1 := 2) (n2 := 64) (n3 := 128) 0 1 G l) * (trS n G l).2 + inS A0 A1 A2 G ⟨l.val, by omega⟩ n,
      A4 (ix4 (n0 := 2) (n1 := 2) (n2 := 64) (n3 := 128) 0 0 G l) * (trS n G l).2
        + A4 (ix4 (n0 := 2) (n1 := 2) (n2 := 64) (n3 := 128) 0 1 G l) * (trS n G l).1 + inS A0 A1 A2 G ⟨128 + l.val, by omega⟩ n)

/-- The same as one row of 256 lanes: the real parts, then the imaginary ones. -/
def rowS (n : ℕ) (G : Fin 64) (q : Fin 256) : EReal :=
  if h : q.val < 128 then (trS A0 A1 A2 A4 n G ⟨q.val, h⟩).1 else (trS A0 A1 A2 A4 n G ⟨q.val - 128, by omega⟩).2

/-- The state that chunk `n` starts from. -/
def hS (G : Fin 64) (q : Fin 256) (n : Fin 640) : EReal :=
  if n.val < 528 then rowS A0 A1 A2 A4 (tmS (q.val % 128) n.val) G q else 0

/-- Group `G`'s result. -/
def yS (G : Fin 64) (i : Fin 256) (n : Fin 640) : EReal :=
  rS A0 A1 A2 G ⟨i.val, by omega⟩ n + ∑ q : Fin 256, A3 (ix4 (n0 := 2) (n1 := 64) (n2 := 256) (n3 := 256) 0 G i q) * hS A0 A1 A2 A4 G q n

/-- The latent's result. -/
def ylS : FVec Ideal ⟨2, ![1024, 8192]⟩ .bf16 := fun j =>
  yS A0 A1 A2 A3 A4 ⟨(j 0).val / 16, by have : (j 0).val < 1024 := (j 0).isLt; omega⟩ ⟨16 * ((j 1).val % 2048 / 128) + (j 0).val % 16, by omega⟩
    ⟨128 * ((j 1).val / 2048) + (j 1).val % 128, by have : (j 1).val < 8192 := (j 1).isLt; omega⟩

/-- The context's result. -/
def ycS : FVec Ideal ⟨3, ![16, 1024, 128]⟩ .bf16 := fun j =>
  yS A0 A1 A2 A3 A4 ⟨(j 1).val / 16, by have : (j 1).val < 1024 := (j 1).isLt; omega⟩
    ⟨16 * (j 0).val + (j 1).val % 16, by have : (j 0).val < 16 := (j 0).isLt; omega⟩
    ⟨512 + (j 2).val, by have : (j 2).val < 128 := (j 2).isLt; omega⟩

/-- The output projection's weight with the scan's rows rescaled. -/
def woS : FVec Ideal ⟨3, ![1, 2048, 2048]⟩ .bf16 := fun j =>
  (if (j 1).val < 1024 then Ideal.ofBits .f32 0x3E800000#32 else Ideal.ofBits .f32 0x3F800000#32)
    * A5 (ix3 (n0 := 2) (n1 := 2048) (n2 := 2048) 0 (j 1) (j 2))

theorem trS_zero (G : Fin 64) (l : Fin 128) : trS A0 A1 A2 A4 0 G l = (0, 0) := by rw [trS]

theorem trS_succ (n : ℕ) (G : Fin 64) (l : Fin 128) : trS A0 A1 A2 A4 (n + 1) G l
    = (A4 (ix4 (n0 := 2) (n1 := 2) (n2 := 64) (n3 := 128) 0 0 G l) * (trS A0 A1 A2 A4 n G l).1
        - A4 (ix4 (n0 := 2) (n1 := 2) (n2 := 64) (n3 := 128) 0 1 G l) * (trS A0 A1 A2 A4 n G l).2 + inS A0 A1 A2 G ⟨l.val, by omega⟩ n,
      A4 (ix4 (n0 := 2) (n1 := 2) (n2 := 64) (n3 := 128) 0 0 G l) * (trS A0 A1 A2 A4 n G l).2
        + A4 (ix4 (n0 := 2) (n1 := 2) (n2 := 64) (n3 := 128) 0 1 G l) * (trS A0 A1 A2 A4 n G l).1 + inS A0 A1 A2 G ⟨128 + l.val, by omega⟩ n) := by
  rw [trS]

end

end Cert.Proof.S5

end
-- ==== Proof.S5.Kern.lean ====
/-
  Hand-written, untrusted. The kernel's three result arrays over the extended reals: a grid step's blocks hold its eight
  groups' rows of the arrays, so that a step's values (Out.lean) are its groups' rows of Spec.lean's.
-/
module

public import proofs.«01_k».proof.Proof.S5.Run
public import proofs.«01_k».proof.Proof.S5.Spec
public import Idealize.ShloMosaic.Lib.Pipeline.Value
public import Idealize.ShloMosaic.Lib.Pointwise

@[expose] public section

noncomputable section

namespace Cert.Proof.S5

open Cert.KernelIdeal Cert.KernelIdeal.Gen
open Idealize.ShloMosaic Idealize.ShloMosaic.TcCoe
open Idealize.SL.Sem
open Idealize.ShloMosaic.Pipeline (Dat)

variable (m : (ℓ : Loc nD τ sig) → Buf (Elt Ideal) ℓ) (c : Dev nD)

abbrev K0 : FVec Ideal ⟨2, ![1024, 8192]⟩ .bf16 := m ((c : Thread nD τ).loc main_arg0)
abbrev K1 : FVec Ideal ⟨3, ![16, 1024, 128]⟩ .bf16 := m ((c : Thread nD τ).loc main_arg1)
abbrev K2 : FVec Ideal ⟨4, ![2, 64, 512, 256]⟩ .bf16 := m ((c : Thread nD τ).loc main_arg2)
abbrev K3 : FVec Ideal ⟨4, ![2, 64, 256, 256]⟩ .bf16 := m ((c : Thread nD τ).loc main_arg3)
abbrev K4 : FVec Ideal ⟨4, ![2, 2, 64, 128]⟩ .f32 := m ((c : Thread nD τ).loc main_arg4)
abbrev K5 : FVec Ideal ⟨3, ![2, 2048, 2048]⟩ .f32 := m ((c : Thread nD τ).loc main_arg5)

theorem N8 (t : Fin cfg0.N) : t.val < 8 := lt_of_lt_of_eq t.isLt N_0

/-- Group `g` of grid step `t` among all. -/
abbrev gr (t : Fin cfg0.N) (g : Fin 8) : Fin 64 := ⟨8 * t.val + g.val, by have := N8 t; omega⟩

/-! ## The blocks -/

theorem idx0 (t : Fin cfg0.N) : win0_0.index t = ![t.val, 0] := by
  rcases fin_N0 t with rfl | rfl | rfl | rfl | rfl | rfl | rfl | rfl <;> decide
theorem idx1 (t : Fin cfg0.N) : win0_1.index t = ![0, t.val, 0] := by
  rcases fin_N0 t with rfl | rfl | rfl | rfl | rfl | rfl | rfl | rfl <;> decide
theorem idx2 (t : Fin cfg0.N) : win0_2.index t = ![0, t.val, 0, 0] := by
  rcases fin_N0 t with rfl | rfl | rfl | rfl | rfl | rfl | rfl | rfl <;> decide
theorem idx3 (t : Fin cfg0.N) : win0_3.index t = ![0, t.val, 0, 0] := by
  rcases fin_N0 t with rfl | rfl | rfl | rfl | rfl | rfl | rfl | rfl <;> decide
theorem idx4 (t : Fin cfg0.N) : win0_4.index t = ![0, 0, t.val, 0] := by
  rcases fin_N0 t with rfl | rfl | rfl | rfl | rfl | rfl | rfl | rfl <;> decide
theorem idx5 (t : Fin cfg0.N) : win0_5.index t = ![0, t.val, 0] := by
  rcases fin_N0 t with rfl | rfl | rfl | rfl | rfl | rfl | rfl | rfl <;> decide
theorem idx6 (t : Fin cfg0.N) : win0_6.index t = ![t.val, 0] := by
  rcases fin_N0 t with rfl | rfl | rfl | rfl | rfl | rfl | rfl | rfl <;> decide
theorem idx7 (t : Fin cfg0.N) : win0_7.index t = ![0, t.val, 0] := by
  rcases fin_N0 t with rfl | rfl | rfl | rfl | rfl | rfl | rfl | rfl <;> decide
theorem idx8 (t : Fin cfg0.N) : win0_8.index t = ![0, t.val, 0] := by
  rcases fin_N0 t with rfl | rfl | rfl | rfl | rfl | rfl | rfl | rfl <;> decide

theorem blk0 (t : Fin cfg0.N) (a : Fin 128) (b : Fin 8192) :
    (iblk m c 0 t : Vec Ideal S128x8192 .bf16) (ix2 a b)
      = K0 m c (ix2 (n0 := 1024) (n1 := 8192) ⟨128 * t.val + a.val, by have := N8 t; omega⟩ b) := by
  refine congrArg (K0 m c) ?_
  funext x
  apply Fin.ext
  match x with
  | ⟨0, _⟩ => show win0_0.index t 0 * 128 + 1 * a.val = 128 * t.val + a.val; rw [idx0]; show t.val * 128 + 1 * a.val = _; omega
  | ⟨1, _⟩ => show win0_0.index t 1 * 8192 + 1 * b.val = b.val; rw [idx0]; show 0 * 8192 + 1 * b.val = _; omega

theorem blk1 (t : Fin cfg0.N) (a : Fin 16) (b d : Fin 128) :
    (iblk m c 1 t : Vec Ideal S16x128x128 .bf16) (ix3 a b d)
      = K1 m c (ix3 (n0 := 16) (n1 := 1024) (n2 := 128) a ⟨128 * t.val + b.val, by have := N8 t; omega⟩ d) := by
  refine congrArg (K1 m c) ?_
  funext x
  apply Fin.ext
  match x with
  | ⟨0, _⟩ => show win0_1.index t 0 * 16 + 1 * a.val = a.val; rw [idx1]; show 0 * 16 + 1 * a.val = _; omega
  | ⟨1, _⟩ => show win0_1.index t 1 * 128 + 1 * b.val = 128 * t.val + b.val; rw [idx1]; show t.val * 128 + 1 * b.val = _; omega
  | ⟨2, _⟩ => show win0_1.index t 2 * 128 + 1 * d.val = d.val; rw [idx1]; show 0 * 128 + 1 * d.val = _; omega

theorem blk2 (t : Fin cfg0.N) (g : Fin 8) (a : Fin 512) (b : Fin 256) :
    (iblk m c 2 t : Vec Ideal S1x8x512x256 .bf16) (ix4 (0 : Fin 1) g a b)
      = K2 m c (ix4 (n0 := 2) (n1 := 64) (n2 := 512) (n3 := 256) 0 (gr t g) a b) := by
  refine congrArg (K2 m c) ?_
  funext x
  apply Fin.ext
  match x with
  | ⟨0, _⟩ => show win0_2.index t 0 * 1 + 1 * 0 = 0; rw [idx2]; rfl
  | ⟨1, _⟩ => show win0_2.index t 1 * 8 + 1 * g.val = 8 * t.val + g.val; rw [idx2]; show t.val * 8 + 1 * g.val = _; omega
  | ⟨2, _⟩ => show win0_2.index t 2 * 512 + 1 * a.val = a.val; rw [idx2]; show 0 * 512 + 1 * a.val = _; omega
  | ⟨3, _⟩ => show win0_2.index t 3 * 256 + 1 * b.val = b.val; rw [idx2]; show 0 * 256 + 1 * b.val = _; omega

theorem blk3 (t : Fin cfg0.N) (g : Fin 8) (a : Fin 256) (b : Fin 256) :
    (iblk m c 3 t : Vec Ideal S1x8x256x256 .bf16) (ix4 (0 : Fin 1) g a b)
      = K3 m c (ix4 (n0 := 2) (n1 := 64) (n2 := 256) (n3 := 256) 0 (gr t g) a b) := by
  refine congrArg (K3 m c) ?_
  funext x
  apply Fin.ext
  match x with
  | ⟨0, _⟩ => show win0_3.index t 0 * 1 + 1 * 0 = 0; rw [idx3]; rfl
  | ⟨1, _⟩ => show win0_3.index t 1 * 8 + 1 * g.val = 8 * t.val + g.val; rw [idx3]; show t.val * 8 + 1 * g.val = _; omega
  | ⟨2, _⟩ => show win0_3.index t 2 * 256 + 1 * a.val = a.val; rw [idx3]; show 0 * 256 + 1 * a.val = _; omega
  | ⟨3, _⟩ => show win0_3.index t 3 * 256 + 1 * b.val = b.val; rw [idx3]; show 0 * 256 + 1 * b.val = _; omega

theorem blk4 (t : Fin cfg0.N) (p : Fin 2) (g : Fin 8) (l : Fin 128) :
    (iblk m c 4 t : Vec Ideal S1x2x8x128 .f32) (ix4 (0 : Fin 1) p g l)
      = K4 m c (ix4 (n0 := 2) (n1 := 2) (n2 := 64) (n3 := 128) 0 p (gr t g) l) := by
  refine congrArg (K4 m c) ?_
  funext x
  apply Fin.ext
  match x with
  | ⟨0, _⟩ => show win0_4.index t 0 * 1 + 1 * 0 = 0; rw [idx4]; rfl
  | ⟨1, _⟩ => show win0_4.index t 1 * 2 + 1 * p.val = p.val; rw [idx4]; show 0 * 2 + 1 * p.val = _; omega
  | ⟨2, _⟩ => show win0_4.index t 2 * 8 + 1 * g.val = 8 * t.val + g.val; rw [idx4]; show t.val * 8 + 1 * g.val = _; omega
  | ⟨3, _⟩ => show win0_4.index t 3 * 128 + 1 * l.val = l.val; rw [idx4]; show 0 * 128 + 1 * l.val = _; omega

theorem blk5 (t : Fin cfg0.N) (a : Fin 256) (b : Fin 2048) :
    (iblk m c 5 t : Vec Ideal S1x256x2048 .f32) (ix3 (0 : Fin 1) a b)
      = K5 m c (ix3 (n0 := 2) (n1 := 2048) (n2 := 2048) 0 ⟨256 * t.val + a.val, by have := N8 t; omega⟩ b) := by
  refine congrArg (K5 m c) ?_
  funext x
  apply Fin.ext
  match x with
  | ⟨0, _⟩ => show win0_5.index t 0 * 1 + 1 * 0 = 0; rw [idx5]; rfl
  | ⟨1, _⟩ => show win0_5.index t 1 * 256 + 1 * a.val = 256 * t.val + a.val; rw [idx5]; show t.val * 256 + 1 * a.val = _; omega
  | ⟨2, _⟩ => show win0_5.index t 2 * 2048 + 1 * b.val = b.val; rw [idx5]; show 0 * 2048 + 1 * b.val = _; omega

/-! ## A step's values -/

section Step

variable (t : Fin cfg0.N)

theorem zv_val (g : Fin 8) (k : Fin 256) (n : Fin 640) :
    zv (iblk m c 0 t) (iblk m c 1 t) g (ix2 (n0 := 256) (n1 := 640) k n) = uS (K0 m c) (K1 m c) (gr t g) k n := by
  unfold zv uS
  by_cases h : n.val < 512
  · rw [dif_pos h, dif_pos (show (ix2 (n0 := 256) (n1 := 640) k n 1).val < 512 from h)]
    refine (blk0 m c t _ _).trans ?_
    refine congrArg (K0 m c) (congrArg (fun a => ix2 (n0 := 1024) (n1 := 8192) a _) (Fin.ext ?_))
    show 128 * t.val + (16 * g.val + k.val % 16) = 16 * (8 * t.val + g.val) + k.val % 16
    omega
  · rw [dif_neg h, dif_neg (show ¬ (ix2 (n0 := 256) (n1 := 640) k n 1).val < 512 from h)]
    refine (blk1 m c t _ _ _).trans ?_
    refine congrArg (K1 m c) (congrArg (fun a => ix3 (n0 := 16) (n1 := 1024) (n2 := 128) _ a _) (Fin.ext ?_))
    show 128 * t.val + (16 * g.val + k.val % 16) = 16 * (8 * t.val + g.val) + k.val % 16
    omega

theorem rv_val (g : Fin 8) (i : Fin 512) (n : Fin 640) :
    rv (iblk m c 0 t) (iblk m c 1 t) (iblk m c 2 t) g (ix2 (n0 := 512) (n1 := 640) i n) = rS (K0 m c) (K1 m c) (K2 m c) (gr t g) i n := by
  unfold rv rS
  refine (Ideal.matmul_constant_zero_apply _ none _ _ _).trans ?_
  refine (DotDims.sum_contr₁ _ rfl (K := 256) rfl _).trans ?_
  refine Finset.sum_congr rfl fun k _ => ?_
  refine congrArg₂ (· * ·) (blk2 m c t g i k) ?_
  refine Eq.trans (congrArg _ ?_) (zv_val m c t g k n)
  funext a
  match a with
  | ⟨0, _⟩ => rfl
  | ⟨1, _⟩ => rfl

theorem pick_val (n : ℕ) (hn : n < 528) (g : Fin 8) (l : Fin 128) :
    pick (SR (iblk m c 0 t) (iblk m c 1 t) (iblk m c 2 t)) n (ix2 g l)
        = inS (K0 m c) (K1 m c) (K2 m c) (gr t g) ⟨l.val, by omega⟩ n
    ∧ pick (SI (iblk m c 0 t) (iblk m c 1 t) (iblk m c 2 t)) n (ix2 g l)
        = inS (K0 m c) (K1 m c) (K2 m c) (gr t g) ⟨128 + l.val, by omega⟩ n := by
  have h0 : g.val < 8 := g.isLt
  have h1 : l.val < 128 := l.isLt
  have key : ∀ s, s < 528 → l.val < 128 →
      SR (iblk m c 0 t) (iblk m c 1 t) (iblk m c 2 t) (row s (ix2 g l))
        = rS (K0 m c) (K1 m c) (K2 m c) (gr t g) ⟨256 + l.val, by omega⟩ ⟨s % 640, Nat.mod_lt _ (by omega)⟩
      ∧ SI (iblk m c 0 t) (iblk m c 1 t) (iblk m c 2 t) (row s (ix2 g l))
        = rS (K0 m c) (K1 m c) (K2 m c) (gr t g) ⟨256 + (128 + l.val), by omega⟩ ⟨s % 640, Nat.mod_lt _ (by omega)⟩ := by
    intro s hs _
    have e0 : ∀ h, (⟨(row s (ix2 g l) 0).val % 8, h⟩ : Fin 8) = g := fun h => Fin.ext (show (8 * s + g.val) % 5120 % 8 = g.val by omega)
    have e1 : ∀ h, (⟨(row s (ix2 g l) 0).val / 8, h⟩ : Fin 640) = ⟨s % 640, Nat.mod_lt _ (by omega)⟩ :=
      fun h => Fin.ext (show (8 * s + g.val) % 5120 / 8 = s % 640 by omega)
    constructor
    · unfold SR
      rw [e0, e1]
      exact rv_val m c t g _ _
    · unfold SI
      rw [e0, e1]
      refine (rv_val m c t g _ _).trans ?_
      refine congrArg (fun i => rS (K0 m c) (K1 m c) (K2 m c) (gr t g) i _) (Fin.ext ?_)
      show 384 + l.val = 256 + (128 + l.val)
      omega
  have hf : cf n < 528 := by unfold cf; split <;> omega
  have hb : cb n < 528 := by unfold cb; omega
  have e : ∀ (q : Fin 256) (s : ℕ), chS (q.val % 128) n = s → inS (K0 m c) (K1 m c) (K2 m c) (gr t g) q n
      = rS (K0 m c) (K1 m c) (K2 m c) (gr t g) ⟨256 + q.val, by omega⟩ ⟨s % 640, Nat.mod_lt _ (by omega)⟩ := by
    rintro q s rfl; rfl
  unfold pick
  by_cases h : l.val < 64
  · have hc : ∀ p, p % 128 = l.val → chS (p % 128) n = cf n := fun p hp => by unfold chS; rw [hp, if_pos h]
    rw [if_pos (show (ix2 g l 1).val < 64 from h), if_pos (show (ix2 g l 1).val < 64 from h),
      e _ _ (hc l.val (by omega)), e _ _ (hc (128 + l.val) (by omega))]
    exact key _ hf h1
  · have hc : ∀ p, p % 128 = l.val → chS (p % 128) n = cb n := fun p hp => by unfold chS; rw [hp, if_neg h]
    rw [if_neg (show ¬ (ix2 g l 1).val < 64 from h), if_neg (show ¬ (ix2 g l 1).val < 64 from h),
      e _ _ (hc l.val (by omega)), e _ _ (hc (128 + l.val) (by omega))]
    exact key _ hb h1

theorem tv_val (n : ℕ) (hn : n ≤ 528) (g : Fin 8) (l : Fin 128) :
    (tv (iblk m c 0 t) (iblk m c 1 t) (iblk m c 2 t) (iblk m c 4 t) n).1 (ix2 g l)
        = (trS (K0 m c) (K1 m c) (K2 m c) (K4 m c) n (gr t g) l).1
    ∧ (tv (iblk m c 0 t) (iblk m c 1 t) (iblk m c 2 t) (iblk m c 4 t) n).2 (ix2 g l)
        = (trS (K0 m c) (K1 m c) (K2 m c) (K4 m c) n (gr t g) l).2 := by
  induction n with
  | zero =>
    unfold tv
    rw [traj_zero, trS_zero]
    exact ⟨Ideal.ofBits_zero_f32, Ideal.ofBits_zero_f32⟩
  | succ n ih =>
    obtain ⟨i1, i2⟩ := ih (by omega)
    obtain ⟨p1, p2⟩ := pick_val m c t n (by omega) g l
    have a1 : AR (iblk m c 4 t) (ix2 g l) = K4 m c (ix4 (n0 := 2) (n1 := 2) (n2 := 64) (n3 := 128) 0 0 (gr t g) l) := blk4 m c t 0 g l
    have a2 : AI (iblk m c 4 t) (ix2 g l) = K4 m c (ix4 (n0 := 2) (n1 := 2) (n2 := 64) (n3 := 128) 0 1 (gr t g) l) := blk4 m c t 1 g l
    unfold tv at i1 i2 ⊢
    rw [traj_succ, trS_succ]
    dsimp only
    rw [← i1, ← i2, ← p1, ← p2, ← a1, ← a2]
    exact ⟨rfl, rfl⟩

theorem hv_val (g : Fin 8) (n : Fin 640) (q : Fin 256) :
    hv (iblk m c 0 t) (iblk m c 1 t) (iblk m c 2 t) (iblk m c 4 t) g (ix2 (n0 := 640) (n1 := 256) n q)
      = hS (K0 m c) (K1 m c) (K2 m c) (K4 m c) (gr t g) q n := by
  have hn := n.isLt
  have hq := q.isLt
  have hg := g.isLt
  have hs : ∀ (T : ℕ → FVec Ideal S8x128 .f32) (l : Fin 128),
      states T ((strip g).emb (ix2 (n0 := 640) (n1 := 128) n l)) = if n.val < 528 then T (tmS l.val n.val) (ix2 g l) else 0 := by
    intro T l
    have hl := l.isLt
    have e0 : ((strip g).emb (ix2 (n0 := 640) (n1 := 128) n l) 0).val = g.val + 8 * n.val := rfl
    have e1 : ((strip g).emb (ix2 (n0 := 640) (n1 := 128) n l) 1).val = l.val := show 0 + 1 * l.val = l.val by omega
    unfold states
    rw [e0]
    by_cases h : n.val < 528
    · rw [if_pos h, if_pos (by omega)]
      have et : tm ((strip g).emb (ix2 (n0 := 640) (n1 := 128) n l)) = tmS l.val n.val := by
        unfold tm tmS
        rw [e0, e1]
        rw [show (g.val + 8 * n.val) / 8 = n.val by omega]
        by_cases h2 : 512 ≤ n.val
        · rw [if_pos h2, if_pos (show 4096 ≤ g.val + 8 * n.val by omega)]
        · rw [if_neg h2, if_neg (show ¬ 4096 ≤ g.val + 8 * n.val by omega)]
      rw [et]
      refine congrArg (T _) ?_
      funext a
      apply Fin.ext
      match a with
      | ⟨0, _⟩ => show (g.val + 8 * n.val) % 8 = g.val; omega
      | ⟨1, _⟩ => show 0 + 1 * l.val = l.val; omega
    · rw [if_neg h, if_neg (by omega)]
      exact Ideal.ofBits_zero_f32
  have ht : ∀ l, l < 128 → n.val < 528 → tmS l n.val ≤ 528 := by
    intro l _ _; unfold tmS; split <;> [split; skip] <;> omega
  unfold hv hS rowS
  by_cases h : q.val < 128
  · rw [dif_pos h, show q.val % 128 = q.val by omega]
    refine (concatenate_pair_apply_left (t := S640x256) (s₁ := S640x128) (s₂ := S640x128) 1 _ _ _ _ rfl (ix2 (n0 := 640) (n1 := 128) n ⟨q.val, h⟩) ?_).trans ?_
    · intro b; match b with | ⟨0, _⟩ => rfl | ⟨1, _⟩ => rfl
    refine (hs _ _).trans ?_
    by_cases h2 : n.val < 528
    · rw [if_pos h2, if_pos h2]; exact (tv_val m c t _ (ht _ h h2) g ⟨q.val, h⟩).1
    · rw [if_neg h2, if_neg h2]
  · rw [dif_neg h, show q.val % 128 = q.val - 128 by omega]
    refine (concatenate_pair_apply_right (t := S640x256) (s₁ := S640x128) (s₂ := S640x128) 1 _ _ _ _ rfl rfl (ix2 (n0 := 640) (n1 := 128) n ⟨q.val - 128, by omega⟩) ?_ ?_).trans ?_
    · intro b hb; match b with | ⟨0, _⟩ => rfl | ⟨1, _⟩ => exact absurd rfl hb
    · show q.val - 128 + 128 = q.val; omega
    refine (hs _ _).trans ?_
    by_cases h2 : n.val < 528
    · rw [if_pos h2, if_pos h2]; exact (tv_val m c t _ (ht _ (by omega) h2) g ⟨q.val - 128, by omega⟩).2
    · rw [if_neg h2, if_neg h2]

theorem yv_val (g : Fin 8) (i : Fin 256) (n : Fin 640) :
    yv (iblk m c 0 t) (iblk m c 1 t) (iblk m c 2 t) (iblk m c 3 t) (iblk m c 4 t) g (ix2 (n0 := 256) (n1 := 640) i n)
      = yS (K0 m c) (K1 m c) (K2 m c) (K3 m c) (K4 m c) (gr t g) i n := by
  unfold yv yS
  refine congrArg₂ (· + ·) (rv_val m c t g _ _) ?_
  refine (Ideal.matmul_constant_zero_apply _ none _ _ _).trans ?_
  refine (DotDims.sum_contr₁ _ rfl (K := 256) rfl _).trans ?_
  refine Finset.sum_congr rfl fun q _ => ?_
  refine congrArg₂ (· * ·) (blk3 m c t g i q) ?_
  refine Eq.trans (congrArg _ ?_) (hv_val m c t g n q)
  funext a
  match a with
  | ⟨0, _⟩ => rfl
  | ⟨1, _⟩ => rfl

end Step

end Cert.Proof.S5

end
-- ==== Proof.S5.Final.lean ====
/-
  Hand-written, untrusted. The kernel's run over the extended reals: its grid steps' blocks tile the three result arrays,
  which so hold Spec.lean's results.
-/
module

public import proofs.«01_k».proof.Proof.S5.Kern

@[expose] public section

noncomputable section

namespace Cert.Proof.S5

open Cert.KernelIdeal Cert.KernelIdeal.Gen
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg) (c : Dev nD)

theorem o7_val (t : Fin cfg0.N) (a : Fin 128) (b : Fin 8192) :
    o7 (iblk m c 0 t) (iblk m c 1 t) (iblk m c 2 t) (iblk m c 3 t) (iblk m c 4 t) (ix2 (n0 := 128) (n1 := 8192) a b)
      = ylS (K0 m c) (K1 m c) (K2 m c) (K3 m c) (K4 m c) (ix2 (n0 := 1024) (n1 := 8192) ⟨128 * t.val + a.val, by have := N8 t; omega⟩ b) := by
  have ht := N8 t
  have ha := a.isLt
  unfold o7 ylS
  refine (yv_val m c t _ _ _).trans ?_
  have e1 : gr t ⟨a.val / 16, by omega⟩ = ⟨(128 * t.val + a.val) / 16, by omega⟩ := Fin.ext (show 8 * t.val + a.val / 16 = (128 * t.val + a.val) / 16 by omega)
  have e2 : (⟨16 * (b.val % 2048 / 128) + a.val % 16, by omega⟩ : Fin 256) = ⟨16 * (b.val % 2048 / 128) + (128 * t.val + a.val) % 16, by omega⟩ :=
    Fin.ext (by show 16 * (b.val % 2048 / 128) + a.val % 16 = 16 * (b.val % 2048 / 128) + (128 * t.val + a.val) % 16; omega)
  exact congrArg₂ (fun G i => yS (K0 m c) (K1 m c) (K2 m c) (K3 m c) (K4 m c) G i _) e1 e2

theorem o8_val (t : Fin cfg0.N) (a : Fin 16) (b d : Fin 128) :
    o8 (iblk m c 0 t) (iblk m c 1 t) (iblk m c 2 t) (iblk m c 3 t) (iblk m c 4 t) (ix3 (n0 := 16) (n1 := 128) (n2 := 128) a b d)
      = ycS (K0 m c) (K1 m c) (K2 m c) (K3 m c) (K4 m c) (ix3 (n0 := 16) (n1 := 1024) (n2 := 128) a ⟨128 * t.val + b.val, by have := N8 t; omega⟩ d) := by
  have ht := N8 t
  have ha := a.isLt
  have hb := b.isLt
  unfold o8 ycS
  refine (yv_val m c t _ _ _).trans ?_
  have e1 : gr t ⟨b.val / 16, by omega⟩ = ⟨(128 * t.val + b.val) / 16, by omega⟩ := Fin.ext (show 8 * t.val + b.val / 16 = (128 * t.val + b.val) / 16 by omega)
  have e2 : (⟨16 * a.val + b.val % 16, by omega⟩ : Fin 256) = ⟨16 * a.val + (128 * t.val + b.val) % 16, by omega⟩ :=
    Fin.ext (by show 16 * a.val + b.val % 16 = 16 * a.val + (128 * t.val + b.val) % 16; omega)
  exact congrArg₂ (fun G i => yS (K0 m c) (K1 m c) (K2 m c) (K3 m c) (K4 m c) G i _) e1 e2

theorem coord0 (t : Fin cfg0.N) : (grid0.coords t 0).val = t.val := by
  rcases fin_N0 t with rfl | rfl | rfl | rfl | rfl | rfl | rfl | rfl <;> decide

theorem wo_val (t : Fin cfg0.N) (a : Fin 256) (b : Fin 2048) :
    k0_pay29 (grid0.coords t) (iblk m c 5 t) (ix3 (n0 := 1) (n1 := 256) (n2 := 2048) 0 a b)
      = woS (K5 m c) (ix3 (n0 := 1) (n1 := 2048) (n2 := 2048) 0 ⟨256 * t.val + a.val, by have := N8 t; omega⟩ b) := by
  have ht := N8 t
  have ha := a.isLt
  unfold k0_pay29 woS
  refine (shapeCast_apply (s := S256x2048) _ _ _ (ix2 (n0 := 256) (n1 := 2048) a b) ?_).trans ?_
  · rw [Shape.rowMajor_val_three, Shape.rowMajor_val_two]
    show a.val * 2048 + b.val = (0 * 256 + a.val) * 2048 + b.val
    omega
  refine congrArg₂ (fun a b : EReal => a * b) ?_ ?_
  · show Scalar.select (IntOp.cmpi .slt (BitVec.ofNat 32 (grid0.coords t 0).val) (BitVec.ofNat 32 4)) _ _ = _
    rw [coord0]
    have e : ∀ x y : EReal, Scalar.select (IntOp.cmpi .slt (BitVec.ofNat 32 t.val) (BitVec.ofNat 32 4)) x y = if 256 * t.val + a.val < 1024 then x else y := by
      intro x y
      unfold Scalar.select
      by_cases h : t.val < 4
      · rw [if_pos (show 256 * t.val + a.val < 1024 by omega)]
        exact if_pos ((WordCmp.cmpi_slt_ofNat_eq_one_iff (w := 32) (by omega) (by omega)).mpr h)
      · rw [if_neg (show ¬ 256 * t.val + a.val < 1024 by omega)]
        exact if_neg fun e => h ((WordCmp.cmpi_slt_ofNat_eq_one_iff (w := 32) (by omega) (by omega)).mp e)
    exact e _ _
  · refine (shapeCast_apply (s := S1x256x2048) _ _ _ (ix3 (n0 := 1) (n1 := 256) (n2 := 2048) 0 a b) ?_).trans (blk5 m c t a b)
    rw [Shape.rowMajor_val_three, Shape.rowMajor_val_two]
    show (0 * 256 + a.val) * 2048 + b.val = a.val * 2048 + b.val
    omega

/-! ## The arrays at the end -/

theorem final6 : (dats m 0 c).arrAt 6 cfg0.N = ylS (K0 m c) (K1 m c) (K2 m c) (K3 m c) (K4 m c) := by
  refine (dats m 0 c).arrAt_eq_of_cover 6 _ (fun t _ => ?_) (fun (i : S1024x8192.Idx) => ?_)
  · show (cfg0.win 6).cut (grid0.coords t) ((dats m 0 c).after 6 t) = _
    rw [after0_6]
    funext j
    have ej : ∀ x : S128x8192.Idx, x = ix2 (n0 := 128) (n1 := 8192) (x 0) (x 1) := fun x => by
      funext a; match a with | ⟨0, _⟩ => rfl | ⟨1, _⟩ => rfl
    refine ((congrArg (o7 (iblk m c 0 t) (iblk m c 1 t) (iblk m c 2 t) (iblk m c 3 t) (iblk m c 4 t)) (ej _)).trans (o7_val m c t _ _)).trans ?_
    refine congrArg (ylS (K0 m c) (K1 m c) (K2 m c) (K3 m c) (K4 m c)) ?_
    funext a
    apply Fin.ext
    match a with
    | ⟨0, _⟩ => show 128 * t.val + (j 0).val = win0_6.index t 0 * 128 + 1 * (j 0).val; rw [idx6]; show _ = t.val * 128 + 1 * (j 0).val; omega
    | ⟨1, _⟩ => show (j 1).val = win0_6.index t 1 * 8192 + 1 * (j 1).val; rw [idx6]; show _ = 0 * 8192 + 1 * (j 1).val; omega
  · have h0 : (i 0).val < 1024 := (i 0).isLt
    have h1 : (i 1).val < 8192 := (i 1).isLt
    obtain ⟨t, ht⟩ : ∃ t : Fin cfg0.N, t.val = (i 0).val / 128 := ⟨⟨(i 0).val / 128, lt_of_lt_of_eq (by omega) N_0.symm⟩, rfl⟩
    refine ⟨t, flush0_6 t, ?_⟩
    show i ∈ ((View.whole main_v0_0).slice (win0_6.rect t)).set
    rw [View.set_slice_whole, Rect.mem_set_unit]
    intro a
    match a with
    | ⟨0, _⟩ =>
      show win0_6.index t 0 * 128 ≤ (i 0).val ∧ (i 0).val < win0_6.index t 0 * 128 + 128
      rw [idx6]
      show t.val * 128 ≤ (i 0).val ∧ (i 0).val < t.val * 128 + 128
      omega
    | ⟨1, _⟩ =>
      show win0_6.index t 1 * 8192 ≤ (i 1).val ∧ (i 1).val < win0_6.index t 1 * 8192 + 8192
      rw [idx6]
      show 0 * 8192 ≤ (i 1).val ∧ (i 1).val < 0 * 8192 + 8192
      omega

theorem final7 : (dats m 0 c).arrAt 7 cfg0.N = ycS (K0 m c) (K1 m c) (K2 m c) (K3 m c) (K4 m c) := by
  refine (dats m 0 c).arrAt_eq_of_cover 7 _ (fun t _ => ?_) (fun (i : S16x1024x128.Idx) => ?_)
  · show (cfg0.win 7).cut (grid0.coords t) ((dats m 0 c).after 7 t) = _
    rw [after0_7]
    funext j
    have ej : ∀ x : S16x128x128.Idx, x = ix3 (n0 := 16) (n1 := 128) (n2 := 128) (x 0) (x 1) (x 2) := fun x => by
      funext a; match a with | ⟨0, _⟩ => rfl | ⟨1, _⟩ => rfl | ⟨2, _⟩ => rfl
    refine ((congrArg (o8 (iblk m c 0 t) (iblk m c 1 t) (iblk m c 2 t) (iblk m c 3 t) (iblk m c 4 t)) (ej _)).trans (o8_val m c t _ _ _)).trans ?_
    refine congrArg (ycS (K0 m c) (K1 m c) (K2 m c) (K3 m c) (K4 m c)) ?_
    funext a
    apply Fin.ext
    match a with
    | ⟨0, _⟩ => show (j 0).val = win0_7.index t 0 * 16 + 1 * (j 0).val; rw [idx7]; show _ = 0 * 16 + 1 * (j 0).val; omega
    | ⟨1, _⟩ => show 128 * t.val + (j 1).val = win0_7.index t 1 * 128 + 1 * (j 1).val; rw [idx7]; show _ = t.val * 128 + 1 * (j 1).val; omega
    | ⟨2, _⟩ => show (j 2).val = win0_7.index t 2 * 128 + 1 * (j 2).val; rw [idx7]; show _ = 0 * 128 + 1 * (j 2).val; omega
  · have h0 : (i 0).val < 16 := (i 0).isLt
    have h1 : (i 1).val < 1024 := (i 1).isLt
    have h2 : (i 2).val < 128 := (i 2).isLt
    obtain ⟨t, ht⟩ : ∃ t : Fin cfg0.N, t.val = (i 1).val / 128 := ⟨⟨(i 1).val / 128, lt_of_lt_of_eq (by omega) N_0.symm⟩, rfl⟩
    refine ⟨t, flush0_7 t, ?_⟩
    show i ∈ ((View.whole main_v0_1).slice (win0_7.rect t)).set
    rw [View.set_slice_whole, Rect.mem_set_unit]
    intro a
    match a with
    | ⟨0, _⟩ =>
      show win0_7.index t 0 * 16 ≤ (i 0).val ∧ (i 0).val < win0_7.index t 0 * 16 + 16
      rw [idx7]
      show 0 * 16 ≤ (i 0).val ∧ (i 0).val < 0 * 16 + 16
      omega
    | ⟨1, _⟩ =>
      show win0_7.index t 1 * 128 ≤ (i 1).val ∧ (i 1).val < win0_7.index t 1 * 128 + 128
      rw [idx7]
      show t.val * 128 ≤ (i 1).val ∧ (i 1).val < t.val * 128 + 128
      omega
    | ⟨2, _⟩ =>
      show win0_7.index t 2 * 128 ≤ (i 2).val ∧ (i 2).val < win0_7.index t 2 * 128 + 128
      rw [idx7]
      show 0 * 128 ≤ (i 2).val ∧ (i 2).val < 0 * 128 + 128
      omega

theorem final8 : (dats m 0 c).arrAt 8 cfg0.N = woS (K5 m c) := by
  refine (dats m 0 c).arrAt_eq_of_cover 8 _ (fun t _ => ?_) (fun (i : S1x2048x2048.Idx) => ?_)
  · show (cfg0.win 8).cut (grid0.coords t) ((dats m 0 c).after 8 t) = _
    rw [after0_8]
    funext j
    have ej : ∀ x : S1x256x2048.Idx, x = ix3 (n0 := 1) (n1 := 256) (n2 := 2048) 0 (x 1) (x 2) := fun x => by
      funext a; match a with | ⟨0, _⟩ => exact Subsingleton.elim (α := Fin 1) _ _ | ⟨1, _⟩ => rfl | ⟨2, _⟩ => rfl
    refine ((congrArg (k0_pay29 (grid0.coords t) (iblk m c 5 t)) (ej _)).trans (wo_val m c t _ _)).trans ?_
    refine congrArg (woS (K5 m c)) ?_
    have j0 : (j 0).val < 1 := (j 0).isLt
    funext a
    apply Fin.ext
    match a with
    | ⟨0, _⟩ => show 0 = win0_8.index t 0 * 1 + 1 * (j 0).val; rw [idx8]; show 0 = 0 * 1 + 1 * (j 0).val; omega
    | ⟨1, _⟩ => show 256 * t.val + (j 1).val = win0_8.index t 1 * 256 + 1 * (j 1).val; rw [idx8]; show _ = t.val * 256 + 1 * (j 1).val; omega
    | ⟨2, _⟩ => show (j 2).val = win0_8.index t 2 * 2048 + 1 * (j 2).val; rw [idx8]; show _ = 0 * 2048 + 1 * (j 2).val; omega
  · have h0 : (i 0).val < 1 := (i 0).isLt
    have h1 : (i 1).val < 2048 := (i 1).isLt
    have h2 : (i 2).val < 2048 := (i 2).isLt
    obtain ⟨t, ht⟩ : ∃ t : Fin cfg0.N, t.val = (i 1).val / 256 := ⟨⟨(i 1).val / 256, lt_of_lt_of_eq (by omega) N_0.symm⟩, rfl⟩
    refine ⟨t, flush0_8 t, ?_⟩
    show i ∈ ((View.whole main_v0_2).slice (win0_8.rect t)).set
    rw [View.set_slice_whole, Rect.mem_set_unit]
    intro a
    match a with
    | ⟨0, _⟩ =>
      show win0_8.index t 0 * 1 ≤ (i 0).val ∧ (i 0).val < win0_8.index t 0 * 1 + 1
      rw [idx8]
      show 0 * 1 ≤ (i 0).val ∧ (i 0).val < 0 * 1 + 1
      omega
    | ⟨1, _⟩ =>
      show win0_8.index t 1 * 256 ≤ (i 1).val ∧ (i 1).val < win0_8.index t 1 * 256 + 256
      rw [idx8]
      show t.val * 256 ≤ (i 1).val ∧ (i 1).val < t.val * 256 + 256
      omega
    | ⟨2, _⟩ =>
      show win0_8.index t 2 * 2048 ≤ (i 2).val ∧ (i 2).val < win0_8.index t 2 * 2048 + 2048
      rw [idx8]
      show 0 * 2048 ≤ (i 2).val ∧ (i 2).val < 0 * 2048 + 2048
      omega

/-- Every run of the kernel ends with Spec.lean's results. -/
theorem run_value : θ_run defs (onTc (τ := τ) (main (F := Ideal))) (s₀ m ρ) fun r => ∀ c : Dev nD,
    r.2.mem ((c : Thread nD τ).loc main_v0_0) = ylS (K0 m c) (K1 m c) (K2 m c) (K3 m c) (K4 m c)
    ∧ r.2.mem ((c : Thread nD τ).loc main_v0_1) = ycS (K0 m c) (K1 m c) (K2 m c) (K3 m c) (K4 m c)
    ∧ r.2.mem ((c : Thread nD τ).loc main_v0_2) = woS (K5 m c) :=
  (θ_run defs _ _).mono (fun _ h c => ⟨((h.1 c).1 6).trans (final6 m c), ((h.1 c).1 7).trans (final7 m c), ((h.1 c).1 8).trans (final8 m c)⟩) (run_main m ρ)

end Cert.Proof.S5

end
-- ==== Proof.S5.RefArr.lean ====
/-
  Hand-written, untrusted. The reference's whole-array operations read at an index: the chunks, what is added to a state,
  the states put back on their chunks, and the three results, each in Spec.lean's terms.
-/
module

public import proofs.«01_k».proof.Proof.Gen.ReferenceIdeal.Run
public import proofs.«01_k».proof.Proof.S5.Spec
public import Idealize.ShloMosaic.Lib.Pipeline.Value
public import Idealize.ShloMosaic.Lib.Pointwise
public import Idealize.ShloMosaic.Lib.StackMember
public import Idealize.ShloMosaic.Lib.KernelVsHost
public import Idealize.ShloMosaic.Lib.WordCmp

@[expose] public section

noncomputable section

namespace Cert.Proof.S5

open Cert.ReferenceIdeal Cert.ReferenceIdeal.Gen
open Idealize.ShloMosaic

variable (A0 : FVec Ideal S1024x8192 .bf16) (A1 : FVec Ideal S16x1024x128 .bf16)
  (A2 : FVec Ideal S2x64x512x256 .bf16) (A3 : FVec Ideal S2x64x256x256 .bf16)
  (A4 : FVec Ideal S2x2x64x128 .f32) (A5 : FVec Ideal S2x2048x2048 .f32)

/-- The reference's chunks. -/
def chunksR : FVec Ideal S64x256x640 .f32 :=
  concatenate S64x256x640 2
    [⟨S64x256x512, shapeCast S64x256x512 (transpose S64x16x16x4x128 [0, 3, 1, 2, 4]
        (shapeCast S64x16x4x16x128 (extf .f32 A0 bitsLt_bf16_f32) shapeCasts_S1024x8192_S64x16x4x16x128)
        transposes_S64x16x4x16x128_S64x16x16x4x128_0_3_1_2_4) shapeCasts_S64x16x16x4x128_S64x256x512⟩,
      ⟨S64x256x128, shapeCast S64x256x128 (transpose S64x16x16x128 [1, 0, 2, 3]
        (shapeCast S16x64x16x128 (extf .f32 A1 bitsLt_bf16_f32) shapeCasts_S16x1024x128_S16x64x16x128)
        transposes_S16x64x16x128_S64x16x16x128_1_0_2_3) shapeCasts_S64x16x16x128_S64x256x128⟩]
    concatenates_S64x256x512_S64x256x128_S64x256x640_d2

theorem chunksR_val (G : Fin 64) (k : Fin 256) (n : Fin 640) :
    chunksR A0 A1 (ix3 (n0 := 64) (n1 := 256) (n2 := 640) G k n) = uS A0 A1 G k n := by
  have hG := G.isLt
  have hk := k.isLt
  have hn := n.isLt
  unfold chunksR uS
  by_cases h : n.val < 512
  · rw [dif_pos h]
    refine (concatenate_pair_apply_left (t := S64x256x640) (s₁ := S64x256x512) (s₂ := S64x256x128) 2 _ _ _ _ rfl
      (ix3 (n0 := 64) (n1 := 256) (n2 := 512) G k ⟨n.val, h⟩) ?_).trans ?_
    · intro b; match b with | ⟨0, _⟩ => rfl | ⟨1, _⟩ => rfl | ⟨2, _⟩ => rfl
    refine (shapeCast_apply (s := S64x16x16x4x128) _ _ _ (ix5 (n0 := 64) (n1 := 16) (n2 := 16) (n3 := 4) (n4 := 128) G ⟨k.val / 16, by omega⟩ ⟨k.val % 16, by omega⟩
      ⟨n.val / 128, by omega⟩ ⟨n.val % 128, by omega⟩) ?_).trans ?_
    · rw [Shape.rowMajor_val_five, Shape.rowMajor_val_three]
      show (((G.val * 16 + k.val / 16) * 16 + k.val % 16) * 4 + n.val / 128) * 128 + n.val % 128 = (G.val * 256 + k.val) * 512 + n.val
      omega
    refine (transpose_apply (s := S64x16x4x16x128) _ _ _ _ (ix5 (n0 := 64) (n1 := 16) (n2 := 4) (n3 := 16) (n4 := 128) G ⟨k.val % 16, by omega⟩ ⟨n.val / 128, by omega⟩
      ⟨k.val / 16, by omega⟩ ⟨n.val % 128, by omega⟩) ?_).trans ?_
    · intro b; match b with | ⟨0, _⟩ => rfl | ⟨1, _⟩ => rfl | ⟨2, _⟩ => rfl | ⟨3, _⟩ => rfl | ⟨4, _⟩ => rfl
    refine shapeCast_apply (s := S1024x8192) _ _ _ _ ?_
    rw [Shape.rowMajor_val_five, Shape.rowMajor_val_two]
    show (16 * G.val + k.val % 16) * 8192 + (2048 * (n.val / 128) + 128 * (k.val / 16) + n.val % 128)
      = (((G.val * 16 + k.val % 16) * 4 + n.val / 128) * 16 + k.val / 16) * 128 + n.val % 128
    omega
  · rw [dif_neg h]
    refine (concatenate_pair_apply_right (t := S64x256x640) (s₁ := S64x256x512) (s₂ := S64x256x128) 2 _ _ _ _ rfl rfl
      (ix3 (n0 := 64) (n1 := 256) (n2 := 128) G k ⟨n.val - 512, by omega⟩) ?_ ?_).trans ?_
    · intro b hb; match b with | ⟨0, _⟩ => rfl | ⟨1, _⟩ => rfl | ⟨2, _⟩ => exact absurd rfl hb
    · show n.val - 512 + 512 = n.val; omega
    refine (shapeCast_apply (s := S64x16x16x128) _ _ _ (ix4 (n0 := 64) (n1 := 16) (n2 := 16) (n3 := 128) G ⟨k.val / 16, by omega⟩ ⟨k.val % 16, by omega⟩
      ⟨n.val - 512, by omega⟩) ?_).trans ?_
    · rw [Shape.rowMajor_val_four, Shape.rowMajor_val_three]
      show ((G.val * 16 + k.val / 16) * 16 + k.val % 16) * 128 + (n.val - 512) = (G.val * 256 + k.val) * 128 + (n.val - 512)
      omega
    refine (transpose_apply (s := S16x64x16x128) _ _ _ _ (ix4 (n0 := 16) (n1 := 64) (n2 := 16) (n3 := 128) ⟨k.val / 16, by omega⟩ G ⟨k.val % 16, by omega⟩
      ⟨n.val - 512, by omega⟩) ?_).trans ?_
    · intro b; match b with | ⟨0, _⟩ => rfl | ⟨1, _⟩ => rfl | ⟨2, _⟩ => rfl | ⟨3, _⟩ => rfl
    refine shapeCast_apply (s := S16x1024x128) _ _ _ _ ?_
    rw [Shape.rowMajor_val_four, Shape.rowMajor_val_three]
    show (k.val / 16 * 1024 + (16 * G.val + k.val % 16)) * 128 + (n.val - 512)
      = ((k.val / 16 * 64 + G.val) * 16 + k.val % 16) * 128 + (n.val - 512)
    omega

/-- The reference's lane test. -/
def maskR : IVec S528x64x256 1 :=
  cmpi .slt (shapeCast S528x64x256 (iotaInDim S528x64x2x128 32 3) shapeCasts_S528x64x2x128_S528x64x256)
    (broadcastInDim S528x64x256 ![] bcast_S_S528x64x256 (constantI S_ 32 64#32))

theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  unfold Scalar.select
  by_cases h : a < b
  · rw [if_pos h]; exact if_pos ((WordCmp.cmpi_slt_ofNat_eq_one_iff (w := 32) ha hb).mpr h)
  · rw [if_neg h]; exact if_neg fun e => h ((WordCmp.cmpi_slt_ofNat_eq_one_iff (w := 32) ha hb).mp e)

theorem maskR_select {α : Type} (x y : S528x64x256.Idx → α) (i : Fin 528) (G : Fin 64) (q : Fin 256) :
    select maskR x y (ix3 (n0 := 528) (n1 := 64) (n2 := 256) i G q)
      = if q.val % 128 < 64 then x (ix3 (n0 := 528) (n1 := 64) (n2 := 256) i G q) else y (ix3 (n0 := 528) (n1 := 64) (n2 := 256) i G q) := by
  have hq := q.isLt
  have e : shapeCast S528x64x256 (iotaInDim S528x64x2x128 32 3) shapeCasts_S528x64x2x128_S528x64x256 (ix3 (n0 := 528) (n1 := 64) (n2 := 256) i G q)
      = BitVec.ofNat 32 (q.val % 128) := by
    refine shapeCast_apply (s := S528x64x2x128) _ _ _ (ix4 (n0 := 528) (n1 := 64) (n2 := 2) (n3 := 128) i G ⟨q.val / 128, by omega⟩ ⟨q.val % 128, by omega⟩) ?_
    rw [Shape.rowMajor_val_four, Shape.rowMajor_val_three]
    show ((i.val * 64 + G.val) * 2 + q.val / 128) * 128 + q.val % 128 = (i.val * 64 + G.val) * 256 + q.val
    omega
  show Scalar.select (IntOp.cmpi .slt (shapeCast S528x64x256 (iotaInDim S528x64x2x128 32 3) shapeCasts_S528x64x2x128_S528x64x256
    (ix3 (n0 := 528) (n1 := 64) (n2 := 256) i G q)) (BitVec.ofNat 32 64)) _ _ = _
  rw [e]
  exact select_slt _ _ (by omega) (by omega) _ _

/-- A block of an operator, widened. -/
theorem operR_val (x : FVec Ideal S1x64x256x256 .bf16) (G : Fin 64) (i k : Fin 256) :
    extf .f32 (shapeCast S64x256x256 x shapeCasts_S1x64x256x256_S64x256x256) bitsLt_bf16_f32 (ix3 (n0 := 64) (n1 := 256) (n2 := 256) G i k)
      = x (ix4 (n0 := 1) (n1 := 64) (n2 := 256) (n3 := 256) 0 G i k) := by
  show shapeCast S64x256x256 x shapeCasts_S1x64x256x256_S64x256x256 (ix3 (n0 := 64) (n1 := 256) (n2 := 256) G i k) = _
  refine shapeCast_apply (s := S1x64x256x256) _ _ _ _ ?_
  rw [Shape.rowMajor_val_four, Shape.rowMajor_val_three]
  show ((0 * 64 + G.val) * 256 + i.val) * 256 + k.val = (G.val * 256 + i.val) * 256 + k.val
  omega

/-- Rows 256…511 of the first operator's product, chunk by chunk. -/
def shareR : FVec Ideal S528x64x256 .f32 :=
  transpose S528x64x256 [2, 0, 1] (extractStridedSlice S64x256x528 ![0, 0, 0]
    (Host.dotGeneral dot_S64x256x256_S64x256x640_S64x256x640_2_1_1_2_0_0 none
      (extf .f32 (shapeCast S64x256x256 (extractStridedSlice S1x64x256x256 ![0, 0, 256, 0] A2 slices_S2x64x512x256_S1x64x256x256_0_0_256_0)
        shapeCasts_S1x64x256x256_S64x256x256) bitsLt_bf16_f32) (chunksR A0 A1)) slices_S64x256x640_S64x256x528_0_0_0)
    transposes_S64x256x528_S528x64x256_2_0_1

theorem shareR_val (i : Fin 528) (G : Fin 64) (q : Fin 256) : shareR A0 A1 A2 (ix3 (n0 := 528) (n1 := 64) (n2 := 256) i G q)
    = rS A0 A1 A2 G ⟨256 + q.val, by omega⟩ ⟨i.val, by omega⟩ := by
  unfold shareR rS
  refine (transpose_apply (s := S64x256x528) _ _ _ _ (ix3 (n0 := 64) (n1 := 256) (n2 := 528) G q i) ?_).trans ?_
  · intro b; match b with | ⟨0, _⟩ => rfl | ⟨1, _⟩ => rfl | ⟨2, _⟩ => rfl
  refine (extractStridedSlice_apply (s := S64x256x640) _ _ _ _ (ix3 (n0 := 64) (n1 := 256) (n2 := 640) G q ⟨i.val, by omega⟩) ?_).trans ?_
  · intro b; match b with | ⟨0, _⟩ => exact (Nat.zero_add _).symm | ⟨1, _⟩ => exact (Nat.zero_add _).symm | ⟨2, _⟩ => exact (Nat.zero_add _).symm
  refine (StackMember.dotGeneral_stack_apply _ none _ _ G q _).trans ?_
  refine Finset.sum_congr rfl fun k _ => congrArg₂ (· * ·) ?_ (chunksR_val A0 A1 G k _)
  refine (operR_val _ G q k).trans ?_
  refine extractStridedSlice_apply (s := S2x64x512x256) _ _ _ _ _ ?_
  intro b
  match b with
  | ⟨0, _⟩ => rfl
  | ⟨1, _⟩ => exact (Nat.zero_add _).symm
  | ⟨2, _⟩ => rfl
  | ⟨3, _⟩ => exact (Nat.zero_add _).symm

/-- What is added to the states, time by time. -/
def srcR : FVec Ideal S528x64x256 .f32 :=
  select maskR
    (concatenate S528x64x256 0
      [⟨S16x64x256, extractStridedSlice S16x64x256 ![512, 0, 0] (shareR A0 A1 A2) slices_S528x64x256_S16x64x256_512_0_0⟩,
        ⟨S512x64x256, extractStridedSlice S512x64x256 ![0, 0, 0] (shareR A0 A1 A2) slices_S528x64x256_S512x64x256_0_0_0⟩]
      concatenates_S16x64x256_S512x64x256_S528x64x256_d0)
    (Host.reverse [0] (shareR A0 A1 A2))

theorem reverse_val {α : Type} (x : S528x64x256.Idx → α) (i : Fin 528) (G : Fin 64) (q : Fin 256) :
    Host.reverse (s := S528x64x256) [0] x (ix3 (n0 := 528) (n1 := 64) (n2 := 256) i G q)
      = x (ix3 (n0 := 528) (n1 := 64) (n2 := 256) ⟨527 - i.val, by omega⟩ G q) := by
  unfold Host.reverse
  refine congrArg x (funext fun a => Fin.ext ?_)
  match a with
  | ⟨0, _⟩ => show 528 - (i.val + 1) = 527 - i.val; omega
  | ⟨1, _⟩ => rfl
  | ⟨2, _⟩ => rfl

theorem srcR_val (i : Fin 528) (G : Fin 64) (q : Fin 256) :
    srcR A0 A1 A2 (ix3 (n0 := 528) (n1 := 64) (n2 := 256) i G q) = inS A0 A1 A2 G q i.val := by
  have hi := i.isLt
  have e : ∀ s, (hs : s < 528) → chS (q.val % 128) i.val = s →
      shareR A0 A1 A2 (ix3 (n0 := 528) (n1 := 64) (n2 := 256) ⟨s, hs⟩ G q) = inS A0 A1 A2 G q i.val := by
    rintro s hs rfl
    refine (shareR_val A0 A1 A2 _ G q).trans ?_
    unfold inS
    refine congrArg _ (Fin.ext ?_)
    show chS (q.val % 128) i.val = chS (q.val % 128) i.val % 640
    omega
  unfold srcR
  rw [maskR_select]
  by_cases h : q.val % 128 < 64
  · rw [if_pos h]
    by_cases h2 : i.val < 16
    · refine (concatenate_pair_apply_left (t := S528x64x256) (s₁ := S16x64x256) (s₂ := S512x64x256) 0 _ _ _ _ rfl
        (ix3 (n0 := 16) (n1 := 64) (n2 := 256) ⟨i.val, h2⟩ G q) ?_).trans ?_
      · intro b; match b with | ⟨0, _⟩ => rfl | ⟨1, _⟩ => rfl | ⟨2, _⟩ => rfl
      refine (extractStridedSlice_apply (s := S528x64x256) _ _ _ _ (ix3 (n0 := 528) (n1 := 64) (n2 := 256) ⟨512 + i.val, by omega⟩ G q) ?_).trans ?_
      · intro b; match b with | ⟨0, _⟩ => rfl | ⟨1, _⟩ => exact (Nat.zero_add _).symm | ⟨2, _⟩ => exact (Nat.zero_add _).symm
      refine e _ _ ?_
      unfold chS cf
      rw [if_pos h]
      split <;> omega
    · refine (concatenate_pair_apply_right (t := S528x64x256) (s₁ := S16x64x256) (s₂ := S512x64x256) 0 _ _ _ _ rfl rfl
        (ix3 (n0 := 512) (n1 := 64) (n2 := 256) ⟨i.val - 16, by omega⟩ G q) ?_ ?_).trans ?_
      · intro b hb; match b with | ⟨0, _⟩ => exact absurd rfl hb | ⟨1, _⟩ => rfl | ⟨2, _⟩ => rfl
      · show i.val - 16 + 16 = i.val; omega
      refine (extractStridedSlice_apply (s := S528x64x256) _ _ _ _ (ix3 (n0 := 528) (n1 := 64) (n2 := 256) ⟨i.val - 16, by omega⟩ G q) ?_).trans ?_
      · intro b; match b with | ⟨0, _⟩ => exact (Nat.zero_add _).symm | ⟨1, _⟩ => exact (Nat.zero_add _).symm | ⟨2, _⟩ => exact (Nat.zero_add _).symm
      refine e _ _ ?_
      unfold chS cf
      rw [if_pos h]
      split <;> omega
  · rw [if_neg h, reverse_val]
    refine e _ _ ?_
    unfold chS cb
    rw [if_neg h]

/-- The states on their chunks, zero after the last one. -/
def backR (H : FVec Ideal S528x64x256 .f32) : FVec Ideal S64x256x640 .f32 :=
  pad S64x256x640 ![0, 0, 0] ![0, 0, 112] ![0, 0, 0]
    (transpose S64x256x528 [1, 2, 0]
      (select maskR
        (concatenate S528x64x256 0
          [⟨S512x64x256, extractStridedSlice S512x64x256 ![16, 0, 0] H slices_S528x64x256_S512x64x256_16_0_0⟩,
            ⟨S16x64x256, extractStridedSlice S16x64x256 ![0, 0, 0] H slices_S528x64x256_S16x64x256_0_0_0⟩]
          concatenates_S512x64x256_S16x64x256_S528x64x256_d0)
        (Host.reverse [0] H)) transposes_S528x64x256_S64x256x528_1_2_0)
    (constant S_ .f32 0x00000000#32) pads_S64x256x528_S64x256x640_000_000_01120 h_S_

theorem backR_val (H : FVec Ideal S528x64x256 .f32)
    (hH : ∀ (i : Fin 528) (G : Fin 64) (q : Fin 256), H (ix3 (n0 := 528) (n1 := 64) (n2 := 256) i G q) = rowS A0 A1 A2 A4 i.val G q)
    (G : Fin 64) (q : Fin 256) (n : Fin 640) :
    backR H (ix3 (n0 := 64) (n1 := 256) (n2 := 640) G q n) = hS A0 A1 A2 A4 G q n := by
  have hn := n.isLt
  unfold backR hS
  by_cases h : n.val < 528
  · rw [if_pos h]
    have e : ∀ s, (hs : s < 528) → tmS (q.val % 128) n.val = s →
        H (ix3 (n0 := 528) (n1 := 64) (n2 := 256) ⟨s, hs⟩ G q) = rowS A0 A1 A2 A4 (tmS (q.val % 128) n.val) G q := by
      rintro s hs rfl; exact hH _ G q
    refine (pad_apply_of_inside (s := S64x256x528) _ _ _ _ _ _ _ _ (ix3 (n0 := 64) (n1 := 256) (n2 := 528) G q ⟨n.val, h⟩) ?_).trans ?_
    · intro b
      match b with
      | ⟨0, _⟩ => show G.val = 0 + G.val * (0 + 1); omega
      | ⟨1, _⟩ => show q.val = 0 + q.val * (0 + 1); omega
      | ⟨2, _⟩ => show n.val = 0 + n.val * (0 + 1); omega
    refine (transpose_apply (s := S528x64x256) _ _ _ _ (ix3 (n0 := 528) (n1 := 64) (n2 := 256) ⟨n.val, h⟩ G q) ?_).trans ?_
    · intro b; match b with | ⟨0, _⟩ => rfl | ⟨1, _⟩ => rfl | ⟨2, _⟩ => rfl
    rw [maskR_select]
    by_cases h3 : q.val % 128 < 64
    · rw [if_pos h3]
      by_cases h2 : n.val < 512
      · refine (concatenate_pair_apply_left (t := S528x64x256) (s₁ := S512x64x256) (s₂ := S16x64x256) 0 _ _ _ _ rfl
          (ix3 (n0 := 512) (n1 := 64) (n2 := 256) ⟨n.val, h2⟩ G q) ?_).trans ?_
        · intro b; match b with | ⟨0, _⟩ => rfl | ⟨1, _⟩ => rfl | ⟨2, _⟩ => rfl
        refine (extractStridedSlice_apply (s := S528x64x256) _ _ _ _ (ix3 (n0 := 528) (n1 := 64) (n2 := 256) ⟨16 + n.val, by omega⟩ G q) ?_).trans ?_
        · intro b; match b with | ⟨0, _⟩ => rfl | ⟨1, _⟩ => exact (Nat.zero_add _).symm | ⟨2, _⟩ => exact (Nat.zero_add _).symm
        refine e _ _ ?_
        unfold tmS
        rw [if_pos h3, if_neg (by omega)]
        omega
      · refine (concatenate_pair_apply_right (t := S528x64x256) (s₁ := S512x64x256) (s₂ := S16x64x256) 0 _ _ _ _ rfl rfl
          (ix3 (n0 := 16) (n1 := 64) (n2 := 256) ⟨n.val - 512, by omega⟩ G q) ?_ ?_).trans ?_
        · intro b hb; match b with | ⟨0, _⟩ => exact absurd rfl hb | ⟨1, _⟩ => rfl | ⟨2, _⟩ => rfl
        · show n.val - 512 + 512 = n.val; omega
        refine (extractStridedSlice_apply (s := S528x64x256) _ _ _ _ (ix3 (n0 := 528) (n1 := 64) (n2 := 256) ⟨n.val - 512, by omega⟩ G q) ?_).trans ?_
        · intro b; match b with | ⟨0, _⟩ => exact (Nat.zero_add _).symm | ⟨1, _⟩ => exact (Nat.zero_add _).symm | ⟨2, _⟩ => exact (Nat.zero_add _).symm
        refine e _ _ ?_
        unfold tmS
        rw [if_pos h3, if_pos (by omega)]
    · rw [if_neg h3, reverse_val]
      refine e _ _ ?_
      unfold tmS
      rw [if_neg h3]
  · rw [if_neg h]
    refine (pad_apply_of_not_inside (s := S64x256x528) _ _ _ _ _ _ _ _ 2 ?_).trans Ideal.ofBits_zero_f32
    show ¬ (0 ≤ n.val ∧ (n.val - 0) % (0 + 1) = 0 ∧ (n.val - 0) / (0 + 1) < 528)
    omega

/-- The reference's result, before it is put in the two arrays' order. -/
def resR (H : FVec Ideal S528x64x256 .f32) : FVec Ideal S64x256x640 .bf16 :=
  truncf .bf16 (addf
    (Host.dotGeneral dot_S64x256x256_S64x256x640_S64x256x640_2_1_1_2_0_0 none
      (extf .f32 (shapeCast S64x256x256 (extractStridedSlice S1x64x256x256 ![0, 0, 0, 0] A2 slices_S2x64x512x256_S1x64x256x256_0_0_0_0)
        shapeCasts_S1x64x256x256_S64x256x256) bitsLt_bf16_f32) (chunksR A0 A1))
    (Host.dotGeneral dot_S64x256x256_S64x256x640_S64x256x640_2_1_1_2_0_0 none
      (extf .f32 (shapeCast S64x256x256 (extractStridedSlice S1x64x256x256 ![0, 0, 0, 0] A3 slices_S2x64x256x256_S1x64x256x256_0_0_0_0)
        shapeCasts_S1x64x256x256_S64x256x256) bitsLt_bf16_f32) (backR H))) bitsLt_bf16_f32

theorem resR_val (H : FVec Ideal S528x64x256 .f32)
    (hH : ∀ (i : Fin 528) (G : Fin 64) (q : Fin 256), H (ix3 (n0 := 528) (n1 := 64) (n2 := 256) i G q) = rowS A0 A1 A2 A4 i.val G q)
    (G : Fin 64) (i : Fin 256) (n : Fin 640) :
    resR A0 A1 A2 A3 H (ix3 (n0 := 64) (n1 := 256) (n2 := 640) G i n) = yS A0 A1 A2 A3 A4 G i n := by
  unfold resR yS rS
  refine congrArg₂ (fun a b : EReal => a + b) ?_ ?_
  · refine (StackMember.dotGeneral_stack_apply _ none _ _ G i n).trans ?_
    refine Finset.sum_congr rfl fun k _ => congrArg₂ (· * ·) ?_ (chunksR_val A0 A1 G k n)
    refine (operR_val _ G i k).trans ?_
    refine extractStridedSlice_apply (s := S2x64x512x256) _ _ _ _ _ ?_
    intro b
    match b with
    | ⟨0, _⟩ => rfl
    | ⟨1, _⟩ => exact (Nat.zero_add _).symm
    | ⟨2, _⟩ => exact (Nat.zero_add _).symm
    | ⟨3, _⟩ => exact (Nat.zero_add _).symm
  · refine (StackMember.dotGeneral_stack_apply _ none _ _ G i n).trans ?_
    refine Finset.sum_congr rfl fun k _ => congrArg₂ (· * ·) ?_ (backR_val A0 A1 A2 A4 H hH G k n)
    refine (operR_val _ G i k).trans ?_
    refine extractStridedSlice_apply (s := S2x64x256x256) _ _ _ _ _ ?_
    intro b
    match b with
    | ⟨0, _⟩ => rfl
    | ⟨1, _⟩ => exact (Nat.zero_add _).symm
    | ⟨2, _⟩ => exact (Nat.zero_add _).symm
    | ⟨3, _⟩ => exact (Nat.zero_add _).symm

theorem latentR (Y : FVec Ideal S64x256x640 .bf16)
    (hY : ∀ (G : Fin 64) (i : Fin 256) (n : Fin 640), Y (ix3 (n0 := 64) (n1 := 256) (n2 := 640) G i n) = yS A0 A1 A2 A3 A4 G i n) :
    shapeCast S1024x8192 (transpose S64x16x4x16x128 [0, 2, 3, 1, 4] (shapeCast S64x16x16x4x128
      (extractStridedSlice S64x256x512 ![0, 0, 0] Y slices_S64x256x640_S64x256x512_0_0_0) shapeCasts_S64x256x512_S64x16x16x4x128)
      transposes_S64x16x16x4x128_S64x16x4x16x128_0_2_3_1_4) shapeCasts_S64x16x4x16x128_S1024x8192 = ylS A0 A1 A2 A3 A4 := by
  funext j
  obtain ⟨a, ha⟩ : ∃ a : Fin 1024, a = j 0 := ⟨_, rfl⟩
  obtain ⟨b, hb⟩ : ∃ b : Fin 8192, b = j 1 := ⟨_, rfl⟩
  have ej : j = ix2 (n0 := 1024) (n1 := 8192) a b := by
    funext x; match x with | ⟨0, _⟩ => exact ha.symm | ⟨1, _⟩ => exact hb.symm
  subst ej
  have h1 := a.isLt
  have h2 := b.isLt
  refine (shapeCast_apply (s := S64x16x4x16x128) _ _ _ (ix5 (n0 := 64) (n1 := 16) (n2 := 4) (n3 := 16) (n4 := 128) ⟨a.val / 16, by omega⟩ ⟨a.val % 16, by omega⟩
    ⟨b.val / 2048, by omega⟩ ⟨b.val % 2048 / 128, by omega⟩ ⟨b.val % 128, by omega⟩) ?_).trans ?_
  · rw [Shape.rowMajor_val_five, Shape.rowMajor_val_two]
    show (((a.val / 16 * 16 + a.val % 16) * 4 + b.val / 2048) * 16 + b.val % 2048 / 128) * 128 + b.val % 128 = a.val * 8192 + b.val
    omega
  refine (transpose_apply (s := S64x16x16x4x128) _ _ _ _ (ix5 (n0 := 64) (n1 := 16) (n2 := 16) (n3 := 4) (n4 := 128) ⟨a.val / 16, by omega⟩
    ⟨b.val % 2048 / 128, by omega⟩ ⟨a.val % 16, by omega⟩ ⟨b.val / 2048, by omega⟩ ⟨b.val % 128, by omega⟩) ?_).trans ?_
  · intro b; match b with | ⟨0, _⟩ => rfl | ⟨1, _⟩ => rfl | ⟨2, _⟩ => rfl | ⟨3, _⟩ => rfl | ⟨4, _⟩ => rfl
  refine (shapeCast_apply (s := S64x256x512) _ _ _ (ix3 (n0 := 64) (n1 := 256) (n2 := 512) ⟨a.val / 16, by omega⟩
    ⟨16 * (b.val % 2048 / 128) + a.val % 16, by omega⟩ ⟨128 * (b.val / 2048) + b.val % 128, by omega⟩) ?_).trans ?_
  · rw [Shape.rowMajor_val_five, Shape.rowMajor_val_three]
    show (a.val / 16 * 256 + (16 * (b.val % 2048 / 128) + a.val % 16)) * 512 + (128 * (b.val / 2048) + b.val % 128)
      = (((a.val / 16 * 16 + b.val % 2048 / 128) * 16 + a.val % 16) * 4 + b.val / 2048) * 128 + b.val % 128
    omega
  refine (extractStridedSlice_apply (s := S64x256x640) _ _ _ _ (ix3 (n0 := 64) (n1 := 256) (n2 := 640) ⟨a.val / 16, by omega⟩
    ⟨16 * (b.val % 2048 / 128) + a.val % 16, by omega⟩ ⟨128 * (b.val / 2048) + b.val % 128, by omega⟩) ?_).trans (hY _ _ _)
  intro b; match b with | ⟨0, _⟩ => exact (Nat.zero_add _).symm | ⟨1, _⟩ => exact (Nat.zero_add _).symm | ⟨2, _⟩ => exact (Nat.zero_add _).symm

theorem contextR (Y : FVec Ideal S64x256x640 .bf16)
    (hY : ∀ (G : Fin 64) (i : Fin 256) (n : Fin 640), Y (ix3 (n0 := 64) (n1 := 256) (n2 := 640) G i n) = yS A0 A1 A2 A3 A4 G i n) :
    shapeCast S16x1024x128 (transpose S16x64x16x128 [1, 0, 2, 3] (shapeCast S64x16x16x128
      (extractStridedSlice S64x256x128 ![0, 0, 512] Y slices_S64x256x640_S64x256x128_0_0_512) shapeCasts_S64x256x128_S64x16x16x128)
      transposes_S64x16x16x128_S16x64x16x128_1_0_2_3) shapeCasts_S16x64x16x128_S16x1024x128 = ycS A0 A1 A2 A3 A4 := by
  funext j
  obtain ⟨a, ha⟩ : ∃ a : Fin 16, a = j 0 := ⟨_, rfl⟩
  obtain ⟨b, hb⟩ : ∃ b : Fin 1024, b = j 1 := ⟨_, rfl⟩
  obtain ⟨d, hd⟩ : ∃ d : Fin 128, d = j 2 := ⟨_, rfl⟩
  have ej : j = ix3 (n0 := 16) (n1 := 1024) (n2 := 128) a b d := by
    funext x; match x with | ⟨0, _⟩ => exact ha.symm | ⟨1, _⟩ => exact hb.symm | ⟨2, _⟩ => exact hd.symm
  subst ej
  have h1 := a.isLt
  have h2 := b.isLt
  have h3 := d.isLt
  refine (shapeCast_apply (s := S16x64x16x128) _ _ _ (ix4 (n0 := 16) (n1 := 64) (n2 := 16) (n3 := 128) a ⟨b.val / 16, by omega⟩ ⟨b.val % 16, by omega⟩ d) ?_).trans ?_
  · rw [Shape.rowMajor_val_four, Shape.rowMajor_val_three]
    show ((a.val * 64 + b.val / 16) * 16 + b.val % 16) * 128 + d.val = (a.val * 1024 + b.val) * 128 + d.val
    omega
  refine (transpose_apply (s := S64x16x16x128) _ _ _ _ (ix4 (n0 := 64) (n1 := 16) (n2 := 16) (n3 := 128) ⟨b.val / 16, by omega⟩ a ⟨b.val % 16, by omega⟩ d) ?_).trans ?_
  · intro b; match b with | ⟨0, _⟩ => rfl | ⟨1, _⟩ => rfl | ⟨2, _⟩ => rfl | ⟨3, _⟩ => rfl
  refine (shapeCast_apply (s := S64x256x128) _ _ _ (ix3 (n0 := 64) (n1 := 256) (n2 := 128) ⟨b.val / 16, by omega⟩ ⟨16 * a.val + b.val % 16, by omega⟩ d) ?_).trans ?_
  · rw [Shape.rowMajor_val_four, Shape.rowMajor_val_three]
    show (b.val / 16 * 256 + (16 * a.val + b.val % 16)) * 128 + d.val = ((b.val / 16 * 16 + a.val) * 16 + b.val % 16) * 128 + d.val
    omega
  refine (extractStridedSlice_apply (s := S64x256x640) _ _ _ _ (ix3 (n0 := 64) (n1 := 256) (n2 := 640) ⟨b.val / 16, by omega⟩
    ⟨16 * a.val + b.val % 16, by omega⟩ ⟨512 + d.val, by omega⟩) ?_).trans (hY _ _ _)
  intro b; match b with | ⟨0, _⟩ => exact (Nat.zero_add _).symm | ⟨1, _⟩ => exact (Nat.zero_add _).symm | ⟨2, _⟩ => rfl

theorem weightR :
    truncf .bf16 (mulf (select (cmpi .slt (iotaInDim S1x2048x2048 32 1) (broadcastInDim S1x2048x2048 ![] bcast_S_S1x2048x2048 (constantI S_ 32 1024#32)))
      (broadcastInDim S1x2048x2048 ![] bcast_S_S1x2048x2048 (constant S_ .f32 0x3E800000#32))
      (broadcastInDim S1x2048x2048 ![] bcast_S_S1x2048x2048 (constant S_ .f32 0x3F800000#32)))
      (extractStridedSlice S1x2048x2048 ![0, 0, 0] A5 slices_S2x2048x2048_S1x2048x2048_0_0_0)) bitsLt_bf16_f32 = woS A5 := by
  funext j
  have h1 : (j 1).val < 2048 := (j 1).isLt
  unfold woS
  refine congrArg₂ (fun a b : EReal => a * b) (select_slt (j 1).val 1024 (by omega) (by omega) _ _) ?_
  refine extractStridedSlice_apply (s := S2x2048x2048) _ _ _ _ _ ?_
  intro b
  match b with
  | ⟨0, _⟩ => show 0 = 0 + (j 0).val; have : (j 0).val < 1 := (j 0).isLt; omega
  | ⟨1, _⟩ => exact (Nat.zero_add _).symm
  | ⟨2, _⟩ => exact (Nat.zero_add _).symm

end Cert.Proof.S5

end
-- ==== Proof.S5.RefRun.lean ====
/-
  Hand-written, untrusted. The reference's run over the extended reals: its loop's carried arrays after `k` trips are the
  recursion's `k`-th states and the rows of the earlier ones, so that its results are Spec.lean's.
-/
module

public import proofs.«01_k».proof.Proof.S5.RefArr
public import Idealize.ShloMosaic.Lib.WordArith

@[expose] public section

set_option maxRecDepth 4096

noncomputable section

namespace Cert.Proof.S5

open Cert.ReferenceIdeal Cert.ReferenceIdeal.Gen Cert.ReferenceIdeal.Value
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

abbrev R0 : FVec Ideal S1024x8192 .bf16 := m ((c.tc : Thread nD τ).loc main_arg0)
abbrev R1 : FVec Ideal S16x1024x128 .bf16 := m ((c.tc : Thread nD τ).loc main_arg1)
abbrev R2 : FVec Ideal S2x64x512x256 .bf16 := m ((c.tc : Thread nD τ).loc main_arg2)
abbrev R3 : FVec Ideal S2x64x256x256 .bf16 := m ((c.tc : Thread nD τ).loc main_arg3)
abbrev R4 : FVec Ideal S2x2x64x128 .f32 := m ((c.tc : Thread nD τ).loc main_arg4)
abbrev R5 : FVec Ideal S2x2048x2048 .f32 := m ((c.tc : Thread nD τ).loc main_arg5)

/-! ## At the loop's entry -/

theorem entry_src : entryContents preI m c (Proc.devRef .tc main_v30_0) = srcR (R0 m c) (R1 m c) (R2 m c) := by
  simp only [entryContents, afterL_cons, afterL_nil]
  after_reads_simp
  rfl

theorem entry_re : entryContents preI m c (Proc.devRef .tc main_v30_1)
    = shapeCast S64x128 (extractStridedSlice S1x1x64x128 ![0, 0, 0, 0] (R4 m c) slices_S2x2x64x128_S1x1x64x128_0_0_0_0) shapeCasts_S1x1x64x128_S64x128 := by
  simp only [entryContents, afterL_cons, afterL_nil]
  after_reads_simp
  rfl

theorem entry_im : entryContents preI m c (Proc.devRef .tc main_v30_2)
    = shapeCast S64x128 (extractStridedSlice S1x1x64x128 ![0, 1, 0, 0] (R4 m c) slices_S2x2x64x128_S1x1x64x128_0_1_0_0) shapeCasts_S1x1x64x128_S64x128 := by
  simp only [entryContents, afterL_cons, afterL_nil]
  after_reads_simp
  rfl

theorem entry_k : entryContents preI m c (Proc.devRef .tc main_v30_4) = constantI S_ 32 0#32 := by
  simp only [entryContents, afterL_cons, afterL_nil]
  after_reads_simp
  rfl

theorem entry_hr : entryContents preI m c (Proc.devRef .tc main_v30_5) = fun _ => (Ideal.ofBits .f32 0#32 : EReal) := by
  simp only [entryContents, afterL_cons, afterL_nil]
  after_reads_simp
  rfl

theorem entry_hi : entryContents preI m c (Proc.devRef .tc main_v30_6) = fun _ => (Ideal.ofBits .f32 0#32 : EReal) := by
  simp only [entryContents, afterL_cons, afterL_nil]
  after_reads_simp
  rfl

theorem multR (p : Fin 2) (h : S2x2x64x128.Slices ![0, p.val, 0, 0] S1x1x64x128) (G : Fin 64) (l : Fin 128) :
    shapeCast S64x128 (extractStridedSlice S1x1x64x128 ![0, p.val, 0, 0] (R4 m c) h) shapeCasts_S1x1x64x128_S64x128 (ix2 (n0 := 64) (n1 := 128) G l)
      = R4 m c (ix4 (n0 := 2) (n1 := 2) (n2 := 64) (n3 := 128) 0 p G l) := by
  refine (shapeCast_apply (s := S1x1x64x128) _ _ _ (ix4 (n0 := 1) (n1 := 1) (n2 := 64) (n3 := 128) 0 0 G l) ?_).trans ?_
  · rw [Shape.rowMajor_val_four, Shape.rowMajor_val_two]
    show ((0 * 1 + 0) * 64 + G.val) * 128 + l.val = G.val * 128 + l.val
    omega
  refine extractStridedSlice_apply (s := S2x2x64x128) _ _ _ _ _ ?_
  intro b
  match b with
  | ⟨0, _⟩ => rfl
  | ⟨1, _⟩ => rfl
  | ⟨2, _⟩ => exact (Nat.zero_add _).symm
  | ⟨3, _⟩ => exact (Nat.zero_add _).symm

/-! ## The loop -/

/-- The carried arrays after `k` trips. -/
abbrev at' (k : ℕ) : Valuation τ sig (Elt Ideal) := STEP^[k] (entryContents preI m c)

theorem at'_succ (k : ℕ) : at' m c (k + 1) = STEP (at' m c k) := Function.iterate_succ_apply' _ _ _

theorem at'_src (k : ℕ) : at' m c k (Proc.devRef .tc main_v30_0) = srcR (R0 m c) (R1 m c) (R2 m c) := by
  induction k with
  | zero => exact entry_src m c
  | succ k ih => rw [at'_succ, STEP_main_v30_0]; exact ih

theorem at'_re (k : ℕ) : at' m c k (Proc.devRef .tc main_v30_1) = at' m c 0 (Proc.devRef .tc main_v30_1) := by
  induction k with
  | zero => rfl
  | succ k ih => rw [at'_succ, STEP_main_v30_1]; exact ih

theorem at'_im (k : ℕ) : at' m c k (Proc.devRef .tc main_v30_2) = at' m c 0 (Proc.devRef .tc main_v30_2) := by
  induction k with
  | zero => rfl
  | succ k ih => rw [at'_succ, STEP_main_v30_2]; exact ih

theorem at'_k (k : ℕ) : at' m c k (Proc.devRef .tc main_v30_4) = fun _ => (BitVec.ofNat 32 k : BitVec 32) := by
  induction k with
  | zero => exact entry_k m c
  | succ k ih =>
    rw [at'_succ, STEP_main_v30_4]
    unfold step_main_v30_4
    rw [ih]
    funext x
    show BitVec.ofNat 32 k + BitVec.ofNat 32 1 = BitVec.ofNat 32 (k + 1)
    rw [← BitVec.ofNat_add]

/-- A trip's place in the stacked arrays is its number. -/
theorem place (k : ℕ) (hk : k < 528) : ∀ a : Fin 3,
    ((((![select (cmpi .slt (at' m c k (Proc.devRef .tc main_v30_4)) (constantI S_ 32 0#32))
        (addi (id (at' m c k (Proc.devRef .tc main_v30_4))) (constantI S_ 32 528#32)) (at' m c k (Proc.devRef .tc main_v30_4)),
      constantI S_ 32 0#32, constantI S_ 32 0#32] : Fin 3 → (⟨S_, .i32⟩ : BufTy).Contents (Elt Ideal))) a (Shape.Idx.first h_S_)).toInt)
      = ((![k, 0, 0] : Fin 3 → ℕ) a : Int) := by
  intro a
  rw [at'_k]
  match a with
  | ⟨0, _⟩ =>
    show (Scalar.select (IntOp.cmpi .slt (BitVec.ofNat 32 k) (BitVec.ofNat 32 0)) _ (BitVec.ofNat 32 k)).toInt = (k : Int)
    rw [select_slt k 0 (by omega) (by omega), if_neg (by omega)]
    exact WordArith.toInt_ofNat_small k (by omega)
  | ⟨1, _⟩ => rfl
  | ⟨2, _⟩ => rfl

theorem added (k : ℕ) (hk : k < 528) (G : Fin 64) (q : Fin 256) :
    res_main_while0b_v84 (at' m c k) (ix2 (n0 := 64) (n1 := 256) G q) = inS (R0 m c) (R1 m c) (R2 m c) G q k := by
  have hf : S528x64x256.Slices ![k, 0, 0] S1x64x256 := ⟨rfl, fun a => by
    match a with
    | ⟨0, _⟩ => show k + 1 ≤ 528; omega
    | ⟨1, _⟩ => show 0 + 64 ≤ 64; omega
    | ⟨2, _⟩ => show 0 + 256 ≤ 256; omega⟩
  unfold res_main_while0b_v84
  rw [WordCmp.dynamicSlice_eq_extract S1x64x256 _ _ _ ![k, 0, 0] hf (place m c k hk), at'_src]
  refine (shapeCast_apply (s := S1x64x256) _ _ _ (ix3 (n0 := 1) (n1 := 64) (n2 := 256) 0 G q) ?_).trans ?_
  · rw [Shape.rowMajor_val_three, Shape.rowMajor_val_two]
    show (0 * 64 + G.val) * 256 + q.val = G.val * 256 + q.val
    omega
  refine (extractStridedSlice_apply (s := S528x64x256) _ _ _ _ (ix3 (n0 := 528) (n1 := 64) (n2 := 256) ⟨k, hk⟩ G q) ?_).trans
    (srcR_val (R0 m c) (R1 m c) (R2 m c) ⟨k, hk⟩ G q)
  intro b; match b with | ⟨0, _⟩ => rfl | ⟨1, _⟩ => exact (Nat.zero_add _).symm | ⟨2, _⟩ => exact (Nat.zero_add _).symm

/-- The states after `k` trips. -/
theorem at'_states (k : ℕ) (hk : k ≤ 528) (G : Fin 64) (l : Fin 128) :
    at' m c k (Proc.devRef .tc main_v30_5) (ix2 (n0 := 64) (n1 := 128) G l) = (trS (R0 m c) (R1 m c) (R2 m c) (R4 m c) k G l).1
    ∧ at' m c k (Proc.devRef .tc main_v30_6) (ix2 (n0 := 64) (n1 := 128) G l) = (trS (R0 m c) (R1 m c) (R2 m c) (R4 m c) k G l).2 := by
  induction k with
  | zero =>
    rw [trS_zero]
    exact ⟨(congrFun (entry_hr m c) _).trans Ideal.ofBits_zero_f32, (congrFun (entry_hi m c) _).trans Ideal.ofBits_zero_f32⟩
  | succ k ih =>
    obtain ⟨i1, i2⟩ := ih (by omega)
    have a1 : at' m c k (Proc.devRef .tc main_v30_1) (ix2 (n0 := 64) (n1 := 128) G l) = R4 m c (ix4 (n0 := 2) (n1 := 2) (n2 := 64) (n3 := 128) 0 0 G l) :=
      (congrFun ((at'_re m c k).trans (entry_re m c)) _).trans (multR m c 0 _ G l)
    have a2 : at' m c k (Proc.devRef .tc main_v30_2) (ix2 (n0 := 64) (n1 := 128) G l) = R4 m c (ix4 (n0 := 2) (n1 := 2) (n2 := 64) (n3 := 128) 0 1 G l) :=
      (congrFun ((at'_im m c k).trans (entry_im m c)) _).trans (multR m c 1 _ G l)
    have p1 : extractStridedSlice S64x128 ![0, 0] (res_main_while0b_v84 (at' m c k)) slices_S64x256_S64x128_0_0 (ix2 (n0 := 64) (n1 := 128) G l)
        = inS (R0 m c) (R1 m c) (R2 m c) G ⟨l.val, by omega⟩ k := by
      refine (extractStridedSlice_apply (s := S64x256) _ _ _ _ (ix2 (n0 := 64) (n1 := 256) G ⟨l.val, by omega⟩) ?_).trans (added m c k (by omega) G _)
      intro b; match b with | ⟨0, _⟩ => exact (Nat.zero_add _).symm | ⟨1, _⟩ => exact (Nat.zero_add _).symm
    have p2 : extractStridedSlice S64x128 ![0, 128] (res_main_while0b_v84 (at' m c k)) slices_S64x256_S64x128_0_128 (ix2 (n0 := 64) (n1 := 128) G l)
        = inS (R0 m c) (R1 m c) (R2 m c) G ⟨128 + l.val, by omega⟩ k := by
      refine (extractStridedSlice_apply (s := S64x256) _ _ _ _ (ix2 (n0 := 64) (n1 := 256) G ⟨128 + l.val, by omega⟩) ?_).trans (added m c k (by omega) G _)
      intro b; match b with | ⟨0, _⟩ => exact (Nat.zero_add _).symm | ⟨1, _⟩ => rfl
    rw [trS_succ, at'_succ, STEP_main_v30_5, STEP_main_v30_6]
    dsimp only
    rw [← i1, ← i2, ← p1, ← p2, ← a1, ← a2]
    exact ⟨rfl, rfl⟩

/-- The stacked states after `k` trips: the rows of the states before each. -/
theorem at'_rows (k : ℕ) (hk : k ≤ 528) (i : Fin 528) (hi : i.val < k) (G : Fin 64) (q : Fin 256) :
    at' m c k (Proc.devRef .tc main_v30_7) (ix3 (n0 := 528) (n1 := 64) (n2 := 256) i G q)
      = rowS (R0 m c) (R1 m c) (R2 m c) (R4 m c) i.val G q := by
  induction k with
  | zero => omega
  | succ k ih =>
    have hq := q.isLt
    have hf : S528x64x256.Slices ![k, 0, 0] S1x64x256 := ⟨rfl, fun a => by
      match a with
      | ⟨0, _⟩ => show k + 1 ≤ 528; omega
      | ⟨1, _⟩ => show 0 + 64 ≤ 64; omega
      | ⟨2, _⟩ => show 0 + 256 ≤ 256; omega⟩
    rw [at'_succ, STEP_main_v30_7]
    unfold step_main_v30_7
    dsimp only [id]
    rw [WordCmp.dynamicUpdateSlice_eq_update _ _ _ _ ![k, 0, 0] hf (place m c k (by omega)), updateSlice_apply]
    by_cases h : i.val = k
    · rw [dif_pos (fun a => by
        match a with
        | ⟨0, _⟩ => exact ⟨show k ≤ i.val by omega, show i.val < k + 1 by omega⟩
        | ⟨1, _⟩ => exact ⟨Nat.zero_le _, show G.val < 0 + 64 by omega⟩
        | ⟨2, _⟩ => exact ⟨Nat.zero_le _, show q.val < 0 + 256 by omega⟩)]
      refine (shapeCast_apply (s := S64x256) _ _ _ (ix2 (n0 := 64) (n1 := 256) G q) ?_).trans ?_
      · rw [Shape.rowMajor_val_three, Shape.rowMajor_val_two]
        show G.val * 256 + q.val = ((i.val - k) * 64 + (G.val - 0)) * 256 + (q.val - 0)
        omega
      unfold rowS
      rw [h]
      by_cases h2 : q.val < 128
      · rw [dif_pos h2]
        refine (concatenate_pair_apply_left (t := S64x256) (s₁ := S64x128) (s₂ := S64x128) 1 _ _ _ _ rfl (ix2 (n0 := 64) (n1 := 128) G ⟨q.val, h2⟩) ?_).trans
          (at'_states m c k (by omega) G ⟨q.val, h2⟩).1
        intro b; match b with | ⟨0, _⟩ => rfl | ⟨1, _⟩ => rfl
      · rw [dif_neg h2]
        refine (concatenate_pair_apply_right (t := S64x256) (s₁ := S64x128) (s₂ := S64x128) 1 _ _ _ _ rfl rfl (ix2 (n0 := 64) (n1 := 128) G ⟨q.val - 128, by omega⟩) ?_ ?_).trans
          (at'_states m c k (by omega) G ⟨q.val - 128, by omega⟩).2
        · intro b hb; match b with | ⟨0, _⟩ => rfl | ⟨1, _⟩ => exact absurd rfl hb
        · show q.val - 128 + 128 = q.val; omega
    · rw [dif_neg (fun e => h (by
        have := e 0
        have e1 : k ≤ i.val := this.1
        omega))]
      exact ih (by omega) (by omega)

/-! ## The results -/

theorem out_latent : out_main_v64 (at' m c 528) = ylS (R0 m c) (R1 m c) (R2 m c) (R3 m c) (R4 m c) := by
  unfold out_main_v64
  rw [show at' m c 528 (Proc.devRef .tc main_arg0) = R0 m c from iter_main_arg0 m c 528,
    show at' m c 528 (Proc.devRef .tc main_arg1) = R1 m c from iter_main_arg1 m c 528,
    show at' m c 528 (Proc.devRef .tc main_arg2) = R2 m c from iter_main_arg2 m c 528,
    show at' m c 528 (Proc.devRef .tc main_arg3) = R3 m c from iter_main_arg3 m c 528]
  exact latentR (R0 m c) (R1 m c) (R2 m c) (R3 m c) (R4 m c) _
    (resR_val (R0 m c) (R1 m c) (R2 m c) (R3 m c) (R4 m c) _ fun i G q => at'_rows m c 528 (le_refl _) i i.isLt G q)

theorem out_context : out_main_v68 (at' m c 528) = ycS (R0 m c) (R1 m c) (R2 m c) (R3 m c) (R4 m c) := by
  unfold out_main_v68
  rw [show at' m c 528 (Proc.devRef .tc main_arg0) = R0 m c from iter_main_arg0 m c 528,
    show at' m c 528 (Proc.devRef .tc main_arg1) = R1 m c from iter_main_arg1 m c 528,
    show at' m c 528 (Proc.devRef .tc main_arg2) = R2 m c from iter_main_arg2 m c 528,
    show at' m c 528 (Proc.devRef .tc main_arg3) = R3 m c from iter_main_arg3 m c 528]
  exact contextR (R0 m c) (R1 m c) (R2 m c) (R3 m c) (R4 m c) _
    (resR_val (R0 m c) (R1 m c) (R2 m c) (R3 m c) (R4 m c) _ fun i G q => at'_rows m c 528 (le_refl _) i i.isLt G q)

theorem out_weight : out_main_v77 (at' m c 528) = woS (R5 m c) := by
  unfold out_main_v77
  rw [show at' m c 528 (Proc.devRef .tc main_arg5) = R5 m c from iter_main_arg5 m c 528]
  exact weightR (R5 m c)

end Cert.Proof.S5

end
-- ==== Proof.InProj.Ring.lean ====
/-
  Hand-written, untrusted. The transfer ring of the input projection's kernel: each grid step's rows arrive by four copies, one
  per plane, into one of two slots, each on a cell of its own; the copies of the next step's rows are started a step ahead.
-/
module

public import proofs.«01_k».proof.Proof.Gen.Kernel2Ideal.Frame

@[expose] public section

set_option maxRecDepth 16384

noncomputable section

namespace Cert.Proof.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The scratch, the operand and the cells -/

abbrev planes : Memref sig .tc .vmem S2x4x128x2048 .f32 := Memref.whole cc0_scratch0
abbrev rowsM : Memref sig .tc .vmem S512x2048 .bf16 := Memref.whole cc0_scratch2
abbrev xM : Memref sig .tc .hbm S512x16x2048 .f32 := Memref.whole main_v0

/-- The contents of the operand in HBM. -/
abbrev XBuf (c : Dev nD) : Type := Buf (Elt F) (xM.view.loc (c : Thread nD τ))

instance : NeZero grid0.N := ⟨by rw [N_0]; decide⟩

theorem inb_slot (s : Fin 2) (j : Fin 4) : ∀ a, (![s.val, j.val, 0, 0] : Fin 4 → Nat) a + S1x1x128x2048.size a ≤ S2x4x128x2048.size a := by
  have := s.isLt; have := j.isLt; intro a; fin_cases a <;> simp <;> omega
theorem inb_src (b : Fin 16) (j : Fin 4) : ∀ a, (![128 * (b.val / 4), 4 * (b.val % 4) + j.val, 0] : Fin 3 → Nat) a + S128x1x2048.size a ≤ S512x16x2048.size a := by
  have := b.isLt; have := j.isLt; intro a; fin_cases a <;> simp <;> omega
theorem inb_cell (s : Fin 2) (j : Fin 4) : ∀ a, (![s.val, j.val] : Fin 2 → Nat) a + S1x1.size a ≤ S2x4.size a := by
  have := s.isLt; have := j.isLt; intro a; fin_cases a <;> simp <;> omega

/-- Plane `j` of slot `s`. -/
def plane (s : Fin 2) (j : Fin 4) : Memref sig .tc .vmem S128x2048 .f32 :=
  (planes.slice (Rect.unit (s := S2x4x128x2048) ![s.val, j.val, 0, 0] S1x1x128x2048.size (inb_slot s j)) (fun _ => rfl)).squeeze S128x2048 squeezes_S1x1x128x2048_S128x2048
/-- The rows that step `b` needs in plane `j`. -/
def rowsOf (b : Fin 16) (j : Fin 4) : Memref sig .tc .hbm S128x2048 .f32 :=
  (xM.slice (Rect.unit (s := S512x16x2048) ![128 * (b.val / 4), 4 * (b.val % 4) + j.val, 0] S128x1x2048.size (inb_src b j)) (fun _ => rfl)).squeeze S128x2048 squeezes_S128x1x2048_S128x2048
/-- The cell of plane `j` of slot `s`. -/
def cellOfPlane (s : Fin 2) (j : Fin 4) : DmaSems sig S_ :=
  (cc0_scratch1.slice (Rect.unit (s := S2x4) ![s.val, j.val] S1x1.size (inb_cell s j))).squeeze S_ squeezes_S1x1_S_
abbrev cellLoc (s : Fin 2) (j : Fin 4) : SemLoc sig := SemLoc.dma (cellOfPlane s j).sem

/-! ## Spellings: the offsets the program computes are those of the slots, blocks and cells -/

theorem plane_spelt {s : Fin 2} {j : Fin 4} {off : Fin 4 → Nat} (h : off = ![s.val, j.val, 0, 0])
    (inb : ∀ a, off a + S1x1x128x2048.size a ≤ S2x4x128x2048.size a) :
    (planes.slice (Rect.unit (s := S2x4x128x2048) off S1x1x128x2048.size inb) (fun _ => rfl)).squeeze S128x2048 squeezes_S1x1x128x2048_S128x2048 = plane s j := by
  subst h; rfl
theorem rows_spelt {b : Fin 16} {j : Fin 4} {off : Fin 3 → Nat} (h : off = ![128 * (b.val / 4), 4 * (b.val % 4) + j.val, 0])
    (inb : ∀ a, off a + S128x1x2048.size a ≤ S512x16x2048.size a) :
    (xM.slice (Rect.unit (s := S512x16x2048) off S128x1x2048.size inb) (fun _ => rfl)).squeeze S128x2048 squeezes_S128x1x2048_S128x2048 = rowsOf b j := by
  subst h; rfl
theorem cell_spelt {s : Fin 2} {j : Fin 4} {off : Fin 2 → Nat} (h : off = ![s.val, j.val])
    (inb : ∀ a, off a + S1x1.size a ≤ S2x4.size a) :
    (cc0_scratch1.slice (Rect.unit (s := S2x4) off S1x1.size inb)).squeeze S_ squeezes_S1x1_S_ = cellOfPlane s j := by
  subst h; rfl

/-- The step is the first; -/
abbrev first (i : grid0.Coords) : Prop := k0_cond1 i = 1#1
/-- another step follows. -/
abbrev more (i : grid0.Coords) : Prop := k0_cond2 i = 1#1
theorem first_iff : ∀ t : Fin cfg0.N, first (grid0.coords t) ↔ t.val = 0 :=
  (by decide +kernel : ∀ t : Fin grid0.N, first (grid0.coords t) ↔ t.val = 0)
theorem more_iff : ∀ t : Fin cfg0.N, more (grid0.coords t) ↔ t.val < 15 :=
  (by decide +kernel : ∀ t : Fin grid0.N, more (grid0.coords t) ↔ t.val < 15)

theorem offs_slot : ∀ t : Fin grid0.N,
    (k0_off2 (grid0.coords t) = ![(Ring.sl 2 t.val).val, 0, 0, 0] ∧ k0_off5 (grid0.coords t) = ![(Ring.sl 2 t.val).val, 1, 0, 0]
      ∧ k0_off7 (grid0.coords t) = ![(Ring.sl 2 t.val).val, 2, 0, 0] ∧ k0_off9 (grid0.coords t) = ![(Ring.sl 2 t.val).val, 3, 0, 0])
    ∧ (k0_off11 (grid0.coords t) = ![(Ring.sl 2 (t.val + 1)).val, 0, 0, 0] ∧ k0_off14 (grid0.coords t) = ![(Ring.sl 2 (t.val + 1)).val, 1, 0, 0]
      ∧ k0_off16 (grid0.coords t) = ![(Ring.sl 2 (t.val + 1)).val, 2, 0, 0] ∧ k0_off18 (grid0.coords t) = ![(Ring.sl 2 (t.val + 1)).val, 3, 0, 0])
    ∧ (k0_off20 (grid0.coords t) = ![(Ring.sl 2 t.val).val, 0, 0, 0] ∧ k0_off23 (grid0.coords t) = ![(Ring.sl 2 t.val).val, 1, 0, 0]
      ∧ k0_off25 (grid0.coords t) = ![(Ring.sl 2 t.val).val, 2, 0, 0] ∧ k0_off27 (grid0.coords t) = ![(Ring.sl 2 t.val).val, 3, 0, 0])
    ∧ (k0_off28 (grid0.coords t) = ![(Ring.sl 2 t.val).val, 0, 0, 0] ∧ k0_off29 (grid0.coords t) = ![(Ring.sl 2 t.val).val, 1, 0, 0]
      ∧ k0_off30 (grid0.coords t) = ![(Ring.sl 2 t.val).val, 2, 0, 0] ∧ k0_off31 (grid0.coords t) = ![(Ring.sl 2 t.val).val, 3, 0, 0]) := by
  decide +kernel
theorem offs_cell : ∀ t : Fin grid0.N,
    (k0_off1 (grid0.coords t) = ![(Ring.sl 2 t.val).val, 0] ∧ k0_off4 (grid0.coords t) = ![(Ring.sl 2 t.val).val, 1]
      ∧ k0_off6 (grid0.coords t) = ![(Ring.sl 2 t.val).val, 2] ∧ k0_off8 (grid0.coords t) = ![(Ring.sl 2 t.val).val, 3])
    ∧ (k0_off10 (grid0.coords t) = ![(Ring.sl 2 (t.val + 1)).val, 0] ∧ k0_off13 (grid0.coords t) = ![(Ring.sl 2 (t.val + 1)).val, 1]
      ∧ k0_off15 (grid0.coords t) = ![(Ring.sl 2 (t.val + 1)).val, 2] ∧ k0_off17 (grid0.coords t) = ![(Ring.sl 2 (t.val + 1)).val, 3])
    ∧ (k0_off19 (grid0.coords t) = ![(Ring.sl 2 t.val).val, 0] ∧ k0_off22 (grid0.coords t) = ![(Ring.sl 2 t.val).val, 1]
      ∧ k0_off24 (grid0.coords t) = ![(Ring.sl 2 t.val).val, 2] ∧ k0_off26 (grid0.coords t) = ![(Ring.sl 2 t.val).val, 3]) := by
  decide +kernel
theorem offs_src : ∀ (t : Fin grid0.N) (j : Fin 4), k0_off3 (grid0.coords t) (BitVec.ofNat 32 j.val)
    = ![128 * ((Ring.bk 16 t.val).val / 4), 4 * ((Ring.bk 16 t.val).val % 4) + j.val, 0] := by
  decide +kernel
theorem offs_next : ∀ (t : Fin grid0.N) (j : Fin 4), more (grid0.coords t) → k0_off12 (grid0.coords t) (BitVec.ofNat 32 j.val)
    = ![128 * ((Ring.bk 16 (t.val + 1)).val / 4), 4 * ((Ring.bk 16 (t.val + 1)).val % 4) + j.val, 0] := by
  decide +kernel

section Canon
variable (t : Fin grid0.N)

@[sl_canon] theorem slot_here0 (h) : (planes.slice (Rect.unit (s := S2x4x128x2048) (k0_off2 (grid0.coords t)) S1x1x128x2048.size (k0_off2_inb (grid0.coords t) h)) (fun _ => rfl)).squeeze S128x2048 squeezes_S1x1x128x2048_S128x2048 = plane (Ring.sl 2 t.val) 0 := plane_spelt (offs_slot t).1.1 _
@[sl_canon] theorem slot_here1 (h) : (planes.slice (Rect.unit (s := S2x4x128x2048) (k0_off5 (grid0.coords t)) S1x1x128x2048.size (k0_off5_inb (grid0.coords t) h)) (fun _ => rfl)).squeeze S128x2048 squeezes_S1x1x128x2048_S128x2048 = plane (Ring.sl 2 t.val) 1 := plane_spelt (offs_slot t).1.2.1 _
@[sl_canon] theorem slot_here2 (h) : (planes.slice (Rect.unit (s := S2x4x128x2048) (k0_off7 (grid0.coords t)) S1x1x128x2048.size (k0_off7_inb (grid0.coords t) h)) (fun _ => rfl)).squeeze S128x2048 squeezes_S1x1x128x2048_S128x2048 = plane (Ring.sl 2 t.val) 2 := plane_spelt (offs_slot t).1.2.2.1 _
@[sl_canon] theorem slot_here3 (h) : (planes.slice (Rect.unit (s := S2x4x128x2048) (k0_off9 (grid0.coords t)) S1x1x128x2048.size (k0_off9_inb (grid0.coords t) h)) (fun _ => rfl)).squeeze S128x2048 squeezes_S1x1x128x2048_S128x2048 = plane (Ring.sl 2 t.val) 3 := plane_spelt (offs_slot t).1.2.2.2 _
@[sl_canon] theorem slot_next0 (h) : (planes.slice (Rect.unit (s := S2x4x128x2048) (k0_off11 (grid0.coords t)) S1x1x128x2048.size (k0_off11_inb (grid0.coords t) h)) (fun _ => rfl)).squeeze S128x2048 squeezes_S1x1x128x2048_S128x2048 = plane (Ring.sl 2 (t.val + 1)) 0 := plane_spelt (offs_slot t).2.1.1 _
@[sl_canon] theorem slot_next1 (h) : (planes.slice (Rect.unit (s := S2x4x128x2048) (k0_off14 (grid0.coords t)) S1x1x128x2048.size (k0_off14_inb (grid0.coords t) h)) (fun _ => rfl)).squeeze S128x2048 squeezes_S1x1x128x2048_S128x2048 = plane (Ring.sl 2 (t.val + 1)) 1 := plane_spelt (offs_slot t).2.1.2.1 _
@[sl_canon] theorem slot_next2 (h) : (planes.slice (Rect.unit (s := S2x4x128x2048) (k0_off16 (grid0.coords t)) S1x1x128x2048.size (k0_off16_inb (grid0.coords t) h)) (fun _ => rfl)).squeeze S128x2048 squeezes_S1x1x128x2048_S128x2048 = plane (Ring.sl 2 (t.val + 1)) 2 := plane_spelt (offs_slot t).2.1.2.2.1 _
@[sl_canon] theorem slot_next3 (h) : (planes.slice (Rect.unit (s := S2x4x128x2048) (k0_off18 (grid0.coords t)) S1x1x128x2048.size (k0_off18_inb (grid0.coords t) h)) (fun _ => rfl)).squeeze S128x2048 squeezes_S1x1x128x2048_S128x2048 = plane (Ring.sl 2 (t.val + 1)) 3 := plane_spelt (offs_slot t).2.1.2.2.2 _
@[sl_canon] theorem slot_wait0 : (planes.slice (Rect.unit (s := S2x4x128x2048) (k0_off20 (grid0.coords t)) S1x1x128x2048.size (k0_off20_inb (grid0.coords t))) (fun _ => rfl)).squeeze S128x2048 squeezes_S1x1x128x2048_S128x2048 = plane (Ring.sl 2 t.val) 0 := plane_spelt (offs_slot t).2.2.1.1 _
@[sl_canon] theorem slot_wait1 : (planes.slice (Rect.unit (s := S2x4x128x2048) (k0_off23 (grid0.coords t)) S1x1x128x2048.size (k0_off23_inb (grid0.coords t))) (fun _ => rfl)).squeeze S128x2048 squeezes_S1x1x128x2048_S128x2048 = plane (Ring.sl 2 t.val) 1 := plane_spelt (offs_slot t).2.2.1.2.1 _
@[sl_canon] theorem slot_wait2 : (planes.slice (Rect.unit (s := S2x4x128x2048) (k0_off25 (grid0.coords t)) S1x1x128x2048.size (k0_off25_inb (grid0.coords t))) (fun _ => rfl)).squeeze S128x2048 squeezes_S1x1x128x2048_S128x2048 = plane (Ring.sl 2 t.val) 2 := plane_spelt (offs_slot t).2.2.1.2.2.1 _
@[sl_canon] theorem slot_wait3 : (planes.slice (Rect.unit (s := S2x4x128x2048) (k0_off27 (grid0.coords t)) S1x1x128x2048.size (k0_off27_inb (grid0.coords t))) (fun _ => rfl)).squeeze S128x2048 squeezes_S1x1x128x2048_S128x2048 = plane (Ring.sl 2 t.val) 3 := plane_spelt (offs_slot t).2.2.1.2.2.2 _
@[sl_canon] theorem cell_here0 (h) : (cc0_scratch1.slice (Rect.unit (s := S2x4) (k0_off1 (grid0.coords t)) S1x1.size (k0_off1_inb (grid0.coords t) h))).squeeze S_ squeezes_S1x1_S_ = cellOfPlane (Ring.sl 2 t.val) 0 := cell_spelt (offs_cell t).1.1 _
@[sl_canon] theorem cell_here1 (h) : (cc0_scratch1.slice (Rect.unit (s := S2x4) (k0_off4 (grid0.coords t)) S1x1.size (k0_off4_inb (grid0.coords t) h))).squeeze S_ squeezes_S1x1_S_ = cellOfPlane (Ring.sl 2 t.val) 1 := cell_spelt (offs_cell t).1.2.1 _
@[sl_canon] theorem cell_here2 (h) : (cc0_scratch1.slice (Rect.unit (s := S2x4) (k0_off6 (grid0.coords t)) S1x1.size (k0_off6_inb (grid0.coords t) h))).squeeze S_ squeezes_S1x1_S_ = cellOfPlane (Ring.sl 2 t.val) 2 := cell_spelt (offs_cell t).1.2.2.1 _
@[sl_canon] theorem cell_here3 (h) : (cc0_scratch1.slice (Rect.unit (s := S2x4) (k0_off8 (grid0.coords t)) S1x1.size (k0_off8_inb (grid0.coords t) h))).squeeze S_ squeezes_S1x1_S_ = cellOfPlane (Ring.sl 2 t.val) 3 := cell_spelt (offs_cell t).1.2.2.2 _
@[sl_canon] theorem cell_next0 (h) : (cc0_scratch1.slice (Rect.unit (s := S2x4) (k0_off10 (grid0.coords t)) S1x1.size (k0_off10_inb (grid0.coords t) h))).squeeze S_ squeezes_S1x1_S_ = cellOfPlane (Ring.sl 2 (t.val + 1)) 0 := cell_spelt (offs_cell t).2.1.1 _
@[sl_canon] theorem cell_next1 (h) : (cc0_scratch1.slice (Rect.unit (s := S2x4) (k0_off13 (grid0.coords t)) S1x1.size (k0_off13_inb (grid0.coords t) h))).squeeze S_ squeezes_S1x1_S_ = cellOfPlane (Ring.sl 2 (t.val + 1)) 1 := cell_spelt (offs_cell t).2.1.2.1 _
@[sl_canon] theorem cell_next2 (h) : (cc0_scratch1.slice (Rect.unit (s := S2x4) (k0_off15 (grid0.coords t)) S1x1.size (k0_off15_inb (grid0.coords t) h))).squeeze S_ squeezes_S1x1_S_ = cellOfPlane (Ring.sl 2 (t.val + 1)) 2 := cell_spelt (offs_cell t).2.1.2.2.1 _
@[sl_canon] theorem cell_next3 (h) : (cc0_scratch1.slice (Rect.unit (s := S2x4) (k0_off17 (grid0.coords t)) S1x1.size (k0_off17_inb (grid0.coords t) h))).squeeze S_ squeezes_S1x1_S_ = cellOfPlane (Ring.sl 2 (t.val + 1)) 3 := cell_spelt (offs_cell t).2.1.2.2.2 _
@[sl_canon] theorem cell_wait0 : (cc0_scratch1.slice (Rect.unit (s := S2x4) (k0_off19 (grid0.coords t)) S1x1.size (k0_off19_inb (grid0.coords t)))).squeeze S_ squeezes_S1x1_S_ = cellOfPlane (Ring.sl 2 t.val) 0 := cell_spelt (offs_cell t).2.2.1 _
@[sl_canon] theorem cell_wait1 : (cc0_scratch1.slice (Rect.unit (s := S2x4) (k0_off22 (grid0.coords t)) S1x1.size (k0_off22_inb (grid0.coords t)))).squeeze S_ squeezes_S1x1_S_ = cellOfPlane (Ring.sl 2 t.val) 1 := cell_spelt (offs_cell t).2.2.2.1 _
@[sl_canon] theorem cell_wait2 : (cc0_scratch1.slice (Rect.unit (s := S2x4) (k0_off24 (grid0.coords t)) S1x1.size (k0_off24_inb (grid0.coords t)))).squeeze S_ squeezes_S1x1_S_ = cellOfPlane (Ring.sl 2 t.val) 2 := cell_spelt (offs_cell t).2.2.2.2.1 _
@[sl_canon] theorem cell_wait3 : (cc0_scratch1.slice (Rect.unit (s := S2x4) (k0_off26 (grid0.coords t)) S1x1.size (k0_off26_inb (grid0.coords t)))).squeeze S_ squeezes_S1x1_S_ = cellOfPlane (Ring.sl 2 t.val) 3 := cell_spelt (offs_cell t).2.2.2.2.2 _
@[sl_canon] theorem rows_here0 (h) : (xM.slice (Rect.unit (s := S512x16x2048) (k0_off3 (grid0.coords t) 0#32) S128x1x2048.size (k0_off3_inb (grid0.coords t) h 0)) (fun _ => rfl)).squeeze S128x2048 squeezes_S128x1x2048_S128x2048 = rowsOf (Ring.bk 16 t.val) 0 := rows_spelt (offs_src t 0) _
@[sl_canon] theorem rows_here1 (h) : (xM.slice (Rect.unit (s := S512x16x2048) (k0_off3 (grid0.coords t) 1#32) S128x1x2048.size (k0_off3_inb (grid0.coords t) h 1)) (fun _ => rfl)).squeeze S128x2048 squeezes_S128x1x2048_S128x2048 = rowsOf (Ring.bk 16 t.val) 1 := rows_spelt (offs_src t 1) _
@[sl_canon] theorem rows_here2 (h) : (xM.slice (Rect.unit (s := S512x16x2048) (k0_off3 (grid0.coords t) 2#32) S128x1x2048.size (k0_off3_inb (grid0.coords t) h 2)) (fun _ => rfl)).squeeze S128x2048 squeezes_S128x1x2048_S128x2048 = rowsOf (Ring.bk 16 t.val) 2 := rows_spelt (offs_src t 2) _
@[sl_canon] theorem rows_here3 (h) : (xM.slice (Rect.unit (s := S512x16x2048) (k0_off3 (grid0.coords t) 3#32) S128x1x2048.size (k0_off3_inb (grid0.coords t) h 3)) (fun _ => rfl)).squeeze S128x2048 squeezes_S128x1x2048_S128x2048 = rowsOf (Ring.bk 16 t.val) 3 := rows_spelt (offs_src t 3) _
@[sl_canon] theorem rows_next0 (h : more (grid0.coords t)) : (xM.slice (Rect.unit (s := S512x16x2048) (k0_off12 (grid0.coords t) 0#32) S128x1x2048.size (k0_off12_inb (grid0.coords t) h 0)) (fun _ => rfl)).squeeze S128x2048 squeezes_S128x1x2048_S128x2048 = rowsOf (Ring.bk 16 (t.val + 1)) 0 := rows_spelt (offs_next t 0 h) _
@[sl_canon] theorem rows_next1 (h : more (grid0.coords t)) : (xM.slice (Rect.unit (s := S512x16x2048) (k0_off12 (grid0.coords t) 1#32) S128x1x2048.size (k0_off12_inb (grid0.coords t) h 1)) (fun _ => rfl)).squeeze S128x2048 squeezes_S128x1x2048_S128x2048 = rowsOf (Ring.bk 16 (t.val + 1)) 1 := rows_spelt (offs_next t 1 h) _
@[sl_canon] theorem rows_next2 (h : more (grid0.coords t)) : (xM.slice (Rect.unit (s := S512x16x2048) (k0_off12 (grid0.coords t) 2#32) S128x1x2048.size (k0_off12_inb (grid0.coords t) h 2)) (fun _ => rfl)).squeeze S128x2048 squeezes_S128x1x2048_S128x2048 = rowsOf (Ring.bk 16 (t.val + 1)) 2 := rows_spelt (offs_next t 2 h) _
@[sl_canon] theorem rows_next3 (h : more (grid0.coords t)) : (xM.slice (Rect.unit (s := S512x16x2048) (k0_off12 (grid0.coords t) 3#32) S128x1x2048.size (k0_off12_inb (grid0.coords t) h 3)) (fun _ => rfl)).squeeze S128x2048 squeezes_S128x1x2048_S128x2048 = rowsOf (Ring.bk 16 (t.val + 1)) 3 := rows_spelt (offs_next t 3 h) _

instance (priority := high) closed_load0 : ClosedOff (k0_off28 (grid0.coords t)) := ⟨![(Ring.sl 2 t.val).val, (0 : Fin 4).val, 0, 0], (offs_slot t).2.2.2.1⟩
instance (priority := high) closed_load1 : ClosedOff (k0_off29 (grid0.coords t)) := ⟨![(Ring.sl 2 t.val).val, (1 : Fin 4).val, 0, 0], (offs_slot t).2.2.2.2.1⟩
instance (priority := high) closed_load2 : ClosedOff (k0_off30 (grid0.coords t)) := ⟨![(Ring.sl 2 t.val).val, (2 : Fin 4).val, 0, 0], (offs_slot t).2.2.2.2.2.1⟩
instance (priority := high) closed_load3 : ClosedOff (k0_off31 (grid0.coords t)) := ⟨![(Ring.sl 2 t.val).val, (3 : Fin 4).val, 0, 0], (offs_slot t).2.2.2.2.2.2⟩

end Canon

/-! ## What is held: planes, copies of the operand, cells, copies in flight -/

section Ring
variable (c : Dev nD) (W : XBuf (F := F) c)

/-- The share of the operand lent to the copies into plane `j` of slot `s`: an eighth. -/
def share (s : Fin 2) (j : Fin 4) : PosShare TreeShare :=
  let a := if s.val = 0 then fullShare.left else fullShare.right
  let b := if j.val < 2 then a.left else a.right
  if j.val % 2 = 0 then b.left else b.right

abbrev PlaneBuf (s : Fin 2) (j : Fin 4) : Type := Buf (Elt F) ((plane s j).view.loc (c : Thread nD τ))
abbrev planeP (s : Fin 2) (j : Fin 4) (f : PlaneBuf (F := F) c s j) : sProp 𝕄 := (plane s j).view.loc (c : Thread nD τ) ↦[(plane s j).view.set]{fullShare} f
abbrev cellP (s : Fin 2) (j : Fin 4) : sProp 𝕄 := semVal ((c : Thread nD τ), cellLoc s j) 0
abbrev rowsP (s : Fin 2) (b : Fin 16) (j : Fin 4) : sProp 𝕄 := (rowsOf b j).view.loc (c : Thread nD τ) ↦[(rowsOf b j).view.set]{share s j} W
/-- The rest of the operand's share beside the lent rows. -/
def restP (s : Fin 2) (b : Fin 16) (j : Fin 4) : sProp 𝕄 := ((c : Thread nD τ).loc main_v0) ↦[Finset.univ \ (rowsOf b j).view.set]{share s j} W
abbrev shareP (s : Fin 2) (j : Fin 4) : sProp 𝕄 := ((c : Thread nD τ).loc main_v0) ↦[Finset.univ]{share s j} W
/-- A plane's contents once step `b`'s rows have landed in it. -/
abbrev landed (s : Fin 2) (b : Fin 16) (j : Fin 4) (f : PlaneBuf (F := F) c s j) : PlaneBuf (F := F) c s j :=
  (plane s j).view.writes (Elt F) f [⟨Rect.whole S128x2048, ReadAs.same.apply ((rowsOf b j).view.read (Elt F) W)⟩]
abbrev flightP (s : Fin 2) (b : Fin 16) (j : Fin 4) (f : PlaneBuf (F := F) c s j) : sProp 𝕄 :=
  Transfers.Flight countersEmb (c : Thread nD τ) (cellLoc s j) default ((plane s j).view.amount (cellLoc s j))
    iprop(planeP c s j (landed c W s b j f) ∗ rowsP c W s b j)

/-- A plane free: its cell at zero, its contents anything, its share of the operand whole; -/
abbrev freeP (s : Fin 2) (j : Fin 4) : sProp 𝕄 := iprop(cellP c s j ∗ (∃ f, planeP c s j f) ∗ shareP c W s j)
/-- or a copy in flight into it. -/
abbrev flyP (s : Fin 2) (b : Fin 16) (j : Fin 4) : sProp 𝕄 := iprop((∃ f, flightP c W s b j f) ∗ restP c W s b j)

abbrev freeSlot (s : Fin 2) : sProp 𝕄 := iprop(freeP c W s 0 ∗ freeP c W s 1 ∗ freeP c W s 2 ∗ freeP c W s 3)
abbrev flySlot (s : Fin 2) (b : Fin 16) : sProp 𝕄 := iprop(flyP c W s b 0 ∗ flyP c W s b 1 ∗ flyP c W s b 2 ∗ flyP c W s b 3)

/-- The ring before step `k`: both slots free before the first and after the last; else step `k`'s rows in flight into slot
    `k` modulo two, the other slot free. -/
def ringAt (k : ℕ) : sProp 𝕄 :=
  if k = 0 ∨ 16 ≤ k then iprop(freeSlot c W 0 ∗ freeSlot c W 1)
  else iprop(flySlot c W (Ring.sl 2 k) (Ring.bk 16 k) ∗ freeSlot c W (Ring.sl 2 (k + 1)))

omit [FloatOps F] in
theorem share_split (s : Fin 2) (b : Fin 16) (j : Fin 4) : shareP (F := F) c W s j ⊣⊢ iprop(rowsP c W s b j ∗ restP c W s b j) := by
  unfold restP; exact pointsTo_split_subset (Finset.subset_univ _)

end Ring

end Cert.Proof.InProj

end
-- ==== Proof.InProj.Hold.lean ====
/-
  Hand-written, untrusted. Into the transfer ring and out of it: the scratch buffer whole is its eight planes, and the operand
  whole is its eight shares.
-/
module

public import proofs.«01_k».proof.Proof.InProj.Ring

@[expose] public section

set_option maxRecDepth 16384

noncomputable section

namespace Cert.Proof.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (W : XBuf (F := F) c)

/-! ## The planes -/

abbrev planeSet (k : Fin 2 × Fin 4) : Finset (Idx ((c : Thread nD τ).loc cc0_scratch0)) := (plane k.1 k.2).view.set

theorem planeSet_eq (k : Fin 2 × Fin 4) : planeSet c k = (Rect.unit (s := S2x4x128x2048) ![k.1.val, k.2.val, 0, 0] S1x1x128x2048.size (inb_slot k.1 k.2)).set := by
  simp only [planeSet, plane, Memref.view_squeeze, View.set_reshape]
  exact View.set_slice_whole _ _

theorem mem_planeSet (k : Fin 2 × Fin 4) (x : S2x4x128x2048.Idx) : x ∈ planeSet c k ↔ (x 0).val = k.1.val ∧ (x 1).val = k.2.val := by
  rw [planeSet_eq, Rect.mem_set_unit]
  constructor
  · intro h
    have h0 : k.1.val ≤ (x 0).val ∧ (x 0).val < k.1.val + 1 := h 0
    have h1 : k.2.val ≤ (x 1).val ∧ (x 1).val < k.2.val + 1 := h 1
    omega
  · rintro ⟨h0, h1⟩ a
    match a with
    | ⟨0, _⟩ => show k.1.val ≤ (x 0).val ∧ (x 0).val < k.1.val + 1; omega
    | ⟨1, _⟩ => show k.2.val ≤ (x 1).val ∧ (x 1).val < k.2.val + 1; omega
    | ⟨2, _⟩ => exact ⟨Nat.zero_le _, lt_of_lt_of_eq (x 2).isLt (Nat.zero_add _).symm⟩
    | ⟨3, _⟩ => exact ⟨Nat.zero_le _, lt_of_lt_of_eq (x 3).isLt (Nat.zero_add _).symm⟩

theorem planes_disjoint (k k' : Fin 2 × Fin 4) (h : k ≠ k') : Disjoint (planeSet c k) (planeSet c k') := by
  rw [Finset.disjoint_left]
  intro x hx hx'
  have h1 := (mem_planeSet c k x).mp hx
  have h2 := (mem_planeSet c k' x).mp hx'
  exact h (Prod.ext (Fin.ext (by omega)) (Fin.ext (by omega)))

theorem planes_cover : Finset.univ.biUnion (planeSet c) = Finset.univ := by
  ext (x : S2x4x128x2048.Idx)
  simp only [Finset.mem_biUnion, Finset.mem_univ, true_and, iff_true]
  exact ⟨(x 0, x 1), (mem_planeSet c _ x).mpr ⟨rfl, rfl⟩⟩

/-- The eight planes, each at some contents. -/
abbrev planesP : sProp 𝕄 :=
  iprop((∃ f, planeP (F := F) c 0 0 f) ∗ (∃ f, planeP (F := F) c 0 1 f) ∗ (∃ f, planeP (F := F) c 0 2 f) ∗ (∃ f, planeP (F := F) c 0 3 f)
    ∗ (∃ f, planeP (F := F) c 1 0 f) ∗ (∃ f, planeP (F := F) c 1 1 f) ∗ (∃ f, planeP (F := F) c 1 2 f) ∗ (∃ f, planeP (F := F) c 1 3 f))

theorem planesP_eq : planesP (F := F) c = bigSep Finset.univ fun k : Fin 2 × Fin 4 => iprop(∃ f, ((c : Thread nD τ).loc cc0_scratch0) ↦[planeSet c k]{fullShare} f) := by
  rw [BI.bigSep_eq_bigSepL_of_eq [(0, 0), (0, 1), (0, 2), (0, 3), (1, 0), (1, 1), (1, 2), (1, 3)] (by decide) (by decide)]
  rfl

theorem planes_in : iprop(∃ d, owns (c : Thread nD τ) planes fullShare d) ⊢ planesP (F := F) c := by
  simp only [planes, owns_whole]
  rw [planesP_eq]
  have key : ∀ d : Buf (Elt F) ((c : Thread nD τ).loc cc0_scratch0), ((((c : Thread nD τ).loc cc0_scratch0) ↦{fullShare} d : sProp 𝕄))
      ⊢ bigSep Finset.univ fun k : Fin 2 × Fin 4 => iprop(∃ f, ((c : Thread nD τ).loc cc0_scratch0) ↦[planeSet c k]{fullShare} f) := fun d =>
    (Idealize.SL.BI.BIBase.Entails.of_eq (Ring.pointsTo_blocks (planeSet c) (planes_disjoint c) (planes_cover c) d)).trans
      (BI.bigSep_mono fun k _ => Idealize.SL.BI.BIClass.exists_intro (Φ := fun f => iprop(((c : Thread nD τ).loc cc0_scratch0) ↦[planeSet c k]{fullShare} f)) d)
  iintro ⟨%d, H⟩
  iapply (key d)
  iexact H

theorem planes_out : planesP (F := F) c ⊢ iprop(∃ d, owns (c : Thread nD τ) planes fullShare d) := by
  simp only [planes, owns_whole]
  rw [planesP_eq]
  exact Ring.pointsTo_blocks_join_exists (planeSet c) (planes_disjoint c) (planes_cover c) default

/-! ## The operand's shares -/

abbrev wholeP (q : PosShare TreeShare) : sProp 𝕄 := ((c : Thread nD τ).loc main_v0) ↦[Finset.univ]{q} W

theorem halve (q : PosShare TreeShare) : wholeP c W q ⊣⊢ iprop(wholeP c W q.left ∗ wholeP c W q.right) :=
  pointsTo_share (PosShare.mem_left_op_right q)

/-- The eight shares of the operand. -/
abbrev sharesP : sProp 𝕄 :=
  iprop(shareP c W 0 0 ∗ shareP c W 0 1 ∗ shareP c W 0 2 ∗ shareP c W 0 3 ∗ shareP c W 1 0 ∗ shareP c W 1 1 ∗ shareP c W 1 2 ∗ shareP c W 1 3)

theorem quarters (q : PosShare TreeShare) : wholeP c W q
    ⊣⊢ iprop((wholeP c W q.left.left ∗ wholeP c W q.left.right) ∗ (wholeP c W q.right.left ∗ wholeP c W q.right.right)) :=
  (halve c W q).trans (Idealize.SL.BI.Laws.sep_congr (halve c W q.left) (halve c W q.right))

theorem shares_in : wholeP c W fullShare ⊢ sharesP c W := by
  iintro H
  ihave H' := (halve c W fullShare).1 $$ H
  icases H' with ⟨Ha, Hb⟩
  ihave Ha' := (quarters c W fullShare.left).1 $$ Ha
  icases Ha' with ⟨⟨H0, H1⟩, ⟨H2, H3⟩⟩
  ihave Hb' := (quarters c W fullShare.right).1 $$ Hb
  icases Hb' with ⟨⟨H4, H5⟩, ⟨H6, H7⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem shares_out : sharesP c W ⊢ wholeP c W fullShare := by
  iintro ⟨H0, H1, H2, H3, H4, H5, H6, H7⟩
  iapply (halve c W fullShare).2
  isplitl [H0 H1 H2 H3]
  · iapply (quarters c W fullShare.left).2
    isplitl [H0 H1]
    · isplitl [H0]; · iexact H0
      iexact H1
    isplitl [H2]; · iexact H2
    iexact H3
  iapply (quarters c W fullShare.right).2
  isplitl [H4 H5]
  · isplitl [H4]; · iexact H4
    iexact H5
  isplitl [H6]; · iexact H6
  iexact H7

/-! ## The ring -/

/-- The eight cells at zero. -/
abbrev cellsP : sProp 𝕄 :=
  iprop(cellP (F := F) c 0 0 ∗ cellP (F := F) c 0 1 ∗ cellP (F := F) c 0 2 ∗ cellP (F := F) c 0 3 ∗ cellP (F := F) c 1 0 ∗ cellP (F := F) c 1 1 ∗ cellP (F := F) c 1 2 ∗ cellP (F := F) c 1 3)

theorem ring_in : iprop(planesP (F := F) c ∗ cellsP (F := F) c ∗ sharesP c W) ⊢ ringAt c W 0 := by
  unfold ringAt
  rw [if_pos (Or.inl rfl)]
  iintro ⟨⟨P0, P1, P2, P3, P4, P5, P6, P7⟩, ⟨C0, C1, C2, C3, C4, C5, C6, C7⟩, ⟨S0, S1, S2, S3, S4, S5, S6, S7⟩⟩
  isplitl [P0 P1 P2 P3 C0 C1 C2 C3 S0 S1 S2 S3]
  · isplitl [C0 P0 S0]
    · isplitl [C0]; · iexact C0
      isplitl [P0]; · iexact P0
      iexact S0
    isplitl [C1 P1 S1]
    · isplitl [C1]; · iexact C1
      isplitl [P1]; · iexact P1
      iexact S1
    isplitl [C2 P2 S2]
    · isplitl [C2]; · iexact C2
      isplitl [P2]; · iexact P2
      iexact S2
    isplitl [C3]; · iexact C3
    isplitl [P3]; · iexact P3
    iexact S3
  isplitl [C4 P4 S4]
  · isplitl [C4]; · iexact C4
    isplitl [P4]; · iexact P4
    iexact S4
  isplitl [C5 P5 S5]
  · isplitl [C5]; · iexact C5
    isplitl [P5]; · iexact P5
    iexact S5
  isplitl [C6 P6 S6]
  · isplitl [C6]; · iexact C6
    isplitl [P6]; · iexact P6
    iexact S6
  isplitl [C7]; · iexact C7
  isplitl [P7]; · iexact P7
  iexact S7

theorem ring_out : ringAt c W 16 ⊢ iprop(planesP (F := F) c ∗ cellsP (F := F) c ∗ sharesP c W) := by
  unfold ringAt
  rw [if_pos (Or.inr le_rfl)]
  iintro ⟨⟨⟨C0, P0, S0⟩, ⟨C1, P1, S1⟩, ⟨C2, P2, S2⟩, ⟨C3, P3, S3⟩⟩, ⟨⟨C4, P4, S4⟩, ⟨C5, P5, S5⟩, ⟨C6, P6, S6⟩, ⟨C7, P7, S7⟩⟩⟩
  isplitl [P0 P1 P2 P3 P4 P5 P6 P7]
  · isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  isplitl [C0 C1 C2 C3 C4 C5 C6 C7]
  · isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  isplitl [S0]; · iexact S0
  isplitl [S1]; · iexact S1
  isplitl [S2]; · iexact S2
  isplitl [S3]; · iexact S3
  isplitl [S4]; · iexact S4
  isplitl [S5]; · iexact S5
  isplitl [S6]; · iexact S6
  iexact S7

end Cert.Proof.InProj

end
-- ==== Proof.InProj.Start.lean ====
/-
  Hand-written, untrusted. The copies a step of the input projection's kernel starts: at the first step those of its own rows and of
  the next step's; then those of the next step's alone; at the last none.
-/
module

public import proofs.«01_k».proof.Proof.InProj.Ring

@[expose] public section

set_option maxRecDepth 16384

noncomputable section

namespace Cert.Proof.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the start of a step hands on: words the offsets are computed from. -/
abbrev StartRes : Type := Σ' (_ : BitVec 32) (_ : BitVec 32) (_ : BitVec 32), BitVec 32

section
variable (c : Dev nD) (W : XBuf (F := F) c) (t : Fin cfg0.N)
variable (arg3 : Memref sig .tc .vmem S1x3x2048 .f32) (harg3 : arg3.IsWhole) (arg4 : Memref sig .tc .vmem S1x1024x2048 .bf16) (harg4 : arg4.IsWhole) (arg5 : Memref sig .tc .vmem S1x1024x2048 .bf16) (harg5 : arg5.IsWhole) (arg6 : Memref sig .tc .vmem S1x2048x1024 .bf16) (harg6 : arg6.IsWhole) (arg7 : Memref sig .tc .vmem S1x2048x1024 .bf16) (harg7 : arg7.IsWhole) (arg8 : Memref sig .tc .vmem S1x2048x1024 .bf16) (harg8 : arg8.IsWhole) (arg9 : Memref sig .tc .vmem S1x2048x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg17 : Memref sig .tc .vmem S512x2048 .bf16) (harg17 : arg17.IsWhole)

set_option maxHeartbeats 1000000 in
/-- The last step starts nothing. -/
theorem start_last (K : StartRes → sProp 𝕄) (h0 : ¬ first (grid0.coords t)) (h1 : ¬ more (grid0.coords t)) :
    iprop(flySlot c W (Ring.sl 2 t.val) (Ring.bk 16 t.val) ∗ (∀ r : StartRes, flySlot c W (Ring.sl 2 t.val) (Ring.bk 16 t.val) -∗ K r))
      ⊢ wp frame (wpE (defs₀ (F := F)) Variants.none c none) Set.univ (k0_part3 (grid0.coords t) xM (Memref.isWhole_whole _) arg3 harg3 arg4 harg4 arg5 harg5 arg6 harg6 arg7 harg7 arg8 harg8 arg9 harg9 arg10 harg10 arg11 harg11 arg12 harg12 arg13 harg13 arg14 harg14 planes (Memref.isWhole_whole _) cc0_scratch1 arg17 harg17) K := by
  haveI : Fact (¬ first (grid0.coords t)) := ⟨h0⟩
  haveI : Fact (¬ more (grid0.coords t)) := ⟨h1⟩
  unfold k0_part3
  iintro ⟨Hf, Hk⟩
  sl_exec (disch := first | sl_exact h0 | sl_exact h1)
  sl_step
  iapply Hk
  iexact Hf

set_option maxHeartbeats 2000000 in
/-- A middle step starts the next step's copies. -/
theorem start_next (K : StartRes → sProp 𝕄) (h0 : ¬ first (grid0.coords t)) (h1 : more (grid0.coords t)) :
    iprop(flySlot c W (Ring.sl 2 t.val) (Ring.bk 16 t.val) ∗ freeSlot c W (Ring.sl 2 (t.val + 1))
        ∗ (∀ r : StartRes, flySlot c W (Ring.sl 2 t.val) (Ring.bk 16 t.val) ∗ flySlot c W (Ring.sl 2 (t.val + 1)) (Ring.bk 16 (t.val + 1)) -∗ K r))
      ⊢ wp frame (wpE (defs₀ (F := F)) Variants.none c none) Set.univ (k0_part3 (grid0.coords t) xM (Memref.isWhole_whole _) arg3 harg3 arg4 harg4 arg5 harg5 arg6 harg6 arg7 harg7 arg8 harg8 arg9 harg9 arg10 harg10 arg11 harg11 arg12 harg12 arg13 harg13 arg14 harg14 planes (Memref.isWhole_whole _) cc0_scratch1 arg17 harg17) K := by
  haveI : Fact (¬ first (grid0.coords t)) := ⟨h0⟩
  haveI : Fact (more (grid0.coords t)) := ⟨h1⟩
  unfold k0_part3
  iintro ⟨Hf, ⟨⟨Hc0, ⟨%s0, Hs0⟩, Hw0⟩, ⟨Hc1, ⟨%s1, Hs1⟩, Hw1⟩, ⟨Hc2, ⟨%s2, Hs2⟩, Hw2⟩, ⟨Hc3, ⟨%s3, Hs3⟩, Hw3⟩⟩, Hk⟩
  ihave Hsp := (share_split c W (Ring.sl 2 (t.val + 1)) (Ring.bk 16 (t.val + 1)) 0).1 $$ Hw0
  icases Hsp with ⟨Hh0, Hr0⟩
  ihave Hsp := (share_split c W (Ring.sl 2 (t.val + 1)) (Ring.bk 16 (t.val + 1)) 1).1 $$ Hw1
  icases Hsp with ⟨Hh1, Hr1⟩
  ihave Hsp := (share_split c W (Ring.sl 2 (t.val + 1)) (Ring.bk 16 (t.val + 1)) 2).1 $$ Hw2
  icases Hsp with ⟨Hh2, Hr2⟩
  ihave Hsp := (share_split c W (Ring.sl 2 (t.val + 1)) (Ring.bk 16 (t.val + 1)) 3).1 $$ Hw3
  icases Hsp with ⟨Hh3, Hr3⟩
  sl_exec (disch := first | sl_exact h0 | sl_exact h1)
  sl_step
  iapply Hk
  isplitl [Hf]; · iexact Hf
  isplitl [Hc0 Hr0]
  · isplitl [Hc0]; · iexists _; iexact Hc0
    iexact Hr0
  isplitl [Hc1 Hr1]
  · isplitl [Hc1]; · iexists _; iexact Hc1
    iexact Hr1
  isplitl [Hc2 Hr2]
  · isplitl [Hc2]; · iexists _; iexact Hc2
    iexact Hr2
  isplitl [Hc3]; · iexists _; iexact Hc3
  iexact Hr3

set_option maxHeartbeats 4000000 in
/-- The first step starts its own copies and the next step's. -/
theorem start_first (K : StartRes → sProp 𝕄) (h0 : first (grid0.coords t)) (h1 : more (grid0.coords t)) :
    iprop(freeSlot c W (Ring.sl 2 t.val) ∗ freeSlot c W (Ring.sl 2 (t.val + 1))
        ∗ (∀ r : StartRes, flySlot c W (Ring.sl 2 t.val) (Ring.bk 16 t.val) ∗ flySlot c W (Ring.sl 2 (t.val + 1)) (Ring.bk 16 (t.val + 1)) -∗ K r))
      ⊢ wp frame (wpE (defs₀ (F := F)) Variants.none c none) Set.univ (k0_part3 (grid0.coords t) xM (Memref.isWhole_whole _) arg3 harg3 arg4 harg4 arg5 harg5 arg6 harg6 arg7 harg7 arg8 harg8 arg9 harg9 arg10 harg10 arg11 harg11 arg12 harg12 arg13 harg13 arg14 harg14 planes (Memref.isWhole_whole _) cc0_scratch1 arg17 harg17) K := by
  haveI : Fact (first (grid0.coords t)) := ⟨h0⟩
  haveI : Fact (more (grid0.coords t)) := ⟨h1⟩
  unfold k0_part3
  iintro ⟨⟨⟨Ga0, ⟨%a0, Ha0⟩, Va0⟩, ⟨Ga1, ⟨%a1, Ha1⟩, Va1⟩, ⟨Ga2, ⟨%a2, Ha2⟩, Va2⟩, ⟨Ga3, ⟨%a3, Ha3⟩, Va3⟩⟩, ⟨⟨Hc0, ⟨%s0, Hs0⟩, Hw0⟩, ⟨Hc1, ⟨%s1, Hs1⟩, Hw1⟩, ⟨Hc2, ⟨%s2, Hs2⟩, Hw2⟩, ⟨Hc3, ⟨%s3, Hs3⟩, Hw3⟩⟩, Hk⟩
  ihave Hsp := (share_split c W (Ring.sl 2 t.val) (Ring.bk 16 t.val) 0).1 $$ Va0
  icases Hsp with ⟨Ja0, Ra0⟩
  ihave Hsp := (share_split c W (Ring.sl 2 t.val) (Ring.bk 16 t.val) 1).1 $$ Va1
  icases Hsp with ⟨Ja1, Ra1⟩
  ihave Hsp := (share_split c W (Ring.sl 2 t.val) (Ring.bk 16 t.val) 2).1 $$ Va2
  icases Hsp with ⟨Ja2, Ra2⟩
  ihave Hsp := (share_split c W (Ring.sl 2 t.val) (Ring.bk 16 t.val) 3).1 $$ Va3
  icases Hsp with ⟨Ja3, Ra3⟩
  ihave Hsp := (share_split c W (Ring.sl 2 (t.val + 1)) (Ring.bk 16 (t.val + 1)) 0).1 $$ Hw0
  icases Hsp with ⟨Hh0, Hr0⟩
  ihave Hsp := (share_split c W (Ring.sl 2 (t.val + 1)) (Ring.bk 16 (t.val + 1)) 1).1 $$ Hw1
  icases Hsp with ⟨Hh1, Hr1⟩
  ihave Hsp := (share_split c W (Ring.sl 2 (t.val + 1)) (Ring.bk 16 (t.val + 1)) 2).1 $$ Hw2
  icases Hsp with ⟨Hh2, Hr2⟩
  ihave Hsp := (share_split c W (Ring.sl 2 (t.val + 1)) (Ring.bk 16 (t.val + 1)) 3).1 $$ Hw3
  icases Hsp with ⟨Hh3, Hr3⟩
  sl_exec (disch := first | sl_exact h0 | sl_exact h1)
  sl_step
  iapply Hk
  isplitl [Ga0 Ra0 Ga1 Ra1 Ga2 Ra2 Ga3 Ra3]
  · isplitl [Ga0 Ra0]
    · isplitl [Ga0]; · iexists _; iexact Ga0
      iexact Ra0
    isplitl [Ga1 Ra1]
    · isplitl [Ga1]; · iexists _; iexact Ga1
      iexact Ra1
    isplitl [Ga2 Ra2]
    · isplitl [Ga2]; · iexists _; iexact Ga2
      iexact Ra2
    isplitl [Ga3]; · iexists _; iexact Ga3
    iexact Ra3
  isplitl [Hc0 Hr0]
  · isplitl [Hc0]; · iexists _; iexact Hc0
    iexact Hr0
  isplitl [Hc1 Hr1]
  · isplitl [Hc1]; · iexists _; iexact Hc1
    iexact Hr1
  isplitl [Hc2 Hr2]
  · isplitl [Hc2]; · iexists _; iexact Hc2
    iexact Hr2
  isplitl [Hc3]; · iexists _; iexact Hc3
  iexact Hr3

end

end Cert.Proof.InProj

end
-- ==== Proof.InProj.Payload.lean ====
/-
  Hand-written, untrusted. What a step of the input projection's kernel computes: its rows normalised and modulated, then their
  products with the weights; and the loads and stores that carry these values.
-/
module

public import proofs.«01_k».proof.Proof.InProj.Ring
public import Idealize.ShloMosaic.Lib.Pipeline.Value
public import Idealize.ShloMosaic.Lib.ValueIdxCore

@[expose] public section

set_option maxRecDepth 16384

noncomputable section

namespace Cert.Proof.InProj

open Cert.Kernel2Ideal Cert.Kernel2Ideal.Gen
open Idealize.ShloMosaic Idealize.ShloMosaic.TcCoe
open ValueIdx (ix2 ix3)

variable {F : FTy → Type} [FloatOps F]

/-! ## The values -/

section
variable (c : Dev nD) (W : XBuf (F := F) c) (b : Fin 16)

/-- The rows step `b` reads into plane `j`. -/
def planeVec (j : Fin 4) : FVec F S128x2048 .f32 := (rowsOf b j).view.read (Elt F) W

/-- The modulation's shift and scale rows. -/
def shiftRow (x0 : Vec F S1x3x2048 .f32) : FVec F S1x2048 .f32 := fun y => x0 (ix3 (0 : Fin 1) (0 : Fin 3) (y 1))
def scaleRow (x0 : Vec F S1x3x2048 .f32) : FVec F S1x2048 .f32 := fun y => x0 (ix3 (0 : Fin 1) (1 : Fin 3) (y 1))

/-- Rows' means, as a column. -/
def meanCol (x : FVec F S128x2048 .f32) : FVec F S128x1 .f32 :=
  divf (shapeCast S128x1 (multiReduction .add [1] S128 x 0x00000000#32 reduces_S128x2048_S128 (.inl rfl) rfl) shapeCasts_S128_S128x1)
    (broadcast S128x1 (Scalar.ofBits .f32 0x45000000#32))
/-- Rows less their means. -/
def centred (x : FVec F S128x2048 .f32) : FVec F S128x2048 .f32 :=
  subf x (broadcastTo S128x2048 (meanCol x) broadcasts_S128x1_S128x2048)
/-- Rows normalised, then scaled and shifted, in the narrow type. -/
def normed (x : FVec F S128x2048 .f32) (sh sc : FVec F S1x2048 .f32) : FVec F S128x2048 .bf16 :=
  shapeCast S128x2048 (truncf .bf16
    (addf (mulf (mulf (centred x)
        (broadcastTo S128x2048 (rsqrt (addf (meanCol (mulf (centred x) (centred x))) (broadcast S128x1 (Scalar.ofBits .f32 0x358637BD#32)))) broadcasts_S128x1_S128x2048))
        (broadcastTo S128x2048 (addf (broadcast S1x2048 (Scalar.ofBits .f32 0x3F800000#32)) sc) broadcasts_S1x2048_S128x2048))
      (broadcastTo S128x2048 sh broadcasts_S1x2048_S128x2048)) bitsLt_bf16_f32) shapeCasts_S128x2048_S128x2048

/-- Four planes one under the other. -/
def stack4 (p : Fin 4 → FVec F S128x2048 .bf16) : FVec F S512x2048 .bf16 := fun y =>
  p ⟨(y 0).val / 128, by have : (y 0).val < 512 := (y 0).isLt; omega⟩ (ix2 (⟨(y 0).val % 128, Nat.mod_lt _ (by decide)⟩ : Fin 128) (y 1))

/-- The step's rows, normalised and modulated. -/
def hidden (x0 : Vec F S1x3x2048 .f32) : FVec F S512x2048 .bf16 :=
  stack4 fun j => normed (planeVec c W b j) (shiftRow x0) (scaleRow x0)

/-- A product of a weight's rows with the step's rows, transposed; -/
def prodT (h : FVec F S512x2048 .bf16) (w : Vec F S1x1024x2048 .bf16) : FVec F S1024x512 .f32 :=
  matmul dot_S1024x2048_S512x2048_S1024x512_1_1_0_0_n_n none (shapeCast S1024x2048 w shapeCasts_S1x1024x2048_S1024x2048) h (constant S1024x512 .f32 0x00000000#32)
/-- and of the step's rows with a weight's columns. -/
def prodR (h : FVec F S512x2048 .bf16) (w : Vec F S1x2048x1024 .bf16) : FVec F S512x1024 .f32 :=
  matmul dot_S512x2048_S2048x1024_S512x1024_1_0_0_1_n_n none h (shapeCast S2048x1024 w shapeCasts_S1x2048x1024_S2048x1024) (constant S512x1024 .f32 0x00000000#32)

def outU (h : FVec F S512x2048 .bf16) (w : Vec F S1x1024x2048 .bf16) : FVec F S1024x512 .bf16 := truncf .bf16 (prodT h w) bitsLt_bf16_f32
def outZ (h : FVec F S512x2048 .bf16) (w : Vec F S1x1024x2048 .bf16) : FVec F S1024x512 .bf16 :=
  truncf .bf16 (addf (mulf (prodT h w) (tanh (prodT h w))) (prodT h w)) bitsLt_bf16_f32
def outCV (h : FVec F S512x2048 .bf16) (w w' : Vec F S1x2048x1024 .bf16) : FVec F S512x1024 .bf16 :=
  truncf .bf16 (mulf (prodR h w') (prodR h w)) bitsLt_bf16_f32
def outB (h : FVec F S512x2048 .bf16) (w : Vec F S1x2048x1024 .bf16) : FVec F S512x1024 .bf16 := truncf .bf16 (prodR h w) bitsLt_bf16_f32
def outG (h : FVec F S512x2048 .bf16) (w : Vec F S1x2048x1024 .bf16) : FVec F S512x1024 .bf16 :=
  truncf .bf16 (addf (mulf (prodR h w) (tanh (prodR h w))) (prodR h w)) bitsLt_bf16_f32

end

/-! ## Loads and stores -/

/-- A load of a whole buffer reads it. -/
theorem load_whole {s : Shape} {e : EltTy} (a : Memref sig .tc .vmem s e) (ha : a.IsWhole) (v : Vec F s e) {off : Fin s.rank → Nat} (h0 : ∀ i, off i = 0)
    (inb : ∀ i, off i + s.size i ≤ s.size i) :
    View.readAt (Elt F) a.view (Rect.unit (s := s) off s.size inb).toLoadRect (ha.unread v) = v := by
  refine Eq.trans ?_ (ha.read_unread v)
  funext y
  refine congrArg (a.view.read (Elt F) (ha.unread v)) ?_
  funext i
  apply Fin.ext
  show off i + 1 * (y i).val = (y i).val
  rw [h0 i]; omega

/-- A store of a whole buffer leaves its value. -/
theorem store_whole {s : Shape} {e : EltTy} (a : Memref sig .tc .vmem s e) (f : a.view.ty.Contents (Elt F)) (v : Vec F s e) {off : Fin s.rank → Nat} (h0 : ∀ i, off i = 0)
    (inb : ∀ i, off i + s.size i ≤ s.size i) :
    a.view.read (Elt F) (a.view.writes (Elt F) f [⟨Rect.unit (s := s) off s.size inb, v⟩]) = v := by
  funext y
  refine View.read_writes_cons_hit_of_coords a.view f (Rect.unit (s := s) off s.size inb) v [] y y ?_
  intro i
  show (y i).val = off i + 1 * (y i).val
  rw [h0 i]; omega

/-- Row `k` of the modulation, as a load takes it. -/
theorem load_row (a : Memref sig .tc .vmem S1x3x2048 .f32) (ha : a.IsWhole) (v : Vec F S1x3x2048 .f32) (k : Fin 3)
    (inb : ∀ i, (![0, k.val, 0] : Fin 3 → Nat) i + S1x1x2048.size i ≤ S1x3x2048.size i) :
    shapeCast S1x2048 (View.readAt (Elt F) a.view (Rect.unit (s := S1x3x2048) ![0, k.val, 0] S1x1x2048.size inb).toLoadRect (ha.unread v)) shapeCasts_S1x1x2048_S1x2048 = fun y => v (ix3 (0 : Fin 1) k (y 1)) := by
  funext y
  refine (shapeCast_apply (s := S1x1x2048) _ _ _ (ix3 (0 : Fin 1) (0 : Fin 1) (y 1)) ?_).trans ?_
  · have h0 : (y 0).val < 1 := (y 0).isLt
    rw [Shape.rowMajor_val_three, Shape.rowMajor_val_two]
    show (0 * 1 + 0) * 2048 + (y 1).val = (y 0).val * 2048 + (y 1).val
    omega
  refine Eq.trans ?_ (congrFun (ha.read_unread v) _)
  refine congrArg (a.view.read (Elt F) (ha.unread v)) ?_
  funext i
  apply Fin.ext
  match i with
  | ⟨0, _⟩ => rfl
  | ⟨1, _⟩ => show k.val + 1 * 0 = k.val; omega
  | ⟨2, _⟩ => show 0 + 1 * (y 1).val = (y 1).val; omega

/-- A plane's load reads what was copied into it. -/
theorem load_plane (s : Fin 2) (j : Fin 4) {off : Fin 4 → Nat} (h : off = ![s.val, j.val, 0, 0]) (inb : ∀ a, off a + S1x1x128x2048.size a ≤ S2x4x128x2048.size a)
    (f : (plane s j).view.ty.Contents (Elt F)) (v : FVec F S128x2048 .f32) :
    shapeCast S128x2048 (View.readAt (Elt F) planes.view (Rect.unit (s := S2x4x128x2048) off S1x1x128x2048.size inb).toLoadRect
      ((plane s j).view.writes (Elt F) f [⟨Rect.whole S128x2048, v⟩])) shapeCasts_S1x1x128x2048_S128x2048 = v := by
  subst h
  exact View.read_writes_whole (plane s j).view f v

/-- Plane `k` of the stack is rows `128 k …`. -/
theorem piece_agrees (p : Fin 4 → FVec F S128x2048 .bf16) (k : Fin 4) (inb : ∀ i, (![128 * k.val, 0] : Fin 2 → Nat) i + S128x2048.size i ≤ S512x2048.size i)
    (x : S128x2048.Idx) : p k x = stack4 p ((Rect.unit (s := S512x2048) ![128 * k.val, 0] S128x2048.size inb).emb x) := by
  have hx : (x 0).val < 128 := (x 0).isLt
  unfold stack4
  refine congrArg₂ (fun j z => p j z) (Fin.ext ?_) ?_
  · show k.val = (128 * k.val + 1 * (x 0).val) / 128; omega
  · funext i
    apply Fin.ext
    match i with
    | ⟨0, _⟩ => show (x 0).val = (128 * k.val + 1 * (x 0).val) % 128; omega
    | ⟨1, _⟩ => show (x 1).val = 0 + 1 * (x 1).val; omega

theorem in_piece (y : S512x2048.Idx) (o : Nat) (h : o ≤ (y 0).val) (h' : (y 0).val < o + 128)
    (inb : ∀ i, (![o, 0] : Fin 2 → Nat) i + S128x2048.size i ≤ S512x2048.size i) : y ∈ (Rect.unit (s := S512x2048) ![o, 0] S128x2048.size inb).set := by
  rw [Rect.mem_set_unit]
  intro i
  match i with
  | ⟨0, _⟩ => exact ⟨h, h'⟩
  | ⟨1, _⟩ => exact ⟨Nat.zero_le _, lt_of_lt_of_eq (y 1).isLt (Nat.zero_add _).symm⟩

/-- What is stored of a plane: its rows as copied, the modulation as loaded. -/
theorem stored_rows (a : Memref sig .tc .vmem S1x3x2048 .f32) (ha : a.IsWhole) (v : Vec F S1x3x2048 .f32)
    (s : Fin 2) (j : Fin 4) {off : Fin 4 → Nat} (h : off = ![s.val, j.val, 0, 0]) (inb : ∀ a, off a + S1x1x128x2048.size a ≤ S2x4x128x2048.size a)
    (f : (plane s j).view.ty.Contents (Elt F)) (x : FVec F S128x2048 .f32) :
    normed (shapeCast S128x2048 (View.readAt (Elt F) planes.view (Rect.unit (s := S2x4x128x2048) off S1x1x128x2048.size inb).toLoadRect
        ((plane s j).view.writes (Elt F) f [⟨Rect.whole S128x2048, x⟩])) shapeCasts_S1x1x128x2048_S128x2048)
      (shapeCast S1x2048 (View.readAt (Elt F) a.view (Rect.unit (s := S1x3x2048) ![0, 0, 0] S1x1x2048.size inb_S1x3x2048_S1x1x2048_0_0_0).toLoadRect (ha.unread v)) shapeCasts_S1x1x2048_S1x2048)
      (shapeCast S1x2048 (View.readAt (Elt F) a.view (Rect.unit (s := S1x3x2048) ![0, 1, 0] S1x1x2048.size inb_S1x3x2048_S1x1x2048_0_1_0).toLoadRect (ha.unread v)) shapeCasts_S1x1x2048_S1x2048)
      = normed x (shiftRow v) (scaleRow v) := by
  rw [load_plane s j h inb f x]
  exact congrArg₂ (normed x) (load_row a ha v 0 inb_S1x3x2048_S1x1x2048_0_0_0) (load_row a ha v 1 inb_S1x3x2048_S1x1x2048_0_1_0)

/-- The four planes' stores, the last first. -/
abbrev stores4 (p0 p1 p2 p3 : FVec F S128x2048 .bf16) : List (View.Piece (Elt F) S512x2048 .bf16) :=
  [⟨Rect.unit (s := S512x2048) ![384, 0] S128x2048.size inb_S512x2048_S128x2048_384_0, p3⟩,
    ⟨Rect.unit (s := S512x2048) ![256, 0] S128x2048.size inb_S512x2048_S128x2048_256_0, p2⟩,
    ⟨Rect.unit (s := S512x2048) ![128, 0] S128x2048.size inb_S512x2048_S128x2048_128_0, p1⟩,
    ⟨Rect.unit (s := S512x2048) ![0, 0] S128x2048.size inb_S512x2048_S128x2048_0_0, p0⟩]

/-- The step's rows are read back as the four planes stored. -/
theorem load_stack (a : Memref sig .tc .vmem S512x2048 .bf16) (p : Fin 4 → FVec F S128x2048 .bf16) :
    a.view.readCov (stores4 (p 0) (p 1) (p 2) (p 3)) (Rect.unit (s := S512x2048) ![0, 0] S512x2048.size inb_S512x2048_S512x2048_0_0).toLoadRect = stack4 p := by
  funext y
  have hy : (y 0).val < 512 := (y 0).isLt
  refine (congrArg (a.view.read (Elt F) _) (show _ = y from ?_)).trans (View.read_writes_apply_of_pieces (Val := Elt F) a.view _ (stack4 p) _ ?_ y ?_)
  · funext i
    apply Fin.ext
    show (![0, 0] : Fin 2 → Nat) i + 1 * (y i).val = (y i).val
    match i with
    | ⟨0, _⟩ => show 0 + 1 * (y 0).val = (y 0).val; omega
    | ⟨1, _⟩ => show 0 + 1 * (y 1).val = (y 1).val; omega
  · intro q hq x
    simp only [List.mem_cons, List.not_mem_nil, or_false] at hq
    rcases hq with rfl | rfl | rfl | rfl
    · exact piece_agrees p 3 inb_S512x2048_S128x2048_384_0 x
    · exact piece_agrees p 2 inb_S512x2048_S128x2048_256_0 x
    · exact piece_agrees p 1 inb_S512x2048_S128x2048_128_0 x
    · exact piece_agrees p 0 inb_S512x2048_S128x2048_0_0 x
  · obtain h | h | h | h : (y 0).val / 128 = 3 ∨ (y 0).val / 128 = 2 ∨ (y 0).val / 128 = 1 ∨ (y 0).val / 128 = 0 := by omega
    · exact ⟨_, .head _, in_piece y 384 (by omega) (by omega) inb_S512x2048_S128x2048_384_0⟩
    · exact ⟨_, .tail _ (.head _), in_piece y 256 (by omega) (by omega) inb_S512x2048_S128x2048_256_0⟩
    · exact ⟨_, .tail _ (.tail _ (.head _)), in_piece y 128 (by omega) (by omega) inb_S512x2048_S128x2048_128_0⟩
    · exact ⟨_, .tail _ (.tail _ (.tail _ (.head _))), in_piece y 0 (by omega) (by omega) inb_S512x2048_S128x2048_0_0⟩

end Cert.Proof.InProj

end
-- ==== Proof.InProj.Step.lean ====
/-
  Hand-written, untrusted. One grid step of the input projection's kernel, whatever copies it starts: it waits for its own rows,
  computes with them and leaves its slot free.
-/
module

public import proofs.«01_k».proof.Proof.InProj.Start
public import proofs.«01_k».proof.Proof.InProj.Payload

@[expose] public section

set_option maxRecDepth 16384

noncomputable section

namespace Cert.Proof.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem zero2 : ∀ i : Fin 2, (![0, 0] : Fin 2 → Nat) i = 0 := by decide
theorem zero3 : ∀ i : Fin 3, (![0, 0, 0] : Fin 3 → Nat) i = 0 := by decide

section
variable (c : Dev nD) (W : XBuf (F := F) c) (t : Fin cfg0.N)
variable (arg3 : Memref sig .tc .vmem S1x3x2048 .f32) (harg3 : arg3.IsWhole) (arg4 : Memref sig .tc .vmem S1x1024x2048 .bf16) (harg4 : arg4.IsWhole) (arg5 : Memref sig .tc .vmem S1x1024x2048 .bf16) (harg5 : arg5.IsWhole) (arg6 : Memref sig .tc .vmem S1x2048x1024 .bf16) (harg6 : arg6.IsWhole) (arg7 : Memref sig .tc .vmem S1x2048x1024 .bf16) (harg7 : arg7.IsWhole) (arg8 : Memref sig .tc .vmem S1x2048x1024 .bf16) (harg8 : arg8.IsWhole) (arg9 : Memref sig .tc .vmem S1x2048x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg17 : Memref sig .tc .vmem S512x2048 .bf16) (harg17 : arg17.IsWhole)
variable (x0 : Vec F S1x3x2048 .f32) (x1 : Vec F S1x1024x2048 .bf16) (x2 : Vec F S1x1024x2048 .bf16) (x3 : Vec F S1x2048x1024 .bf16) (x4 : Vec F S1x2048x1024 .bf16) (x5 : Vec F S1x2048x1024 .bf16) (x6 : Vec F S1x2048x1024 .bf16)

set_option maxHeartbeats 8000000 in
/-- The step's run: `P` is what the copies it starts need, `R` the copies in flight or planes free beside its own. -/
theorem step_run (P R : sProp 𝕄) (Wt : Waits sig Unit) (K : PUnit → sProp 𝕄)
    (start : ∀ K' : StartRes → sProp 𝕄, iprop(P ∗ (∀ r : StartRes, flySlot c W (Ring.sl 2 t.val) (Ring.bk 16 t.val) ∗ R -∗ K' r))
      ⊢ wp frame (wpE (defs₀ (F := F)) Variants.none c none) Set.univ (k0_part3 (grid0.coords t) xM (Memref.isWhole_whole _) arg3 harg3 arg4 harg4 arg5 harg5 arg6 harg6 arg7 harg7 arg8 harg8 arg9 harg9 arg10 harg10 arg11 harg11 arg12 harg12 arg13 harg13 arg14 harg14 planes (Memref.isWhole_whole _) cc0_scratch1 arg17 harg17) K') :
    iprop(P ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
      ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg17 fullShare d)
      ∗ owes (c : Thread nD τ) 0 Wt
      ∗ (iprop(R ∗ freeSlot c W (Ring.sl 2 t.val)
          ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
          ∗ owns (c : Thread nD τ) arg10 fullShare (outU (hidden c W (Ring.bk 16 t.val) x0) x1) ∗ owns (c : Thread nD τ) arg11 fullShare (outZ (hidden c W (Ring.bk 16 t.val) x0) x2) ∗ owns (c : Thread nD τ) arg12 fullShare (outCV (hidden c W (Ring.bk 16 t.val) x0) x3 x5) ∗ owns (c : Thread nD τ) arg13 fullShare (outB (hidden c W (Ring.bk 16 t.val) x0) x4) ∗ owns (c : Thread nD τ) arg14 fullShare (outG (hidden c W (Ring.bk 16 t.val) x0) x6)
          ∗ (∃ d, owns (c : Thread nD τ) arg17 fullShare d) ∗ (∃ Wt', owes (c : Thread nD τ) 0 Wt')) -∗ K ⟨⟩))
    ⊢ wp frame (wpE (defs₀ (F := F)) Variants.none c none) Set.univ (cc0_inproj (grid0.coords t) xM (Memref.isWhole_whole _) arg3 harg3 arg4 harg4 arg5 harg5 arg6 harg6 arg7 harg7 arg8 harg8 arg9 harg9 arg10 harg10 arg11 harg11 arg12 harg12 arg13 harg13 arg14 harg14 planes (Memref.isWhole_whole _) cc0_scratch1 arg17 harg17) K := by
  unfold cc0_inproj
  rw [wp_bind]
  unfold owns
  iintro ⟨HP, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d17, %f17, -, H17⟩, HW, Hk⟩
  iapply start
  isplitl [HP]; · iexact HP
  iintro %r ⟨⟨⟨⟨%p0, Hf0⟩, Hr0⟩, ⟨⟨%p1, Hf1⟩, Hr1⟩, ⟨⟨%p2, Hf2⟩, Hr2⟩, ⟨⟨%p3, Hf3⟩, Hr3⟩⟩, HR⟩
  obtain ⟨v1, v11, v35, c4⟩ := r
  dsimp only
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec
  sl_step
  have hh : arg17.view.readCov (step_run.sl.H17_4 c W t arg3 harg3 x0) (Rect.unit (s := S512x2048) ![0, 0] S512x2048.size inb_S512x2048_S512x2048_0_0).toLoadRect
      = hidden c W (Ring.bk 16 t.val) x0 := by
    refine Eq.trans ?_ (load_stack arg17 fun j => normed (planeVec c W (Ring.bk 16 t.val) j) (shiftRow x0) (scaleRow x0))
    have e0 : step_run.sl.v114 c W t arg3 harg3 x0 = normed (planeVec c W (Ring.bk 16 t.val) 0) (shiftRow x0) (scaleRow x0) :=
      stored_rows arg3 harg3 x0 (Ring.sl 2 t.val) 0 (offs_slot t).2.2.2.1 _ _ _
    have e1 : step_run.sl.v143 c W t arg3 harg3 x0 = normed (planeVec c W (Ring.bk 16 t.val) 1) (shiftRow x0) (scaleRow x0) :=
      stored_rows arg3 harg3 x0 (Ring.sl 2 t.val) 1 (offs_slot t).2.2.2.2.1 _ _ _
    have e2 : step_run.sl.v172 c W t arg3 harg3 x0 = normed (planeVec c W (Ring.bk 16 t.val) 2) (shiftRow x0) (scaleRow x0) :=
      stored_rows arg3 harg3 x0 (Ring.sl 2 t.val) 2 (offs_slot t).2.2.2.2.2.1 _ _ _
    have e3 : step_run.sl.v201 c W t arg3 harg3 x0 = normed (planeVec c W (Ring.bk 16 t.val) 3) (shiftRow x0) (scaleRow x0) :=
      stored_rows arg3 harg3 x0 (Ring.sl 2 t.val) 3 (offs_slot t).2.2.2.2.2.2 _ _ _
    rw [← e0, ← e1, ← e2, ← e3]
    rfl
  iapply Hk
  isplitl [HR]; · iexact HR
  isplitl [Hf0 Hf0_dst Hf0_src Hr0 Hf1 Hf1_dst Hf1_src Hr1 Hf2 Hf2_dst Hf2_src Hr2 Hf3 Hf3_dst Hf3_src Hr3]
  · isplitl [Hf0 Hf0_dst Hf0_src Hr0]
    · isplitl [Hf0]; · iexact Hf0
      isplitl [Hf0_dst]; · iexists _; iexact Hf0_dst
      iapply (share_split c W (Ring.sl 2 t.val) (Ring.bk 16 t.val) 0).2; isplitl [Hf0_src]; · iexact Hf0_src
      iexact Hr0
    isplitl [Hf1 Hf1_dst Hf1_src Hr1]
    · isplitl [Hf1]; · iexact Hf1
      isplitl [Hf1_dst]; · iexists _; iexact Hf1_dst
      iapply (share_split c W (Ring.sl 2 t.val) (Ring.bk 16 t.val) 1).2; isplitl [Hf1_src]; · iexact Hf1_src
      iexact Hr1
    isplitl [Hf2 Hf2_dst Hf2_src Hr2]
    · isplitl [Hf2]; · iexact Hf2
      isplitl [Hf2_dst]; · iexists _; iexact Hf2_dst
      iapply (share_split c W (Ring.sl 2 t.val) (Ring.bk 16 t.val) 2).2; isplitl [Hf2_src]; · iexact Hf2_src
      iexact Hr2
    isplitl [Hf3]; · iexact Hf3
    isplitl [Hf3_dst]; · iexists _; iexact Hf3_dst
    iapply (share_split c W (Ring.sl 2 t.val) (Ring.bk 16 t.val) 3).2; isplitl [Hf3_src]; · iexact Hf3_src
    iexact Hr3
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    exact (store_whole arg10 f7 _ zero2 _).trans ((congrArg (fun h => outU h _) hh).trans (congrArg (outU _) (load_whole arg4 harg4 x1 zero3 _)))
  isplitl [H8]
  · iexists _; isplitr; swap; · iexact H8
    ipureintro
    exact (store_whole arg11 f8 _ zero2 _).trans ((congrArg (fun h => outZ h _) hh).trans (congrArg (outZ _) (load_whole arg5 harg5 x2 zero3 _)))
  isplitl [H9]
  · iexists _; isplitr; swap; · iexact H9
    ipureintro
    exact (store_whole arg12 f9 _ zero2 _).trans ((congrArg (fun h => outCV h _ _) hh).trans (congrArg₂ (outCV _) (load_whole arg6 harg6 x3 zero3 _) (load_whole arg8 harg8 x5 zero3 _)))
  isplitl [H10]
  · iexists _; isplitr; swap; · iexact H10
    ipureintro
    exact (store_whole arg13 f10 _ zero2 _).trans ((congrArg (fun h => outB h _) hh).trans (congrArg (outB _) (load_whole arg7 harg7 x4 zero3 _)))
  isplitl [H11]
  · iexists _; isplitr; swap; · iexact H11
    ipureintro
    exact (store_whole arg14 f11 _ zero2 _).trans ((congrArg (fun h => outG h _) hh).trans (congrArg (outG _) (load_whole arg9 harg9 x6 zero3 _)))
  isplitl [H17]
  · iexists _, _; isplitr; swap; · iexact H17
    ipureintro; rfl
  iexists _; iexact HW
end

end Cert.Proof.InProj

end
-- ==== Proof.InProj.Run.lean ====
/-
  Hand-written, untrusted. The run of the input projection's kernel, over any values: the ring's state at each grid step, the
  proof data of the pipeline, a step's body, the launch.
-/
module

public import proofs.«01_k».proof.Proof.InProj.Hold
public import proofs.«01_k».proof.Proof.InProj.Step
public import Idealize.ShloMosaic.Lib.Claim

@[expose] public section

set_option maxRecDepth 16384

noncomputable section

namespace Cert.Proof.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The ring from step to step -/

section RingSteps
variable (c : Dev nD) (W : XBuf (F := F) c) (t : Fin cfg0.N)

/-- The other slot once step `k` has started its copies: the next step's rows in flight into it, or free after the last. -/
def otherP (k : ℕ) : sProp 𝕄 :=
  if k + 1 < 16 then flySlot c W (Ring.sl 2 (k + 1)) (Ring.bk 16 (k + 1)) else freeSlot c W (Ring.sl 2 (k + 1))

theorem slot_again (k : ℕ) : Ring.sl 2 (k + 1 + 1) = Ring.sl 2 k := Fin.ext (by show (k + 1 + 1) % 2 = k % 2; omega)

theorem ring_next (k : ℕ) (hk : k < 16) : iprop(otherP c W k ∗ freeSlot c W (Ring.sl 2 k)) ⊢ ringAt c W (k + 1) := by
  unfold otherP ringAt
  by_cases h : k + 1 < 16
  · rw [if_pos h, if_neg (by omega), slot_again]
  · obtain rfl : k = 15 := by omega
    rw [if_neg h, if_pos (Or.inr le_rfl)]
    exact .rfl

variable (arg3 : Memref sig .tc .vmem S1x3x2048 .f32) (harg3 : arg3.IsWhole) (arg4 : Memref sig .tc .vmem S1x1024x2048 .bf16) (harg4 : arg4.IsWhole) (arg5 : Memref sig .tc .vmem S1x1024x2048 .bf16) (harg5 : arg5.IsWhole) (arg6 : Memref sig .tc .vmem S1x2048x1024 .bf16) (harg6 : arg6.IsWhole) (arg7 : Memref sig .tc .vmem S1x2048x1024 .bf16) (harg7 : arg7.IsWhole) (arg8 : Memref sig .tc .vmem S1x2048x1024 .bf16) (harg8 : arg8.IsWhole) (arg9 : Memref sig .tc .vmem S1x2048x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg17 : Memref sig .tc .vmem S512x2048 .bf16) (harg17 : arg17.IsWhole)

theorem start_ring (K : StartRes → sProp 𝕄) :
    iprop(ringAt c W t.val ∗ (∀ r : StartRes, flySlot c W (Ring.sl 2 t.val) (Ring.bk 16 t.val) ∗ otherP c W t.val -∗ K r))
      ⊢ wp frame (wpE (defs₀ (F := F)) Variants.none c none) Set.univ (k0_part3 (grid0.coords t) xM (Memref.isWhole_whole _) arg3 harg3 arg4 harg4 arg5 harg5 arg6 harg6 arg7 harg7 arg8 harg8 arg9 harg9 arg10 harg10 arg11 harg11 arg12 harg12 arg13 harg13 arg14 harg14 planes (Memref.isWhole_whole _) cc0_scratch1 arg17 harg17) K := by
  have hlt : t.val < 16 := lt_of_lt_of_eq t.isLt N_0
  unfold ringAt otherP
  by_cases h0 : t.val = 0
  · rw [if_pos (Or.inl h0), if_pos (by omega), show (0 : Fin 2) = Ring.sl 2 t.val by rw [h0]; rfl, show (1 : Fin 2) = Ring.sl 2 (t.val + 1) by rw [h0]; rfl]
    iintro ⟨⟨H0, H1⟩, Hk⟩
    iapply (start_first c W t arg3 harg3 arg4 harg4 arg5 harg5 arg6 harg6 arg7 harg7 arg8 harg8 arg9 harg9 arg10 harg10 arg11 harg11 arg12 harg12 arg13 harg13 arg14 harg14 arg17 harg17 K ((first_iff t).mpr h0) ((more_iff t).mpr (by omega)))
    isplitl [H0]; · iexact H0
    isplitl [H1]; · iexact H1
    iexact Hk
  rw [if_neg (show ¬ (t.val = 0 ∨ 16 ≤ t.val) by omega)]
  by_cases h1 : t.val + 1 < 16
  · rw [if_pos h1]
    iintro ⟨⟨H0, H1⟩, Hk⟩
    iapply (start_next c W t arg3 harg3 arg4 harg4 arg5 harg5 arg6 harg6 arg7 harg7 arg8 harg8 arg9 harg9 arg10 harg10 arg11 harg11 arg12 harg12 arg13 harg13 arg14 harg14 arg17 harg17 K (fun h => h0 ((first_iff t).mp h)) ((more_iff t).mpr (by omega)))
    isplitl [H0]; · iexact H0
    isplitl [H1]; · iexact H1
    iexact Hk
  rw [if_neg h1]
  iintro ⟨⟨H0, H1⟩, Hk⟩
  iapply (start_last c W t arg3 harg3 arg4 harg4 arg5 harg5 arg6 harg6 arg7 harg7 arg8 harg8 arg9 harg9 arg10 harg10 arg11 harg11 arg12 harg12 arg13 harg13 arg14 harg14 arg17 harg17 K (fun h => h0 ((first_iff t).mp h)) (fun h => by have := (more_iff t).mp h; omega))
  isplitl [H0]; · iexact H0
  iintro %r H0
  iapply Hk
  isplitl [H0]; · iexact H0
  iexact H1

end RingSteps

/-! ## What the launch hands over -/

variable (m : (ℓ : Loc nD τ sig) → Buf (Elt F) ℓ) (ρ : Dev nD → PrngReg)

/-- Core `c`'s operand of 8192 tokens as the call finds it. -/
abbrev opnd (c : Dev nD) : XBuf (F := F) c := V m c main_v0

theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

abbrev osem0 : Fin 8 → SemLoc sig := fun j => (![SemLoc.dma 17, SemLoc.dma 18, SemLoc.dma 19, SemLoc.dma 20, SemLoc.dma 21, SemLoc.dma 22, SemLoc.dma 23, SemLoc.dma 24] : Fin 8 → SemLoc sig) j
theorem ownSemFacts0 : Pipeline.OwnSemFacts spec0 osem0 := by decide
theorem cell_at (s : Fin 2) (j : Fin 4) : cellLoc s j = osem0 ⟨4 * s.val + j.val, by omega⟩ := by
  revert s j; decide
theorem ownSems00_eq (c : Dev nD) :
    (Pipeline.ownSems0 (Ix := Unit) (Name := ℕ) (U := Pipeline.UD sig nD τ) (Lvl := ℕ) (Val := Elt F) (τ := τ) osem0 c : sProp 𝕄) = cellsP (F := F) c := by
  rw [Pipeline.ownSems0_eq_of_list c osem0 [0, 1, 2, 3, 4, 5, 6, 7] (by decide) (by decide)]
  simp only [cellsP, cellP, cell_at]
  rfl
def H0 : Finset (Ref sig .tc) := {main_v0}
theorem H0_sub : H0 ⊆ Pipeline.restRefs sig spec0 := by decide
theorem hbmPts0_eq (c : Dev nD) :
    (bigSep H0 (fun b => ((c : Thread nD τ).loc b) ↦{fullShare} V m c b) : sProp 𝕄) = wholeP c (opnd m c) fullShare := by
  rw [BI.bigSep_eq_bigSepL_of_eq [main_v0] (by decide) (by decide)]; rfl
theorem PhiD0_eq (c : Dev nD) :
    (Pipeline.ΦD osem0 spec0 H0 (V m) c : sProp 𝕄)
      = iprop(iprop((∃ d, owns (c : Thread nD τ) planes fullShare d) ∗ (∃ d, owns (c : Thread nD τ) rowsM fullShare d)) ∗ (∃ r, prngReg c r) ∗ cellsP (F := F) c ∗ wholeP c (opnd m c) fullShare) := by
  rw [Pipeline.ΦD_eq, scopedRest0_eq, ownSems00_eq, hbmPts0_eq]; simp only [planes, rowsM, owns_whole]; try rfl

/-! ## The pipeline's proof data -/

/-- Between the steps: the buffer of normalized rows at anything, the generator register, the ring. -/
def between (c : Dev nD) (k : ℕ) : sProp 𝕄 :=
  iprop((∃ d, owns (c : Thread nD τ) rowsM fullShare d) ∗ (∃ r, prngReg c r) ∗ ringAt c (opnd m c) k)

/-- Step `t`'s normalized and modulated rows. -/
abbrev hid (c : Dev nD) (t : Fin cfg0.N) := hidden c (opnd m c) (Ring.bk 16 t.val) (iblk m c 0 t)

/-- The arrays as the call finds them; after a step each input's buffer at its block, each result's at the step's value. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outU (hid m c t) (iblk m c 1 t)
    | ⟨8, _⟩ => outZ (hid m c t) (iblk m c 2 t)
    | ⟨9, _⟩ => outCV (hid m c t) (iblk m c 3 t) (iblk m c 5 t)
    | ⟨10, _⟩ => outB (hid m c t) (iblk m c 4 t)
    | ⟨11, _⟩ => outG (hid m c t) (iblk m c 6 t)
  Φ t := between m c t.val
  q w := Pipeline.shareOf spec0 w
  owed _ := 0

theorem A_eq (c : Dev nD) (w : Fin cfg0.W) : (dats m 0 c).A w = V m c (Pipeline.arrRef spec0 w) := by dsimp only [dats]
theorem between_start (c : Dev nD) (t : Fin cfg0.N) : (dats m 0 c).Φ t.castSucc = between m c t.val := by
  dsimp only [dats]; simp only [Fin.coe_castSucc]
theorem between_end (c : Dev nD) (t : Fin cfg0.N) : (dats m 0 c).Φ t.succ = between m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outU (hid m c t) (iblk m c 1 t) := by dsimp only [dats]
theorem after0_8 (c : Dev nD) (t : Fin cfg0.N) : (dats m 0 c).after 8 t = outZ (hid m c t) (iblk m c 2 t) := by dsimp only [dats]
theorem after0_9 (c : Dev nD) (t : Fin cfg0.N) : (dats m 0 c).after 9 t = outCV (hid m c t) (iblk m c 3 t) (iblk m c 5 t) := by dsimp only [dats]
theorem after0_10 (c : Dev nD) (t : Fin cfg0.N) : (dats m 0 c).after 10 t = outB (hid m c t) (iblk m c 4 t) := by dsimp only [dats]
theorem after0_11 (c : Dev nD) (t : Fin cfg0.N) : (dats m 0 c).after 11 t = outG (hid m c t) (iblk m c 6 t) := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-! ## A step -/

theorem defs₀_row (t : Fin cfg0.N) : defs₀ (F := F) .tc cfg0.body (cfg0.bodyArgs t (cfg0.slots t)) = bodyAt0 t := by
  unfold defs₀; rw [Defs.onTc_tc]

set_option maxHeartbeats 2000000 in
/-- The library's obligation of a grid step. -/
theorem body_obligation (c : Dev nD) : BodyObligation (dats (F := F) m 0 c) (defs₀ (F := F)) Variants.none () Set.univ := fun t => by
  rw [bigSep_W0, bigSep_W0, defs₀_row]
  have hlt : t.val < 16 := lt_of_lt_of_eq t.isLt N_0
  unfold bodyAt0
  simp only [before0_0, before0_1, before0_2, before0_3, before0_4, before0_5, before0_6]
  rw [after0_0, after0_1, after0_2, after0_3, after0_4, after0_5, after0_6, after0_7, after0_8, after0_9, after0_10, after0_11,
    between_start m c t, between_end m c t]
  unfold Dat.owesAt Pipeline.owesWithin
  rw [show (dats m 0 c).owed t.castSucc = 0 from rfl, show (dats m 0 c).owed t.succ = 0 from rfl]
  unfold between
  iintro ⟨⟨HS, Hg, HR⟩, ⟨%Wt, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (step_run c (opnd m c) t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) rowsM (Memref.isWhole_whole _)
    (iblk m c 0 t) (iblk m c 1 t) (iblk m c 2 t) (iblk m c 3 t) (iblk m c 4 t) (iblk m c 5 t) (iblk m c 6 t)
    (ringAt c (opnd m c) t.val) (otherP c (opnd m c) t.val) Wt _ (start_ring c (opnd m c) t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) rowsM (Memref.isWhole_whole _)))
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS]; · iexact HS
  isplitl [HW]; · iexact HW
  iintro ⟨HO, HF, H0, H1, H2, H3, H4, H5, H6, H7, H8, H9, H10, H11, HS, ⟨%W', HW'⟩⟩
  isplitl [HS Hg HO HF]
  · isplitl [HS]; · iexact HS
    isplitl [Hg]; · iexact Hg
    iapply (ring_next c (opnd m c) t.val hlt)
    isplitl [HO]; · iexact HO
    iexact HF
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem hin (c : Dev nD) : Pipeline.ΦD osem0 spec0 H0 (V m) c ⊢ (dats m 0 c).Φ 0 := by
  rw [PhiD0_eq, show (dats m 0 c).Φ 0 = between m c 0 from rfl]
  unfold between
  iintro ⟨⟨HP, HS⟩, Hg, Hc, Hh⟩
  isplitl [HS]; · iexact HS
  isplitl [Hg]; · iexact Hg
  iapply (ring_in c (opnd m c))
  isplitl [HP]; · iapply (planes_in c); iexact HP
  isplitl [Hc]; · iexact Hc
  iapply (shares_in c (opnd m c)); iexact Hh
theorem hout (c : Dev nD) : (dats m 0 c).Φ (Fin.last cfg0.N) ⊢ Pipeline.ΦD osem0 spec0 H0 (V m) c := by
  rw [PhiD0_eq, show (dats m 0 c).Φ (Fin.last cfg0.N) = between m c grid0.N from rfl]
  unfold between
  rw [show grid0.N = 16 by rw [N_0]]
  iintro ⟨HS, Hg, HR⟩
  ihave HX := (ring_out c (opnd m c)) $$ HR
  icases HX with ⟨HP, Hc, Hh⟩
  isplitl [HP HS]
  · isplitl [HP]; · iapply (planes_out c); iexact HP
    iexact HS
  isplitl [Hg]; · iexact Hg
  isplitl [Hc]; · iexact Hc
  iapply (shares_out c (opnd m c)); iexact Hh

/-! ## The run -/

-- the library's theorem finds its implicit arguments by unifying its conclusion with this one, which unfolds plain
-- definitions in a metavariable's type
set_option backward.isDefEq.respectTransparency.types false in
/-- From any memory with zero counters every run of the kernel ends, its arrays at what the proof data say and every
    counter at zero. -/
theorem run_main : θ_run defs (onTc (τ := τ) (main (F := F))) (s₀ m ρ)
    (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl) (howed := fun _ _ => rfl) (V := V m)
    (hmain := hmain m) (hA := A_eq m) (hin := hin m) (hout := hout m)

/-- The argument arrays end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_mono (run_main m ρ) fun _ h c =>
    ⟨((h.1 c).2 main_arg0 (Pipeline.mem_restRefs_of main_arg0 (by decide) (by decide))).trans (V_main_arg0 m c),
      ((h.1 c).1 0).trans (((dats m 0 c).arrAt_in 0 rfl _).trans ((A_eq m c 0).trans (V_main_arg1 m c))),
      ((h.1 c).1 2).trans (((dats m 0 c).arrAt_in 2 rfl _).trans ((A_eq m c 2).trans (V_main_arg2 m c))),
      ((h.1 c).1 6).trans (((dats m 0 c).arrAt_in 6 rfl _).trans ((A_eq m c 6).trans (V_main_arg3 m c)))⟩

end Cert.Proof.InProj

end
-- ==== Proof.InProj.Spec.lean ====
/-
  Hand-written, untrusted. What the input projection computes, entry by entry: the rows of the tokens in the order of the results,
  normalised over their features and modulated, times the prepared weights, with the gates.
-/
module

public import Idealize.ShloMosaic.Lib.Pipeline.Value
public import Idealize.ShloMosaic.Lib.ValueIdxCore
public import Idealize.ShloMosaic.Lib.Pointwise
public import Idealize.ShloMosaic.Lib.KernelVsHost

@[expose] public section

noncomputable section

namespace Cert.Proof.InProj

open Idealize.ShloMosaic

/-- The mean of a row of features. -/
def meanS (v : Fin 2048 → EReal) : EReal :=
  FloatOps.divf (F := Ideal) (φ := .f32) (∑ d, v d) (Scalar.ofBits .f32 0x45000000#32)

/-- A row normalised over its features, times one plus `sc`, plus `sh`, at feature `d`. -/
def lnS (v sh sc : Fin 2048 → EReal) (d : Fin 2048) : EReal :=
  (v d - meanS v) * FloatOps.rsqrt (F := Ideal) (φ := .f32)
      (meanS (fun e => (v e - meanS v) * (v e - meanS v)) + Scalar.ofBits (F := Ideal) .f32 0x358637BD#32)
    * (Scalar.ofBits (F := Ideal) .f32 0x3F800000#32 + sc d) + sh d

/-- The token at position `r` of the results. -/
def tok (r : Fin 8192) : Fin 8192 :=
  ⟨16 * (128 * (r.val / 2048) + r.val % 128) + r.val % 2048 / 128, by have := r.isLt; omega⟩

/-- The gate of a product. -/
def gateS (z : EReal) : EReal := z * FloatOps.tanh (F := Ideal) (φ := .f32) z + z

variable (k : Fin 4) (A0 : FVec Ideal ⟨3, ![1, 8192, 2048]⟩ .f32) (A1 : FVec Ideal ⟨3, ![4, 3, 2048]⟩ .f32)
  (A2 : FVec Ideal ⟨3, ![1, 2048, 2048]⟩ .bf16) (A3 : FVec Ideal ⟨3, ![1, 2048, 4096]⟩ .bf16)

/-- Feature `d` of the row at position `r`, normalised and modulated by row `k` of the modulations. -/
def hS (r : Fin 8192) (d : Fin 2048) : EReal :=
  lnS (fun e => A0 (ix3 (n0 := 1) (n1 := 8192) (n2 := 2048) 0 (tok r) e))
    (fun e => A1 (ix3 (n0 := 4) (n1 := 3) (n2 := 2048) k 0 e)) (fun e => A1 (ix3 (n0 := 4) (n1 := 3) (n2 := 2048) k 1 e)) d

/-- Row `o` of the transposed weights times the row at position `r`. -/
def pT (o : Fin 2048) (r : Fin 8192) : EReal := ∑ d : Fin 2048, A2 (ix3 (n0 := 1) (n1 := 2048) (n2 := 2048) 0 o d) * hS k A0 A1 r d
/-- The row at position `r` times column `o` of the other weights. -/
def pR (r : Fin 8192) (o : Fin 4096) : EReal := ∑ d : Fin 2048, hS k A0 A1 r d * A3 (ix3 (n0 := 1) (n1 := 2048) (n2 := 4096) 0 d o)

/-- The scan's input. -/
def uS : FVec Ideal ⟨2, ![1024, 8192]⟩ .bf16 := fun i => pT k A0 A1 A2 ⟨(i 0).val, (i 0).isLt.trans (by decide)⟩ (i 1)
/-- The scan's gate. -/
def zS : FVec Ideal ⟨2, ![1024, 8192]⟩ .bf16 :=
  fun i => gateS (pT k A0 A1 A2 ⟨1024 + (i 0).val, by have : (i 0).val < 1024 := (i 0).isLt; omega⟩ (i 1))
/-- The convolution's input. -/
def cvS : FVec Ideal ⟨2, ![8192, 1024]⟩ .bf16 :=
  fun i => pR k A0 A1 A3 (i 0) ⟨2048 + (i 1).val, by have : (i 1).val < 1024 := (i 1).isLt; omega⟩
    * pR k A0 A1 A3 (i 0) ⟨0 + (i 1).val, by have : (i 1).val < 1024 := (i 1).isLt; omega⟩
/-- The convolution's gate before it. -/
def bS : FVec Ideal ⟨2, ![8192, 1024]⟩ .bf16 :=
  fun i => pR k A0 A1 A3 (i 0) ⟨1024 + (i 1).val, by have : (i 1).val < 1024 := (i 1).isLt; omega⟩
/-- The convolution's gate after it. -/
def gS : FVec Ideal ⟨2, ![8192, 1024]⟩ .bf16 :=
  fun i => gateS (pR k A0 A1 A3 (i 0) ⟨3072 + (i 1).val, by have : (i 1).val < 1024 := (i 1).isLt; omega⟩)

/-- The convolution's weights of the next layer, its gate's halved. -/
def nextRS (W : FVec Ideal ⟨3, ![2, 2048, 6144]⟩ .f32) : FVec Ideal ⟨3, ![1, 2048, 4096]⟩ .bf16 := fun i =>
  if (i 2).val < 3072 then W (ix3 (n0 := 2) (n1 := 2048) (n2 := 6144) 1 (i 1) ⟨2048 + (i 2).val, by have : (i 2).val < 4096 := (i 2).isLt; omega⟩)
  else Scalar.ofBits (F := Ideal) .f32 0x3F000000#32
    * W (ix3 (n0 := 2) (n1 := 2048) (n2 := 6144) 1 (i 1) ⟨2048 + (i 2).val, by have : (i 2).val < 4096 := (i 2).isLt; omega⟩)
/-- The scan's weights of the next layer, transposed, its gate's halved. -/
def nextTS (W : FVec Ideal ⟨3, ![2, 2048, 6144]⟩ .f32) : FVec Ideal ⟨3, ![1, 2048, 2048]⟩ .bf16 := fun i =>
  if (i 1).val < 1024 then W (ix3 (n0 := 2) (n1 := 2048) (n2 := 6144) 1 (i 2) ⟨(i 1).val, by have : (i 1).val < 2048 := (i 1).isLt; omega⟩)
  else Scalar.ofBits (F := Ideal) .f32 0x3F000000#32
    * W (ix3 (n0 := 2) (n1 := 2048) (n2 := 6144) 1 (i 2) ⟨(i 1).val, by have : (i 1).val < 2048 := (i 1).isLt; omega⟩)

end Cert.Proof.InProj

end
-- ==== Proof.InProj.Kern.lean ====
/-
  Hand-written, untrusted. The input projection's kernel over the extended reals: the operand's planes, the weights' blocks and a
  step's rows and products, each in Spec.lean's terms.
-/
module

public import proofs.«01_k».proof.Proof.InProj.Run
public import proofs.«01_k».proof.Proof.InProj.Spec
public import Idealize.ShloMosaic.Lib.StableHlo.RunRead

@[expose] public section

set_option maxRecDepth 16384

noncomputable section

namespace Cert.Proof.InProj

open Cert.Kernel2Ideal Cert.Kernel2Ideal.Gen
open Idealize.ShloMosaic Idealize.ShloMosaic.TcCoe
open Idealize.SL.Sem
open Idealize.ShloMosaic.Pipeline (Dat)

/-! ## A plane's rows -/

theorem meanCol_val (x : FVec Ideal S128x2048 .f32) (i : Fin 128) :
    meanCol x (ix2 (n0 := 128) (n1 := 1) i 0) = meanS fun d => x (ix2 (n0 := 128) (n1 := 2048) i d) := by
  unfold meanCol meanS
  refine congrArg₂ (FloatOps.divf (F := Ideal) (φ := .f32)) ?_ rfl
  refine (shapeCast_apply (s := S128) _ _ _ (ix1 (n0 := 128) i) ?_).trans ?_
  · rw [Shape.rowMajor_val_one, Shape.rowMajor_val_two]
    show i.val = i.val * 1 + 0
    omega
  · exact Ideal.reduceAdd_r2_a1 _ _ _

/-- A column repeated along the features. -/
theorem col_val (x : FVec Ideal S128x1 .f32) (i : Fin 128) (d : Fin 2048) :
    broadcastTo S128x2048 x broadcasts_S128x1_S128x2048 (ix2 (n0 := 128) (n1 := 2048) i d) = x (ix2 (n0 := 128) (n1 := 1) i 0) :=
  broadcastTo_apply (s := S128x1) _ _ _ _ fun a => by match a with | ⟨0, _⟩ => rfl | ⟨1, _⟩ => rfl
/-- A row repeated along the tokens. -/
theorem row_val (x : FVec Ideal S1x2048 .f32) (i : Fin 128) (d : Fin 2048) :
    broadcastTo S128x2048 x broadcasts_S1x2048_S128x2048 (ix2 (n0 := 128) (n1 := 2048) i d) = x (ix2 (n0 := 1) (n1 := 2048) 0 d) :=
  broadcastTo_apply (s := S1x2048) _ _ _ _ fun a => by match a with | ⟨0, _⟩ => rfl | ⟨1, _⟩ => rfl

theorem centred_val (x : FVec Ideal S128x2048 .f32) (i : Fin 128) (d : Fin 2048) : centred x (ix2 (n0 := 128) (n1 := 2048) i d)
    = x (ix2 (n0 := 128) (n1 := 2048) i d) - meanS fun e => x (ix2 (n0 := 128) (n1 := 2048) i e) :=
  congrArg (fun a : EReal => x (ix2 (n0 := 128) (n1 := 2048) i d) - a) ((col_val _ i d).trans (meanCol_val x i))

theorem normed_val (x : FVec Ideal S128x2048 .f32) (sh sc : FVec Ideal S1x2048 .f32) (i : Fin 128) (d : Fin 2048) :
    normed x sh sc (ix2 (n0 := 128) (n1 := 2048) i d) = lnS (fun e => x (ix2 (n0 := 128) (n1 := 2048) i e))
      (fun e => sh (ix2 (n0 := 1) (n1 := 2048) 0 e)) (fun e => sc (ix2 (n0 := 1) (n1 := 2048) 0 e)) d := by
  unfold normed lnS
  rw [shapeCast_self]
  refine congrArg₂ (fun a b : EReal => a + b) (congrArg₂ (fun a b : EReal => a * b)
    (congrArg₂ (fun a b : EReal => a * b) (centred_val x i d) ?_) ?_) (row_val sh i d)
  · refine (col_val _ i d).trans (congrArg (FloatOps.rsqrt (F := Ideal) (φ := .f32)) (congrArg (fun a : EReal => a + _) ?_))
    exact (meanCol_val _ i).trans (congrArg meanS (funext fun e => congrArg₂ (fun a b : EReal => a * b) (centred_val x i e) (centred_val x i e)))
  · exact row_val _ i d

variable (m : (ℓ : Loc nD τ sig) → Buf (Elt Ideal) ℓ) (c : Dev nD)

abbrev K0 : FVec Ideal ⟨3, ![1, 8192, 2048]⟩ .f32 := m ((c : Thread nD τ).loc main_arg0)
abbrev K1 : FVec Ideal ⟨3, ![4, 3, 2048]⟩ .f32 := m ((c : Thread nD τ).loc main_arg1)
abbrev K2 : FVec Ideal ⟨3, ![1, 2048, 2048]⟩ .bf16 := m ((c : Thread nD τ).loc main_arg2)
abbrev K3 : FVec Ideal ⟨3, ![1, 2048, 4096]⟩ .bf16 := m ((c : Thread nD τ).loc main_arg3)

theorem N16 (t : Fin cfg0.N) : t.val < 16 := lt_of_lt_of_eq t.isLt N_0

/-! ## The blocks -/

theorem idx0 (t : Fin cfg0.N) : win0_0.index t = ![2, 0, 0] := by
  rcases fin_N0 t with rfl | rfl | rfl | rfl | rfl | rfl | rfl | rfl | rfl | rfl | rfl | rfl | rfl | rfl | rfl | rfl <;> decide
theorem idx1 (t : Fin cfg0.N) : win0_1.index t = ![0, 0, 0] := by
  rcases fin_N0 t with rfl | rfl | rfl | rfl | rfl | rfl | rfl | rfl | rfl | rfl | rfl | rfl | rfl | rfl | rfl | rfl <;> decide
theorem idx2 (t : Fin cfg0.N) : win0_2.index t = ![0, 1, 0] := by
  rcases fin_N0 t with rfl | rfl | rfl | rfl | rfl | rfl | rfl | rfl | rfl | rfl | rfl | rfl | rfl | rfl | rfl | rfl <;> decide
theorem idx3 (t : Fin cfg0.N) : win0_3.index t = ![0, 0, 0] := by
  rcases fin_N0 t with rfl | rfl | rfl | rfl | rfl | rfl | rfl | rfl | rfl | rfl | rfl | rfl | rfl | rfl | rfl | rfl <;> decide
theorem idx4 (t : Fin cfg0.N) : win0_4.index t = ![0, 0, 1] := by
  rcases fin_N0 t with rfl | rfl | rfl | rfl | rfl | rfl | rfl | rfl | rfl | rfl | rfl | rfl | rfl | rfl | rfl | rfl <;> decide
theorem idx5 (t : Fin cfg0.N) : win0_5.index t = ![0, 0, 2] := by
  rcases fin_N0 t with rfl | rfl | rfl | rfl | rfl | rfl | rfl | rfl | rfl | rfl | rfl | rfl | rfl | rfl | rfl | rfl <;> decide
theorem idx6 (t : Fin cfg0.N) : win0_6.index t = ![0, 0, 3] := by
  rcases fin_N0 t with rfl | rfl | rfl | rfl | rfl | rfl | rfl | rfl | rfl | rfl | rfl | rfl | rfl | rfl | rfl | rfl <;> decide
theorem idx7 (t : Fin cfg0.N) : win0_7.index t = ![0, t.val] := by
  rcases fin_N0 t with rfl | rfl | rfl | rfl | rfl | rfl | rfl | rfl | rfl | rfl | rfl | rfl | rfl | rfl | rfl | rfl <;> decide
theorem idx8 (t : Fin cfg0.N) : win0_8.index t = ![0, t.val] := by
  rcases fin_N0 t with rfl | rfl | rfl | rfl | rfl | rfl | rfl | rfl | rfl | rfl | rfl | rfl | rfl | rfl | rfl | rfl <;> decide
theorem idx9 (t : Fin cfg0.N) : win0_9.index t = ![t.val, 0] := by
  rcases fin_N0 t with rfl | rfl | rfl | rfl | rfl | rfl | rfl | rfl | rfl | rfl | rfl | rfl | rfl | rfl | rfl | rfl <;> decide
theorem idx10 (t : Fin cfg0.N) : win0_10.index t = ![t.val, 0] := by
  rcases fin_N0 t with rfl | rfl | rfl | rfl | rfl | rfl | rfl | rfl | rfl | rfl | rfl | rfl | rfl | rfl | rfl | rfl <;> decide
theorem idx11 (t : Fin cfg0.N) : win0_11.index t = ![t.val, 0] := by
  rcases fin_N0 t with rfl | rfl | rfl | rfl | rfl | rfl | rfl | rfl | rfl | rfl | rfl | rfl | rfl | rfl | rfl | rfl <;> decide

theorem blk0 (t : Fin cfg0.N) (a : Fin 3) (d : Fin 2048) :
    (iblk m c 0 t : Vec Ideal S1x3x2048 .f32) (ix3 (n0 := 1) (n1 := 3) (n2 := 2048) 0 a d) = K1 m c (ix3 (n0 := 4) (n1 := 3) (n2 := 2048) 2 a d) := by
  refine (congrFun (V_main_arg1 m c) _).trans (congrArg (K1 m c) ?_)
  funext x
  apply Fin.ext
  match x with
  | ⟨0, _⟩ => show win0_0.index t 0 * 1 + 1 * 0 = 2; rw [idx0]; rfl
  | ⟨1, _⟩ => show win0_0.index t 1 * 3 + 1 * a.val = a.val; rw [idx0]; show 0 * 3 + 1 * a.val = _; omega
  | ⟨2, _⟩ => show win0_0.index t 2 * 2048 + 1 * d.val = d.val; rw [idx0]; show 0 * 2048 + 1 * d.val = _; omega

theorem blk1 (t : Fin cfg0.N) (a : Fin 1024) (d : Fin 2048) :
    (iblk m c 1 t : Vec Ideal S1x1024x2048 .bf16) (ix3 (n0 := 1) (n1 := 1024) (n2 := 2048) 0 a d)
      = K2 m c (ix3 (n0 := 1) (n1 := 2048) (n2 := 2048) 0 ⟨0 + a.val, by have := a.isLt; omega⟩ d) := by
  refine (congrFun (V_main_arg2 m c) _).trans (congrArg (K2 m c) ?_)
  funext x
  apply Fin.ext
  match x with
  | ⟨0, _⟩ => show win0_1.index t 0 * 1 + 1 * 0 = 0; rw [idx1]; rfl
  | ⟨1, _⟩ => show win0_1.index t 1 * 1024 + 1 * a.val = 0 + a.val; rw [idx1]; show 0 * 1024 + 1 * a.val = _; omega
  | ⟨2, _⟩ => show win0_1.index t 2 * 2048 + 1 * d.val = d.val; rw [idx1]; show 0 * 2048 + 1 * d.val = _; omega

theorem blk2 (t : Fin cfg0.N) (a : Fin 1024) (d : Fin 2048) :
    (iblk m c 2 t : Vec Ideal S1x1024x2048 .bf16) (ix3 (n0 := 1) (n1 := 1024) (n2 := 2048) 0 a d)
      = K2 m c (ix3 (n0 := 1) (n1 := 2048) (n2 := 2048) 0 ⟨1024 + a.val, by have := a.isLt; omega⟩ d) := by
  refine (congrFun (V_main_arg2 m c) _).trans (congrArg (K2 m c) ?_)
  funext x
  apply Fin.ext
  match x with
  | ⟨0, _⟩ => show win0_2.index t 0 * 1 + 1 * 0 = 0; rw [idx2]; rfl
  | ⟨1, _⟩ => show win0_2.index t 1 * 1024 + 1 * a.val = 1024 + a.val; rw [idx2]; show 1 * 1024 + 1 * a.val = _; omega
  | ⟨2, _⟩ => show win0_2.index t 2 * 2048 + 1 * d.val = d.val; rw [idx2]; show 0 * 2048 + 1 * d.val = _; omega

theorem blk3 (t : Fin cfg0.N) (d : Fin 2048) (a : Fin 1024) :
    (iblk m c 3 t : Vec Ideal S1x2048x1024 .bf16) (ix3 (n0 := 1) (n1 := 2048) (n2 := 1024) 0 d a)
      = K3 m c (ix3 (n0 := 1) (n1 := 2048) (n2 := 4096) 0 d ⟨0 + a.val, by have := a.isLt; omega⟩) := by
  refine (congrFun (V_main_arg3 m c) _).trans (congrArg (K3 m c) ?_)
  funext x
  apply Fin.ext
  match x with
  | ⟨0, _⟩ => show win0_3.index t 0 * 1 + 1 * 0 = 0; rw [idx3]; rfl
  | ⟨1, _⟩ => show win0_3.index t 1 * 2048 + 1 * d.val = d.val; rw [idx3]; show 0 * 2048 + 1 * d.val = _; omega
  | ⟨2, _⟩ => show win0_3.index t 2 * 1024 + 1 * a.val = 0 + a.val; rw [idx3]; show 0 * 1024 + 1 * a.val = _; omega

theorem blk4 (t : Fin cfg0.N) (d : Fin 2048) (a : Fin 1024) :
    (iblk m c 4 t : Vec Ideal S1x2048x1024 .bf16) (ix3 (n0 := 1) (n1 := 2048) (n2 := 1024) 0 d a)
      = K3 m c (ix3 (n0 := 1) (n1 := 2048) (n2 := 4096) 0 d ⟨1024 + a.val, by have := a.isLt; omega⟩) := by
  refine (congrFun (V_main_arg3 m c) _).trans (congrArg (K3 m c) ?_)
  funext x
  apply Fin.ext
  match x with
  | ⟨0, _⟩ => show win0_4.index t 0 * 1 + 1 * 0 = 0; rw [idx4]; rfl
  | ⟨1, _⟩ => show win0_4.index t 1 * 2048 + 1 * d.val = d.val; rw [idx4]; show 0 * 2048 + 1 * d.val = _; omega
  | ⟨2, _⟩ => show win0_4.index t 2 * 1024 + 1 * a.val = 1024 + a.val; rw [idx4]; show 1 * 1024 + 1 * a.val = _; omega

theorem blk5 (t : Fin cfg0.N) (d : Fin 2048) (a : Fin 1024) :
    (iblk m c 5 t : Vec Ideal S1x2048x1024 .bf16) (ix3 (n0 := 1) (n1 := 2048) (n2 := 1024) 0 d a)
      = K3 m c (ix3 (n0 := 1) (n1 := 2048) (n2 := 4096) 0 d ⟨2048 + a.val, by have := a.isLt; omega⟩) := by
  refine (congrFun (V_main_arg3 m c) _).trans (congrArg (K3 m c) ?_)
  funext x
  apply Fin.ext
  match x with
  | ⟨0, _⟩ => show win0_5.index t 0 * 1 + 1 * 0 = 0; rw [idx5]; rfl
  | ⟨1, _⟩ => show win0_5.index t 1 * 2048 + 1 * d.val = d.val; rw [idx5]; show 0 * 2048 + 1 * d.val = _; omega
  | ⟨2, _⟩ => show win0_5.index t 2 * 1024 + 1 * a.val = 2048 + a.val; rw [idx5]; show 2 * 1024 + 1 * a.val = _; omega

theorem blk6 (t : Fin cfg0.N) (d : Fin 2048) (a : Fin 1024) :
    (iblk m c 6 t : Vec Ideal S1x2048x1024 .bf16) (ix3 (n0 := 1) (n1 := 2048) (n2 := 1024) 0 d a)
      = K3 m c (ix3 (n0 := 1) (n1 := 2048) (n2 := 4096) 0 d ⟨3072 + a.val, by have := a.isLt; omega⟩) := by
  refine (congrFun (V_main_arg3 m c) _).trans (congrArg (K3 m c) ?_)
  funext x
  apply Fin.ext
  match x with
  | ⟨0, _⟩ => show win0_6.index t 0 * 1 + 1 * 0 = 0; rw [idx6]; rfl
  | ⟨1, _⟩ => show win0_6.index t 1 * 2048 + 1 * d.val = d.val; rw [idx6]; show 0 * 2048 + 1 * d.val = _; omega
  | ⟨2, _⟩ => show win0_6.index t 2 * 1024 + 1 * a.val = 3072 + a.val; rw [idx6]; show 3 * 1024 + 1 * a.val = _; omega

/-! ## The operand's planes -/

/-- The operand is the argument, its tokens in rows of sixteen. -/
theorem opnd_eq : opnd m c = (shapeCast S512x16x2048 (K0 m c) shapeCasts_S1x8192x2048_S512x16x2048 : FVec Ideal S512x16x2048 .f32) := by
  unfold opnd V
  after_reads_simp
  rfl

theorem opnd_val (p : Fin 512) (q : Fin 16) (d : Fin 2048) : (opnd m c : FVec Ideal S512x16x2048 .f32) (ix3 (n0 := 512) (n1 := 16) (n2 := 2048) p q d)
    = K0 m c (ix3 (n0 := 1) (n1 := 8192) (n2 := 2048) 0 ⟨16 * p.val + q.val, by have := p.isLt; have := q.isLt; omega⟩ d) := by
  rw [opnd_eq]
  refine shapeCast_apply (s := S1x8192x2048) _ _ _ _ ?_
  rw [Shape.rowMajor_val_three, Shape.rowMajor_val_three]
  show (0 * 8192 + (16 * p.val + q.val)) * 2048 + d.val = (p.val * 16 + q.val) * 2048 + d.val
  omega

/-- Position of row `a` of step `b`'s plane `j` in the results. -/
abbrev pos (b : Fin 16) (a : Fin 512) : Fin 8192 := ⟨512 * b.val + a.val, by have := a.isLt; have := b.isLt; omega⟩

theorem plane_val (b : Fin 16) (j : Fin 4) (i : Fin 128) (d : Fin 2048) :
    planeVec (F := Ideal) c (opnd m c) b j (ix2 (n0 := 128) (n1 := 2048) i d)
      = K0 m c (ix3 (n0 := 1) (n1 := 8192) (n2 := 2048) 0 (tok (pos b ⟨128 * j.val + i.val, by have := j.isLt; have := i.isLt; omega⟩)) d) := by
  have hb := b.isLt
  have hj := j.isLt
  have hi := i.isLt
  refine Eq.trans (b := (opnd m c : FVec Ideal S512x16x2048 .f32) (ix3 (n0 := 512) (n1 := 16) (n2 := 2048)
    ⟨128 * (b.val / 4) + i.val, by omega⟩ ⟨4 * (b.val % 4) + j.val, by omega⟩ d)) ?_ ?_
  · refine (congrFun (Memref.read_squeeze_slice (Val := Elt Ideal) xM (Rect.unit (s := S512x16x2048) ![128 * (b.val / 4), 4 * (b.val % 4) + j.val, 0] S128x1x2048.size (inb_src b j))
      (fun _ => rfl) squeezes_S128x1x2048_S128x2048 squeezes_S128x1x2048_S128x2048.numel_eq (opnd m c)) _).trans ?_
    refine (shapeCast_apply (s := S128x1x2048) _ _ _ (ix3 (n0 := 128) (n1 := 1) (n2 := 2048) i 0 d) ?_).trans ?_
    · rw [Shape.rowMajor_val_three, Shape.rowMajor_val_two]
      show (i.val * 1 + 0) * 2048 + d.val = i.val * 2048 + d.val
      omega
    refine congrArg (opnd m c : FVec Ideal S512x16x2048 .f32) ?_
    funext x
    apply Fin.ext
    match x with
    | ⟨0, _⟩ => show 128 * (b.val / 4) + 1 * i.val = 128 * (b.val / 4) + i.val; omega
    | ⟨1, _⟩ => show 4 * (b.val % 4) + j.val + 1 * 0 = 4 * (b.val % 4) + j.val; omega
    | ⟨2, _⟩ => show 0 + 1 * d.val = d.val; omega
  · refine (opnd_val m c _ _ _).trans (congrArg (K0 m c) (congrArg (fun r => ix3 (n0 := 1) (n1 := 8192) (n2 := 2048) 0 r d) (Fin.ext ?_)))
    show 16 * (128 * (b.val / 4) + i.val) + (4 * (b.val % 4) + j.val)
      = 16 * (128 * ((512 * b.val + (128 * j.val + i.val)) / 2048) + (512 * b.val + (128 * j.val + i.val)) % 128)
        + (512 * b.val + (128 * j.val + i.val)) % 2048 / 128
    omega

/-! ## A step's rows and products -/

/-- The step's number among the results' blocks of rows. -/
abbrev st (t : Fin cfg0.N) : Fin 16 := ⟨t.val, N16 t⟩

theorem hid_val (t : Fin cfg0.N) (a : Fin 512) (d : Fin 2048) :
    hid m c t (ix2 (n0 := 512) (n1 := 2048) a d) = hS 2 (K0 m c) (K1 m c) (pos (st t) a) d := by
  have ha := a.isLt
  have eb : Ring.bk 16 t.val = st t := Fin.ext (Nat.mod_eq_of_lt (N16 t))
  unfold hid hidden stack4 hS
  rw [eb]
  refine (normed_val _ _ _ _ _).trans ?_
  have e1 : ∀ e : Fin 2048, planeVec (F := Ideal) c (opnd m c) (st t) ⟨a.val / 128, by omega⟩ (ix2 (n0 := 128) (n1 := 2048) ⟨a.val % 128, by omega⟩ e)
      = K0 m c (ix3 (n0 := 1) (n1 := 8192) (n2 := 2048) 0 (tok (pos (st t) a)) e) := fun e => by
    refine (plane_val m c _ _ _ _).trans (congrArg (K0 m c) (congrArg (fun r => ix3 (n0 := 1) (n1 := 8192) (n2 := 2048) 0 (tok (pos (st t) r)) e) (Fin.ext ?_)))
    show 128 * (a.val / 128) + a.val % 128 = a.val
    omega
  have e2 : ∀ e : Fin 2048, shiftRow (F := Ideal) (iblk m c 0 t) (ix2 (n0 := 1) (n1 := 2048) 0 e) = _ := fun e => blk0 m c t 0 e
  have e3 : ∀ e : Fin 2048, scaleRow (F := Ideal) (iblk m c 0 t) (ix2 (n0 := 1) (n1 := 2048) 0 e) = _ := fun e => blk0 m c t 1 e
  exact congrFun (congr (congrArg₂ lnS (funext e1) (funext e2)) (funext e3)) d

theorem prodT_val (t : Fin cfg0.N) (w : Vec Ideal S1x1024x2048 .bf16) (n : ℕ) (hn : n + 1024 ≤ 2048)
    (hw : ∀ (a : Fin 1024) (d : Fin 2048), w (ix3 (n0 := 1) (n1 := 1024) (n2 := 2048) 0 a d)
      = K2 m c (ix3 (n0 := 1) (n1 := 2048) (n2 := 2048) 0 ⟨n + a.val, by have := a.isLt; omega⟩ d)) (o : Fin 1024) (a : Fin 512) :
    prodT (hid m c t) w (ix2 (n0 := 1024) (n1 := 512) o a)
      = pT 2 (K0 m c) (K1 m c) (K2 m c) ⟨n + o.val, by have := o.isLt; omega⟩ (pos (st t) a) := by
  unfold prodT pT
  refine (Ideal.matmul_constant_zero_apply _ none _ _ _).trans ?_
  rw [DotDims.sum_contr₁ _ rfl (K := 2048) rfl _]
  refine Finset.sum_congr rfl fun d _ => congrArg₂ (fun a b : EReal => a * b) ?_ ?_
  · refine (shapeCast_apply (s := S1x1024x2048) _ _ _ (ix3 (n0 := 1) (n1 := 1024) (n2 := 2048) 0 o d) ?_).trans (hw o d)
    rw [Shape.rowMajor_val_three, Shape.rowMajor_val_two]
    show (0 * 1024 + o.val) * 2048 + d.val = o.val * 2048 + d.val
    omega
  · refine (congrArg (hid m c t) ?_).trans (hid_val m c t a d)
    funext x; match x with | ⟨0, _⟩ => rfl | ⟨1, _⟩ => rfl

theorem prodR_val (t : Fin cfg0.N) (w : Vec Ideal S1x2048x1024 .bf16) (n : ℕ) (hn : n + 1024 ≤ 4096)
    (hw : ∀ (d : Fin 2048) (a : Fin 1024), w (ix3 (n0 := 1) (n1 := 2048) (n2 := 1024) 0 d a)
      = K3 m c (ix3 (n0 := 1) (n1 := 2048) (n2 := 4096) 0 d ⟨n + a.val, by have := a.isLt; omega⟩)) (a : Fin 512) (o : Fin 1024) :
    prodR (hid m c t) w (ix2 (n0 := 512) (n1 := 1024) a o)
      = pR 2 (K0 m c) (K1 m c) (K3 m c) (pos (st t) a) ⟨n + o.val, by have := o.isLt; omega⟩ := by
  unfold prodR pR
  refine (Ideal.matmul_constant_zero_apply _ none _ _ _).trans ?_
  rw [DotDims.sum_contr₁ _ rfl (K := 2048) rfl _]
  refine Finset.sum_congr rfl fun d _ => congrArg₂ (fun a b : EReal => a * b) ?_ ?_
  · refine (congrArg (hid m c t) ?_).trans (hid_val m c t a d)
    funext x; match x with | ⟨0, _⟩ => rfl | ⟨1, _⟩ => rfl
  · refine (shapeCast_apply (s := S1x2048x1024) _ _ _ (ix3 (n0 := 1) (n1 := 2048) (n2 := 1024) 0 d o) ?_).trans (hw d o)
    rw [Shape.rowMajor_val_three, Shape.rowMajor_val_two]
    show (0 * 2048 + d.val) * 1024 + o.val = d.val * 1024 + o.val
    omega

end Cert.Proof.InProj

end
-- ==== Proof.InProj.Final.lean ====
/-
  Hand-written, untrusted. The input projection's kernel run over the extended reals: its steps' blocks tile the five result arrays,
  which so hold Spec.lean's results.
-/
module

public import proofs.«01_k».proof.Proof.InProj.Kern

@[expose] public section

noncomputable section

namespace Cert.Proof.InProj

open Cert.Kernel2Ideal Cert.Kernel2Ideal.Gen
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg) (c : Dev nD)

/-! ## A step's blocks of the results -/

theorem outU_val (t : Fin cfg0.N) (o : Fin 1024) (a : Fin 512) :
    outU (hid m c t) (iblk m c 1 t) (ix2 (n0 := 1024) (n1 := 512) o a) = uS 2 (K0 m c) (K1 m c) (K2 m c) (ix2 (n0 := 1024) (n1 := 8192) o (pos (st t) a)) :=
  (prodT_val m c t _ 0 (by omega) (blk1 m c t) o a).trans
    (congrArg (fun o => pT 2 (K0 m c) (K1 m c) (K2 m c) o (pos (st t) a)) (Fin.ext (show 0 + o.val = o.val from Nat.zero_add _)))
theorem outZ_val (t : Fin cfg0.N) (o : Fin 1024) (a : Fin 512) :
    outZ (hid m c t) (iblk m c 2 t) (ix2 (n0 := 1024) (n1 := 512) o a) = zS 2 (K0 m c) (K1 m c) (K2 m c) (ix2 (n0 := 1024) (n1 := 8192) o (pos (st t) a)) :=
  congrArg gateS (prodT_val m c t _ 1024 (by omega) (blk2 m c t) o a)
theorem outCV_val (t : Fin cfg0.N) (a : Fin 512) (o : Fin 1024) :
    outCV (hid m c t) (iblk m c 3 t) (iblk m c 5 t) (ix2 (n0 := 512) (n1 := 1024) a o)
      = cvS 2 (K0 m c) (K1 m c) (K3 m c) (ix2 (n0 := 8192) (n1 := 1024) (pos (st t) a) o) :=
  congrArg₂ (fun a b : EReal => a * b) (prodR_val m c t _ 2048 (by omega) (blk5 m c t) a o) (prodR_val m c t _ 0 (by omega) (blk3 m c t) a o)
theorem outB_val (t : Fin cfg0.N) (a : Fin 512) (o : Fin 1024) :
    outB (hid m c t) (iblk m c 4 t) (ix2 (n0 := 512) (n1 := 1024) a o)
      = bS 2 (K0 m c) (K1 m c) (K3 m c) (ix2 (n0 := 8192) (n1 := 1024) (pos (st t) a) o) :=
  prodR_val m c t _ 1024 (by omega) (blk4 m c t) a o
theorem outG_val (t : Fin cfg0.N) (a : Fin 512) (o : Fin 1024) :
    outG (hid m c t) (iblk m c 6 t) (ix2 (n0 := 512) (n1 := 1024) a o)
      = gS 2 (K0 m c) (K1 m c) (K3 m c) (ix2 (n0 := 8192) (n1 := 1024) (pos (st t) a) o) :=
  congrArg gateS (prodR_val m c t _ 3072 (by omega) (blk6 m c t) a o)

theorem idxT (x : S1024x512.Idx) : x = ix2 (n0 := 1024) (n1 := 512) (x 0) (x 1) := by
  funext a; match a with | ⟨0, _⟩ => rfl | ⟨1, _⟩ => rfl
theorem idxR (x : S512x1024.Idx) : x = ix2 (n0 := 512) (n1 := 1024) (x 0) (x 1) := by
  funext a; match a with | ⟨0, _⟩ => rfl | ⟨1, _⟩ => rfl

/-- The step whose block has row `r` of the results. -/
theorem step_of (r : ℕ) (hr : r < 8192) : ∃ t : Fin cfg0.N, t.val = r / 512 := ⟨⟨r / 512, lt_of_lt_of_eq (by omega) N_0.symm⟩, rfl⟩

/-! ## The arrays at the end -/

theorem final7 : (dats m 0 c).arrAt 7 cfg0.N = uS 2 (K0 m c) (K1 m c) (K2 m c) := by
  refine (dats m 0 c).arrAt_eq_of_cover 7 _ (fun t _ => ?_) (fun (i : S1024x8192.Idx) => ?_)
  · show (cfg0.win 7).cut (grid0.coords t) ((dats m 0 c).after 7 t) = _
    rw [after0_7]
    funext j
    refine ((congrArg (outU (hid m c t) (iblk m c 1 t)) (idxT _)).trans (outU_val m c t _ _)).trans (congrArg (uS 2 (K0 m c) (K1 m c) (K2 m c)) ?_)
    funext a
    apply Fin.ext
    match a with
    | ⟨0, _⟩ => show (j 0).val = win0_7.index t 0 * 1024 + 1 * (j 0).val; rw [idx7]; show _ = 0 * 1024 + 1 * (j 0).val; omega
    | ⟨1, _⟩ => show 512 * t.val + (j 1).val = win0_7.index t 1 * 512 + 1 * (j 1).val; rw [idx7]; show _ = t.val * 512 + 1 * (j 1).val; omega
  · have h0 : (i 0).val < 1024 := (i 0).isLt
    have h1 : (i 1).val < 8192 := (i 1).isLt
    obtain ⟨t, ht⟩ := step_of (i 1).val h1
    refine ⟨t, flush0_7 t, ?_⟩
    show i ∈ ((View.whole main_v1_0).slice (win0_7.rect t)).set
    rw [View.set_slice_whole, Rect.mem_set_unit]
    intro a
    match a with
    | ⟨0, _⟩ =>
      show win0_7.index t 0 * 1024 ≤ (i 0).val ∧ (i 0).val < win0_7.index t 0 * 1024 + 1024
      rw [idx7]
      show 0 * 1024 ≤ (i 0).val ∧ (i 0).val < 0 * 1024 + 1024
      omega
    | ⟨1, _⟩ =>
      show win0_7.index t 1 * 512 ≤ (i 1).val ∧ (i 1).val < win0_7.index t 1 * 512 + 512
      rw [idx7]
      show t.val * 512 ≤ (i 1).val ∧ (i 1).val < t.val * 512 + 512
      omega

theorem final8 : (dats m 0 c).arrAt 8 cfg0.N = zS 2 (K0 m c) (K1 m c) (K2 m c) := by
  refine (dats m 0 c).arrAt_eq_of_cover 8 _ (fun t _ => ?_) (fun (i : S1024x8192.Idx) => ?_)
  · show (cfg0.win 8).cut (grid0.coords t) ((dats m 0 c).after 8 t) = _
    rw [after0_8]
    funext j
    refine ((congrArg (outZ (hid m c t) (iblk m c 2 t)) (idxT _)).trans (outZ_val m c t _ _)).trans (congrArg (zS 2 (K0 m c) (K1 m c) (K2 m c)) ?_)
    funext a
    apply Fin.ext
    match a with
    | ⟨0, _⟩ => show (j 0).val = win0_8.index t 0 * 1024 + 1 * (j 0).val; rw [idx8]; show _ = 0 * 1024 + 1 * (j 0).val; omega
    | ⟨1, _⟩ => show 512 * t.val + (j 1).val = win0_8.index t 1 * 512 + 1 * (j 1).val; rw [idx8]; show _ = t.val * 512 + 1 * (j 1).val; omega
  · have h0 : (i 0).val < 1024 := (i 0).isLt
    have h1 : (i 1).val < 8192 := (i 1).isLt
    obtain ⟨t, ht⟩ := step_of (i 1).val h1
    refine ⟨t, flush0_8 t, ?_⟩
    show i ∈ ((View.whole main_v1_1).slice (win0_8.rect t)).set
    rw [View.set_slice_whole, Rect.mem_set_unit]
    intro a
    match a with
    | ⟨0, _⟩ =>
      show win0_8.index t 0 * 1024 ≤ (i 0).val ∧ (i 0).val < win0_8.index t 0 * 1024 + 1024
      rw [idx8]
      show 0 * 1024 ≤ (i 0).val ∧ (i 0).val < 0 * 1024 + 1024
      omega
    | ⟨1, _⟩ =>
      show win0_8.index t 1 * 512 ≤ (i 1).val ∧ (i 1).val < win0_8.index t 1 * 512 + 512
      rw [idx8]
      show t.val * 512 ≤ (i 1).val ∧ (i 1).val < t.val * 512 + 512
      omega

theorem final9 : (dats m 0 c).arrAt 9 cfg0.N = cvS 2 (K0 m c) (K1 m c) (K3 m c) := by
  refine (dats m 0 c).arrAt_eq_of_cover 9 _ (fun t _ => ?_) (fun (i : S8192x1024.Idx) => ?_)
  · show (cfg0.win 9).cut (grid0.coords t) ((dats m 0 c).after 9 t) = _
    rw [after0_9]
    funext j
    refine ((congrArg (outCV (hid m c t) (iblk m c 3 t) (iblk m c 5 t)) (idxR _)).trans (outCV_val m c t _ _)).trans (congrArg (cvS 2 (K0 m c) (K1 m c) (K3 m c)) ?_)
    funext a
    apply Fin.ext
    match a with
    | ⟨0, _⟩ => show 512 * t.val + (j 0).val = win0_9.index t 0 * 512 + 1 * (j 0).val; rw [idx9]; show _ = t.val * 512 + 1 * (j 0).val; omega
    | ⟨1, _⟩ => show (j 1).val = win0_9.index t 1 * 1024 + 1 * (j 1).val; rw [idx9]; show _ = 0 * 1024 + 1 * (j 1).val; omega
  · have h0 : (i 0).val < 8192 := (i 0).isLt
    have h1 : (i 1).val < 1024 := (i 1).isLt
    obtain ⟨t, ht⟩ := step_of (i 0).val h0
    refine ⟨t, flush0_9 t, ?_⟩
    show i ∈ ((View.whole main_v1_2).slice (win0_9.rect t)).set
    rw [View.set_slice_whole, Rect.mem_set_unit]
    intro a
    match a with
    | ⟨0, _⟩ =>
      show win0_9.index t 0 * 512 ≤ (i 0).val ∧ (i 0).val < win0_9.index t 0 * 512 + 512
      rw [idx9]
      show t.val * 512 ≤ (i 0).val ∧ (i 0).val < t.val * 512 + 512
      omega
    | ⟨1, _⟩ =>
      show win0_9.index t 1 * 1024 ≤ (i 1).val ∧ (i 1).val < win0_9.index t 1 * 1024 + 1024
      rw [idx9]
      show 0 * 1024 ≤ (i 1).val ∧ (i 1).val < 0 * 1024 + 1024
      omega

theorem final10 : (dats m 0 c).arrAt 10 cfg0.N = bS 2 (K0 m c) (K1 m c) (K3 m c) := by
  refine (dats m 0 c).arrAt_eq_of_cover 10 _ (fun t _ => ?_) (fun (i : S8192x1024.Idx) => ?_)
  · show (cfg0.win 10).cut (grid0.coords t) ((dats m 0 c).after 10 t) = _
    rw [after0_10]
    funext j
    refine ((congrArg (outB (hid m c t) (iblk m c 4 t)) (idxR _)).trans (outB_val m c t _ _)).trans (congrArg (bS 2 (K0 m c) (K1 m c) (K3 m c)) ?_)
    funext a
    apply Fin.ext
    match a with
    | ⟨0, _⟩ => show 512 * t.val + (j 0).val = win0_10.index t 0 * 512 + 1 * (j 0).val; rw [idx10]; show _ = t.val * 512 + 1 * (j 0).val; omega
    | ⟨1, _⟩ => show (j 1).val = win0_10.index t 1 * 1024 + 1 * (j 1).val; rw [idx10]; show _ = 0 * 1024 + 1 * (j 1).val; omega
  · have h0 : (i 0).val < 8192 := (i 0).isLt
    have h1 : (i 1).val < 1024 := (i 1).isLt
    obtain ⟨t, ht⟩ := step_of (i 0).val h0
    refine ⟨t, flush0_10 t, ?_⟩
    show i ∈ ((View.whole main_v1_3).slice (win0_10.rect t)).set
    rw [View.set_slice_whole, Rect.mem_set_unit]
    intro a
    match a with
    | ⟨0, _⟩ =>
      show win0_10.index t 0 * 512 ≤ (i 0).val ∧ (i 0).val < win0_10.index t 0 * 512 + 512
      rw [idx10]
      show t.val * 512 ≤ (i 0).val ∧ (i 0).val < t.val * 512 + 512
      omega
    | ⟨1, _⟩ =>
      show win0_10.index t 1 * 1024 ≤ (i 1).val ∧ (i 1).val < win0_10.index t 1 * 1024 + 1024
      rw [idx10]
      show 0 * 1024 ≤ (i 1).val ∧ (i 1).val < 0 * 1024 + 1024
      omega

theorem final11 : (dats m 0 c).arrAt 11 cfg0.N = gS 2 (K0 m c) (K1 m c) (K3 m c) := by
  refine (dats m 0 c).arrAt_eq_of_cover 11 _ (fun t _ => ?_) (fun (i : S8192x1024.Idx) => ?_)
  · show (cfg0.win 11).cut (grid0.coords t) ((dats m 0 c).after 11 t) = _
    rw [after0_11]
    funext j
    refine ((congrArg (outG (hid m c t) (iblk m c 6 t)) (idxR _)).trans (outG_val m c t _ _)).trans (congrArg (gS 2 (K0 m c) (K1 m c) (K3 m c)) ?_)
    funext a
    apply Fin.ext
    match a with
    | ⟨0, _⟩ => show 512 * t.val + (j 0).val = win0_11.index t 0 * 512 + 1 * (j 0).val; rw [idx11]; show _ = t.val * 512 + 1 * (j 0).val; omega
    | ⟨1, _⟩ => show (j 1).val = win0_11.index t 1 * 1024 + 1 * (j 1).val; rw [idx11]; show _ = 0 * 1024 + 1 * (j 1).val; omega
  · have h0 : (i 0).val < 8192 := (i 0).isLt
    have h1 : (i 1).val < 1024 := (i 1).isLt
    obtain ⟨t, ht⟩ := step_of (i 0).val h0
    refine ⟨t, flush0_11 t, ?_⟩
    show i ∈ ((View.whole main_v1_4).slice (win0_11.rect t)).set
    rw [View.set_slice_whole, Rect.mem_set_unit]
    intro a
    match a with
    | ⟨0, _⟩ =>
      show win0_11.index t 0 * 512 ≤ (i 0).val ∧ (i 0).val < win0_11.index t 0 * 512 + 512
      rw [idx11]
      show t.val * 512 ≤ (i 0).val ∧ (i 0).val < t.val * 512 + 512
      omega
    | ⟨1, _⟩ =>
      show win0_11.index t 1 * 1024 ≤ (i 1).val ∧ (i 1).val < win0_11.index t 1 * 1024 + 1024
      rw [idx11]
      show 0 * 1024 ≤ (i 1).val ∧ (i 1).val < 0 * 1024 + 1024
      omega

theorem run_value : θ_run defs (onTc (τ := τ) (main (F := Ideal))) (s₀ m ρ) fun r => ∀ c : Dev nD,
    r.2.mem ((c : Thread nD τ).loc main_v1_0) = uS 2 (K0 m c) (K1 m c) (K2 m c)
    ∧ r.2.mem ((c : Thread nD τ).loc main_v1_1) = zS 2 (K0 m c) (K1 m c) (K2 m c)
    ∧ r.2.mem ((c : Thread nD τ).loc main_v1_2) = cvS 2 (K0 m c) (K1 m c) (K3 m c)
    ∧ r.2.mem ((c : Thread nD τ).loc main_v1_3) = bS 2 (K0 m c) (K1 m c) (K3 m c)
    ∧ r.2.mem ((c : Thread nD τ).loc main_v1_4) = gS 2 (K0 m c) (K1 m c) (K3 m c) :=
  (θ_run defs _ _).mono (fun _ h c => ⟨((h.1 c).1 7).trans (final7 m c), ((h.1 c).1 8).trans (final8 m c), ((h.1 c).1 9).trans (final9 m c),
    ((h.1 c).1 10).trans (final10 m c), ((h.1 c).1 11).trans (final11 m c)⟩) (run_main m ρ)

end Cert.Proof.InProj

end
-- ==== Proof.InProj.RefArr.lean ====
/-
  Hand-written, untrusted. The reference's whole-array operations of the input projection read at an index, in Spec.lean's terms.
-/
module

public import proofs.«01_k».proof.Proof.Gen.Reference2Ideal.Run
public import proofs.«01_k».proof.Proof.InProj.Spec

@[expose] public section

set_option maxRecDepth 16384

noncomputable section

namespace Cert.Proof.InProj

open Cert.Reference2Ideal Cert.Reference2Ideal.Gen
open Idealize.ShloMosaic

/-- The reference's column of means. -/
def meanR (x : FVec Ideal S8192x2048 .f32) : FVec Ideal S8192x1 .f32 :=
  Host.divf (broadcastInDim S8192x1 ![0] bcast_S8192_S8192x1_0 (Host.reduceAdd x (constant S_ .f32 0x00000000#32)
    reducesTo_S8192x2048_S8192_d1 h_S_)) (broadcastInDim S8192x1 ![] bcast_S_S8192x1 (constant S_ .f32 0x45000000#32))

theorem meanR_val (x : FVec Ideal S8192x2048 .f32) (r : Fin 8192) :
    meanR x (ix2 (n0 := 8192) (n1 := 1) r 0) = meanS fun d => x (ix2 (n0 := 8192) (n1 := 2048) r d) := by
  unfold meanR meanS
  show FloatOps.divf (F := Ideal) (φ := .f32) _ _ = _
  refine congrArg₂ (FloatOps.divf (F := Ideal) (φ := .f32)) ?_ ?_
  · refine (broadcastInDim_apply (s := S8192) _ _ _ _ (ix1 (n0 := 8192) r) fun a => ?_).trans ?_
    · match a with | ⟨0, _⟩ => rfl
    · refine (Ideal.hostReduceAdd_r2_a1 _ _ _ _).trans ?_
      show Scalar.ofBits (F := Ideal) .f32 0x00000000#32 + _ = _
      rw [show Scalar.ofBits (F := Ideal) .f32 0x00000000#32 = 0 from Ideal.ofBits_zero_f32, zero_add]
      rfl
  · rfl

/-- A column repeated along the features. -/
def colR (x : FVec Ideal S8192x1 .f32) : FVec Ideal S8192x2048 .f32 := broadcastInDim S8192x2048 ![0, 1] bcast_S8192x1_S8192x2048_0_1 x
theorem colR_val (x : FVec Ideal S8192x1 .f32) (r : Fin 8192) (d : Fin 2048) :
    colR x (ix2 (n0 := 8192) (n1 := 2048) r d) = x (ix2 (n0 := 8192) (n1 := 1) r 0) :=
  broadcastInDim_apply (s := S8192x1) _ _ _ _ _ fun a => by match a with | ⟨0, _⟩ => rfl | ⟨1, _⟩ => rfl
/-- A row repeated along the tokens. -/
def rowR (x : FVec Ideal S1x2048 .f32) : FVec Ideal S8192x2048 .f32 := broadcastInDim S8192x2048 ![0, 1] bcast_S1x2048_S8192x2048_0_1 x
theorem rowR_val (x : FVec Ideal S1x2048 .f32) (r : Fin 8192) (d : Fin 2048) :
    rowR x (ix2 (n0 := 8192) (n1 := 2048) r d) = x (ix2 (n0 := 1) (n1 := 2048) 0 d) :=
  broadcastInDim_apply (s := S1x2048) _ _ _ _ _ fun a => by match a with | ⟨0, _⟩ => rfl | ⟨1, _⟩ => rfl

/-- The reference's normalised and modulated rows, of the rows, the shift and the scale. -/
def lnR (x : FVec Ideal S8192x2048 .f32) (sh sc : FVec Ideal S1x2048 .f32) : FVec Ideal S8192x2048 .f32 :=
  extf .f32 (truncf .bf16 (addf (mulf (mulf (subf x (colR (meanR x)))
      (colR (Host.rsqrt (addf (meanR (mulf (subf x (colR (meanR x))) (subf x (colR (meanR x)))))
        (broadcastInDim S8192x1 ![] bcast_S_S8192x1 (constant S_ .f32 0x358637BD#32))))))
    (rowR (addf (broadcastInDim S1x2048 ![] bcast_S_S1x2048 (constant S_ .f32 0x3F800000#32)) sc))) (rowR sh)) bitsLt_bf16_f32) bitsLt_bf16_f32

theorem lnR_val (x : FVec Ideal S8192x2048 .f32) (sh sc : FVec Ideal S1x2048 .f32) (r : Fin 8192) (d : Fin 2048) :
    lnR x sh sc (ix2 (n0 := 8192) (n1 := 2048) r d) = lnS (fun e => x (ix2 (n0 := 8192) (n1 := 2048) r e))
      (fun e => sh (ix2 (n0 := 1) (n1 := 2048) 0 e)) (fun e => sc (ix2 (n0 := 1) (n1 := 2048) 0 e)) d := by
  have hc : ∀ e : Fin 2048, subf x (colR (meanR x)) (ix2 (n0 := 8192) (n1 := 2048) r e)
      = x (ix2 (n0 := 8192) (n1 := 2048) r e) - meanS fun e => x (ix2 (n0 := 8192) (n1 := 2048) r e) := fun e =>
    congrArg (fun a : EReal => x (ix2 (n0 := 8192) (n1 := 2048) r e) - a) ((colR_val _ r e).trans (meanR_val x r))
  unfold lnR lnS
  refine congrArg₂ (fun a b : EReal => a + b) (congrArg₂ (fun a b : EReal => a * b) (congrArg₂ (fun a b : EReal => a * b) (hc d) ?_) ?_)
    (rowR_val sh r d)
  · refine (colR_val _ r d).trans (congrArg (FloatOps.rsqrt (F := Ideal) (φ := .f32)) (congrArg (fun a : EReal => a + _) ?_))
    refine (meanR_val _ r).trans (congrArg meanS (funext fun e => congrArg₂ (fun a b : EReal => a * b) (hc e) (hc e)))
  · exact rowR_val _ r d

variable (A0 : FVec Ideal S1x8192x2048 .f32) (A1 : FVec Ideal S4x3x2048 .f32)
  (A2 : FVec Ideal S1x2048x2048 .bf16) (A3 : FVec Ideal S1x2048x4096 .bf16)

/-- The tokens in the order of the results. -/
def rowsR : FVec Ideal S8192x2048 .f32 :=
  shapeCast S8192x2048 (transpose S4x16x128x2048 [0, 2, 1, 3] (shapeCast S4x128x16x2048 A0 shapeCasts_S1x8192x2048_S4x128x16x2048)
    transposes_S4x128x16x2048_S4x16x128x2048_0_2_1_3) shapeCasts_S4x16x128x2048_S8192x2048

theorem rowsR_val (r : Fin 8192) (d : Fin 2048) : rowsR A0 (ix2 (n0 := 8192) (n1 := 2048) r d)
    = A0 (ix3 (n0 := 1) (n1 := 8192) (n2 := 2048) 0 (tok r) d) := by
  have hr := r.isLt
  unfold rowsR
  refine (shapeCast_apply (s := S4x16x128x2048) _ _ _ (ix4 (n0 := 4) (n1 := 16) (n2 := 128) (n3 := 2048) ⟨r.val / 2048, by omega⟩
    ⟨r.val % 2048 / 128, by omega⟩ ⟨r.val % 128, by omega⟩ d) ?_).trans ?_
  · rw [Shape.rowMajor_val_four, Shape.rowMajor_val_two]
    show ((r.val / 2048 * 16 + r.val % 2048 / 128) * 128 + r.val % 128) * 2048 + d.val = r.val * 2048 + d.val
    omega
  refine (transpose_apply (s := S4x128x16x2048) _ _ _ _ (ix4 (n0 := 4) (n1 := 128) (n2 := 16) (n3 := 2048) ⟨r.val / 2048, by omega⟩
    ⟨r.val % 128, by omega⟩ ⟨r.val % 2048 / 128, by omega⟩ d) ?_).trans ?_
  · intro b; match b with | ⟨0, _⟩ => rfl | ⟨1, _⟩ => rfl | ⟨2, _⟩ => rfl | ⟨3, _⟩ => rfl
  refine shapeCast_apply (s := S1x8192x2048) _ _ _ _ ?_
  rw [Shape.rowMajor_val_three, Shape.rowMajor_val_four]
  show (0 * 8192 + (16 * (128 * (r.val / 2048) + r.val % 128) + r.val % 2048 / 128)) * 2048 + d.val
    = ((r.val / 2048 * 128 + r.val % 128) * 16 + r.val % 2048 / 128) * 2048 + d.val
  omega

variable (k : Fin 4) (h0 : S4x3x2048.Slices ![k.val, 0, 0] S1x1x2048) (h1 : S4x3x2048.Slices ![k.val, 1, 0] S1x1x2048)

/-- Modulation `k`'s shift. -/
def shR : FVec Ideal S1x2048 .f32 :=
  shapeCast S1x2048 (extractStridedSlice S1x1x2048 ![k.val, 0, 0] A1 h0) shapeCasts_S1x1x2048_S1x2048
/-- Modulation `k`'s scale. -/
def scR : FVec Ideal S1x2048 .f32 :=
  shapeCast S1x2048 (extractStridedSlice S1x1x2048 ![k.val, 1, 0] A1 h1) shapeCasts_S1x1x2048_S1x2048
theorem shR_val (d : Fin 2048) : shR A1 k h0 (ix2 (n0 := 1) (n1 := 2048) 0 d) = A1 (ix3 (n0 := 4) (n1 := 3) (n2 := 2048) k 0 d) := by
  unfold shR
  refine (shapeCast_apply (s := S1x1x2048) _ _ _ (ix3 (n0 := 1) (n1 := 1) (n2 := 2048) 0 0 d) ?_).trans
    (extractStridedSlice_apply (s := S4x3x2048) _ _ _ _ _ ?_)
  · rw [Shape.rowMajor_val_three, Shape.rowMajor_val_two]; rfl
  · intro b; match b with | ⟨0, _⟩ => rfl | ⟨1, _⟩ => rfl | ⟨2, _⟩ => exact (Nat.zero_add _).symm
theorem scR_val (d : Fin 2048) : scR A1 k h1 (ix2 (n0 := 1) (n1 := 2048) 0 d) = A1 (ix3 (n0 := 4) (n1 := 3) (n2 := 2048) k 1 d) := by
  unfold scR
  refine (shapeCast_apply (s := S1x1x2048) _ _ _ (ix3 (n0 := 1) (n1 := 1) (n2 := 2048) 0 0 d) ?_).trans
    (extractStridedSlice_apply (s := S4x3x2048) _ _ _ _ _ ?_)
  · rw [Shape.rowMajor_val_three, Shape.rowMajor_val_two]; rfl
  · intro b; match b with | ⟨0, _⟩ => rfl | ⟨1, _⟩ => rfl | ⟨2, _⟩ => exact (Nat.zero_add _).symm

/-- The reference's rows. -/
def hR : FVec Ideal S8192x2048 .f32 := lnR (rowsR A0) (shR A1 k h0) (scR A1 k h1)
theorem hR_val (r : Fin 8192) (d : Fin 2048) : hR A0 A1 k h0 h1 (ix2 (n0 := 8192) (n1 := 2048) r d) = hS k A0 A1 r d := by
  unfold hR hS
  rw [lnR_val]
  simp only [rowsR_val, shR_val, scR_val]

/-- Half of the transposed weights times the rows. -/
def prodTR (off : Fin 3 → ℕ) (h : S1x2048x2048.Slices off S1x1024x2048) : FVec Ideal S1024x8192 .f32 :=
  Host.dotGeneral dot_S1024x2048_S8192x2048_S1024x8192_1_1_0_0_n_n none
    (extf .f32 (shapeCast S1024x2048 (extractStridedSlice S1x1024x2048 off A2 h) shapeCasts_S1x1024x2048_S1024x2048) bitsLt_bf16_f32) (hR A0 A1 k h0 h1)
/-- The rows times a quarter of the other weights. -/
def prodRR (off : Fin 3 → ℕ) (h : S1x2048x4096.Slices off S1x2048x1024) : FVec Ideal S8192x1024 .f32 :=
  Host.dotGeneral dot_S8192x2048_S2048x1024_S8192x1024_1_0_0_1_n_n none (hR A0 A1 k h0 h1)
    (extf .f32 (shapeCast S2048x1024 (extractStridedSlice S1x2048x1024 off A3 h) shapeCasts_S1x2048x1024_S2048x1024) bitsLt_bf16_f32)

theorem prodTR_val (n : ℕ) (h : S1x2048x2048.Slices ![0, n, 0] S1x1024x2048) (hn : n + 1024 ≤ 2048) (i : S1024x8192.Idx) :
    prodTR A0 A1 A2 k h0 h1 ![0, n, 0] h i = pT k A0 A1 A2 ⟨n + (i 0).val, by have : (i 0).val < 1024 := (i 0).isLt; omega⟩ (i 1) := by
  unfold prodTR pT
  show FloatOps.dotGeneral (F := Ideal) _ none _ _ _ _ = _
  rw [Ideal.dotGeneral_apply, DotDims.sum_contr₁ _ rfl (K := 2048) rfl _]
  refine Finset.sum_congr rfl fun d _ => congrArg₂ (fun a b : EReal => a * b) ?_ ?_
  · refine (shapeCast_apply (s := S1x1024x2048) (extractStridedSlice S1x1024x2048 ![0, n, 0] A2 h) _ _ (ix3 (n0 := 1) (n1 := 1024) (n2 := 2048) 0 (i 0) d) ?_).trans
      (extractStridedSlice_apply (s := S1x2048x2048) _ _ _ _ _ ?_)
    · rw [Shape.rowMajor_val_three, Shape.rowMajor_val_two]
      show (0 * 1024 + (i 0).val) * 2048 + d.val = (i 0).val * 2048 + d.val
      omega
    · intro b; match b with | ⟨0, _⟩ => rfl | ⟨1, _⟩ => rfl | ⟨2, _⟩ => exact (Nat.zero_add _).symm
  · refine (congrArg (hR A0 A1 k h0 h1) ?_).trans (hR_val A0 A1 k h0 h1 (i 1) d)
    funext a; match a with | ⟨0, _⟩ => rfl | ⟨1, _⟩ => rfl

theorem prodRR_val (n : ℕ) (h : S1x2048x4096.Slices ![0, 0, n] S1x2048x1024) (hn : n + 1024 ≤ 4096) (i : S8192x1024.Idx) :
    prodRR A0 A1 A3 k h0 h1 ![0, 0, n] h i = pR k A0 A1 A3 (i 0) ⟨n + (i 1).val, by have : (i 1).val < 1024 := (i 1).isLt; omega⟩ := by
  unfold prodRR pR
  show FloatOps.dotGeneral (F := Ideal) _ none _ _ _ _ = _
  rw [Ideal.dotGeneral_apply, DotDims.sum_contr₁ _ rfl (K := 2048) rfl _]
  refine Finset.sum_congr rfl fun d _ => congrArg₂ (fun a b : EReal => a * b) ?_ ?_
  · refine (congrArg (hR A0 A1 k h0 h1) ?_).trans (hR_val A0 A1 k h0 h1 (i 0) d)
    funext a; match a with | ⟨0, _⟩ => rfl | ⟨1, _⟩ => rfl
  · refine (shapeCast_apply (s := S1x2048x1024) (extractStridedSlice S1x2048x1024 ![0, 0, n] A3 h) _ _ (ix3 (n0 := 1) (n1 := 2048) (n2 := 1024) 0 d (i 1)) ?_).trans
      (extractStridedSlice_apply (s := S1x2048x4096) _ _ _ _ _ ?_)
    · rw [Shape.rowMajor_val_three, Shape.rowMajor_val_two]
      show (0 * 2048 + d.val) * 1024 + (i 1).val = d.val * 1024 + (i 1).val
      omega
    · intro b; match b with | ⟨0, _⟩ => rfl | ⟨1, _⟩ => exact (Nat.zero_add _).symm | ⟨2, _⟩ => rfl

/-- The reference's results. -/
theorem uR_val : (truncf .bf16 (prodTR A0 A1 A2 k h0 h1 ![0, 0, 0] slices_S1x2048x2048_S1x1024x2048_0_0_0) bitsLt_bf16_f32 : FVec Ideal S1024x8192 .bf16)
    = uS k A0 A1 A2 := funext fun i => (prodTR_val A0 A1 A2 k h0 h1 0 _ (by omega) i).trans
      (congrArg (fun o => pT k A0 A1 A2 o (i 1)) (Fin.ext (Nat.zero_add _)))
theorem bR_val : (truncf .bf16 (prodRR A0 A1 A3 k h0 h1 ![0, 0, 1024] slices_S1x2048x4096_S1x2048x1024_0_0_1024) bitsLt_bf16_f32 : FVec Ideal S8192x1024 .bf16)
    = bS k A0 A1 A3 := funext fun i => prodRR_val A0 A1 A3 k h0 h1 1024 _ (by omega) i
theorem cvR_val : (truncf .bf16 (mulf (prodRR A0 A1 A3 k h0 h1 ![0, 0, 2048] slices_S1x2048x4096_S1x2048x1024_0_0_2048)
      (prodRR A0 A1 A3 k h0 h1 ![0, 0, 0] slices_S1x2048x4096_S1x2048x1024_0_0_0)) bitsLt_bf16_f32 : FVec Ideal S8192x1024 .bf16) = cvS k A0 A1 A3 :=
  funext fun i => congrArg₂ (fun a b : EReal => a * b) (prodRR_val A0 A1 A3 k h0 h1 2048 _ (by omega) i) (prodRR_val A0 A1 A3 k h0 h1 0 _ (by omega) i)
theorem zR_val : (truncf .bf16 (addf (mulf (prodTR A0 A1 A2 k h0 h1 ![0, 1024, 0] slices_S1x2048x2048_S1x1024x2048_0_1024_0)
      (Host.tanh (prodTR A0 A1 A2 k h0 h1 ![0, 1024, 0] slices_S1x2048x2048_S1x1024x2048_0_1024_0)))
      (prodTR A0 A1 A2 k h0 h1 ![0, 1024, 0] slices_S1x2048x2048_S1x1024x2048_0_1024_0)) bitsLt_bf16_f32 : FVec Ideal S1024x8192 .bf16) = zS k A0 A1 A2 :=
  funext fun i => congrArg gateS (prodTR_val A0 A1 A2 k h0 h1 1024 _ (by omega) i)
theorem gR_val : (truncf .bf16 (addf (mulf (prodRR A0 A1 A3 k h0 h1 ![0, 0, 3072] slices_S1x2048x4096_S1x2048x1024_0_0_3072)
      (Host.tanh (prodRR A0 A1 A3 k h0 h1 ![0, 0, 3072] slices_S1x2048x4096_S1x2048x1024_0_0_3072)))
      (prodRR A0 A1 A3 k h0 h1 ![0, 0, 3072] slices_S1x2048x4096_S1x2048x1024_0_0_3072)) bitsLt_bf16_f32 : FVec Ideal S8192x1024 .bf16) = gS k A0 A1 A3 :=
  funext fun i => congrArg gateS (prodRR_val A0 A1 A3 k h0 h1 3072 _ (by omega) i)

variable (m : (ℓ : Loc nD τ sig) → Buf (Elt Ideal) ℓ) (c : Dev nD)

abbrev R0 : FVec Ideal ⟨3, ![1, 8192, 2048]⟩ .f32 := m ((c.tc : Thread nD τ).loc main_arg0)
abbrev R1 : FVec Ideal ⟨3, ![4, 3, 2048]⟩ .f32 := m ((c.tc : Thread nD τ).loc main_arg1)
abbrev R2 : FVec Ideal ⟨3, ![1, 2048, 2048]⟩ .bf16 := m ((c.tc : Thread nD τ).loc main_arg2)
abbrev R3 : FVec Ideal ⟨3, ![1, 2048, 4096]⟩ .bf16 := m ((c.tc : Thread nD τ).loc main_arg3)

theorem ref_z : Value.res_main_v59 m c = zS 2 (R0 m c) (R1 m c) (R2 m c) := zR_val _ _ _ 2 slices_S4x3x2048_S1x1x2048_2_0_0 slices_S4x3x2048_S1x1x2048_2_1_0
theorem ref_cv : Value.res_main_v61 m c = cvS 2 (R0 m c) (R1 m c) (R3 m c) := cvR_val _ _ _ 2 slices_S4x3x2048_S1x1x2048_2_0_0 slices_S4x3x2048_S1x1x2048_2_1_0
theorem ref_g : Value.res_main_v66 m c = gS 2 (R0 m c) (R1 m c) (R3 m c) := gR_val _ _ _ 2 slices_S4x3x2048_S1x1x2048_2_0_0 slices_S4x3x2048_S1x1x2048_2_1_0

end Cert.Proof.InProj

end
-- ==== Proof.InProjFirst.Ring.lean ====
/-
  Hand-written, untrusted. The transfer ring of the input projection's kernel: each grid step's rows arrive by four copies, one
  per plane, into one of two slots, each on a cell of its own; the copies of the next step's rows are started a step ahead.
-/
module

public import proofs.«01_k».proof.Proof.Gen.Kernel3Ideal.Frame

@[expose] public section

set_option maxRecDepth 16384

noncomputable section

namespace Cert.Proof.InProjFirst

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The scratch, the operand and the cells -/

abbrev planes : Memref sig .tc .vmem S2x4x128x2048 .f32 := Memref.whole cc0_scratch0
abbrev rowsM : Memref sig .tc .vmem S512x2048 .bf16 := Memref.whole cc0_scratch2
abbrev xM : Memref sig .tc .hbm S512x16x2048 .f32 := Memref.whole main_v0

/-- The contents of the operand in HBM. -/
abbrev XBuf (c : Dev nD) : Type := Buf (Elt F) (xM.view.loc (c : Thread nD τ))

instance : NeZero grid0.N := ⟨by rw [N_0]; decide⟩

theorem inb_slot (s : Fin 2) (j : Fin 4) : ∀ a, (![s.val, j.val, 0, 0] : Fin 4 → Nat) a + S1x1x128x2048.size a ≤ S2x4x128x2048.size a := by
  have := s.isLt; have := j.isLt; intro a; fin_cases a <;> simp <;> omega
theorem inb_src (b : Fin 16) (j : Fin 4) : ∀ a, (![128 * (b.val / 4), 4 * (b.val % 4) + j.val, 0] : Fin 3 → Nat) a + S128x1x2048.size a ≤ S512x16x2048.size a := by
  have := b.isLt; have := j.isLt; intro a; fin_cases a <;> simp <;> omega
theorem inb_cell (s : Fin 2) (j : Fin 4) : ∀ a, (![s.val, j.val] : Fin 2 → Nat) a + S1x1.size a ≤ S2x4.size a := by
  have := s.isLt; have := j.isLt; intro a; fin_cases a <;> simp <;> omega

/-- Plane `j` of slot `s`. -/
def plane (s : Fin 2) (j : Fin 4) : Memref sig .tc .vmem S128x2048 .f32 :=
  (planes.slice (Rect.unit (s := S2x4x128x2048) ![s.val, j.val, 0, 0] S1x1x128x2048.size (inb_slot s j)) (fun _ => rfl)).squeeze S128x2048 squeezes_S1x1x128x2048_S128x2048
/-- The rows that step `b` needs in plane `j`. -/
def rowsOf (b : Fin 16) (j : Fin 4) : Memref sig .tc .hbm S128x2048 .f32 :=
  (xM.slice (Rect.unit (s := S512x16x2048) ![128 * (b.val / 4), 4 * (b.val % 4) + j.val, 0] S128x1x2048.size (inb_src b j)) (fun _ => rfl)).squeeze S128x2048 squeezes_S128x1x2048_S128x2048
/-- The cell of plane `j` of slot `s`. -/
def cellOfPlane (s : Fin 2) (j : Fin 4) : DmaSems sig S_ :=
  (cc0_scratch1.slice (Rect.unit (s := S2x4) ![s.val, j.val] S1x1.size (inb_cell s j))).squeeze S_ squeezes_S1x1_S_
abbrev cellLoc (s : Fin 2) (j : Fin 4) : SemLoc sig := SemLoc.dma (cellOfPlane s j).sem

/-! ## Spellings: the offsets the program computes are those of the slots, blocks and cells -/

theorem plane_spelt {s : Fin 2} {j : Fin 4} {off : Fin 4 → Nat} (h : off = ![s.val, j.val, 0, 0])
    (inb : ∀ a, off a + S1x1x128x2048.size a ≤ S2x4x128x2048.size a) :
    (planes.slice (Rect.unit (s := S2x4x128x2048) off S1x1x128x2048.size inb) (fun _ => rfl)).squeeze S128x2048 squeezes_S1x1x128x2048_S128x2048 = plane s j := by
  subst h; rfl
theorem rows_spelt {b : Fin 16} {j : Fin 4} {off : Fin 3 → Nat} (h : off = ![128 * (b.val / 4), 4 * (b.val % 4) + j.val, 0])
    (inb : ∀ a, off a + S128x1x2048.size a ≤ S512x16x2048.size a) :
    (xM.slice (Rect.unit (s := S512x16x2048) off S128x1x2048.size inb) (fun _ => rfl)).squeeze S128x2048 squeezes_S128x1x2048_S128x2048 = rowsOf b j := by
  subst h; rfl
theorem cell_spelt {s : Fin 2} {j : Fin 4} {off : Fin 2 → Nat} (h : off = ![s.val, j.val])
    (inb : ∀ a, off a + S1x1.size a ≤ S2x4.size a) :
    (cc0_scratch1.slice (Rect.unit (s := S2x4) off S1x1.size inb)).squeeze S_ squeezes_S1x1_S_ = cellOfPlane s j := by
  subst h; rfl

/-- The step is the first; -/
abbrev first (i : grid0.Coords) : Prop := k0_cond1 i = 1#1
/-- another step follows. -/
abbrev more (i : grid0.Coords) : Prop := k0_cond2 i = 1#1
theorem first_iff : ∀ t : Fin cfg0.N, first (grid0.coords t) ↔ t.val = 0 :=
  (by decide +kernel : ∀ t : Fin grid0.N, first (grid0.coords t) ↔ t.val = 0)
theorem more_iff : ∀ t : Fin cfg0.N, more (grid0.coords t) ↔ t.val < 15 :=
  (by decide +kernel : ∀ t : Fin grid0.N, more (grid0.coords t) ↔ t.val < 15)

theorem offs_slot : ∀ t : Fin grid0.N,
    (k0_off2 (grid0.coords t) = ![(Ring.sl 2 t.val).val, 0, 0, 0] ∧ k0_off5 (grid0.coords t) = ![(Ring.sl 2 t.val).val, 1, 0, 0]
      ∧ k0_off7 (grid0.coords t) = ![(Ring.sl 2 t.val).val, 2, 0, 0] ∧ k0_off9 (grid0.coords t) = ![(Ring.sl 2 t.val).val, 3, 0, 0])
    ∧ (k0_off11 (grid0.coords t) = ![(Ring.sl 2 (t.val + 1)).val, 0, 0, 0] ∧ k0_off14 (grid0.coords t) = ![(Ring.sl 2 (t.val + 1)).val, 1, 0, 0]
      ∧ k0_off16 (grid0.coords t) = ![(Ring.sl 2 (t.val + 1)).val, 2, 0, 0] ∧ k0_off18 (grid0.coords t) = ![(Ring.sl 2 (t.val + 1)).val, 3, 0, 0])
    ∧ (k0_off20 (grid0.coords t) = ![(Ring.sl 2 t.val).val, 0, 0, 0] ∧ k0_off23 (grid0.coords t) = ![(Ring.sl 2 t.val).val, 1, 0, 0]
      ∧ k0_off25 (grid0.coords t) = ![(Ring.sl 2 t.val).val, 2, 0, 0] ∧ k0_off27 (grid0.coords t) = ![(Ring.sl 2 t.val).val, 3, 0, 0])
    ∧ (k0_off28 (grid0.coords t) = ![(Ring.sl 2 t.val).val, 0, 0, 0] ∧ k0_off29 (grid0.coords t) = ![(Ring.sl 2 t.val).val, 1, 0, 0]
      ∧ k0_off30 (grid0.coords t) = ![(Ring.sl 2 t.val).val, 2, 0, 0] ∧ k0_off31 (grid0.coords t) = ![(Ring.sl 2 t.val).val, 3, 0, 0]) := by
  decide +kernel
theorem offs_cell : ∀ t : Fin grid0.N,
    (k0_off1 (grid0.coords t) = ![(Ring.sl 2 t.val).val, 0] ∧ k0_off4 (grid0.coords t) = ![(Ring.sl 2 t.val).val, 1]
      ∧ k0_off6 (grid0.coords t) = ![(Ring.sl 2 t.val).val, 2] ∧ k0_off8 (grid0.coords t) = ![(Ring.sl 2 t.val).val, 3])
    ∧ (k0_off10 (grid0.coords t) = ![(Ring.sl 2 (t.val + 1)).val, 0] ∧ k0_off13 (grid0.coords t) = ![(Ring.sl 2 (t.val + 1)).val, 1]
      ∧ k0_off15 (grid0.coords t) = ![(Ring.sl 2 (t.val + 1)).val, 2] ∧ k0_off17 (grid0.coords t) = ![(Ring.sl 2 (t.val + 1)).val, 3])
    ∧ (k0_off19 (grid0.coords t) = ![(Ring.sl 2 t.val).val, 0] ∧ k0_off22 (grid0.coords t) = ![(Ring.sl 2 t.val).val, 1]
      ∧ k0_off24 (grid0.coords t) = ![(Ring.sl 2 t.val).val, 2] ∧ k0_off26 (grid0.coords t) = ![(Ring.sl 2 t.val).val, 3]) := by
  decide +kernel
theorem offs_src : ∀ (t : Fin grid0.N) (j : Fin 4), k0_off3 (grid0.coords t) (BitVec.ofNat 32 j.val)
    = ![128 * ((Ring.bk 16 t.val).val / 4), 4 * ((Ring.bk 16 t.val).val % 4) + j.val, 0] := by
  decide +kernel
theorem offs_next : ∀ (t : Fin grid0.N) (j : Fin 4), more (grid0.coords t) → k0_off12 (grid0.coords t) (BitVec.ofNat 32 j.val)
    = ![128 * ((Ring.bk 16 (t.val + 1)).val / 4), 4 * ((Ring.bk 16 (t.val + 1)).val % 4) + j.val, 0] := by
  decide +kernel

section Canon
variable (t : Fin grid0.N)

@[sl_canon] theorem slot_here0 (h) : (planes.slice (Rect.unit (s := S2x4x128x2048) (k0_off2 (grid0.coords t)) S1x1x128x2048.size (k0_off2_inb (grid0.coords t) h)) (fun _ => rfl)).squeeze S128x2048 squeezes_S1x1x128x2048_S128x2048 = plane (Ring.sl 2 t.val) 0 := plane_spelt (offs_slot t).1.1 _
@[sl_canon] theorem slot_here1 (h) : (planes.slice (Rect.unit (s := S2x4x128x2048) (k0_off5 (grid0.coords t)) S1x1x128x2048.size (k0_off5_inb (grid0.coords t) h)) (fun _ => rfl)).squeeze S128x2048 squeezes_S1x1x128x2048_S128x2048 = plane (Ring.sl 2 t.val) 1 := plane_spelt (offs_slot t).1.2.1 _
@[sl_canon] theorem slot_here2 (h) : (planes.slice (Rect.unit (s := S2x4x128x2048) (k0_off7 (grid0.coords t)) S1x1x128x2048.size (k0_off7_inb (grid0.coords t) h)) (fun _ => rfl)).squeeze S128x2048 squeezes_S1x1x128x2048_S128x2048 = plane (Ring.sl 2 t.val) 2 := plane_spelt (offs_slot t).1.2.2.1 _
@[sl_canon] theorem slot_here3 (h) : (planes.slice (Rect.unit (s := S2x4x128x2048) (k0_off9 (grid0.coords t)) S1x1x128x2048.size (k0_off9_inb (grid0.coords t) h)) (fun _ => rfl)).squeeze S128x2048 squeezes_S1x1x128x2048_S128x2048 = plane (Ring.sl 2 t.val) 3 := plane_spelt (offs_slot t).1.2.2.2 _
@[sl_canon] theorem slot_next0 (h) : (planes.slice (Rect.unit (s := S2x4x128x2048) (k0_off11 (grid0.coords t)) S1x1x128x2048.size (k0_off11_inb (grid0.coords t) h)) (fun _ => rfl)).squeeze S128x2048 squeezes_S1x1x128x2048_S128x2048 = plane (Ring.sl 2 (t.val + 1)) 0 := plane_spelt (offs_slot t).2.1.1 _
@[sl_canon] theorem slot_next1 (h) : (planes.slice (Rect.unit (s := S2x4x128x2048) (k0_off14 (grid0.coords t)) S1x1x128x2048.size (k0_off14_inb (grid0.coords t) h)) (fun _ => rfl)).squeeze S128x2048 squeezes_S1x1x128x2048_S128x2048 = plane (Ring.sl 2 (t.val + 1)) 1 := plane_spelt (offs_slot t).2.1.2.1 _
@[sl_canon] theorem slot_next2 (h) : (planes.slice (Rect.unit (s := S2x4x128x2048) (k0_off16 (grid0.coords t)) S1x1x128x2048.size (k0_off16_inb (grid0.coords t) h)) (fun _ => rfl)).squeeze S128x2048 squeezes_S1x1x128x2048_S128x2048 = plane (Ring.sl 2 (t.val + 1)) 2 := plane_spelt (offs_slot t).2.1.2.2.1 _
@[sl_canon] theorem slot_next3 (h) : (planes.slice (Rect.unit (s := S2x4x128x2048) (k0_off18 (grid0.coords t)) S1x1x128x2048.size (k0_off18_inb (grid0.coords t) h)) (fun _ => rfl)).squeeze S128x2048 squeezes_S1x1x128x2048_S128x2048 = plane (Ring.sl 2 (t.val + 1)) 3 := plane_spelt (offs_slot t).2.1.2.2.2 _
@[sl_canon] theorem slot_wait0 : (planes.slice (Rect.unit (s := S2x4x128x2048) (k0_off20 (grid0.coords t)) S1x1x128x2048.size (k0_off20_inb (grid0.coords t))) (fun _ => rfl)).squeeze S128x2048 squeezes_S1x1x128x2048_S128x2048 = plane (Ring.sl 2 t.val) 0 := plane_spelt (offs_slot t).2.2.1.1 _
@[sl_canon] theorem slot_wait1 : (planes.slice (Rect.unit (s := S2x4x128x2048) (k0_off23 (grid0.coords t)) S1x1x128x2048.size (k0_off23_inb (grid0.coords t))) (fun _ => rfl)).squeeze S128x2048 squeezes_S1x1x128x2048_S128x2048 = plane (Ring.sl 2 t.val) 1 := plane_spelt (offs_slot t).2.2.1.2.1 _
@[sl_canon] theorem slot_wait2 : (planes.slice (Rect.unit (s := S2x4x128x2048) (k0_off25 (grid0.coords t)) S1x1x128x2048.size (k0_off25_inb (grid0.coords t))) (fun _ => rfl)).squeeze S128x2048 squeezes_S1x1x128x2048_S128x2048 = plane (Ring.sl 2 t.val) 2 := plane_spelt (offs_slot t).2.2.1.2.2.1 _
@[sl_canon] theorem slot_wait3 : (planes.slice (Rect.unit (s := S2x4x128x2048) (k0_off27 (grid0.coords t)) S1x1x128x2048.size (k0_off27_inb (grid0.coords t))) (fun _ => rfl)).squeeze S128x2048 squeezes_S1x1x128x2048_S128x2048 = plane (Ring.sl 2 t.val) 3 := plane_spelt (offs_slot t).2.2.1.2.2.2 _
@[sl_canon] theorem cell_here0 (h) : (cc0_scratch1.slice (Rect.unit (s := S2x4) (k0_off1 (grid0.coords t)) S1x1.size (k0_off1_inb (grid0.coords t) h))).squeeze S_ squeezes_S1x1_S_ = cellOfPlane (Ring.sl 2 t.val) 0 := cell_spelt (offs_cell t).1.1 _
@[sl_canon] theorem cell_here1 (h) : (cc0_scratch1.slice (Rect.unit (s := S2x4) (k0_off4 (grid0.coords t)) S1x1.size (k0_off4_inb (grid0.coords t) h))).squeeze S_ squeezes_S1x1_S_ = cellOfPlane (Ring.sl 2 t.val) 1 := cell_spelt (offs_cell t).1.2.1 _
@[sl_canon] theorem cell_here2 (h) : (cc0_scratch1.slice (Rect.unit (s := S2x4) (k0_off6 (grid0.coords t)) S1x1.size (k0_off6_inb (grid0.coords t) h))).squeeze S_ squeezes_S1x1_S_ = cellOfPlane (Ring.sl 2 t.val) 2 := cell_spelt (offs_cell t).1.2.2.1 _
@[sl_canon] theorem cell_here3 (h) : (cc0_scratch1.slice (Rect.unit (s := S2x4) (k0_off8 (grid0.coords t)) S1x1.size (k0_off8_inb (grid0.coords t) h))).squeeze S_ squeezes_S1x1_S_ = cellOfPlane (Ring.sl 2 t.val) 3 := cell_spelt (offs_cell t).1.2.2.2 _
@[sl_canon] theorem cell_next0 (h) : (cc0_scratch1.slice (Rect.unit (s := S2x4) (k0_off10 (grid0.coords t)) S1x1.size (k0_off10_inb (grid0.coords t) h))).squeeze S_ squeezes_S1x1_S_ = cellOfPlane (Ring.sl 2 (t.val + 1)) 0 := cell_spelt (offs_cell t).2.1.1 _
@[sl_canon] theorem cell_next1 (h) : (cc0_scratch1.slice (Rect.unit (s := S2x4) (k0_off13 (grid0.coords t)) S1x1.size (k0_off13_inb (grid0.coords t) h))).squeeze S_ squeezes_S1x1_S_ = cellOfPlane (Ring.sl 2 (t.val + 1)) 1 := cell_spelt (offs_cell t).2.1.2.1 _
@[sl_canon] theorem cell_next2 (h) : (cc0_scratch1.slice (Rect.unit (s := S2x4) (k0_off15 (grid0.coords t)) S1x1.size (k0_off15_inb (grid0.coords t) h))).squeeze S_ squeezes_S1x1_S_ = cellOfPlane (Ring.sl 2 (t.val + 1)) 2 := cell_spelt (offs_cell t).2.1.2.2.1 _
@[sl_canon] theorem cell_next3 (h) : (cc0_scratch1.slice (Rect.unit (s := S2x4) (k0_off17 (grid0.coords t)) S1x1.size (k0_off17_inb (grid0.coords t) h))).squeeze S_ squeezes_S1x1_S_ = cellOfPlane (Ring.sl 2 (t.val + 1)) 3 := cell_spelt (offs_cell t).2.1.2.2.2 _
@[sl_canon] theorem cell_wait0 : (cc0_scratch1.slice (Rect.unit (s := S2x4) (k0_off19 (grid0.coords t)) S1x1.size (k0_off19_inb (grid0.coords t)))).squeeze S_ squeezes_S1x1_S_ = cellOfPlane (Ring.sl 2 t.val) 0 := cell_spelt (offs_cell t).2.2.1 _
@[sl_canon] theorem cell_wait1 : (cc0_scratch1.slice (Rect.unit (s := S2x4) (k0_off22 (grid0.coords t)) S1x1.size (k0_off22_inb (grid0.coords t)))).squeeze S_ squeezes_S1x1_S_ = cellOfPlane (Ring.sl 2 t.val) 1 := cell_spelt (offs_cell t).2.2.2.1 _
@[sl_canon] theorem cell_wait2 : (cc0_scratch1.slice (Rect.unit (s := S2x4) (k0_off24 (grid0.coords t)) S1x1.size (k0_off24_inb (grid0.coords t)))).squeeze S_ squeezes_S1x1_S_ = cellOfPlane (Ring.sl 2 t.val) 2 := cell_spelt (offs_cell t).2.2.2.2.1 _
@[sl_canon] theorem cell_wait3 : (cc0_scratch1.slice (Rect.unit (s := S2x4) (k0_off26 (grid0.coords t)) S1x1.size (k0_off26_inb (grid0.coords t)))).squeeze S_ squeezes_S1x1_S_ = cellOfPlane (Ring.sl 2 t.val) 3 := cell_spelt (offs_cell t).2.2.2.2.2 _
@[sl_canon] theorem rows_here0 (h) : (xM.slice (Rect.unit (s := S512x16x2048) (k0_off3 (grid0.coords t) 0#32) S128x1x2048.size (k0_off3_inb (grid0.coords t) h 0)) (fun _ => rfl)).squeeze S128x2048 squeezes_S128x1x2048_S128x2048 = rowsOf (Ring.bk 16 t.val) 0 := rows_spelt (offs_src t 0) _
@[sl_canon] theorem rows_here1 (h) : (xM.slice (Rect.unit (s := S512x16x2048) (k0_off3 (grid0.coords t) 1#32) S128x1x2048.size (k0_off3_inb (grid0.coords t) h 1)) (fun _ => rfl)).squeeze S128x2048 squeezes_S128x1x2048_S128x2048 = rowsOf (Ring.bk 16 t.val) 1 := rows_spelt (offs_src t 1) _
@[sl_canon] theorem rows_here2 (h) : (xM.slice (Rect.unit (s := S512x16x2048) (k0_off3 (grid0.coords t) 2#32) S128x1x2048.size (k0_off3_inb (grid0.coords t) h 2)) (fun _ => rfl)).squeeze S128x2048 squeezes_S128x1x2048_S128x2048 = rowsOf (Ring.bk 16 t.val) 2 := rows_spelt (offs_src t 2) _
@[sl_canon] theorem rows_here3 (h) : (xM.slice (Rect.unit (s := S512x16x2048) (k0_off3 (grid0.coords t) 3#32) S128x1x2048.size (k0_off3_inb (grid0.coords t) h 3)) (fun _ => rfl)).squeeze S128x2048 squeezes_S128x1x2048_S128x2048 = rowsOf (Ring.bk 16 t.val) 3 := rows_spelt (offs_src t 3) _
@[sl_canon] theorem rows_next0 (h : more (grid0.coords t)) : (xM.slice (Rect.unit (s := S512x16x2048) (k0_off12 (grid0.coords t) 0#32) S128x1x2048.size (k0_off12_inb (grid0.coords t) h 0)) (fun _ => rfl)).squeeze S128x2048 squeezes_S128x1x2048_S128x2048 = rowsOf (Ring.bk 16 (t.val + 1)) 0 := rows_spelt (offs_next t 0 h) _
@[sl_canon] theorem rows_next1 (h : more (grid0.coords t)) : (xM.slice (Rect.unit (s := S512x16x2048) (k0_off12 (grid0.coords t) 1#32) S128x1x2048.size (k0_off12_inb (grid0.coords t) h 1)) (fun _ => rfl)).squeeze S128x2048 squeezes_S128x1x2048_S128x2048 = rowsOf (Ring.bk 16 (t.val + 1)) 1 := rows_spelt (offs_next t 1 h) _
@[sl_canon] theorem rows_next2 (h : more (grid0.coords t)) : (xM.slice (Rect.unit (s := S512x16x2048) (k0_off12 (grid0.coords t) 2#32) S128x1x2048.size (k0_off12_inb (grid0.coords t) h 2)) (fun _ => rfl)).squeeze S128x2048 squeezes_S128x1x2048_S128x2048 = rowsOf (Ring.bk 16 (t.val + 1)) 2 := rows_spelt (offs_next t 2 h) _
@[sl_canon] theorem rows_next3 (h : more (grid0.coords t)) : (xM.slice (Rect.unit (s := S512x16x2048) (k0_off12 (grid0.coords t) 3#32) S128x1x2048.size (k0_off12_inb (grid0.coords t) h 3)) (fun _ => rfl)).squeeze S128x2048 squeezes_S128x1x2048_S128x2048 = rowsOf (Ring.bk 16 (t.val + 1)) 3 := rows_spelt (offs_next t 3 h) _

instance (priority := high) closed_load0 : ClosedOff (k0_off28 (grid0.coords t)) := ⟨![(Ring.sl 2 t.val).val, (0 : Fin 4).val, 0, 0], (offs_slot t).2.2.2.1⟩
instance (priority := high) closed_load1 : ClosedOff (k0_off29 (grid0.coords t)) := ⟨![(Ring.sl 2 t.val).val, (1 : Fin 4).val, 0, 0], (offs_slot t).2.2.2.2.1⟩
instance (priority := high) closed_load2 : ClosedOff (k0_off30 (grid0.coords t)) := ⟨![(Ring.sl 2 t.val).val, (2 : Fin 4).val, 0, 0], (offs_slot t).2.2.2.2.2.1⟩
instance (priority := high) closed_load3 : ClosedOff (k0_off31 (grid0.coords t)) := ⟨![(Ring.sl 2 t.val).val, (3 : Fin 4).val, 0, 0], (offs_slot t).2.2.2.2.2.2⟩

end Canon

/-! ## What is held: planes, copies of the operand, cells, copies in flight -/

section Ring
variable (c : Dev nD) (W : XBuf (F := F) c)

/-- The share of the operand lent to the copies into plane `j` of slot `s`: an eighth. -/
def share (s : Fin 2) (j : Fin 4) : PosShare TreeShare :=
  let a := if s.val = 0 then fullShare.left else fullShare.right
  let b := if j.val < 2 then a.left else a.right
  if j.val % 2 = 0 then b.left else b.right

abbrev PlaneBuf (s : Fin 2) (j : Fin 4) : Type := Buf (Elt F) ((plane s j).view.loc (c : Thread nD τ))
abbrev planeP (s : Fin 2) (j : Fin 4) (f : PlaneBuf (F := F) c s j) : sProp 𝕄 := (plane s j).view.loc (c : Thread nD τ) ↦[(plane s j).view.set]{fullShare} f
abbrev cellP (s : Fin 2) (j : Fin 4) : sProp 𝕄 := semVal ((c : Thread nD τ), cellLoc s j) 0
abbrev rowsP (s : Fin 2) (b : Fin 16) (j : Fin 4) : sProp 𝕄 := (rowsOf b j).view.loc (c : Thread nD τ) ↦[(rowsOf b j).view.set]{share s j} W
/-- The rest of the operand's share beside the lent rows. -/
def restP (s : Fin 2) (b : Fin 16) (j : Fin 4) : sProp 𝕄 := ((c : Thread nD τ).loc main_v0) ↦[Finset.univ \ (rowsOf b j).view.set]{share s j} W
abbrev shareP (s : Fin 2) (j : Fin 4) : sProp 𝕄 := ((c : Thread nD τ).loc main_v0) ↦[Finset.univ]{share s j} W
/-- A plane's contents once step `b`'s rows have landed in it. -/
abbrev landed (s : Fin 2) (b : Fin 16) (j : Fin 4) (f : PlaneBuf (F := F) c s j) : PlaneBuf (F := F) c s j :=
  (plane s j).view.writes (Elt F) f [⟨Rect.whole S128x2048, ReadAs.same.apply ((rowsOf b j).view.read (Elt F) W)⟩]
abbrev flightP (s : Fin 2) (b : Fin 16) (j : Fin 4) (f : PlaneBuf (F := F) c s j) : sProp 𝕄 :=
  Transfers.Flight countersEmb (c : Thread nD τ) (cellLoc s j) default ((plane s j).view.amount (cellLoc s j))
    iprop(planeP c s j (landed c W s b j f) ∗ rowsP c W s b j)

/-- A plane free: its cell at zero, its contents anything, its share of the operand whole; -/
abbrev freeP (s : Fin 2) (j : Fin 4) : sProp 𝕄 := iprop(cellP c s j ∗ (∃ f, planeP c s j f) ∗ shareP c W s j)
/-- or a copy in flight into it. -/
abbrev flyP (s : Fin 2) (b : Fin 16) (j : Fin 4) : sProp 𝕄 := iprop((∃ f, flightP c W s b j f) ∗ restP c W s b j)

abbrev freeSlot (s : Fin 2) : sProp 𝕄 := iprop(freeP c W s 0 ∗ freeP c W s 1 ∗ freeP c W s 2 ∗ freeP c W s 3)
abbrev flySlot (s : Fin 2) (b : Fin 16) : sProp 𝕄 := iprop(flyP c W s b 0 ∗ flyP c W s b 1 ∗ flyP c W s b 2 ∗ flyP c W s b 3)

/-- The ring before step `k`: both slots free before the first and after the last; else step `k`'s rows in flight into slot
    `k` modulo two, the other slot free. -/
def ringAt (k : ℕ) : sProp 𝕄 :=
  if k = 0 ∨ 16 ≤ k then iprop(freeSlot c W 0 ∗ freeSlot c W 1)
  else iprop(flySlot c W (Ring.sl 2 k) (Ring.bk 16 k) ∗ freeSlot c W (Ring.sl 2 (k + 1)))

omit [FloatOps F] in
theorem share_split (s : Fin 2) (b : Fin 16) (j : Fin 4) : shareP (F := F) c W s j ⊣⊢ iprop(rowsP c W s b j ∗ restP c W s b j) := by
  unfold restP; exact pointsTo_split_subset (Finset.subset_univ _)

end Ring

end Cert.Proof.InProjFirst

end
-- ==== Proof.InProjFirst.Hold.lean ====
/-
  Hand-written, untrusted. Into the transfer ring and out of it: the scratch buffer whole is its eight planes, and the operand
  whole is its eight shares.
-/
module

public import proofs.«01_k».proof.Proof.InProjFirst.Ring

@[expose] public section

set_option maxRecDepth 16384

noncomputable section

namespace Cert.Proof.InProjFirst

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (W : XBuf (F := F) c)

/-! ## The planes -/

abbrev planeSet (k : Fin 2 × Fin 4) : Finset (Idx ((c : Thread nD τ).loc cc0_scratch0)) := (plane k.1 k.2).view.set

theorem planeSet_eq (k : Fin 2 × Fin 4) : planeSet c k = (Rect.unit (s := S2x4x128x2048) ![k.1.val, k.2.val, 0, 0] S1x1x128x2048.size (inb_slot k.1 k.2)).set := by
  simp only [planeSet, plane, Memref.view_squeeze, View.set_reshape]
  exact View.set_slice_whole _ _

theorem mem_planeSet (k : Fin 2 × Fin 4) (x : S2x4x128x2048.Idx) : x ∈ planeSet c k ↔ (x 0).val = k.1.val ∧ (x 1).val = k.2.val := by
  rw [planeSet_eq, Rect.mem_set_unit]
  constructor
  · intro h
    have h0 : k.1.val ≤ (x 0).val ∧ (x 0).val < k.1.val + 1 := h 0
    have h1 : k.2.val ≤ (x 1).val ∧ (x 1).val < k.2.val + 1 := h 1
    omega
  · rintro ⟨h0, h1⟩ a
    match a with
    | ⟨0, _⟩ => show k.1.val ≤ (x 0).val ∧ (x 0).val < k.1.val + 1; omega
    | ⟨1, _⟩ => show k.2.val ≤ (x 1).val ∧ (x 1).val < k.2.val + 1; omega
    | ⟨2, _⟩ => exact ⟨Nat.zero_le _, lt_of_lt_of_eq (x 2).isLt (Nat.zero_add _).symm⟩
    | ⟨3, _⟩ => exact ⟨Nat.zero_le _, lt_of_lt_of_eq (x 3).isLt (Nat.zero_add _).symm⟩

theorem planes_disjoint (k k' : Fin 2 × Fin 4) (h : k ≠ k') : Disjoint (planeSet c k) (planeSet c k') := by
  rw [Finset.disjoint_left]
  intro x hx hx'
  have h1 := (mem_planeSet c k x).mp hx
  have h2 := (mem_planeSet c k' x).mp hx'
  exact h (Prod.ext (Fin.ext (by omega)) (Fin.ext (by omega)))

theorem planes_cover : Finset.univ.biUnion (planeSet c) = Finset.univ := by
  ext (x : S2x4x128x2048.Idx)
  simp only [Finset.mem_biUnion, Finset.mem_univ, true_and, iff_true]
  exact ⟨(x 0, x 1), (mem_planeSet c _ x).mpr ⟨rfl, rfl⟩⟩

/-- The eight planes, each at some contents. -/
abbrev planesP : sProp 𝕄 :=
  iprop((∃ f, planeP (F := F) c 0 0 f) ∗ (∃ f, planeP (F := F) c 0 1 f) ∗ (∃ f, planeP (F := F) c 0 2 f) ∗ (∃ f, planeP (F := F) c 0 3 f)
    ∗ (∃ f, planeP (F := F) c 1 0 f) ∗ (∃ f, planeP (F := F) c 1 1 f) ∗ (∃ f, planeP (F := F) c 1 2 f) ∗ (∃ f, planeP (F := F) c 1 3 f))

theorem planesP_eq : planesP (F := F) c = bigSep Finset.univ fun k : Fin 2 × Fin 4 => iprop(∃ f, ((c : Thread nD τ).loc cc0_scratch0) ↦[planeSet c k]{fullShare} f) := by
  rw [BI.bigSep_eq_bigSepL_of_eq [(0, 0), (0, 1), (0, 2), (0, 3), (1, 0), (1, 1), (1, 2), (1, 3)] (by decide) (by decide)]
  rfl

theorem planes_in : iprop(∃ d, owns (c : Thread nD τ) planes fullShare d) ⊢ planesP (F := F) c := by
  simp only [planes, owns_whole]
  rw [planesP_eq]
  have key : ∀ d : Buf (Elt F) ((c : Thread nD τ).loc cc0_scratch0), ((((c : Thread nD τ).loc cc0_scratch0) ↦{fullShare} d : sProp 𝕄))
      ⊢ bigSep Finset.univ fun k : Fin 2 × Fin 4 => iprop(∃ f, ((c : Thread nD τ).loc cc0_scratch0) ↦[planeSet c k]{fullShare} f) := fun d =>
    (Idealize.SL.BI.BIBase.Entails.of_eq (Ring.pointsTo_blocks (planeSet c) (planes_disjoint c) (planes_cover c) d)).trans
      (BI.bigSep_mono fun k _ => Idealize.SL.BI.BIClass.exists_intro (Φ := fun f => iprop(((c : Thread nD τ).loc cc0_scratch0) ↦[planeSet c k]{fullShare} f)) d)
  iintro ⟨%d, H⟩
  iapply (key d)
  iexact H

theorem planes_out : planesP (F := F) c ⊢ iprop(∃ d, owns (c : Thread nD τ) planes fullShare d) := by
  simp only [planes, owns_whole]
  rw [planesP_eq]
  exact Ring.pointsTo_blocks_join_exists (planeSet c) (planes_disjoint c) (planes_cover c) default

/-! ## The operand's shares -/

abbrev wholeP (q : PosShare TreeShare) : sProp 𝕄 := ((c : Thread nD τ).loc main_v0) ↦[Finset.univ]{q} W

theorem halve (q : PosShare TreeShare) : wholeP c W q ⊣⊢ iprop(wholeP c W q.left ∗ wholeP c W q.right) :=
  pointsTo_share (PosShare.mem_left_op_right q)

/-- The eight shares of the operand. -/
abbrev sharesP : sProp 𝕄 :=
  iprop(shareP c W 0 0 ∗ shareP c W 0 1 ∗ shareP c W 0 2 ∗ shareP c W 0 3 ∗ shareP c W 1 0 ∗ shareP c W 1 1 ∗ shareP c W 1 2 ∗ shareP c W 1 3)

theorem quarters (q : PosShare TreeShare) : wholeP c W q
    ⊣⊢ iprop((wholeP c W q.left.left ∗ wholeP c W q.left.right) ∗ (wholeP c W q.right.left ∗ wholeP c W q.right.right)) :=
  (halve c W q).trans (Idealize.SL.BI.Laws.sep_congr (halve c W q.left) (halve c W q.right))

theorem shares_in : wholeP c W fullShare ⊢ sharesP c W := by
  iintro H
  ihave H' := (halve c W fullShare).1 $$ H
  icases H' with ⟨Ha, Hb⟩
  ihave Ha' := (quarters c W fullShare.left).1 $$ Ha
  icases Ha' with ⟨⟨H0, H1⟩, ⟨H2, H3⟩⟩
  ihave Hb' := (quarters c W fullShare.right).1 $$ Hb
  icases Hb' with ⟨⟨H4, H5⟩, ⟨H6, H7⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem shares_out : sharesP c W ⊢ wholeP c W fullShare := by
  iintro ⟨H0, H1, H2, H3, H4, H5, H6, H7⟩
  iapply (halve c W fullShare).2
  isplitl [H0 H1 H2 H3]
  · iapply (quarters c W fullShare.left).2
    isplitl [H0 H1]
    · isplitl [H0]; · iexact H0
      iexact H1
    isplitl [H2]; · iexact H2
    iexact H3
  iapply (quarters c W fullShare.right).2
  isplitl [H4 H5]
  · isplitl [H4]; · iexact H4
    iexact H5
  isplitl [H6]; · iexact H6
  iexact H7

/-! ## The ring -/

/-- The eight cells at zero. -/
abbrev cellsP : sProp 𝕄 :=
  iprop(cellP (F := F) c 0 0 ∗ cellP (F := F) c 0 1 ∗ cellP (F := F) c 0 2 ∗ cellP (F := F) c 0 3 ∗ cellP (F := F) c 1 0 ∗ cellP (F := F) c 1 1 ∗ cellP (F := F) c 1 2 ∗ cellP (F := F) c 1 3)

theorem ring_in : iprop(planesP (F := F) c ∗ cellsP (F := F) c ∗ sharesP c W) ⊢ ringAt c W 0 := by
  unfold ringAt
  rw [if_pos (Or.inl rfl)]
  iintro ⟨⟨P0, P1, P2, P3, P4, P5, P6, P7⟩, ⟨C0, C1, C2, C3, C4, C5, C6, C7⟩, ⟨S0, S1, S2, S3, S4, S5, S6, S7⟩⟩
  isplitl [P0 P1 P2 P3 C0 C1 C2 C3 S0 S1 S2 S3]
  · isplitl [C0 P0 S0]
    · isplitl [C0]; · iexact C0
      isplitl [P0]; · iexact P0
      iexact S0
    isplitl [C1 P1 S1]
    · isplitl [C1]; · iexact C1
      isplitl [P1]; · iexact P1
      iexact S1
    isplitl [C2 P2 S2]
    · isplitl [C2]; · iexact C2
      isplitl [P2]; · iexact P2
      iexact S2
    isplitl [C3]; · iexact C3
    isplitl [P3]; · iexact P3
    iexact S3
  isplitl [C4 P4 S4]
  · isplitl [C4]; · iexact C4
    isplitl [P4]; · iexact P4
    iexact S4
  isplitl [C5 P5 S5]
  · isplitl [C5]; · iexact C5
    isplitl [P5]; · iexact P5
    iexact S5
  isplitl [C6 P6 S6]
  · isplitl [C6]; · iexact C6
    isplitl [P6]; · iexact P6
    iexact S6
  isplitl [C7]; · iexact C7
  isplitl [P7]; · iexact P7
  iexact S7

theorem ring_out : ringAt c W 16 ⊢ iprop(planesP (F := F) c ∗ cellsP (F := F) c ∗ sharesP c W) := by
  unfold ringAt
  rw [if_pos (Or.inr le_rfl)]
  iintro ⟨⟨⟨C0, P0, S0⟩, ⟨C1, P1, S1⟩, ⟨C2, P2, S2⟩, ⟨C3, P3, S3⟩⟩, ⟨⟨C4, P4, S4⟩, ⟨C5, P5, S5⟩, ⟨C6, P6, S6⟩, ⟨C7, P7, S7⟩⟩⟩
  isplitl [P0 P1 P2 P3 P4 P5 P6 P7]
  · isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  isplitl [C0 C1 C2 C3 C4 C5 C6 C7]
  · isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  isplitl [S0]; · iexact S0
  isplitl [S1]; · iexact S1
  isplitl [S2]; · iexact S2
  isplitl [S3]; · iexact S3
  isplitl [S4]; · iexact S4
  isplitl [S5]; · iexact S5
  isplitl [S6]; · iexact S6
  iexact S7

end Cert.Proof.InProjFirst

end
-- ==== Proof.InProjFirst.Start.lean ====
/-
  Hand-written, untrusted. The copies a step of the input projection's kernel starts: at the first step those of its own rows and of
  the next step's; then those of the next step's alone; at the last none.
-/
module

public import proofs.«01_k».proof.Proof.InProjFirst.Ring

@[expose] public section

set_option maxRecDepth 16384

noncomputable section

namespace Cert.Proof.InProjFirst

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the start of a step hands on: words the offsets are computed from. -/
abbrev StartRes : Type := Σ' (_ : BitVec 32) (_ : BitVec 32) (_ : BitVec 32) (_ : BitVec 32) (_ : BitVec 1) (_ : BitVec 1), BitVec 1

section
variable (c : Dev nD) (W : XBuf (F := F) c) (t : Fin cfg0.N)
variable (arg3 : Memref sig .tc .vmem S1x3x2048 .f32) (harg3 : arg3.IsWhole) (arg4 : Memref sig .tc .vmem S1x1024x2048 .bf16) (harg4 : arg4.IsWhole) (arg5 : Memref sig .tc .vmem S1x1024x2048 .bf16) (harg5 : arg5.IsWhole) (arg6 : Memref sig .tc .vmem S1x2048x1024 .bf16) (harg6 : arg6.IsWhole) (arg7 : Memref sig .tc .vmem S1x2048x1024 .bf16) (harg7 : arg7.IsWhole) (arg8 : Memref sig .tc .vmem S1x2048x1024 .bf16) (harg8 : arg8.IsWhole) (arg9 : Memref sig .tc .vmem S1x2048x1024 .bf16) (harg9 : arg9.IsWhole) (arg10 : Memref sig .tc .vmem S1x128x6144 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1x128x4096 .bf16) (harg16 : arg16.IsWhole) (arg17 : Memref sig .tc .vmem S1x2048x128 .bf16) (harg17 : arg17.IsWhole) (arg20 : Memref sig .tc .vmem S512x2048 .bf16) (harg20 : arg20.IsWhole)
variable (v w z : BitVec 32)

set_option maxHeartbeats 1000000 in
/-- The last step starts nothing. -/
theorem start_last (K : StartRes → sProp 𝕄) (h0 : ¬ first (grid0.coords t)) (h1 : ¬ more (grid0.coords t)) :
    iprop(flySlot c W (Ring.sl 2 t.val) (Ring.bk 16 t.val) ∗ (∀ r : StartRes, flySlot c W (Ring.sl 2 t.val) (Ring.bk 16 t.val) -∗ K r))
      ⊢ wp frame (wpE (defs₀ (F := F)) Variants.none c none) Set.univ (k0_part4 (grid0.coords t) xM (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 planes (Memref.isWhole_whole _) cc0_scratch1 arg20 harg20 v w z) K := by
  haveI : Fact (¬ first (grid0.coords t)) := ⟨h0⟩
  haveI : Fact (¬ more (grid0.coords t)) := ⟨h1⟩
  unfold k0_part4
  iintro ⟨Hf, Hk⟩
  sl_exec (disch := first | sl_exact h0 | sl_exact h1)
  sl_step
  iapply Hk
  iexact Hf

set_option maxHeartbeats 2000000 in
/-- A middle step starts the next step's copies. -/
theorem start_next (K : StartRes → sProp 𝕄) (h0 : ¬ first (grid0.coords t)) (h1 : more (grid0.coords t)) :
    iprop(flySlot c W (Ring.sl 2 t.val) (Ring.bk 16 t.val) ∗ freeSlot c W (Ring.sl 2 (t.val + 1))
        ∗ (∀ r : StartRes, flySlot c W (Ring.sl 2 t.val) (Ring.bk 16 t.val) ∗ flySlot c W (Ring.sl 2 (t.val + 1)) (Ring.bk 16 (t.val + 1)) -∗ K r))
      ⊢ wp frame (wpE (defs₀ (F := F)) Variants.none c none) Set.univ (k0_part4 (grid0.coords t) xM (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 planes (Memref.isWhole_whole _) cc0_scratch1 arg20 harg20 v w z) K := by
  haveI : Fact (¬ first (grid0.coords t)) := ⟨h0⟩
  haveI : Fact (more (grid0.coords t)) := ⟨h1⟩
  unfold k0_part4
  iintro ⟨Hf, ⟨⟨Hc0, ⟨%s0, Hs0⟩, Hw0⟩, ⟨Hc1, ⟨%s1, Hs1⟩, Hw1⟩, ⟨Hc2, ⟨%s2, Hs2⟩, Hw2⟩, ⟨Hc3, ⟨%s3, Hs3⟩, Hw3⟩⟩, Hk⟩
  ihave Hsp := (share_split c W (Ring.sl 2 (t.val + 1)) (Ring.bk 16 (t.val + 1)) 0).1 $$ Hw0
  icases Hsp with ⟨Hh0, Hr0⟩
  ihave Hsp := (share_split c W (Ring.sl 2 (t.val + 1)) (Ring.bk 16 (t.val + 1)) 1).1 $$ Hw1
  icases Hsp with ⟨Hh1, Hr1⟩
  ihave Hsp := (share_split c W (Ring.sl 2 (t.val + 1)) (Ring.bk 16 (t.val + 1)) 2).1 $$ Hw2
  icases Hsp with ⟨Hh2, Hr2⟩
  ihave Hsp := (share_split c W (Ring.sl 2 (t.val + 1)) (Ring.bk 16 (t.val + 1)) 3).1 $$ Hw3
  icases Hsp with ⟨Hh3, Hr3⟩
  sl_exec (disch := first | sl_exact h0 | sl_exact h1)
  sl_step
  iapply Hk
  isplitl [Hf]; · iexact Hf
  isplitl [Hc0 Hr0]
  · isplitl [Hc0]; · iexists _; iexact Hc0
    iexact Hr0
  isplitl [Hc1 Hr1]
  · isplitl [Hc1]; · iexists _; iexact Hc1
    iexact Hr1
  isplitl [Hc2 Hr2]
  · isplitl [Hc2]; · iexists _; iexact Hc2
    iexact Hr2
  isplitl [Hc3]; · iexists _; iexact Hc3
  iexact Hr3

set_option maxHeartbeats 4000000 in
/-- The first step starts its own copies and the next step's. -/
theorem start_first (K : StartRes → sProp 𝕄) (h0 : first (grid0.coords t)) (h1 : more (grid0.coords t)) :
    iprop(freeSlot c W (Ring.sl 2 t.val) ∗ freeSlot c W (Ring.sl 2 (t.val + 1))
        ∗ (∀ r : StartRes, flySlot c W (Ring.sl 2 t.val) (Ring.bk 16 t.val) ∗ flySlot c W (Ring.sl 2 (t.val + 1)) (Ring.bk 16 (t.val + 1)) -∗ K r))
      ⊢ wp frame (wpE (defs₀ (F := F)) Variants.none c none) Set.univ (k0_part4 (grid0.coords t) xM (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 planes (Memref.isWhole_whole _) cc0_scratch1 arg20 harg20 v w z) K := by
  haveI : Fact (first (grid0.coords t)) := ⟨h0⟩
  haveI : Fact (more (grid0.coords t)) := ⟨h1⟩
  unfold k0_part4
  iintro ⟨⟨⟨Ga0, ⟨%a0, Ha0⟩, Va0⟩, ⟨Ga1, ⟨%a1, Ha1⟩, Va1⟩, ⟨Ga2, ⟨%a2, Ha2⟩, Va2⟩, ⟨Ga3, ⟨%a3, Ha3⟩, Va3⟩⟩, ⟨⟨Hc0, ⟨%s0, Hs0⟩, Hw0⟩, ⟨Hc1, ⟨%s1, Hs1⟩, Hw1⟩, ⟨Hc2, ⟨%s2, Hs2⟩, Hw2⟩, ⟨Hc3, ⟨%s3, Hs3⟩, Hw3⟩⟩, Hk⟩
  ihave Hsp := (share_split c W (Ring.sl 2 t.val) (Ring.bk 16 t.val) 0).1 $$ Va0
  icases Hsp with ⟨Ja0, Ra0⟩
  ihave Hsp := (share_split c W (Ring.sl 2 t.val) (Ring.bk 16 t.val) 1).1 $$ Va1
  icases Hsp with ⟨Ja1, Ra1⟩
  ihave Hsp := (share_split c W (Ring.sl 2 t.val) (Ring.bk 16 t.val) 2).1 $$ Va2
  icases Hsp with ⟨Ja2, Ra2⟩
  ihave Hsp := (share_split c W (Ring.sl 2 t.val) (Ring.bk 16 t.val) 3).1 $$ Va3
  icases Hsp with ⟨Ja3, Ra3⟩
  ihave Hsp := (share_split c W (Ring.sl 2 (t.val + 1)) (Ring.bk 16 (t.val + 1)) 0).1 $$ Hw0
  icases Hsp with ⟨Hh0, Hr0⟩
  ihave Hsp := (share_split c W (Ring.sl 2 (t.val + 1)) (Ring.bk 16 (t.val + 1)) 1).1 $$ Hw1
  icases Hsp with ⟨Hh1, Hr1⟩
  ihave Hsp := (share_split c W (Ring.sl 2 (t.val + 1)) (Ring.bk 16 (t.val + 1)) 2).1 $$ Hw2
  icases Hsp with ⟨Hh2, Hr2⟩
  ihave Hsp := (share_split c W (Ring.sl 2 (t.val + 1)) (Ring.bk 16 (t.val + 1)) 3).1 $$ Hw3
  icases Hsp with ⟨Hh3, Hr3⟩
  sl_exec (disch := first | sl_exact h0 | sl_exact h1)
  sl_step
  iapply Hk
  isplitl [Ga0 Ra0 Ga1 Ra1 Ga2 Ra2 Ga3 Ra3]
  · isplitl [Ga0 Ra0]
    · isplitl [Ga0]; · iexists _; iexact Ga0
      iexact Ra0
    isplitl [Ga1 Ra1]
    · isplitl [Ga1]; · iexists _; iexact Ga1
      iexact Ra1
    isplitl [Ga2 Ra2]
    · isplitl [Ga2]; · iexists _; iexact Ga2
      iexact Ra2
    isplitl [Ga3]; · iexists _; iexact Ga3
    iexact Ra3
  isplitl [Hc0 Hr0]
  · isplitl [Hc0]; · iexists _; iexact Hc0
    iexact Hr0
  isplitl [Hc1 Hr1]
  · isplitl [Hc1]; · iexists _; iexact Hc1
    iexact Hr1
  isplitl [Hc2 Hr2]
  · isplitl [Hc2]; · iexists _; iexact Hc2
    iexact Hr2
  isplitl [Hc3]; · iexists _; iexact Hc3
  iexact Hr3

end

end Cert.Proof.InProjFirst

end
-- ==== Proof.InProjFirst.Payload.lean ====
/-
  Hand-written, untrusted. What a step of the input projection's kernel computes: its rows normalised and modulated, then their
  products with the weights; and the loads and stores that carry these values.
-/
module

public import proofs.«01_k».proof.Proof.InProjFirst.Ring
public import Idealize.ShloMosaic.Lib.Pipeline.Value
public import Idealize.ShloMosaic.Lib.ValueIdxCore

@[expose] public section

set_option maxRecDepth 16384

noncomputable section

namespace Cert.Proof.InProjFirst

open Cert.Kernel3Ideal Cert.Kernel3Ideal.Gen
open Idealize.ShloMosaic Idealize.ShloMosaic.TcCoe
open ValueIdx (ix2 ix3)

variable {F : FTy → Type} [FloatOps F]

/-! ## The values -/

section
variable (c : Dev nD) (W : XBuf (F := F) c) (b : Fin 16)

/-- The rows step `b` reads into plane `j`. -/
def planeVec (j : Fin 4) : FVec F S128x2048 .f32 := (rowsOf b j).view.read (Elt F) W

/-- The modulation's shift and scale rows. -/
def shiftRow (x0 : Vec F S1x3x2048 .f32) : FVec F S1x2048 .f32 := fun y => x0 (ix3 (0 : Fin 1) (0 : Fin 3) (y 1))
def scaleRow (x0 : Vec F S1x3x2048 .f32) : FVec F S1x2048 .f32 := fun y => x0 (ix3 (0 : Fin 1) (1 : Fin 3) (y 1))

/-- Rows' means, as a column. -/
def meanCol (x : FVec F S128x2048 .f32) : FVec F S128x1 .f32 :=
  divf (shapeCast S128x1 (multiReduction .add [1] S128 x 0x00000000#32 reduces_S128x2048_S128 (.inl rfl) rfl) shapeCasts_S128_S128x1)
    (broadcast S128x1 (Scalar.ofBits .f32 0x45000000#32))
/-- Rows less their means. -/
def centred (x : FVec F S128x2048 .f32) : FVec F S128x2048 .f32 :=
  subf x (broadcastTo S128x2048 (meanCol x) broadcasts_S128x1_S128x2048)
/-- Rows normalised, then scaled and shifted, in the narrow type. -/
def normed (x : FVec F S128x2048 .f32) (sh sc : FVec F S1x2048 .f32) : FVec F S128x2048 .bf16 :=
  shapeCast S128x2048 (truncf .bf16
    (addf (mulf (mulf (centred x)
        (broadcastTo S128x2048 (rsqrt (addf (meanCol (mulf (centred x) (centred x))) (broadcast S128x1 (Scalar.ofBits .f32 0x358637BD#32)))) broadcasts_S128x1_S128x2048))
        (broadcastTo S128x2048 (addf (broadcast S1x2048 (Scalar.ofBits .f32 0x3F800000#32)) sc) broadcasts_S1x2048_S128x2048))
      (broadcastTo S128x2048 sh broadcasts_S1x2048_S128x2048)) bitsLt_bf16_f32) shapeCasts_S128x2048_S128x2048

/-- Four planes one under the other. -/
def stack4 (p : Fin 4 → FVec F S128x2048 .bf16) : FVec F S512x2048 .bf16 := fun y =>
  p ⟨(y 0).val / 128, by have : (y 0).val < 512 := (y 0).isLt; omega⟩ (ix2 (⟨(y 0).val % 128, Nat.mod_lt _ (by decide)⟩ : Fin 128) (y 1))

/-- The step's rows, normalised and modulated. -/
def hidden (x0 : Vec F S1x3x2048 .f32) : FVec F S512x2048 .bf16 :=
  stack4 fun j => normed (planeVec c W b j) (shiftRow x0) (scaleRow x0)

/-- A product of a weight's rows with the step's rows, transposed; -/
def prodT (h : FVec F S512x2048 .bf16) (w : Vec F S1x1024x2048 .bf16) : FVec F S1024x512 .f32 :=
  matmul dot_S1024x2048_S512x2048_S1024x512_1_1_0_0_n_n none (shapeCast S1024x2048 w shapeCasts_S1x1024x2048_S1024x2048) h (constant S1024x512 .f32 0x00000000#32)
/-- and of the step's rows with a weight's columns. -/
def prodR (h : FVec F S512x2048 .bf16) (w : Vec F S1x2048x1024 .bf16) : FVec F S512x1024 .f32 :=
  matmul dot_S512x2048_S2048x1024_S512x1024_1_0_0_1_n_n none h (shapeCast S2048x1024 w shapeCasts_S1x2048x1024_S2048x1024) (constant S512x1024 .f32 0x00000000#32)

def outU (h : FVec F S512x2048 .bf16) (w : Vec F S1x1024x2048 .bf16) : FVec F S1024x512 .bf16 := truncf .bf16 (prodT h w) bitsLt_bf16_f32
def outZ (h : FVec F S512x2048 .bf16) (w : Vec F S1x1024x2048 .bf16) : FVec F S1024x512 .bf16 :=
  truncf .bf16 (addf (mulf (prodT h w) (tanh (prodT h w))) (prodT h w)) bitsLt_bf16_f32
def outCV (h : FVec F S512x2048 .bf16) (w w' : Vec F S1x2048x1024 .bf16) : FVec F S512x1024 .bf16 :=
  truncf .bf16 (mulf (prodR h w') (prodR h w)) bitsLt_bf16_f32
def outB (h : FVec F S512x2048 .bf16) (w : Vec F S1x2048x1024 .bf16) : FVec F S512x1024 .bf16 := truncf .bf16 (prodR h w) bitsLt_bf16_f32
def outG (h : FVec F S512x2048 .bf16) (w : Vec F S1x2048x1024 .bf16) : FVec F S512x1024 .bf16 :=
  truncf .bf16 (addf (mulf (prodR h w) (tanh (prodR h w))) (prodR h w)) bitsLt_bf16_f32

end

/-! ## Loads and stores -/

/-- A load of a whole buffer reads it. -/
theorem load_whole {s : Shape} {e : EltTy} (a : Memref sig .tc .vmem s e) (ha : a.IsWhole) (v : Vec F s e) {off : Fin s.rank → Nat} (h0 : ∀ i, off i = 0)
    (inb : ∀ i, off i + s.size i ≤ s.size i) :
    View.readAt (Elt F) a.view (Rect.unit (s := s) off s.size inb).toLoadRect (ha.unread v) = v := by
  refine Eq.trans ?_ (ha.read_unread v)
  funext y
  refine congrArg (a.view.read (Elt F) (ha.unread v)) ?_
  funext i
  apply Fin.ext
  show off i + 1 * (y i).val = (y i).val
  rw [h0 i]; omega

/-- A store of a whole buffer leaves its value. -/
theorem store_whole {s : Shape} {e : EltTy} (a : Memref sig .tc .vmem s e) (f : a.view.ty.Contents (Elt F)) (v : Vec F s e) {off : Fin s.rank → Nat} (h0 : ∀ i, off i = 0)
    (inb : ∀ i, off i + s.size i ≤ s.size i) :
    a.view.read (Elt F) (a.view.writes (Elt F) f [⟨Rect.unit (s := s) off s.size inb, v⟩]) = v := by
  funext y
  refine View.read_writes_cons_hit_of_coords a.view f (Rect.unit (s := s) off s.size inb) v [] y y ?_
  intro i
  show (y i).val = off i + 1 * (y i).val
  rw [h0 i]; omega

/-- Row `k` of the modulation, as a load takes it. -/
theorem load_row (a : Memref sig .tc .vmem S1x3x2048 .f32) (ha : a.IsWhole) (v : Vec F S1x3x2048 .f32) (k : Fin 3)
    (inb : ∀ i, (![0, k.val, 0] : Fin 3 → Nat) i + S1x1x2048.size i ≤ S1x3x2048.size i) :
    shapeCast S1x2048 (View.readAt (Elt F) a.view (Rect.unit (s := S1x3x2048) ![0, k.val, 0] S1x1x2048.size inb).toLoadRect (ha.unread v)) shapeCasts_S1x1x2048_S1x2048 = fun y => v (ix3 (0 : Fin 1) k (y 1)) := by
  funext y
  refine (shapeCast_apply (s := S1x1x2048) _ _ _ (ix3 (0 : Fin 1) (0 : Fin 1) (y 1)) ?_).trans ?_
  · have h0 : (y 0).val < 1 := (y 0).isLt
    rw [Shape.rowMajor_val_three, Shape.rowMajor_val_two]
    show (0 * 1 + 0) * 2048 + (y 1).val = (y 0).val * 2048 + (y 1).val
    omega
  refine Eq.trans ?_ (congrFun (ha.read_unread v) _)
  refine congrArg (a.view.read (Elt F) (ha.unread v)) ?_
  funext i
  apply Fin.ext
  match i with
  | ⟨0, _⟩ => rfl
  | ⟨1, _⟩ => show k.val + 1 * 0 = k.val; omega
  | ⟨2, _⟩ => show 0 + 1 * (y 1).val = (y 1).val; omega

/-- A plane's load reads what was copied into it. -/
theorem load_plane (s : Fin 2) (j : Fin 4) {off : Fin 4 → Nat} (h : off = ![s.val, j.val, 0, 0]) (inb : ∀ a, off a + S1x1x128x2048.size a ≤ S2x4x128x2048.size a)
    (f : (plane s j).view.ty.Contents (Elt F)) (v : FVec F S128x2048 .f32) :
    shapeCast S128x2048 (View.readAt (Elt F) planes.view (Rect.unit (s := S2x4x128x2048) off S1x1x128x2048.size inb).toLoadRect
      ((plane s j).view.writes (Elt F) f [⟨Rect.whole S128x2048, v⟩])) shapeCasts_S1x1x128x2048_S128x2048 = v := by
  subst h
  exact View.read_writes_whole (plane s j).view f v

/-- Plane `k` of the stack is rows `128 k …`. -/
theorem piece_agrees (p : Fin 4 → FVec F S128x2048 .bf16) (k : Fin 4) (inb : ∀ i, (![128 * k.val, 0] : Fin 2 → Nat) i + S128x2048.size i ≤ S512x2048.size i)
    (x : S128x2048.Idx) : p k x = stack4 p ((Rect.unit (s := S512x2048) ![128 * k.val, 0] S128x2048.size inb).emb x) := by
  have hx : (x 0).val < 128 := (x 0).isLt
  unfold stack4
  refine congrArg₂ (fun j z => p j z) (Fin.ext ?_) ?_
  · show k.val = (128 * k.val + 1 * (x 0).val) / 128; omega
  · funext i
    apply Fin.ext
    match i with
    | ⟨0, _⟩ => show (x 0).val = (128 * k.val + 1 * (x 0).val) % 128; omega
    | ⟨1, _⟩ => show (x 1).val = 0 + 1 * (x 1).val; omega

theorem in_piece (y : S512x2048.Idx) (o : Nat) (h : o ≤ (y 0).val) (h' : (y 0).val < o + 128)
    (inb : ∀ i, (![o, 0] : Fin 2 → Nat) i + S128x2048.size i ≤ S512x2048.size i) : y ∈ (Rect.unit (s := S512x2048) ![o, 0] S128x2048.size inb).set := by
  rw [Rect.mem_set_unit]
  intro i
  match i with
  | ⟨0, _⟩ => exact ⟨h, h'⟩
  | ⟨1, _⟩ => exact ⟨Nat.zero_le _, lt_of_lt_of_eq (y 1).isLt (Nat.zero_add _).symm⟩

/-- What is stored of a plane: its rows as copied, the modulation as loaded. -/
theorem stored_rows (a : Memref sig .tc .vmem S1x3x2048 .f32) (ha : a.IsWhole) (v : Vec F S1x3x2048 .f32)
    (s : Fin 2) (j : Fin 4) {off : Fin 4 → Nat} (h : off = ![s.val, j.val, 0, 0]) (inb : ∀ a, off a + S1x1x128x2048.size a ≤ S2x4x128x2048.size a)
    (f : (plane s j).view.ty.Contents (Elt F)) (x : FVec F S128x2048 .f32) :
    normed (shapeCast S128x2048 (View.readAt (Elt F) planes.view (Rect.unit (s := S2x4x128x2048) off S1x1x128x2048.size inb).toLoadRect
        ((plane s j).view.writes (Elt F) f [⟨Rect.whole S128x2048, x⟩])) shapeCasts_S1x1x128x2048_S128x2048)
      (shapeCast S1x2048 (View.readAt (Elt F) a.view (Rect.unit (s := S1x3x2048) ![0, 0, 0] S1x1x2048.size inb_S1x3x2048_S1x1x2048_0_0_0).toLoadRect (ha.unread v)) shapeCasts_S1x1x2048_S1x2048)
      (shapeCast S1x2048 (View.readAt (Elt F) a.view (Rect.unit (s := S1x3x2048) ![0, 1, 0] S1x1x2048.size inb_S1x3x2048_S1x1x2048_0_1_0).toLoadRect (ha.unread v)) shapeCasts_S1x1x2048_S1x2048)
      = normed x (shiftRow v) (scaleRow v) := by
  rw [load_plane s j h inb f x]
  exact congrArg₂ (normed x) (load_row a ha v 0 inb_S1x3x2048_S1x1x2048_0_0_0) (load_row a ha v 1 inb_S1x3x2048_S1x1x2048_0_1_0)

/-- The four planes' stores, the last first. -/
abbrev stores4 (p0 p1 p2 p3 : FVec F S128x2048 .bf16) : List (View.Piece (Elt F) S512x2048 .bf16) :=
  [⟨Rect.unit (s := S512x2048) ![384, 0] S128x2048.size inb_S512x2048_S128x2048_384_0, p3⟩,
    ⟨Rect.unit (s := S512x2048) ![256, 0] S128x2048.size inb_S512x2048_S128x2048_256_0, p2⟩,
    ⟨Rect.unit (s := S512x2048) ![128, 0] S128x2048.size inb_S512x2048_S128x2048_128_0, p1⟩,
    ⟨Rect.unit (s := S512x2048) ![0, 0] S128x2048.size inb_S512x2048_S128x2048_0_0, p0⟩]

/-- The step's rows are read back as the four planes stored. -/
theorem load_stack (a : Memref sig .tc .vmem S512x2048 .bf16) (p : Fin 4 → FVec F S128x2048 .bf16) :
    a.view.readCov (stores4 (p 0) (p 1) (p 2) (p 3)) (Rect.unit (s := S512x2048) ![0, 0] S512x2048.size inb_S512x2048_S512x2048_0_0).toLoadRect = stack4 p := by
  funext y
  have hy : (y 0).val < 512 := (y 0).isLt
  refine (congrArg (a.view.read (Elt F) _) (show _ = y from ?_)).trans (View.read_writes_apply_of_pieces (Val := Elt F) a.view _ (stack4 p) _ ?_ y ?_)
  · funext i
    apply Fin.ext
    show (![0, 0] : Fin 2 → Nat) i + 1 * (y i).val = (y i).val
    match i with
    | ⟨0, _⟩ => show 0 + 1 * (y 0).val = (y 0).val; omega
    | ⟨1, _⟩ => show 0 + 1 * (y 1).val = (y 1).val; omega
  · intro q hq x
    simp only [List.mem_cons, List.not_mem_nil, or_false] at hq
    rcases hq with rfl | rfl | rfl | rfl
    · exact piece_agrees p 3 inb_S512x2048_S128x2048_384_0 x
    · exact piece_agrees p 2 inb_S512x2048_S128x2048_256_0 x
    · exact piece_agrees p 1 inb_S512x2048_S128x2048_128_0 x
    · exact piece_agrees p 0 inb_S512x2048_S128x2048_0_0 x
  · obtain h | h | h | h : (y 0).val / 128 = 3 ∨ (y 0).val / 128 = 2 ∨ (y 0).val / 128 = 1 ∨ (y 0).val / 128 = 0 := by omega
    · exact ⟨_, .head _, in_piece y 384 (by omega) (by omega) inb_S512x2048_S128x2048_384_0⟩
    · exact ⟨_, .tail _ (.head _), in_piece y 256 (by omega) (by omega) inb_S512x2048_S128x2048_256_0⟩
    · exact ⟨_, .tail _ (.tail _ (.head _)), in_piece y 128 (by omega) (by omega) inb_S512x2048_S128x2048_128_0⟩
    · exact ⟨_, .tail _ (.tail _ (.tail _ (.head _))), in_piece y 0 (by omega) (by omega) inb_S512x2048_S128x2048_0_0⟩

end Cert.Proof.InProjFirst

end
-- ==== Proof.InProjFirst.Cast.lean ====
/-
  Hand-written, untrusted. The next layer's weights: a grid step casts its 128 rows of them, the gates' columns halved, those of the
  scan also transposed.
-/
module

public import proofs.«01_k».proof.Proof.InProjFirst.Payload

@[expose] public section

set_option maxRecDepth 16384

noncomputable section

namespace Cert.Proof.InProjFirst

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix3)

variable {F : FTy → Type} [FloatOps F]

local notation "𝕄" => MT nD τ sig Unit (Elt F) ℕ (Pipeline.UD sig nD τ) ℕ

theorem zero2 : ∀ i : Fin 2, (![0, 0] : Fin 2 → Nat) i = 0 := by decide
theorem zero3 : ∀ i : Fin 3, (![0, 0, 0] : Fin 3 → Nat) i = 0 := by decide

/-! ## The values -/

section
variable (w : Vec F S1x128x6144 .f32)

def rows (w : Vec F S1x128x6144 .f32) : FVec F S128x6144 .f32 := shapeCast S128x6144 w shapeCasts_S1x128x6144_S128x6144
/-- Columns halved. -/
def halved (x : FVec F S128x1024 .f32) : FVec F S128x1024 .f32 := mulf (broadcast S128x1024 (Scalar.ofBits .f32 0x3F000000#32)) x
/-- Columns transposed, in the narrow type. -/
def turned (x : FVec F S128x1024 .f32) : FVec F S1x1024x128 .bf16 :=
  shapeCast S1x1024x128 (truncf .bf16 (transpose S1024x128 [1, 0] x transposes_S128x1024_p1_0_S1024x128) bitsLt_bf16_f32) shapeCasts_S1024x128_S1x1024x128

def turnedU : FVec F S1x1024x128 .bf16 := turned (extractStridedSlice S128x1024 ![0, 0] (rows w) slices_S128x6144_o0_0_S128x1024)
def turnedZ : FVec F S1x1024x128 .bf16 := turned (halved (extractStridedSlice S128x1024 ![0, 1024] (rows w) slices_S128x6144_o0_1024_S128x1024))
def straight : FVec F S1x128x3072 .bf16 :=
  shapeCast S1x128x3072 (truncf .bf16 (extractStridedSlice S128x3072 ![0, 2048] (rows w) slices_S128x6144_o0_2048_S128x3072) bitsLt_bf16_f32) shapeCasts_S128x3072_S1x128x3072
def straightG : FVec F S1x128x1024 .bf16 :=
  shapeCast S1x128x1024 (truncf .bf16 (halved (extractStridedSlice S128x1024 ![0, 5120] (rows w) slices_S128x6144_o0_5120_S128x1024)) bitsLt_bf16_f32) shapeCasts_S128x1024_S1x128x1024

/-- The scan's weights, its gate's below its input's. -/
def nextT : FVec F S1x2048x128 .bf16 := fun y =>
  if h : (y 1).val < 1024 then turnedU w (ix3 (0 : Fin 1) (⟨(y 1).val, h⟩ : Fin 1024) (y 2))
  else turnedZ w (ix3 (0 : Fin 1) (⟨(y 1).val - 1024, by have : (y 1).val < 2048 := (y 1).isLt; omega⟩ : Fin 1024) (y 2))
/-- The convolution's weights, its gate's after the others. -/
def nextR : FVec F S1x128x4096 .bf16 := fun y =>
  if h : (y 2).val < 3072 then straight w (ix3 (0 : Fin 1) (y 1) (⟨(y 2).val, h⟩ : Fin 3072))
  else straightG w (ix3 (0 : Fin 1) (y 1) (⟨(y 2).val - 3072, by have : (y 2).val < 4096 := (y 2).isLt; omega⟩ : Fin 1024))

theorem eq_ix3 {n0 n1 n2 : ℕ} (f : Shape.Idx ⟨3, ![1, n1, n2]⟩) : f = ix3 (0 : Fin 1) (f 1) (f 2) := by
  funext a
  match a with
  | ⟨0, _⟩ => exact Fin.ext (by have : (f 0).val < 1 := (f 0).isLt; show (f 0).val = 0; omega)
  | ⟨1, _⟩ => rfl
  | ⟨2, _⟩ => rfl

/-- The two stores of the scan's weights, the last first, and of the convolution's. -/
abbrev storesT : List (View.Piece (Elt F) S1x2048x128 .bf16) :=
  [⟨Rect.unit (s := S1x2048x128) ![0, 1024, 0] S1x1024x128.size inb_S1x2048x128_S1x1024x128_0_1024_0, turnedZ w⟩,
    ⟨Rect.unit (s := S1x2048x128) ![0, 0, 0] S1x1024x128.size inb_S1x2048x128_S1x1024x128_0_0_0, turnedU w⟩]
abbrev storesR : List (View.Piece (Elt F) S1x128x4096 .bf16) :=
  [⟨Rect.unit (s := S1x128x4096) ![0, 0, 3072] S1x128x1024.size inb_S1x128x4096_S1x128x1024_0_0_3072, straightG w⟩,
    ⟨Rect.unit (s := S1x128x4096) ![0, 0, 0] S1x128x3072.size inb_S1x128x4096_S1x128x3072_0_0_0, straight w⟩]

theorem stored_T (a : Memref sig .tc .vmem S1x2048x128 .bf16) (f : a.view.ty.Contents (Elt F)) :
    a.view.read (Elt F) (a.view.writes (Elt F) f (storesT w)) = nextT w := by
  funext y
  have h0 : (y 0).val < 1 := (y 0).isLt
  have h1 : (y 1).val < 2048 := (y 1).isLt
  have h2 : (y 2).val < 128 := (y 2).isLt
  refine View.read_writes_apply_of_pieces (Val := Elt F) a.view _ (nextT w) _ ?_ y ?_
  · intro q hq x
    simp only [List.mem_cons, List.not_mem_nil, or_false] at hq
    rcases hq with rfl | rfl
    · have hx : (x 1).val < 1024 := (x 1).isLt
      refine Eq.trans ?_ (dif_neg (show ¬ 1024 + 1 * (x 1).val < 1024 by omega)).symm
      refine congrArg (turnedZ w) ((eq_ix3 (n0 := 1) (n1 := 1024) (n2 := 128) x).trans ?_)
      exact congrArg₂ (fun p r => ix3 (0 : Fin 1) (p : Fin 1024) (r : Fin 128)) (Fin.ext (show (x 1).val = 1024 + 1 * (x 1).val - 1024 by omega))
        (Fin.ext (show (x 2).val = 0 + 1 * (x 2).val by omega))
    · have hx : (x 1).val < 1024 := (x 1).isLt
      refine Eq.trans ?_ (dif_pos (show 0 + 1 * (x 1).val < 1024 by omega)).symm
      refine congrArg (turnedU w) ((eq_ix3 (n0 := 1) (n1 := 1024) (n2 := 128) x).trans ?_)
      exact congrArg₂ (fun p r => ix3 (0 : Fin 1) (p : Fin 1024) (r : Fin 128)) (Fin.ext (show (x 1).val = 0 + 1 * (x 1).val by omega))
        (Fin.ext (show (x 2).val = 0 + 1 * (x 2).val by omega))
  · by_cases h : (y 1).val < 1024
    · refine ⟨_, .tail _ (.head _), ?_⟩
      rw [Rect.mem_set_unit]
      intro i
      match i with
      | ⟨0, _⟩ => show 0 ≤ (y 0).val ∧ (y 0).val < 0 + 1; omega
      | ⟨1, _⟩ => show 0 ≤ (y 1).val ∧ (y 1).val < 0 + 1024; omega
      | ⟨2, _⟩ => show 0 ≤ (y 2).val ∧ (y 2).val < 0 + 128; omega
    · refine ⟨_, .head _, ?_⟩
      rw [Rect.mem_set_unit]
      intro i
      match i with
      | ⟨0, _⟩ => show 0 ≤ (y 0).val ∧ (y 0).val < 0 + 1; omega
      | ⟨1, _⟩ => show 1024 ≤ (y 1).val ∧ (y 1).val < 1024 + 1024; omega
      | ⟨2, _⟩ => show 0 ≤ (y 2).val ∧ (y 2).val < 0 + 128; omega

theorem stored_R (a : Memref sig .tc .vmem S1x128x4096 .bf16) (f : a.view.ty.Contents (Elt F)) :
    a.view.read (Elt F) (a.view.writes (Elt F) f (storesR w)) = nextR w := by
  funext y
  have h0 : (y 0).val < 1 := (y 0).isLt
  have h1 : (y 1).val < 128 := (y 1).isLt
  have h2 : (y 2).val < 4096 := (y 2).isLt
  refine View.read_writes_apply_of_pieces (Val := Elt F) a.view _ (nextR w) _ ?_ y ?_
  · intro q hq x
    simp only [List.mem_cons, List.not_mem_nil, or_false] at hq
    rcases hq with rfl | rfl
    · have hx : (x 2).val < 1024 := (x 2).isLt
      refine Eq.trans ?_ (dif_neg (show ¬ 3072 + 1 * (x 2).val < 3072 by omega)).symm
      refine congrArg (straightG w) ((eq_ix3 (n0 := 1) (n1 := 128) (n2 := 1024) x).trans ?_)
      exact congrArg₂ (fun p r => ix3 (0 : Fin 1) (p : Fin 128) (r : Fin 1024)) (Fin.ext (show (x 1).val = 0 + 1 * (x 1).val by omega))
        (Fin.ext (show (x 2).val = 3072 + 1 * (x 2).val - 3072 by omega))
    · have hx : (x 2).val < 3072 := (x 2).isLt
      refine Eq.trans ?_ (dif_pos (show 0 + 1 * (x 2).val < 3072 by omega)).symm
      refine congrArg (straight w) ((eq_ix3 (n0 := 1) (n1 := 128) (n2 := 3072) x).trans ?_)
      exact congrArg₂ (fun p r => ix3 (0 : Fin 1) (p : Fin 128) (r : Fin 3072)) (Fin.ext (show (x 1).val = 0 + 1 * (x 1).val by omega))
        (Fin.ext (show (x 2).val = 0 + 1 * (x 2).val by omega))
  · by_cases h : (y 2).val < 3072
    · refine ⟨_, .tail _ (.head _), ?_⟩
      rw [Rect.mem_set_unit]
      intro i
      match i with
      | ⟨0, _⟩ => show 0 ≤ (y 0).val ∧ (y 0).val < 0 + 1; omega
      | ⟨1, _⟩ => show 0 ≤ (y 1).val ∧ (y 1).val < 0 + 128; omega
      | ⟨2, _⟩ => show 0 ≤ (y 2).val ∧ (y 2).val < 0 + 3072; omega
    · refine ⟨_, .head _, ?_⟩
      rw [Rect.mem_set_unit]
      intro i
      match i with
      | ⟨0, _⟩ => show 0 ≤ (y 0).val ∧ (y 0).val < 0 + 1; omega
      | ⟨1, _⟩ => show 0 ≤ (y 1).val ∧ (y 1).val < 0 + 128; omega
      | ⟨2, _⟩ => show 3072 ≤ (y 2).val ∧ (y 2).val < 3072 + 1024; omega

end

/-! ## The cast's run -/

/-- What the cast hands on: words the ring's slot is computed from. -/
abbrev CastRes : Type := Σ' (_ : BitVec 32) (_ : BitVec 32), BitVec 32

section
variable (c : Dev nD) (t : Fin cfg0.N)
variable (arg3 : Memref sig .tc .vmem S1x3x2048 .f32) (harg3 : arg3.IsWhole) (arg4 : Memref sig .tc .vmem S1x1024x2048 .bf16) (harg4 : arg4.IsWhole) (arg5 : Memref sig .tc .vmem S1x1024x2048 .bf16) (harg5 : arg5.IsWhole) (arg6 : Memref sig .tc .vmem S1x2048x1024 .bf16) (harg6 : arg6.IsWhole) (arg7 : Memref sig .tc .vmem S1x2048x1024 .bf16) (harg7 : arg7.IsWhole) (arg8 : Memref sig .tc .vmem S1x2048x1024 .bf16) (harg8 : arg8.IsWhole) (arg9 : Memref sig .tc .vmem S1x2048x1024 .bf16) (harg9 : arg9.IsWhole) (arg10 : Memref sig .tc .vmem S1x128x6144 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1x128x4096 .bf16) (harg16 : arg16.IsWhole) (arg17 : Memref sig .tc .vmem S1x2048x128 .bf16) (harg17 : arg17.IsWhole) (arg20 : Memref sig .tc .vmem S512x2048 .bf16) (harg20 : arg20.IsWhole)

set_option maxHeartbeats 2000000 in
/-- The step's rows of the next layer's weights are stored as results. -/
theorem cast_run (x7 : Vec F S1x128x6144 .f32) (K : CastRes → sProp 𝕄) :
    iprop(owns (c : Thread nD τ) arg10 fullShare x7 ∗ (∃ d, owns (c : Thread nD τ) arg16 fullShare d) ∗ (∃ d, owns (c : Thread nD τ) arg17 fullShare d)
        ∗ (∀ r : CastRes, iprop(owns (c : Thread nD τ) arg10 fullShare x7 ∗ owns (c : Thread nD τ) arg16 fullShare (nextR x7)
            ∗ owns (c : Thread nD τ) arg17 fullShare (nextT x7)) -∗ K r))
      ⊢ wp frame (wpE (defs₀ (F := F)) Variants.none c none) Set.univ (k0_part3 (grid0.coords t) xM (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 planes (Memref.isWhole_whole _) cc0_scratch1 arg20 harg20) K := by
  unfold k0_part3 owns
  iintro ⟨⟨%f7, %hf7, H7⟩, ⟨%d16, %f16, -, H16⟩, ⟨%d17, %f17, -, H17⟩, Hk⟩
  obtain rfl := harg10.eq_unread hf7
  sl_exec
  sl_step
  iapply Hk
  isplitl [H7]
  · iexists _; isplitr; · ipureintro; exact harg10.read_unread _
    iexact H7
  isplitl [H16]
  · iexists _; isplitr; swap; · iexact H16
    ipureintro
    refine Eq.trans ?_ ((stored_R (View.readAt (Elt F) arg10.view (Rect.unit (s := S1x128x6144) ![0, 0, 0] S1x128x6144.size inb_S1x128x6144_S1x128x6144_0_0_0).toLoadRect (harg10.unread x7)) arg16 f16).trans
      (congrArg nextR (load_whole arg10 harg10 x7 zero3 _)))
    rfl
  iexists _; isplitr; swap; · iexact H17
  ipureintro
  refine Eq.trans ?_ ((stored_T (View.readAt (Elt F) arg10.view (Rect.unit (s := S1x128x6144) ![0, 0, 0] S1x128x6144.size inb_S1x128x6144_S1x128x6144_0_0_0).toLoadRect (harg10.unread x7)) arg17 f17).trans
    (congrArg nextT (load_whole arg10 harg10 x7 zero3 _)))
  rfl

end

end Cert.Proof.InProjFirst

end
-- ==== Proof.InProjFirst.Step.lean ====
/-
  Hand-written, untrusted. One grid step of the input projection's kernel, whatever copies it starts: it casts its rows of
  the next layer's weights, waits for its own rows, computes with them and leaves its slot free.
-/
module

public import proofs.«01_k».proof.Proof.InProjFirst.Start
public import proofs.«01_k».proof.Proof.InProjFirst.Cast

@[expose] public section

set_option maxRecDepth 16384

noncomputable section

namespace Cert.Proof.InProjFirst

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (W : XBuf (F := F) c) (t : Fin cfg0.N)
variable (arg3 : Memref sig .tc .vmem S1x3x2048 .f32) (harg3 : arg3.IsWhole) (arg4 : Memref sig .tc .vmem S1x1024x2048 .bf16) (harg4 : arg4.IsWhole) (arg5 : Memref sig .tc .vmem S1x1024x2048 .bf16) (harg5 : arg5.IsWhole) (arg6 : Memref sig .tc .vmem S1x2048x1024 .bf16) (harg6 : arg6.IsWhole) (arg7 : Memref sig .tc .vmem S1x2048x1024 .bf16) (harg7 : arg7.IsWhole) (arg8 : Memref sig .tc .vmem S1x2048x1024 .bf16) (harg8 : arg8.IsWhole) (arg9 : Memref sig .tc .vmem S1x2048x1024 .bf16) (harg9 : arg9.IsWhole) (arg10 : Memref sig .tc .vmem S1x128x6144 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1x128x4096 .bf16) (harg16 : arg16.IsWhole) (arg17 : Memref sig .tc .vmem S1x2048x128 .bf16) (harg17 : arg17.IsWhole) (arg20 : Memref sig .tc .vmem S512x2048 .bf16) (harg20 : arg20.IsWhole)
variable (x0 : Vec F S1x3x2048 .f32) (x1 : Vec F S1x1024x2048 .bf16) (x2 : Vec F S1x1024x2048 .bf16) (x3 : Vec F S1x2048x1024 .bf16) (x4 : Vec F S1x2048x1024 .bf16) (x5 : Vec F S1x2048x1024 .bf16) (x6 : Vec F S1x2048x1024 .bf16) (x7 : Vec F S1x128x6144 .f32)

set_option maxHeartbeats 8000000 in
/-- The step's run: `P` is what the copies it starts need, `R` the copies in flight or planes free beside its own. -/
theorem step_run (P R : sProp 𝕄) (Wt : Waits sig Unit) (K : PUnit → sProp 𝕄)
    (start : ∀ (v w z : BitVec 32) (K' : StartRes → sProp 𝕄), iprop(P ∗ (∀ r : StartRes, flySlot c W (Ring.sl 2 t.val) (Ring.bk 16 t.val) ∗ R -∗ K' r))
      ⊢ wp frame (wpE (defs₀ (F := F)) Variants.none c none) Set.univ (k0_part4 (grid0.coords t) xM (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 planes (Memref.isWhole_whole _) cc0_scratch1 arg20 harg20 v w z) K') :
    iprop(P ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
      ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg20 fullShare d)
      ∗ owes (c : Thread nD τ) 0 Wt
      ∗ (iprop(R ∗ freeSlot c W (Ring.sl 2 t.val)
          ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
          ∗ owns (c : Thread nD τ) arg11 fullShare (outU (hidden c W (Ring.bk 16 t.val) x0) x1) ∗ owns (c : Thread nD τ) arg12 fullShare (outZ (hidden c W (Ring.bk 16 t.val) x0) x2) ∗ owns (c : Thread nD τ) arg13 fullShare (outCV (hidden c W (Ring.bk 16 t.val) x0) x3 x5) ∗ owns (c : Thread nD τ) arg14 fullShare (outB (hidden c W (Ring.bk 16 t.val) x0) x4) ∗ owns (c : Thread nD τ) arg15 fullShare (outG (hidden c W (Ring.bk 16 t.val) x0) x6) ∗ owns (c : Thread nD τ) arg16 fullShare (nextR x7) ∗ owns (c : Thread nD τ) arg17 fullShare (nextT x7)
          ∗ (∃ d, owns (c : Thread nD τ) arg20 fullShare d) ∗ (∃ Wt', owes (c : Thread nD τ) 0 Wt')) -∗ K ⟨⟩))
    ⊢ wp frame (wpE (defs₀ (F := F)) Variants.none c none) Set.univ (cc0_inproj (grid0.coords t) xM (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 planes (Memref.isWhole_whole _) cc0_scratch1 arg20 harg20) K := by
  unfold cc0_inproj
  rw [wp_bind]
  iintro ⟨HP, A0, A1, A2, A3, A4, A5, A6, H7, A8, A9, A10, A11, A12, H13, H14, A20, HW, Hk⟩
  iapply (cast_run c t arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 x7)
  isplitl [H7]; · iexact H7
  isplitl [H13]; · iexact H13
  isplitl [H14]; · iexact H14
  iintro %q ⟨H7, H13, H14⟩
  obtain ⟨q0, q1, q2⟩ := q
  dsimp only
  rw [wp_bind]
  unfold owns
  icases A0 with ⟨%f0, %hf0, H0⟩
  icases A1 with ⟨%f1, %hf1, H1⟩
  icases A2 with ⟨%f2, %hf2, H2⟩
  icases A3 with ⟨%f3, %hf3, H3⟩
  icases A4 with ⟨%f4, %hf4, H4⟩
  icases A5 with ⟨%f5, %hf5, H5⟩
  icases A6 with ⟨%f6, %hf6, H6⟩
  icases A8 with ⟨%d8, %f8, -, H8⟩
  icases A9 with ⟨%d9, %f9, -, H9⟩
  icases A10 with ⟨%d10, %f10, -, H10⟩
  icases A11 with ⟨%d11, %f11, -, H11⟩
  icases A12 with ⟨%d12, %f12, -, H12⟩
  icases A20 with ⟨%d20, %f20, -, H20⟩
  iapply start
  isplitl [HP]; · iexact HP
  iintro %r ⟨⟨⟨⟨%p0, Hf0⟩, Hr0⟩, ⟨⟨%p1, Hf1⟩, Hr1⟩, ⟨⟨%p2, Hf2⟩, Hr2⟩, ⟨⟨%p3, Hf3⟩, Hr3⟩⟩, HR⟩
  obtain ⟨r0, r1, r2, r3, r4, r5, r6⟩ := r
  dsimp only
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec
  sl_step
  have hh : arg20.view.readCov (step_run.sl.H20_4 c W t arg3 harg3 x0) (Rect.unit (s := S512x2048) ![0, 0] S512x2048.size inb_S512x2048_S512x2048_0_0).toLoadRect
      = hidden c W (Ring.bk 16 t.val) x0 := by
    refine Eq.trans ?_ (load_stack arg20 fun j => normed (planeVec c W (Ring.bk 16 t.val) j) (shiftRow x0) (scaleRow x0))
    have e0 : step_run.sl.v142 c W t arg3 harg3 x0 = normed (planeVec c W (Ring.bk 16 t.val) 0) (shiftRow x0) (scaleRow x0) :=
      stored_rows arg3 harg3 x0 (Ring.sl 2 t.val) 0 (offs_slot t).2.2.2.1 _ _ _
    have e1 : step_run.sl.v171 c W t arg3 harg3 x0 = normed (planeVec c W (Ring.bk 16 t.val) 1) (shiftRow x0) (scaleRow x0) :=
      stored_rows arg3 harg3 x0 (Ring.sl 2 t.val) 1 (offs_slot t).2.2.2.2.1 _ _ _
    have e2 : step_run.sl.v200 c W t arg3 harg3 x0 = normed (planeVec c W (Ring.bk 16 t.val) 2) (shiftRow x0) (scaleRow x0) :=
      stored_rows arg3 harg3 x0 (Ring.sl 2 t.val) 2 (offs_slot t).2.2.2.2.2.1 _ _ _
    have e3 : step_run.sl.v229 c W t arg3 harg3 x0 = normed (planeVec c W (Ring.bk 16 t.val) 3) (shiftRow x0) (scaleRow x0) :=
      stored_rows arg3 harg3 x0 (Ring.sl 2 t.val) 3 (offs_slot t).2.2.2.2.2.2 _ _ _
    rw [← e0, ← e1, ← e2, ← e3]
    rfl
  iapply Hk
  isplitl [HR]; · iexact HR
  isplitl [Hf0 Hf0_dst Hf0_src Hr0 Hf1 Hf1_dst Hf1_src Hr1 Hf2 Hf2_dst Hf2_src Hr2 Hf3 Hf3_dst Hf3_src Hr3]
  · isplitl [Hf0 Hf0_dst Hf0_src Hr0]
    · isplitl [Hf0]; · iexact Hf0
      isplitl [Hf0_dst]; · iexists _; iexact Hf0_dst
      iapply (share_split c W (Ring.sl 2 t.val) (Ring.bk 16 t.val) 0).2; isplitl [Hf0_src]; · iexact Hf0_src
      iexact Hr0
    isplitl [Hf1 Hf1_dst Hf1_src Hr1]
    · isplitl [Hf1]; · iexact Hf1
      isplitl [Hf1_dst]; · iexists _; iexact Hf1_dst
      iapply (share_split c W (Ring.sl 2 t.val) (Ring.bk 16 t.val) 1).2; isplitl [Hf1_src]; · iexact Hf1_src
      iexact Hr1
    isplitl [Hf2 Hf2_dst Hf2_src Hr2]
    · isplitl [Hf2]; · iexact Hf2
      isplitl [Hf2_dst]; · iexists _; iexact Hf2_dst
      iapply (share_split c W (Ring.sl 2 t.val) (Ring.bk 16 t.val) 2).2; isplitl [Hf2_src]; · iexact Hf2_src
      iexact Hr2
    isplitl [Hf3]; · iexact Hf3
    isplitl [Hf3_dst]; · iexists _; iexact Hf3_dst
    iapply (share_split c W (Ring.sl 2 t.val) (Ring.bk 16 t.val) 3).2; isplitl [Hf3_src]; · iexact Hf3_src
    iexact Hr3
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]; · iexact H7
  isplitl [H8]
  · iexists _; isplitr; swap; · iexact H8
    ipureintro
    exact (store_whole arg11 f8 _ zero2 _).trans ((congrArg (fun h => outU h _) hh).trans (congrArg (outU _) (load_whole arg4 harg4 x1 zero3 _)))
  isplitl [H9]
  · iexists _; isplitr; swap; · iexact H9
    ipureintro
    exact (store_whole arg12 f9 _ zero2 _).trans ((congrArg (fun h => outZ h _) hh).trans (congrArg (outZ _) (load_whole arg5 harg5 x2 zero3 _)))
  isplitl [H10]
  · iexists _; isplitr; swap; · iexact H10
    ipureintro
    exact (store_whole arg13 f10 _ zero2 _).trans ((congrArg (fun h => outCV h _ _) hh).trans (congrArg₂ (outCV _) (load_whole arg6 harg6 x3 zero3 _) (load_whole arg8 harg8 x5 zero3 _)))
  isplitl [H11]
  · iexists _; isplitr; swap; · iexact H11
    ipureintro
    exact (store_whole arg14 f11 _ zero2 _).trans ((congrArg (fun h => outB h _) hh).trans (congrArg (outB _) (load_whole arg7 harg7 x4 zero3 _)))
  isplitl [H12]
  · iexists _; isplitr; swap; · iexact H12
    ipureintro
    exact (store_whole arg15 f12 _ zero2 _).trans ((congrArg (fun h => outG h _) hh).trans (congrArg (outG _) (load_whole arg9 harg9 x6 zero3 _)))
  isplitl [H13]; · iexact H13
  isplitl [H14]; · iexact H14
  isplitl [H20]
  · iexists _, _; isplitr; swap; · iexact H20
    ipureintro; rfl
  iexists _; iexact HW
end

end Cert.Proof.InProjFirst

end
-- ==== Proof.InProjFirst.Run.lean ====
/-
  Hand-written, untrusted. The run of the input projection's kernel, over any values: the ring's state at each grid step, the
  proof data of the pipeline, a step's body, the launch.
-/
module

public import proofs.«01_k».proof.Proof.InProjFirst.Hold
public import proofs.«01_k».proof.Proof.InProjFirst.Step
public import Idealize.ShloMosaic.Lib.Claim

@[expose] public section

set_option maxRecDepth 16384

noncomputable section

namespace Cert.Proof.InProjFirst

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The ring from step to step -/

section RingSteps
variable (c : Dev nD) (W : XBuf (F := F) c) (t : Fin cfg0.N)

/-- The other slot once step `k` has started its copies: the next step's rows in flight into it, or free after the last. -/
def otherP (k : ℕ) : sProp 𝕄 :=
  if k + 1 < 16 then flySlot c W (Ring.sl 2 (k + 1)) (Ring.bk 16 (k + 1)) else freeSlot c W (Ring.sl 2 (k + 1))

theorem slot_again (k : ℕ) : Ring.sl 2 (k + 1 + 1) = Ring.sl 2 k := Fin.ext (by show (k + 1 + 1) % 2 = k % 2; omega)

theorem ring_next (k : ℕ) (hk : k < 16) : iprop(otherP c W k ∗ freeSlot c W (Ring.sl 2 k)) ⊢ ringAt c W (k + 1) := by
  unfold otherP ringAt
  by_cases h : k + 1 < 16
  · rw [if_pos h, if_neg (by omega), slot_again]
  · obtain rfl : k = 15 := by omega
    rw [if_neg h, if_pos (Or.inr le_rfl)]
    exact .rfl

variable (arg3 : Memref sig .tc .vmem S1x3x2048 .f32) (harg3 : arg3.IsWhole) (arg4 : Memref sig .tc .vmem S1x1024x2048 .bf16) (harg4 : arg4.IsWhole) (arg5 : Memref sig .tc .vmem S1x1024x2048 .bf16) (harg5 : arg5.IsWhole) (arg6 : Memref sig .tc .vmem S1x2048x1024 .bf16) (harg6 : arg6.IsWhole) (arg7 : Memref sig .tc .vmem S1x2048x1024 .bf16) (harg7 : arg7.IsWhole) (arg8 : Memref sig .tc .vmem S1x2048x1024 .bf16) (harg8 : arg8.IsWhole) (arg9 : Memref sig .tc .vmem S1x2048x1024 .bf16) (harg9 : arg9.IsWhole) (arg10 : Memref sig .tc .vmem S1x128x6144 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1x128x4096 .bf16) (harg16 : arg16.IsWhole) (arg17 : Memref sig .tc .vmem S1x2048x128 .bf16) (harg17 : arg17.IsWhole) (arg20 : Memref sig .tc .vmem S512x2048 .bf16) (harg20 : arg20.IsWhole)

theorem start_ring (v w z : BitVec 32) (K : StartRes → sProp 𝕄) :
    iprop(ringAt c W t.val ∗ (∀ r : StartRes, flySlot c W (Ring.sl 2 t.val) (Ring.bk 16 t.val) ∗ otherP c W t.val -∗ K r))
      ⊢ wp frame (wpE (defs₀ (F := F)) Variants.none c none) Set.univ (k0_part4 (grid0.coords t) xM (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 planes (Memref.isWhole_whole _) cc0_scratch1 arg20 harg20 v w z) K := by
  have hlt : t.val < 16 := lt_of_lt_of_eq t.isLt N_0
  unfold ringAt otherP
  by_cases h0 : t.val = 0
  · rw [if_pos (Or.inl h0), if_pos (by omega), show (0 : Fin 2) = Ring.sl 2 t.val by rw [h0]; rfl, show (1 : Fin 2) = Ring.sl 2 (t.val + 1) by rw [h0]; rfl]
    iintro ⟨⟨H0, H1⟩, Hk⟩
    iapply (start_first c W t arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 v w z K ((first_iff t).mpr h0) ((more_iff t).mpr (by omega)))
    isplitl [H0]; · iexact H0
    isplitl [H1]; · iexact H1
    iexact Hk
  rw [if_neg (show ¬ (t.val = 0 ∨ 16 ≤ t.val) by omega)]
  by_cases h1 : t.val + 1 < 16
  · rw [if_pos h1]
    iintro ⟨⟨H0, H1⟩, Hk⟩
    iapply (start_next c W t arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 v w z K (fun h => h0 ((first_iff t).mp h)) ((more_iff t).mpr (by omega)))
    isplitl [H0]; · iexact H0
    isplitl [H1]; · iexact H1
    iexact Hk
  rw [if_neg h1]
  iintro ⟨⟨H0, H1⟩, Hk⟩
  iapply (start_last c W t arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 v w z K (fun h => h0 ((first_iff t).mp h)) (fun h => by have := (more_iff t).mp h; omega))
  isplitl [H0]; · iexact H0
  iintro %r H0
  iapply Hk
  isplitl [H0]; · iexact H0
  iexact H1

end RingSteps

/-! ## What the launch hands over -/

variable (m : (ℓ : Loc nD τ sig) → Buf (Elt F) ℓ) (ρ : Dev nD → PrngReg)

/-- Core `c`'s operand of 8192 tokens as the call finds it. -/
abbrev opnd (c : Dev nD) : XBuf (F := F) c := V m c main_v0

theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

abbrev osem0 : Fin 8 → SemLoc sig := fun j => (![SemLoc.dma 23, SemLoc.dma 24, SemLoc.dma 25, SemLoc.dma 26, SemLoc.dma 27, SemLoc.dma 28, SemLoc.dma 29, SemLoc.dma 30] : Fin 8 → SemLoc sig) j
theorem ownSemFacts0 : Pipeline.OwnSemFacts spec0 osem0 := by decide
theorem cell_at (s : Fin 2) (j : Fin 4) : cellLoc s j = osem0 ⟨4 * s.val + j.val, by omega⟩ := by
  revert s j; decide
theorem ownSems00_eq (c : Dev nD) :
    (Pipeline.ownSems0 (Ix := Unit) (Name := ℕ) (U := Pipeline.UD sig nD τ) (Lvl := ℕ) (Val := Elt F) (τ := τ) osem0 c : sProp 𝕄) = cellsP (F := F) c := by
  rw [Pipeline.ownSems0_eq_of_list c osem0 [0, 1, 2, 3, 4, 5, 6, 7] (by decide) (by decide)]
  simp only [cellsP, cellP, cell_at]
  rfl
def H0 : Finset (Ref sig .tc) := {main_v0}
theorem H0_sub : H0 ⊆ Pipeline.restRefs sig spec0 := by decide
theorem hbmPts0_eq (c : Dev nD) :
    (bigSep H0 (fun b => ((c : Thread nD τ).loc b) ↦{fullShare} V m c b) : sProp 𝕄) = wholeP c (opnd m c) fullShare := by
  rw [BI.bigSep_eq_bigSepL_of_eq [main_v0] (by decide) (by decide)]; rfl
theorem PhiD0_eq (c : Dev nD) :
    (Pipeline.ΦD osem0 spec0 H0 (V m) c : sProp 𝕄)
      = iprop(iprop((∃ d, owns (c : Thread nD τ) planes fullShare d) ∗ (∃ d, owns (c : Thread nD τ) rowsM fullShare d)) ∗ (∃ r, prngReg c r) ∗ cellsP (F := F) c ∗ wholeP c (opnd m c) fullShare) := by
  rw [Pipeline.ΦD_eq, scopedRest0_eq, ownSems00_eq, hbmPts0_eq]; simp only [planes, rowsM, owns_whole]; try rfl

/-! ## The pipeline's proof data -/

/-- Between the steps: the buffer of normalized rows at anything, the generator register, the ring. -/
def between (c : Dev nD) (k : ℕ) : sProp 𝕄 :=
  iprop((∃ d, owns (c : Thread nD τ) rowsM fullShare d) ∗ (∃ r, prngReg c r) ∗ ringAt c (opnd m c) k)

/-- Step `t`'s normalized and modulated rows. -/
abbrev hid (c : Dev nD) (t : Fin cfg0.N) := hidden c (opnd m c) (Ring.bk 16 t.val) (iblk m c 0 t)

/-- The arrays as the call finds them; after a step each input's buffer at its block, each result's at the step's value. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outU (hid m c t) (iblk m c 1 t)
    | ⟨9, _⟩ => outZ (hid m c t) (iblk m c 2 t)
    | ⟨10, _⟩ => outCV (hid m c t) (iblk m c 3 t) (iblk m c 5 t)
    | ⟨11, _⟩ => outB (hid m c t) (iblk m c 4 t)
    | ⟨12, _⟩ => outG (hid m c t) (iblk m c 6 t)
    | ⟨13, _⟩ => nextR (iblk m c 7 t)
    | ⟨14, _⟩ => nextT (iblk m c 7 t)
  Φ t := between m c t.val
  q w := Pipeline.shareOf spec0 w
  owed _ := 0

theorem A_eq (c : Dev nD) (w : Fin cfg0.W) : (dats m 0 c).A w = V m c (Pipeline.arrRef spec0 w) := by dsimp only [dats]
theorem between_start (c : Dev nD) (t : Fin cfg0.N) : (dats m 0 c).Φ t.castSucc = between m c t.val := by
  dsimp only [dats]; simp only [Fin.coe_castSucc]
theorem between_end (c : Dev nD) (t : Fin cfg0.N) : (dats m 0 c).Φ t.succ = between m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outU (hid m c t) (iblk m c 1 t) := by dsimp only [dats]
theorem after0_9 (c : Dev nD) (t : Fin cfg0.N) : (dats m 0 c).after 9 t = outZ (hid m c t) (iblk m c 2 t) := by dsimp only [dats]
theorem after0_10 (c : Dev nD) (t : Fin cfg0.N) : (dats m 0 c).after 10 t = outCV (hid m c t) (iblk m c 3 t) (iblk m c 5 t) := by dsimp only [dats]
theorem after0_11 (c : Dev nD) (t : Fin cfg0.N) : (dats m 0 c).after 11 t = outB (hid m c t) (iblk m c 4 t) := by dsimp only [dats]
theorem after0_12 (c : Dev nD) (t : Fin cfg0.N) : (dats m 0 c).after 12 t = outG (hid m c t) (iblk m c 6 t) := by dsimp only [dats]
theorem after0_13 (c : Dev nD) (t : Fin cfg0.N) : (dats m 0 c).after 13 t = nextR (iblk m c 7 t) := by dsimp only [dats]
theorem after0_14 (c : Dev nD) (t : Fin cfg0.N) : (dats m 0 c).after 14 t = nextT (iblk m c 7 t) := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-! ## A step -/

theorem defs₀_row (t : Fin cfg0.N) : defs₀ (F := F) .tc cfg0.body (cfg0.bodyArgs t (cfg0.slots t)) = bodyAt0 t := by
  unfold defs₀; rw [Defs.onTc_tc]

set_option maxHeartbeats 2000000 in
/-- The library's obligation of a grid step. -/
theorem body_obligation (c : Dev nD) : BodyObligation (dats (F := F) m 0 c) (defs₀ (F := F)) Variants.none () Set.univ := fun t => by
  rw [bigSep_W0, bigSep_W0, defs₀_row]
  have hlt : t.val < 16 := lt_of_lt_of_eq t.isLt N_0
  unfold bodyAt0
  simp only [before0_0, before0_1, before0_2, before0_3, before0_4, before0_5, before0_6, before0_7]
  rw [after0_0, after0_1, after0_2, after0_3, after0_4, after0_5, after0_6, after0_7, after0_8, after0_9, after0_10, after0_11, after0_12, after0_13, after0_14,
    between_start m c t, between_end m c t]
  unfold Dat.owesAt Pipeline.owesWithin
  rw [show (dats m 0 c).owed t.castSucc = 0 from rfl, show (dats m 0 c).owed t.succ = 0 from rfl]
  unfold between
  iintro ⟨⟨HS, Hg, HR⟩, ⟨%Wt, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (step_run c (opnd m c) t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) rowsM (Memref.isWhole_whole _)
    (iblk m c 0 t) (iblk m c 1 t) (iblk m c 2 t) (iblk m c 3 t) (iblk m c 4 t) (iblk m c 5 t) (iblk m c 6 t) (iblk m c 7 t)
    (ringAt c (opnd m c) t.val) (otherP c (opnd m c) t.val) Wt _ (fun v w z => start_ring c (opnd m c) t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) rowsM (Memref.isWhole_whole _) v w z))
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [HS]; · iexact HS
  isplitl [HW]; · iexact HW
  iintro ⟨HO, HF, H0, H1, H2, H3, H4, H5, H6, H7, H8, H9, H10, H11, H12, H13, H14, HS, ⟨%W', HW'⟩⟩
  isplitl [HS Hg HO HF]
  · isplitl [HS]; · iexact HS
    isplitl [Hg]; · iexact Hg
    iapply (ring_next c (opnd m c) t.val hlt)
    isplitl [HO]; · iexact HO
    iexact HF
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem hin (c : Dev nD) : Pipeline.ΦD osem0 spec0 H0 (V m) c ⊢ (dats m 0 c).Φ 0 := by
  rw [PhiD0_eq, show (dats m 0 c).Φ 0 = between m c 0 from rfl]
  unfold between
  iintro ⟨⟨HP, HS⟩, Hg, Hc, Hh⟩
  isplitl [HS]; · iexact HS
  isplitl [Hg]; · iexact Hg
  iapply (ring_in c (opnd m c))
  isplitl [HP]; · iapply (planes_in c); iexact HP
  isplitl [Hc]; · iexact Hc
  iapply (shares_in c (opnd m c)); iexact Hh
theorem hout (c : Dev nD) : (dats m 0 c).Φ (Fin.last cfg0.N) ⊢ Pipeline.ΦD osem0 spec0 H0 (V m) c := by
  rw [PhiD0_eq, show (dats m 0 c).Φ (Fin.last cfg0.N) = between m c grid0.N from rfl]
  unfold between
  rw [show grid0.N = 16 by rw [N_0]]
  iintro ⟨HS, Hg, HR⟩
  ihave HX := (ring_out c (opnd m c)) $$ HR
  icases HX with ⟨HP, Hc, Hh⟩
  isplitl [HP HS]
  · isplitl [HP]; · iapply (planes_out c); iexact HP
    iexact HS
  isplitl [Hg]; · iexact Hg
  isplitl [Hc]; · iexact Hc
  iapply (shares_out c (opnd m c)); iexact Hh

/-! ## The run -/

-- the library's theorem finds its implicit arguments by unifying its conclusion with this one, which unfolds plain
-- definitions in a metavariable's type
set_option backward.isDefEq.respectTransparency.types false in
/-- From any memory with zero counters every run of the kernel ends, its arrays at what the proof data say and every
    counter at zero. -/
theorem run_main : θ_run defs (onTc (τ := τ) (main (F := F))) (s₀ m ρ)
    (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl) (howed := fun _ _ => rfl) (V := V m)
    (hmain := hmain m) (hA := A_eq m) (hin := hin m) (hout := hout m)

/-- The argument arrays end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (run_main m ρ) fun _ h c =>
    ⟨((h.1 c).2 main_arg0 (Pipeline.mem_restRefs_of main_arg0 (by decide) (by decide))).trans (V_main_arg0 m c),
      ((h.1 c).1 0).trans (((dats m 0 c).arrAt_in 0 rfl _).trans ((A_eq m c 0).trans (V_main_arg1 m c))),
      ((h.1 c).1 2).trans (((dats m 0 c).arrAt_in 2 rfl _).trans ((A_eq m c 2).trans (V_main_arg2 m c))),
      ((h.1 c).1 6).trans (((dats m 0 c).arrAt_in 6 rfl _).trans ((A_eq m c 6).trans (V_main_arg3 m c))),
      ((h.1 c).1 7).trans (((dats m 0 c).arrAt_in 7 rfl _).trans ((A_eq m c 7).trans (V_main_arg4 m c)))⟩

end Cert.Proof.InProjFirst

end
-- ==== Proof.InProjFirst.Kern.lean ====
/-
  Hand-written, untrusted. The first input projection's kernel over the extended reals: the operand's planes, the weights' blocks and a
  step's rows and products, each in Spec.lean's terms.
-/
module

public import proofs.«01_k».proof.Proof.InProjFirst.Run
public import proofs.«01_k».proof.Proof.InProj.Spec
public import Idealize.ShloMosaic.Lib.StableHlo.RunRead

@[expose] public section

set_option maxRecDepth 16384

noncomputable section

namespace Cert.Proof.InProjFirst

open Cert.Kernel3Ideal Cert.Kernel3Ideal.Gen
open Cert.Proof.InProj (meanS lnS tok gateS hS pT pR uS zS cvS bS gS nextRS nextTS)
open Idealize.ShloMosaic Idealize.ShloMosaic.TcCoe
open Idealize.SL.Sem
open Idealize.ShloMosaic.Pipeline (Dat)

/-! ## A plane's rows -/

theorem meanCol_val (x : FVec Ideal S128x2048 .f32) (i : Fin 128) :
    meanCol x (ix2 (n0 := 128) (n1 := 1) i 0) = meanS fun d => x (ix2 (n0 := 128) (n1 := 2048) i d) := by
  unfold meanCol meanS
  refine congrArg₂ (FloatOps.divf (F := Ideal) (φ := .f32)) ?_ rfl
  refine (shapeCast_apply (s := S128) _ _ _ (ix1 (n0 := 128) i) ?_).trans ?_
  · rw [Shape.rowMajor_val_one, Shape.rowMajor_val_two]
    show i.val = i.val * 1 + 0
    omega
  · exact Ideal.reduceAdd_r2_a1 _ _ _

/-- A column repeated along the features. -/
theorem col_val (x : FVec Ideal S128x1 .f32) (i : Fin 128) (d : Fin 2048) :
    broadcastTo S128x2048 x broadcasts_S128x1_S128x2048 (ix2 (n0 := 128) (n1 := 2048) i d) = x (ix2 (n0 := 128) (n1 := 1) i 0) :=
  broadcastTo_apply (s := S128x1) _ _ _ _ fun a => by match a with | ⟨0, _⟩ => rfl | ⟨1, _⟩ => rfl
/-- A row repeated along the tokens. -/
theorem row_val (x : FVec Ideal S1x2048 .f32) (i : Fin 128) (d : Fin 2048) :
    broadcastTo S128x2048 x broadcasts_S1x2048_S128x2048 (ix2 (n0 := 128) (n1 := 2048) i d) = x (ix2 (n0 := 1) (n1 := 2048) 0 d) :=
  broadcastTo_apply (s := S1x2048) _ _ _ _ fun a => by match a with | ⟨0, _⟩ => rfl | ⟨1, _⟩ => rfl

theorem centred_val (x : FVec Ideal S128x2048 .f32) (i : Fin 128) (d : Fin 2048) : centred x (ix2 (n0 := 128) (n1 := 2048) i d)
    = x (ix2 (n0 := 128) (n1 := 2048) i d) - meanS fun e => x (ix2 (n0 := 128) (n1 := 2048) i e) :=
  congrArg (fun a : EReal => x (ix2 (n0 := 128) (n1 := 2048) i d) - a) ((col_val _ i d).trans (meanCol_val x i))

theorem normed_val (x : FVec Ideal S128x2048 .f32) (sh sc : FVec Ideal S1x2048 .f32) (i : Fin 128) (d : Fin 2048) :
    normed x sh sc (ix2 (n0 := 128) (n1 := 2048) i d) = lnS (fun e => x (ix2 (n0 := 128) (n1 := 2048) i e))
      (fun e => sh (ix2 (n0 := 1) (n1 := 2048) 0 e)) (fun e => sc (ix2 (n0 := 1) (n1 := 2048) 0 e)) d := by
  unfold normed lnS
  rw [shapeCast_self]
  refine congrArg₂ (fun a b : EReal => a + b) (congrArg₂ (fun a b : EReal => a * b)
    (congrArg₂ (fun a b : EReal => a * b) (centred_val x i d) ?_) ?_) (row_val sh i d)
  · refine (col_val _ i d).trans (congrArg (FloatOps.rsqrt (F := Ideal) (φ := .f32)) (congrArg (fun a : EReal => a + _) ?_))
    exact (meanCol_val _ i).trans (congrArg meanS (funext fun e => congrArg₂ (fun a b : EReal => a * b) (centred_val x i e) (centred_val x i e)))
  · exact row_val _ i d

variable (m : (ℓ : Loc nD τ sig) → Buf (Elt Ideal) ℓ) (c : Dev nD)

abbrev K0 : FVec Ideal ⟨3, ![1, 8192, 2048]⟩ .f32 := m ((c : Thread nD τ).loc main_arg0)
abbrev K1 : FVec Ideal ⟨3, ![4, 3, 2048]⟩ .f32 := m ((c : Thread nD τ).loc main_arg1)
abbrev K2 : FVec Ideal ⟨3, ![1, 2048, 2048]⟩ .bf16 := m ((c : Thread nD τ).loc main_arg2)
abbrev K3 : FVec Ideal ⟨3, ![1, 2048, 4096]⟩ .bf16 := m ((c : Thread nD τ).loc main_arg3)
abbrev K4 : FVec Ideal ⟨3, ![2, 2048, 6144]⟩ .f32 := m ((c : Thread nD τ).loc main_arg4)

theorem N16 (t : Fin cfg0.N) : t.val < 16 := lt_of_lt_of_eq t.isLt N_0

/-! ## The blocks -/

theorem idx0 (t : Fin cfg0.N) : win0_0.index t = ![0, 0, 0] := by
  rcases fin_N0 t with rfl | rfl | rfl | rfl | rfl | rfl | rfl | rfl | rfl | rfl | rfl | rfl | rfl | rfl | rfl | rfl <;> decide
theorem idx1 (t : Fin cfg0.N) : win0_1.index t = ![0, 0, 0] := by
  rcases fin_N0 t with rfl | rfl | rfl | rfl | rfl | rfl | rfl | rfl | rfl | rfl | rfl | rfl | rfl | rfl | rfl | rfl <;> decide
theorem idx2 (t : Fin cfg0.N) : win0_2.index t = ![0, 1, 0] := by
  rcases fin_N0 t with rfl | rfl | rfl | rfl | rfl | rfl | rfl | rfl | rfl | rfl | rfl | rfl | rfl | rfl | rfl | rfl <;> decide
theorem idx3 (t : Fin cfg0.N) : win0_3.index t = ![0, 0, 0] := by
  rcases fin_N0 t with rfl | rfl | rfl | rfl | rfl | rfl | rfl | rfl | rfl | rfl | rfl | rfl | rfl | rfl | rfl | rfl <;> decide
theorem idx4 (t : Fin cfg0.N) : win0_4.index t = ![0, 0, 1] := by
  rcases fin_N0 t with rfl | rfl | rfl | rfl | rfl | rfl | rfl | rfl | rfl | rfl | rfl | rfl | rfl | rfl | rfl | rfl <;> decide
theorem idx5 (t : Fin cfg0.N) : win0_5.index t = ![0, 0, 2] := by
  rcases fin_N0 t with rfl | rfl | rfl | rfl | rfl | rfl | rfl | rfl | rfl | rfl | rfl | rfl | rfl | rfl | rfl | rfl <;> decide
theorem idx6 (t : Fin cfg0.N) : win0_6.index t = ![0, 0, 3] := by
  rcases fin_N0 t with rfl | rfl | rfl | rfl | rfl | rfl | rfl | rfl | rfl | rfl | rfl | rfl | rfl | rfl | rfl | rfl <;> decide
theorem idx7 (t : Fin cfg0.N) : win0_7.index t = ![1, t.val, 0] := by
  rcases fin_N0 t with rfl | rfl | rfl | rfl | rfl | rfl | rfl | rfl | rfl | rfl | rfl | rfl | rfl | rfl | rfl | rfl <;> decide
theorem idx8 (t : Fin cfg0.N) : win0_8.index t = ![0, t.val] := by
  rcases fin_N0 t with rfl | rfl | rfl | rfl | rfl | rfl | rfl | rfl | rfl | rfl | rfl | rfl | rfl | rfl | rfl | rfl <;> decide
theorem idx9 (t : Fin cfg0.N) : win0_9.index t = ![0, t.val] := by
  rcases fin_N0 t with rfl | rfl | rfl | rfl | rfl | rfl | rfl | rfl | rfl | rfl | rfl | rfl | rfl | rfl | rfl | rfl <;> decide
theorem idx10 (t : Fin cfg0.N) : win0_10.index t = ![t.val, 0] := by
  rcases fin_N0 t with rfl | rfl | rfl | rfl | rfl | rfl | rfl | rfl | rfl | rfl | rfl | rfl | rfl | rfl | rfl | rfl <;> decide
theorem idx11 (t : Fin cfg0.N) : win0_11.index t = ![t.val, 0] := by
  rcases fin_N0 t with rfl | rfl | rfl | rfl | rfl | rfl | rfl | rfl | rfl | rfl | rfl | rfl | rfl | rfl | rfl | rfl <;> decide
theorem idx12 (t : Fin cfg0.N) : win0_12.index t = ![t.val, 0] := by
  rcases fin_N0 t with rfl | rfl | rfl | rfl | rfl | rfl | rfl | rfl | rfl | rfl | rfl | rfl | rfl | rfl | rfl | rfl <;> decide
theorem idx13 (t : Fin cfg0.N) : win0_13.index t = ![0, t.val, 0] := by
  rcases fin_N0 t with rfl | rfl | rfl | rfl | rfl | rfl | rfl | rfl | rfl | rfl | rfl | rfl | rfl | rfl | rfl | rfl <;> decide
theorem idx14 (t : Fin cfg0.N) : win0_14.index t = ![0, 0, t.val] := by
  rcases fin_N0 t with rfl | rfl | rfl | rfl | rfl | rfl | rfl | rfl | rfl | rfl | rfl | rfl | rfl | rfl | rfl | rfl <;> decide

theorem blk0 (t : Fin cfg0.N) (a : Fin 3) (d : Fin 2048) :
    (iblk m c 0 t : Vec Ideal S1x3x2048 .f32) (ix3 (n0 := 1) (n1 := 3) (n2 := 2048) 0 a d) = K1 m c (ix3 (n0 := 4) (n1 := 3) (n2 := 2048) 0 a d) := by
  refine (congrFun (V_main_arg1 m c) _).trans (congrArg (K1 m c) ?_)
  funext x
  apply Fin.ext
  match x with
  | ⟨0, _⟩ => show win0_0.index t 0 * 1 + 1 * 0 = 0; rw [idx0]; rfl
  | ⟨1, _⟩ => show win0_0.index t 1 * 3 + 1 * a.val = a.val; rw [idx0]; show 0 * 3 + 1 * a.val = _; omega
  | ⟨2, _⟩ => show win0_0.index t 2 * 2048 + 1 * d.val = d.val; rw [idx0]; show 0 * 2048 + 1 * d.val = _; omega

theorem blk1 (t : Fin cfg0.N) (a : Fin 1024) (d : Fin 2048) :
    (iblk m c 1 t : Vec Ideal S1x1024x2048 .bf16) (ix3 (n0 := 1) (n1 := 1024) (n2 := 2048) 0 a d)
      = K2 m c (ix3 (n0 := 1) (n1 := 2048) (n2 := 2048) 0 ⟨0 + a.val, by have := a.isLt; omega⟩ d) := by
  refine (congrFun (V_main_arg2 m c) _).trans (congrArg (K2 m c) ?_)
  funext x
  apply Fin.ext
  match x with
  | ⟨0, _⟩ => show win0_1.index t 0 * 1 + 1 * 0 = 0; rw [idx1]; rfl
  | ⟨1, _⟩ => show win0_1.index t 1 * 1024 + 1 * a.val = 0 + a.val; rw [idx1]; show 0 * 1024 + 1 * a.val = _; omega
  | ⟨2, _⟩ => show win0_1.index t 2 * 2048 + 1 * d.val = d.val; rw [idx1]; show 0 * 2048 + 1 * d.val = _; omega

theorem blk2 (t : Fin cfg0.N) (a : Fin 1024) (d : Fin 2048) :
    (iblk m c 2 t : Vec Ideal S1x1024x2048 .bf16) (ix3 (n0 := 1) (n1 := 1024) (n2 := 2048) 0 a d)
      = K2 m c (ix3 (n0 := 1) (n1 := 2048) (n2 := 2048) 0 ⟨1024 + a.val, by have := a.isLt; omega⟩ d) := by
  refine (congrFun (V_main_arg2 m c) _).trans (congrArg (K2 m c) ?_)
  funext x
  apply Fin.ext
  match x with
  | ⟨0, _⟩ => show win0_2.index t 0 * 1 + 1 * 0 = 0; rw [idx2]; rfl
  | ⟨1, _⟩ => show win0_2.index t 1 * 1024 + 1 * a.val = 1024 + a.val; rw [idx2]; show 1 * 1024 + 1 * a.val = _; omega
  | ⟨2, _⟩ => show win0_2.index t 2 * 2048 + 1 * d.val = d.val; rw [idx2]; show 0 * 2048 + 1 * d.val = _; omega

theorem blk3 (t : Fin cfg0.N) (d : Fin 2048) (a : Fin 1024) :
    (iblk m c 3 t : Vec Ideal S1x2048x1024 .bf16) (ix3 (n0 := 1) (n1 := 2048) (n2 := 1024) 0 d a)
      = K3 m c (ix3 (n0 := 1) (n1 := 2048) (n2 := 4096) 0 d ⟨0 + a.val, by have := a.isLt; omega⟩) := by
  refine (congrFun (V_main_arg3 m c) _).trans (congrArg (K3 m c) ?_)
  funext x
  apply Fin.ext
  match x with
  | ⟨0, _⟩ => show win0_3.index t 0 * 1 + 1 * 0 = 0; rw [idx3]; rfl
  | ⟨1, _⟩ => show win0_3.index t 1 * 2048 + 1 * d.val = d.val; rw [idx3]; show 0 * 2048 + 1 * d.val = _; omega
  | ⟨2, _⟩ => show win0_3.index t 2 * 1024 + 1 * a.val = 0 + a.val; rw [idx3]; show 0 * 1024 + 1 * a.val = _; omega

theorem blk4 (t : Fin cfg0.N) (d : Fin 2048) (a : Fin 1024) :
    (iblk m c 4 t : Vec Ideal S1x2048x1024 .bf16) (ix3 (n0 := 1) (n1 := 2048) (n2 := 1024) 0 d a)
      = K3 m c (ix3 (n0 := 1) (n1 := 2048) (n2 := 4096) 0 d ⟨1024 + a.val, by have := a.isLt; omega⟩) := by
  refine (congrFun (V_main_arg3 m c) _).trans (congrArg (K3 m c) ?_)
  funext x
  apply Fin.ext
  match x with
  | ⟨0, _⟩ => show win0_4.index t 0 * 1 + 1 * 0 = 0; rw [idx4]; rfl
  | ⟨1, _⟩ => show win0_4.index t 1 * 2048 + 1 * d.val = d.val; rw [idx4]; show 0 * 2048 + 1 * d.val = _; omega
  | ⟨2, _⟩ => show win0_4.index t 2 * 1024 + 1 * a.val = 1024 + a.val; rw [idx4]; show 1 * 1024 + 1 * a.val = _; omega

theorem blk5 (t : Fin cfg0.N) (d : Fin 2048) (a : Fin 1024) :
    (iblk m c 5 t : Vec Ideal S1x2048x1024 .bf16) (ix3 (n0 := 1) (n1 := 2048) (n2 := 1024) 0 d a)
      = K3 m c (ix3 (n0 := 1) (n1 := 2048) (n2 := 4096) 0 d ⟨2048 + a.val, by have := a.isLt; omega⟩) := by
  refine (congrFun (V_main_arg3 m c) _).trans (congrArg (K3 m c) ?_)
  funext x
  apply Fin.ext
  match x with
  | ⟨0, _⟩ => show win0_5.index t 0 * 1 + 1 * 0 = 0; rw [idx5]; rfl
  | ⟨1, _⟩ => show win0_5.index t 1 * 2048 + 1 * d.val = d.val; rw [idx5]; show 0 * 2048 + 1 * d.val = _; omega
  | ⟨2, _⟩ => show win0_5.index t 2 * 1024 + 1 * a.val = 2048 + a.val; rw [idx5]; show 2 * 1024 + 1 * a.val = _; omega

theorem blk6 (t : Fin cfg0.N) (d : Fin 2048) (a : Fin 1024) :
    (iblk m c 6 t : Vec Ideal S1x2048x1024 .bf16) (ix3 (n0 := 1) (n1 := 2048) (n2 := 1024) 0 d a)
      = K3 m c (ix3 (n0 := 1) (n1 := 2048) (n2 := 4096) 0 d ⟨3072 + a.val, by have := a.isLt; omega⟩) := by
  refine (congrFun (V_main_arg3 m c) _).trans (congrArg (K3 m c) ?_)
  funext x
  apply Fin.ext
  match x with
  | ⟨0, _⟩ => show win0_6.index t 0 * 1 + 1 * 0 = 0; rw [idx6]; rfl
  | ⟨1, _⟩ => show win0_6.index t 1 * 2048 + 1 * d.val = d.val; rw [idx6]; show 0 * 2048 + 1 * d.val = _; omega
  | ⟨2, _⟩ => show win0_6.index t 2 * 1024 + 1 * a.val = 3072 + a.val; rw [idx6]; show 3 * 1024 + 1 * a.val = _; omega

theorem blk7 (t : Fin cfg0.N) (a : Fin 128) (o : Fin 6144) :
    (iblk m c 7 t : Vec Ideal S1x128x6144 .f32) (ix3 (n0 := 1) (n1 := 128) (n2 := 6144) 0 a o)
      = K4 m c (ix3 (n0 := 2) (n1 := 2048) (n2 := 6144) 1 ⟨128 * t.val + a.val, by have := a.isLt; have := N16 t; omega⟩ o) := by
  refine (congrFun (V_main_arg4 m c) _).trans (congrArg (K4 m c) ?_)
  funext x
  apply Fin.ext
  match x with
  | ⟨0, _⟩ => show win0_7.index t 0 * 1 + 1 * 0 = 1; rw [idx7]; rfl
  | ⟨1, _⟩ => show win0_7.index t 1 * 128 + 1 * a.val = 128 * t.val + a.val; rw [idx7]; show t.val * 128 + 1 * a.val = _; omega
  | ⟨2, _⟩ => show win0_7.index t 2 * 6144 + 1 * o.val = o.val; rw [idx7]; show 0 * 6144 + 1 * o.val = _; omega

/-! ## The operand's planes -/

/-- The operand is the argument, its tokens in rows of sixteen. -/
theorem opnd_eq : opnd m c = (shapeCast S512x16x2048 (K0 m c) shapeCasts_S1x8192x2048_S512x16x2048 : FVec Ideal S512x16x2048 .f32) := by
  unfold opnd V
  after_reads_simp
  rfl

theorem opnd_val (p : Fin 512) (q : Fin 16) (d : Fin 2048) : (opnd m c : FVec Ideal S512x16x2048 .f32) (ix3 (n0 := 512) (n1 := 16) (n2 := 2048) p q d)
    = K0 m c (ix3 (n0 := 1) (n1 := 8192) (n2 := 2048) 0 ⟨16 * p.val + q.val, by have := p.isLt; have := q.isLt; omega⟩ d) := by
  rw [opnd_eq]
  refine shapeCast_apply (s := S1x8192x2048) _ _ _ _ ?_
  rw [Shape.rowMajor_val_three, Shape.rowMajor_val_three]
  show (0 * 8192 + (16 * p.val + q.val)) * 2048 + d.val = (p.val * 16 + q.val) * 2048 + d.val
  omega

/-- Position of row `a` of step `b`'s plane `j` in the results. -/
abbrev pos (b : Fin 16) (a : Fin 512) : Fin 8192 := ⟨512 * b.val + a.val, by have := a.isLt; have := b.isLt; omega⟩

theorem plane_val (b : Fin 16) (j : Fin 4) (i : Fin 128) (d : Fin 2048) :
    planeVec (F := Ideal) c (opnd m c) b j (ix2 (n0 := 128) (n1 := 2048) i d)
      = K0 m c (ix3 (n0 := 1) (n1 := 8192) (n2 := 2048) 0 (tok (pos b ⟨128 * j.val + i.val, by have := j.isLt; have := i.isLt; omega⟩)) d) := by
  have hb := b.isLt
  have hj := j.isLt
  have hi := i.isLt
  refine Eq.trans (b := (opnd m c : FVec Ideal S512x16x2048 .f32) (ix3 (n0 := 512) (n1 := 16) (n2 := 2048)
    ⟨128 * (b.val / 4) + i.val, by omega⟩ ⟨4 * (b.val % 4) + j.val, by omega⟩ d)) ?_ ?_
  · refine (congrFun (Memref.read_squeeze_slice (Val := Elt Ideal) xM (Rect.unit (s := S512x16x2048) ![128 * (b.val / 4), 4 * (b.val % 4) + j.val, 0] S128x1x2048.size (inb_src b j))
      (fun _ => rfl) squeezes_S128x1x2048_S128x2048 squeezes_S128x1x2048_S128x2048.numel_eq (opnd m c)) _).trans ?_
    refine (shapeCast_apply (s := S128x1x2048) _ _ _ (ix3 (n0 := 128) (n1 := 1) (n2 := 2048) i 0 d) ?_).trans ?_
    · rw [Shape.rowMajor_val_three, Shape.rowMajor_val_two]
      show (i.val * 1 + 0) * 2048 + d.val = i.val * 2048 + d.val
      omega
    refine congrArg (opnd m c : FVec Ideal S512x16x2048 .f32) ?_
    funext x
    apply Fin.ext
    match x with
    | ⟨0, _⟩ => show 128 * (b.val / 4) + 1 * i.val = 128 * (b.val / 4) + i.val; omega
    | ⟨1, _⟩ => show 4 * (b.val % 4) + j.val + 1 * 0 = 4 * (b.val % 4) + j.val; omega
    | ⟨2, _⟩ => show 0 + 1 * d.val = d.val; omega
  · refine (opnd_val m c _ _ _).trans (congrArg (K0 m c) (congrArg (fun r => ix3 (n0 := 1) (n1 := 8192) (n2 := 2048) 0 r d) (Fin.ext ?_)))
    show 16 * (128 * (b.val / 4) + i.val) + (4 * (b.val % 4) + j.val)
      = 16 * (128 * ((512 * b.val + (128 * j.val + i.val)) / 2048) + (512 * b.val + (128 * j.val + i.val)) % 128)
        + (512 * b.val + (128 * j.val + i.val)) % 2048 / 128
    omega

/-! ## A step's rows and products -/

/-- The step's number among the results' blocks of rows. -/
abbrev st (t : Fin cfg0.N) : Fin 16 := ⟨t.val, N16 t⟩

theorem hid_val (t : Fin cfg0.N) (a : Fin 512) (d : Fin 2048) :
    hid m c t (ix2 (n0 := 512) (n1 := 2048) a d) = hS 0 (K0 m c) (K1 m c) (pos (st t) a) d := by
  have ha := a.isLt
  have eb : Ring.bk 16 t.val = st t := Fin.ext (Nat.mod_eq_of_lt (N16 t))
  unfold hid hidden stack4 hS
  rw [eb]
  refine (normed_val _ _ _ _ _).trans ?_
  have e1 : ∀ e : Fin 2048, planeVec (F := Ideal) c (opnd m c) (st t) ⟨a.val / 128, by omega⟩ (ix2 (n0 := 128) (n1 := 2048) ⟨a.val % 128, by omega⟩ e)
      = K0 m c (ix3 (n0 := 1) (n1 := 8192) (n2 := 2048) 0 (tok (pos (st t) a)) e) := fun e => by
    refine (plane_val m c _ _ _ _).trans (congrArg (K0 m c) (congrArg (fun r => ix3 (n0 := 1) (n1 := 8192) (n2 := 2048) 0 (tok (pos (st t) r)) e) (Fin.ext ?_)))
    show 128 * (a.val / 128) + a.val % 128 = a.val
    omega
  have e2 : ∀ e : Fin 2048, shiftRow (F := Ideal) (iblk m c 0 t) (ix2 (n0 := 1) (n1 := 2048) 0 e) = _ := fun e => blk0 m c t 0 e
  have e3 : ∀ e : Fin 2048, scaleRow (F := Ideal) (iblk m c 0 t) (ix2 (n0 := 1) (n1 := 2048) 0 e) = _ := fun e => blk0 m c t 1 e
  exact congrFun (congr (congrArg₂ lnS (funext e1) (funext e2)) (funext e3)) d

theorem prodT_val (t : Fin cfg0.N) (w : Vec Ideal S1x1024x2048 .bf16) (n : ℕ) (hn : n + 1024 ≤ 2048)
    (hw : ∀ (a : Fin 1024) (d : Fin 2048), w (ix3 (n0 := 1) (n1 := 1024) (n2 := 2048) 0 a d)
      = K2 m c (ix3 (n0 := 1) (n1 := 2048) (n2 := 2048) 0 ⟨n + a.val, by have := a.isLt; omega⟩ d)) (o : Fin 1024) (a : Fin 512) :
    prodT (hid m c t) w (ix2 (n0 := 1024) (n1 := 512) o a)
      = pT 0 (K0 m c) (K1 m c) (K2 m c) ⟨n + o.val, by have := o.isLt; omega⟩ (pos (st t) a) := by
  unfold prodT pT
  refine (Ideal.matmul_constant_zero_apply _ none _ _ _).trans ?_
  rw [DotDims.sum_contr₁ _ rfl (K := 2048) rfl _]
  refine Finset.sum_congr rfl fun d _ => congrArg₂ (fun a b : EReal => a * b) ?_ ?_
  · refine (shapeCast_apply (s := S1x1024x2048) _ _ _ (ix3 (n0 := 1) (n1 := 1024) (n2 := 2048) 0 o d) ?_).trans (hw o d)
    rw [Shape.rowMajor_val_three, Shape.rowMajor_val_two]
    show (0 * 1024 + o.val) * 2048 + d.val = o.val * 2048 + d.val
    omega
  · refine (congrArg (hid m c t) ?_).trans (hid_val m c t a d)
    funext x; match x with | ⟨0, _⟩ => rfl | ⟨1, _⟩ => rfl

theorem prodR_val (t : Fin cfg0.N) (w : Vec Ideal S1x2048x1024 .bf16) (n : ℕ) (hn : n + 1024 ≤ 4096)
    (hw : ∀ (d : Fin 2048) (a : Fin 1024), w (ix3 (n0 := 1) (n1 := 2048) (n2 := 1024) 0 d a)
      = K3 m c (ix3 (n0 := 1) (n1 := 2048) (n2 := 4096) 0 d ⟨n + a.val, by have := a.isLt; omega⟩)) (a : Fin 512) (o : Fin 1024) :
    prodR (hid m c t) w (ix2 (n0 := 512) (n1 := 1024) a o)
      = pR 0 (K0 m c) (K1 m c) (K3 m c) (pos (st t) a) ⟨n + o.val, by have := o.isLt; omega⟩ := by
  unfold prodR pR
  refine (Ideal.matmul_constant_zero_apply _ none _ _ _).trans ?_
  rw [DotDims.sum_contr₁ _ rfl (K := 2048) rfl _]
  refine Finset.sum_congr rfl fun d _ => congrArg₂ (fun a b : EReal => a * b) ?_ ?_
  · refine (congrArg (hid m c t) ?_).trans (hid_val m c t a d)
    funext x; match x with | ⟨0, _⟩ => rfl | ⟨1, _⟩ => rfl
  · refine (shapeCast_apply (s := S1x2048x1024) _ _ _ (ix3 (n0 := 1) (n1 := 2048) (n2 := 1024) 0 d o) ?_).trans (hw d o)
    rw [Shape.rowMajor_val_three, Shape.rowMajor_val_two]
    show (0 * 2048 + d.val) * 1024 + o.val = d.val * 1024 + o.val
    omega

/-! ## A step's share of the next layer's weights -/

theorem rows_val (t : Fin cfg0.N) (a : Fin 128) (o : Fin 6144) : rows (F := Ideal) (iblk m c 7 t) (ix2 (n0 := 128) (n1 := 6144) a o)
    = K4 m c (ix3 (n0 := 2) (n1 := 2048) (n2 := 6144) 1 ⟨128 * t.val + a.val, by have := a.isLt; have := N16 t; omega⟩ o) := by
  unfold rows
  refine (shapeCast_apply (s := S1x128x6144) _ _ _ (ix3 (n0 := 1) (n1 := 128) (n2 := 6144) 0 a o) ?_).trans (blk7 m c t a o)
  rw [Shape.rowMajor_val_three, Shape.rowMajor_val_two]
  show (0 * 128 + a.val) * 6144 + o.val = a.val * 6144 + o.val
  omega

/-- A thousand of the rows' columns, from column `n` on. -/
theorem cols_val (x : FVec Ideal S128x6144 .f32) (n : ℕ) (hn : n + 1024 ≤ 6144) (h : S128x6144.Slices ![0, n] S128x1024) (a : Fin 128) (o : Fin 1024) :
    extractStridedSlice S128x1024 ![0, n] x h (ix2 (n0 := 128) (n1 := 1024) a o)
      = x (ix2 (n0 := 128) (n1 := 6144) a ⟨n + o.val, by have := o.isLt; omega⟩) :=
  extractStridedSlice_apply (s := S128x6144) _ _ _ _ _ fun b => by match b with | ⟨0, _⟩ => exact (Nat.zero_add _).symm | ⟨1, _⟩ => rfl

theorem turned_val (x : FVec Ideal S128x1024 .f32) (o : Fin 1024) (a : Fin 128) :
    turned x (ix3 (n0 := 1) (n1 := 1024) (n2 := 128) 0 o a) = x (ix2 (n0 := 128) (n1 := 1024) a o) := by
  unfold turned
  refine (shapeCast_apply (s := S1024x128) _ _ _ (ix2 (n0 := 1024) (n1 := 128) o a) ?_).trans ?_
  · rw [Shape.rowMajor_val_three, Shape.rowMajor_val_two]
    show o.val * 128 + a.val = (0 * 1024 + o.val) * 128 + a.val
    omega
  · exact transpose_apply (s := S128x1024) _ _ _ _ (ix2 (n0 := 128) (n1 := 1024) a o) fun b => by match b with | ⟨0, _⟩ => rfl | ⟨1, _⟩ => rfl

theorem nextT_val (t : Fin cfg0.N) (o : Fin 2048) (a : Fin 128) :
    nextT (F := Ideal) (iblk m c 7 t) (ix3 (n0 := 1) (n1 := 2048) (n2 := 128) 0 o a)
      = nextTS (K4 m c) (ix3 (n0 := 1) (n1 := 2048) (n2 := 2048) 0 o ⟨128 * t.val + a.val, by have := a.isLt; have := N16 t; omega⟩) := by
  have ho := o.isLt
  unfold nextT nextTS
  show (if h : o.val < 1024 then _ else _) = if o.val < 1024 then _ else _
  by_cases h : o.val < 1024
  · rw [dif_pos h, if_pos h]
    refine (turned_val _ ⟨o.val, h⟩ a).trans ((cols_val _ 0 (by omega) _ a ⟨o.val, h⟩).trans ((rows_val m c t _ _).trans (congrArg (K4 m c) ?_)))
    exact congrArg (ix3 (n0 := 2) (n1 := 2048) (n2 := 6144) 1 _) (Fin.ext (Nat.zero_add _))
  · rw [dif_neg h, if_neg h]
    refine (turned_val _ ⟨o.val - 1024, by omega⟩ a).trans (congrArg (fun x : EReal => Scalar.ofBits (F := Ideal) .f32 0x3F000000#32 * x) ?_)
    refine (cols_val _ 1024 (by omega) _ a ⟨o.val - 1024, by omega⟩).trans ((rows_val m c t _ _).trans (congrArg (K4 m c) ?_))
    exact congrArg (ix3 (n0 := 2) (n1 := 2048) (n2 := 6144) 1 _) (Fin.ext (show 1024 + (o.val - 1024) = o.val by omega))

theorem nextR_val (t : Fin cfg0.N) (a : Fin 128) (o : Fin 4096) :
    nextR (F := Ideal) (iblk m c 7 t) (ix3 (n0 := 1) (n1 := 128) (n2 := 4096) 0 a o)
      = nextRS (K4 m c) (ix3 (n0 := 1) (n1 := 2048) (n2 := 4096) 0 ⟨128 * t.val + a.val, by have := a.isLt; have := N16 t; omega⟩ o) := by
  have ho := o.isLt
  unfold nextR nextRS
  show (if h : o.val < 3072 then _ else _) = if o.val < 3072 then _ else _
  by_cases h : o.val < 3072
  · rw [dif_pos h, if_pos h]
    unfold straight
    refine (shapeCast_apply (s := S128x3072) _ _ _ (ix2 (n0 := 128) (n1 := 3072) a ⟨o.val, h⟩) ?_).trans ?_
    · rw [Shape.rowMajor_val_three, Shape.rowMajor_val_two]
      show a.val * 3072 + o.val = (0 * 128 + a.val) * 3072 + o.val
      omega
    · refine (extractStridedSlice_apply (s := S128x6144) _ _ slices_S128x6144_o0_2048_S128x3072 _ (ix2 (n0 := 128) (n1 := 6144) a ⟨2048 + o.val, by omega⟩) fun b => ?_).trans (rows_val m c t _ _)
      match b with | ⟨0, _⟩ => exact (Nat.zero_add _).symm | ⟨1, _⟩ => rfl
  · rw [dif_neg h, if_neg h]
    unfold straightG
    refine (shapeCast_apply (s := S128x1024) _ _ _ (ix2 (n0 := 128) (n1 := 1024) a ⟨o.val - 3072, by omega⟩) ?_).trans ?_
    · rw [Shape.rowMajor_val_three, Shape.rowMajor_val_two]
      show a.val * 1024 + (o.val - 3072) = (0 * 128 + a.val) * 1024 + (o.val - 3072)
      omega
    · refine congrArg (fun x : EReal => Scalar.ofBits (F := Ideal) .f32 0x3F000000#32 * x) ?_
      refine (cols_val _ 5120 (by omega) _ a ⟨o.val - 3072, by omega⟩).trans ((rows_val m c t _ _).trans (congrArg (K4 m c) ?_))
      exact congrArg (ix3 (n0 := 2) (n1 := 2048) (n2 := 6144) 1 _) (Fin.ext (show 5120 + (o.val - 3072) = 2048 + o.val by omega))

end Cert.Proof.InProjFirst

end
-- ==== Proof.InProjFirst.Final.lean ====
/-
  Hand-written, untrusted. The first input projection's kernel run over the extended reals: its steps' blocks tile the seven result arrays,
  which so hold Spec.lean's results.
-/
module

public import proofs.«01_k».proof.Proof.InProjFirst.Kern

@[expose] public section

noncomputable section

namespace Cert.Proof.InProjFirst

open Cert.Kernel3Ideal Cert.Kernel3Ideal.Gen
open Cert.Proof.InProj (meanS lnS tok gateS hS pT pR uS zS cvS bS gS nextRS nextTS)
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg) (c : Dev nD)

/-! ## A step's blocks of the results -/

theorem outU_val (t : Fin cfg0.N) (o : Fin 1024) (a : Fin 512) :
    outU (hid m c t) (iblk m c 1 t) (ix2 (n0 := 1024) (n1 := 512) o a) = uS 0 (K0 m c) (K1 m c) (K2 m c) (ix2 (n0 := 1024) (n1 := 8192) o (pos (st t) a)) :=
  (prodT_val m c t _ 0 (by omega) (blk1 m c t) o a).trans
    (congrArg (fun o => pT 0 (K0 m c) (K1 m c) (K2 m c) o (pos (st t) a)) (Fin.ext (show 0 + o.val = o.val from Nat.zero_add _)))
theorem outZ_val (t : Fin cfg0.N) (o : Fin 1024) (a : Fin 512) :
    outZ (hid m c t) (iblk m c 2 t) (ix2 (n0 := 1024) (n1 := 512) o a) = zS 0 (K0 m c) (K1 m c) (K2 m c) (ix2 (n0 := 1024) (n1 := 8192) o (pos (st t) a)) :=
  congrArg gateS (prodT_val m c t _ 1024 (by omega) (blk2 m c t) o a)
theorem outCV_val (t : Fin cfg0.N) (a : Fin 512) (o : Fin 1024) :
    outCV (hid m c t) (iblk m c 3 t) (iblk m c 5 t) (ix2 (n0 := 512) (n1 := 1024) a o)
      = cvS 0 (K0 m c) (K1 m c) (K3 m c) (ix2 (n0 := 8192) (n1 := 1024) (pos (st t) a) o) :=
  congrArg₂ (fun a b : EReal => a * b) (prodR_val m c t _ 2048 (by omega) (blk5 m c t) a o) (prodR_val m c t _ 0 (by omega) (blk3 m c t) a o)
theorem outB_val (t : Fin cfg0.N) (a : Fin 512) (o : Fin 1024) :
    outB (hid m c t) (iblk m c 4 t) (ix2 (n0 := 512) (n1 := 1024) a o)
      = bS 0 (K0 m c) (K1 m c) (K3 m c) (ix2 (n0 := 8192) (n1 := 1024) (pos (st t) a) o) :=
  prodR_val m c t _ 1024 (by omega) (blk4 m c t) a o
theorem outG_val (t : Fin cfg0.N) (a : Fin 512) (o : Fin 1024) :
    outG (hid m c t) (iblk m c 6 t) (ix2 (n0 := 512) (n1 := 1024) a o)
      = gS 0 (K0 m c) (K1 m c) (K3 m c) (ix2 (n0 := 8192) (n1 := 1024) (pos (st t) a) o) :=
  congrArg gateS (prodR_val m c t _ 3072 (by omega) (blk6 m c t) a o)

theorem idxT (x : S1024x512.Idx) : x = ix2 (n0 := 1024) (n1 := 512) (x 0) (x 1) := by
  funext a; match a with | ⟨0, _⟩ => rfl | ⟨1, _⟩ => rfl
theorem idxR (x : S512x1024.Idx) : x = ix2 (n0 := 512) (n1 := 1024) (x 0) (x 1) := by
  funext a; match a with | ⟨0, _⟩ => rfl | ⟨1, _⟩ => rfl

/-- The step whose block has row `r` of the results. -/
theorem step_of (r : ℕ) (hr : r < 8192) : ∃ t : Fin cfg0.N, t.val = r / 512 := ⟨⟨r / 512, lt_of_lt_of_eq (by omega) N_0.symm⟩, rfl⟩

/-! ## The arrays at the end -/

theorem final8 : (dats m 0 c).arrAt 8 cfg0.N = uS 0 (K0 m c) (K1 m c) (K2 m c) := by
  refine (dats m 0 c).arrAt_eq_of_cover 8 _ (fun t _ => ?_) (fun (i : S1024x8192.Idx) => ?_)
  · show (cfg0.win 8).cut (grid0.coords t) ((dats m 0 c).after 8 t) = _
    rw [after0_8]
    funext j
    refine ((congrArg (outU (hid m c t) (iblk m c 1 t)) (idxT _)).trans (outU_val m c t _ _)).trans (congrArg (uS 0 (K0 m c) (K1 m c) (K2 m c)) ?_)
    funext a
    apply Fin.ext
    match a with
    | ⟨0, _⟩ => show (j 0).val = win0_8.index t 0 * 1024 + 1 * (j 0).val; rw [idx8]; show _ = 0 * 1024 + 1 * (j 0).val; omega
    | ⟨1, _⟩ => show 512 * t.val + (j 1).val = win0_8.index t 1 * 512 + 1 * (j 1).val; rw [idx8]; show _ = t.val * 512 + 1 * (j 1).val; omega
  · have h0 : (i 0).val < 1024 := (i 0).isLt
    have h1 : (i 1).val < 8192 := (i 1).isLt
    obtain ⟨t, ht⟩ := step_of (i 1).val h1
    refine ⟨t, flush0_8 t, ?_⟩
    show i ∈ ((View.whole main_v1_0).slice (win0_8.rect t)).set
    rw [View.set_slice_whole, Rect.mem_set_unit]
    intro a
    match a with
    | ⟨0, _⟩ =>
      show win0_8.index t 0 * 1024 ≤ (i 0).val ∧ (i 0).val < win0_8.index t 0 * 1024 + 1024
      rw [idx8]
      show 0 * 1024 ≤ (i 0).val ∧ (i 0).val < 0 * 1024 + 1024
      omega
    | ⟨1, _⟩ =>
      show win0_8.index t 1 * 512 ≤ (i 1).val ∧ (i 1).val < win0_8.index t 1 * 512 + 512
      rw [idx8]
      show t.val * 512 ≤ (i 1).val ∧ (i 1).val < t.val * 512 + 512
      omega

theorem final9 : (dats m 0 c).arrAt 9 cfg0.N = zS 0 (K0 m c) (K1 m c) (K2 m c) := by
  refine (dats m 0 c).arrAt_eq_of_cover 9 _ (fun t _ => ?_) (fun (i : S1024x8192.Idx) => ?_)
  · show (cfg0.win 9).cut (grid0.coords t) ((dats m 0 c).after 9 t) = _
    rw [after0_9]
    funext j
    refine ((congrArg (outZ (hid m c t) (iblk m c 2 t)) (idxT _)).trans (outZ_val m c t _ _)).trans (congrArg (zS 0 (K0 m c) (K1 m c) (K2 m c)) ?_)
    funext a
    apply Fin.ext
    match a with
    | ⟨0, _⟩ => show (j 0).val = win0_9.index t 0 * 1024 + 1 * (j 0).val; rw [idx9]; show _ = 0 * 1024 + 1 * (j 0).val; omega
    | ⟨1, _⟩ => show 512 * t.val + (j 1).val = win0_9.index t 1 * 512 + 1 * (j 1).val; rw [idx9]; show _ = t.val * 512 + 1 * (j 1).val; omega
  · have h0 : (i 0).val < 1024 := (i 0).isLt
    have h1 : (i 1).val < 8192 := (i 1).isLt
    obtain ⟨t, ht⟩ := step_of (i 1).val h1
    refine ⟨t, flush0_9 t, ?_⟩
    show i ∈ ((View.whole main_v1_1).slice (win0_9.rect t)).set
    rw [View.set_slice_whole, Rect.mem_set_unit]
    intro a
    match a with
    | ⟨0, _⟩ =>
      show win0_9.index t 0 * 1024 ≤ (i 0).val ∧ (i 0).val < win0_9.index t 0 * 1024 + 1024
      rw [idx9]
      show 0 * 1024 ≤ (i 0).val ∧ (i 0).val < 0 * 1024 + 1024
      omega
    | ⟨1, _⟩ =>
      show win0_9.index t 1 * 512 ≤ (i 1).val ∧ (i 1).val < win0_9.index t 1 * 512 + 512
      rw [idx9]
      show t.val * 512 ≤ (i 1).val ∧ (i 1).val < t.val * 512 + 512
      omega

theorem final10 : (dats m 0 c).arrAt 10 cfg0.N = cvS 0 (K0 m c) (K1 m c) (K3 m c) := by
  refine (dats m 0 c).arrAt_eq_of_cover 10 _ (fun t _ => ?_) (fun (i : S8192x1024.Idx) => ?_)
  · show (cfg0.win 10).cut (grid0.coords t) ((dats m 0 c).after 10 t) = _
    rw [after0_10]
    funext j
    refine ((congrArg (outCV (hid m c t) (iblk m c 3 t) (iblk m c 5 t)) (idxR _)).trans (outCV_val m c t _ _)).trans (congrArg (cvS 0 (K0 m c) (K1 m c) (K3 m c)) ?_)
    funext a
    apply Fin.ext
    match a with
    | ⟨0, _⟩ => show 512 * t.val + (j 0).val = win0_10.index t 0 * 512 + 1 * (j 0).val; rw [idx10]; show _ = t.val * 512 + 1 * (j 0).val; omega
    | ⟨1, _⟩ => show (j 1).val = win0_10.index t 1 * 1024 + 1 * (j 1).val; rw [idx10]; show _ = 0 * 1024 + 1 * (j 1).val; omega
  · have h0 : (i 0).val < 8192 := (i 0).isLt
    have h1 : (i 1).val < 1024 := (i 1).isLt
    obtain ⟨t, ht⟩ := step_of (i 0).val h0
    refine ⟨t, flush0_10 t, ?_⟩
    show i ∈ ((View.whole main_v1_2).slice (win0_10.rect t)).set
    rw [View.set_slice_whole, Rect.mem_set_unit]
    intro a
    match a with
    | ⟨0, _⟩ =>
      show win0_10.index t 0 * 512 ≤ (i 0).val ∧ (i 0).val < win0_10.index t 0 * 512 + 512
      rw [idx10]
      show t.val * 512 ≤ (i 0).val ∧ (i 0).val < t.val * 512 + 512
      omega
    | ⟨1, _⟩ =>
      show win0_10.index t 1 * 1024 ≤ (i 1).val ∧ (i 1).val < win0_10.index t 1 * 1024 + 1024
      rw [idx10]
      show 0 * 1024 ≤ (i 1).val ∧ (i 1).val < 0 * 1024 + 1024
      omega

theorem final11 : (dats m 0 c).arrAt 11 cfg0.N = bS 0 (K0 m c) (K1 m c) (K3 m c) := by
  refine (dats m 0 c).arrAt_eq_of_cover 11 _ (fun t _ => ?_) (fun (i : S8192x1024.Idx) => ?_)
  · show (cfg0.win 11).cut (grid0.coords t) ((dats m 0 c).after 11 t) = _
    rw [after0_11]
    funext j
    refine ((congrArg (outB (hid m c t) (iblk m c 4 t)) (idxR _)).trans (outB_val m c t _ _)).trans (congrArg (bS 0 (K0 m c) (K1 m c) (K3 m c)) ?_)
    funext a
    apply Fin.ext
    match a with
    | ⟨0, _⟩ => show 512 * t.val + (j 0).val = win0_11.index t 0 * 512 + 1 * (j 0).val; rw [idx11]; show _ = t.val * 512 + 1 * (j 0).val; omega
    | ⟨1, _⟩ => show (j 1).val = win0_11.index t 1 * 1024 + 1 * (j 1).val; rw [idx11]; show _ = 0 * 1024 + 1 * (j 1).val; omega
  · have h0 : (i 0).val < 8192 := (i 0).isLt
    have h1 : (i 1).val < 1024 := (i 1).isLt
    obtain ⟨t, ht⟩ := step_of (i 0).val h0
    refine ⟨t, flush0_11 t, ?_⟩
    show i ∈ ((View.whole main_v1_3).slice (win0_11.rect t)).set
    rw [View.set_slice_whole, Rect.mem_set_unit]
    intro a
    match a with
    | ⟨0, _⟩ =>
      show win0_11.index t 0 * 512 ≤ (i 0).val ∧ (i 0).val < win0_11.index t 0 * 512 + 512
      rw [idx11]
      show t.val * 512 ≤ (i 0).val ∧ (i 0).val < t.val * 512 + 512
      omega
    | ⟨1, _⟩ =>
      show win0_11.index t 1 * 1024 ≤ (i 1).val ∧ (i 1).val < win0_11.index t 1 * 1024 + 1024
      rw [idx11]
      show 0 * 1024 ≤ (i 1).val ∧ (i 1).val < 0 * 1024 + 1024
      omega

theorem final12 : (dats m 0 c).arrAt 12 cfg0.N = gS 0 (K0 m c) (K1 m c) (K3 m c) := by
  refine (dats m 0 c).arrAt_eq_of_cover 12 _ (fun t _ => ?_) (fun (i : S8192x1024.Idx) => ?_)
  · show (cfg0.win 12).cut (grid0.coords t) ((dats m 0 c).after 12 t) = _
    rw [after0_12]
    funext j
    refine ((congrArg (outG (hid m c t) (iblk m c 6 t)) (idxR _)).trans (outG_val m c t _ _)).trans (congrArg (gS 0 (K0 m c) (K1 m c) (K3 m c)) ?_)
    funext a
    apply Fin.ext
    match a with
    | ⟨0, _⟩ => show 512 * t.val + (j 0).val = win0_12.index t 0 * 512 + 1 * (j 0).val; rw [idx12]; show _ = t.val * 512 + 1 * (j 0).val; omega
    | ⟨1, _⟩ => show (j 1).val = win0_12.index t 1 * 1024 + 1 * (j 1).val; rw [idx12]; show _ = 0 * 1024 + 1 * (j 1).val; omega
  · have h0 : (i 0).val < 8192 := (i 0).isLt
    have h1 : (i 1).val < 1024 := (i 1).isLt
    obtain ⟨t, ht⟩ := step_of (i 0).val h0
    refine ⟨t, flush0_12 t, ?_⟩
    show i ∈ ((View.whole main_v1_4).slice (win0_12.rect t)).set
    rw [View.set_slice_whole, Rect.mem_set_unit]
    intro a
    match a with
    | ⟨0, _⟩ =>
      show win0_12.index t 0 * 512 ≤ (i 0).val ∧ (i 0).val < win0_12.index t 0 * 512 + 512
      rw [idx12]
      show t.val * 512 ≤ (i 0).val ∧ (i 0).val < t.val * 512 + 512
      omega
    | ⟨1, _⟩ =>
      show win0_12.index t 1 * 1024 ≤ (i 1).val ∧ (i 1).val < win0_12.index t 1 * 1024 + 1024
      rw [idx12]
      show 0 * 1024 ≤ (i 1).val ∧ (i 1).val < 0 * 1024 + 1024
      omega

theorem final13 : (dats m 0 c).arrAt 13 cfg0.N = nextRS (K4 m c) := by
  refine (dats m 0 c).arrAt_eq_of_cover 13 _ (fun t _ => ?_) (fun (i : S1x2048x4096.Idx) => ?_)
  · show (cfg0.win 13).cut (grid0.coords t) ((dats m 0 c).after 13 t) = _
    rw [after0_13]
    funext j
    have hj : (j 0).val < 1 := (j 0).isLt
    refine ((congrArg (nextR (iblk m c 7 t)) (eq_ix3 (n0 := 1) (n1 := 128) (n2 := 4096) _)).trans (nextR_val m c t _ _)).trans (congrArg (nextRS (K4 m c)) ?_)
    funext a
    apply Fin.ext
    match a with
    | ⟨0, _⟩ => show 0 = win0_13.index t 0 * 1 + 1 * (j 0).val; rw [idx13]; show _ = 0 * 1 + 1 * (j 0).val; omega
    | ⟨1, _⟩ => show 128 * t.val + (j 1).val = win0_13.index t 1 * 128 + 1 * (j 1).val; rw [idx13]; show _ = t.val * 128 + 1 * (j 1).val; omega
    | ⟨2, _⟩ => show (j 2).val = win0_13.index t 2 * 4096 + 1 * (j 2).val; rw [idx13]; show _ = 0 * 4096 + 1 * (j 2).val; omega
  · have h0 : (i 0).val < 1 := (i 0).isLt
    have h1 : (i 1).val < 2048 := (i 1).isLt
    have h2 : (i 2).val < 4096 := (i 2).isLt
    obtain ⟨t, ht⟩ := step_of (4 * (i 1).val) (by omega)
    refine ⟨t, flush0_13 t, ?_⟩
    show i ∈ ((View.whole main_v1_5).slice (win0_13.rect t)).set
    rw [View.set_slice_whole, Rect.mem_set_unit]
    intro a
    match a with
    | ⟨0, _⟩ =>
      show win0_13.index t 0 * 1 ≤ (i 0).val ∧ (i 0).val < win0_13.index t 0 * 1 + 1
      rw [idx13]
      show 0 * 1 ≤ (i 0).val ∧ (i 0).val < 0 * 1 + 1
      omega
    | ⟨1, _⟩ =>
      show win0_13.index t 1 * 128 ≤ (i 1).val ∧ (i 1).val < win0_13.index t 1 * 128 + 128
      rw [idx13]
      show t.val * 128 ≤ (i 1).val ∧ (i 1).val < t.val * 128 + 128
      omega
    | ⟨2, _⟩ =>
      show win0_13.index t 2 * 4096 ≤ (i 2).val ∧ (i 2).val < win0_13.index t 2 * 4096 + 4096
      rw [idx13]
      show 0 * 4096 ≤ (i 2).val ∧ (i 2).val < 0 * 4096 + 4096
      omega

theorem final14 : (dats m 0 c).arrAt 14 cfg0.N = nextTS (K4 m c) := by
  refine (dats m 0 c).arrAt_eq_of_cover 14 _ (fun t _ => ?_) (fun (i : S1x2048x2048.Idx) => ?_)
  · show (cfg0.win 14).cut (grid0.coords t) ((dats m 0 c).after 14 t) = _
    rw [after0_14]
    funext j
    have hj : (j 0).val < 1 := (j 0).isLt
    refine ((congrArg (nextT (iblk m c 7 t)) (eq_ix3 (n0 := 1) (n1 := 2048) (n2 := 128) _)).trans (nextT_val m c t _ _)).trans (congrArg (nextTS (K4 m c)) ?_)
    funext a
    apply Fin.ext
    match a with
    | ⟨0, _⟩ => show 0 = win0_14.index t 0 * 1 + 1 * (j 0).val; rw [idx14]; show _ = 0 * 1 + 1 * (j 0).val; omega
    | ⟨1, _⟩ => show (j 1).val = win0_14.index t 1 * 2048 + 1 * (j 1).val; rw [idx14]; show _ = 0 * 2048 + 1 * (j 1).val; omega
    | ⟨2, _⟩ => show 128 * t.val + (j 2).val = win0_14.index t 2 * 128 + 1 * (j 2).val; rw [idx14]; show _ = t.val * 128 + 1 * (j 2).val; omega
  · have h0 : (i 0).val < 1 := (i 0).isLt
    have h1 : (i 1).val < 2048 := (i 1).isLt
    have h2 : (i 2).val < 2048 := (i 2).isLt
    obtain ⟨t, ht⟩ := step_of (4 * (i 2).val) (by omega)
    refine ⟨t, flush0_14 t, ?_⟩
    show i ∈ ((View.whole main_v1_6).slice (win0_14.rect t)).set
    rw [View.set_slice_whole, Rect.mem_set_unit]
    intro a
    match a with
    | ⟨0, _⟩ =>
      show win0_14.index t 0 * 1 ≤ (i 0).val ∧ (i 0).val < win0_14.index t 0 * 1 + 1
      rw [idx14]
      show 0 * 1 ≤ (i 0).val ∧ (i 0).val < 0 * 1 + 1
      omega
    | ⟨1, _⟩ =>
      show win0_14.index t 1 * 2048 ≤ (i 1).val ∧ (i 1).val < win0_14.index t 1 * 2048 + 2048
      rw [idx14]
      show 0 * 2048 ≤ (i 1).val ∧ (i 1).val < 0 * 2048 + 2048
      omega
    | ⟨2, _⟩ =>
      show win0_14.index t 2 * 128 ≤ (i 2).val ∧ (i 2).val < win0_14.index t 2 * 128 + 128
      rw [idx14]
      show t.val * 128 ≤ (i 2).val ∧ (i 2).val < t.val * 128 + 128
      omega

theorem run_value : θ_run defs (onTc (τ := τ) (main (F := Ideal))) (s₀ m ρ) fun r => ∀ c : Dev nD,
    r.2.mem ((c : Thread nD τ).loc main_v1_0) = uS 0 (K0 m c) (K1 m c) (K2 m c)
    ∧ r.2.mem ((c : Thread nD τ).loc main_v1_1) = zS 0 (K0 m c) (K1 m c) (K2 m c)
    ∧ r.2.mem ((c : Thread nD τ).loc main_v1_2) = cvS 0 (K0 m c) (K1 m c) (K3 m c)
    ∧ r.2.mem ((c : Thread nD τ).loc main_v1_3) = bS 0 (K0 m c) (K1 m c) (K3 m c)
    ∧ r.2.mem ((c : Thread nD τ).loc main_v1_4) = gS 0 (K0 m c) (K1 m c) (K3 m c)
    ∧ r.2.mem ((c : Thread nD τ).loc main_v1_5) = nextRS (K4 m c)
    ∧ r.2.mem ((c : Thread nD τ).loc main_v1_6) = nextTS (K4 m c) :=
  (θ_run defs _ _).mono (fun _ h c => ⟨((h.1 c).1 8).trans (final8 m c), ((h.1 c).1 9).trans (final9 m c), ((h.1 c).1 10).trans (final10 m c),
    ((h.1 c).1 11).trans (final11 m c), ((h.1 c).1 12).trans (final12 m c), ((h.1 c).1 13).trans (final13 m c), ((h.1 c).1 14).trans (final14 m c)⟩) (run_main m ρ)

end Cert.Proof.InProjFirst

end
-- ==== Proof.InProjFirst.RefArr.lean ====
/-
  Hand-written, untrusted. The first input projection's reference: its projections are those of the other modules' at modulation 0;
  here the next layer's weights, read at an index, in Spec.lean's terms.
-/
module

public import proofs.«01_k».proof.Proof.Gen.Reference3Ideal.Run
public import proofs.«01_k».proof.Proof.InProj.RefArr

@[expose] public section

set_option maxRecDepth 16384

noncomputable section

namespace Cert.Proof.InProjFirst

open Cert.Reference3Ideal Cert.Reference3Ideal.Gen
open Cert.Proof.InProj (uS zS cvS bS gS nextRS nextTS)
open Idealize.ShloMosaic

/-! ## The next layer's weights -/

section
variable (W : FVec Ideal S2x2048x6144 .f32)

/-- The next layer's weights alone. -/
def nextW : FVec Ideal S1x2048x6144 .f32 := extractStridedSlice S1x2048x6144 ![1, 0, 0] W slices_S2x2048x6144_S1x2048x6144_1_0_0

theorem nextW_val (d : Fin 2048) (o : Fin 6144) : nextW W (ix3 (n0 := 1) (n1 := 2048) (n2 := 6144) 0 d o)
    = W (ix3 (n0 := 2) (n1 := 2048) (n2 := 6144) 1 d o) :=
  extractStridedSlice_apply (s := S2x2048x6144) _ _ _ _ _ fun b => by
    match b with | ⟨0, _⟩ => rfl | ⟨1, _⟩ => exact (Nat.zero_add _).symm | ⟨2, _⟩ => exact (Nat.zero_add _).symm

/-- A thousand of their columns, from column `n` on. -/
theorem colsR_val (n : ℕ) (hn : n + 1024 ≤ 6144) (h : S1x2048x6144.Slices ![0, 0, n] S1x2048x1024) (d : Fin 2048) (o : Fin 1024) :
    extractStridedSlice S1x2048x1024 ![0, 0, n] (nextW W) h (ix3 (n0 := 1) (n1 := 2048) (n2 := 1024) 0 d o)
      = W (ix3 (n0 := 2) (n1 := 2048) (n2 := 6144) 1 d ⟨n + o.val, by have := o.isLt; omega⟩) :=
  (extractStridedSlice_apply (s := S1x2048x6144) _ _ _ _ (ix3 (n0 := 1) (n1 := 2048) (n2 := 6144) 0 d ⟨n + o.val, by have := o.isLt; omega⟩) fun b => by
    match b with | ⟨0, _⟩ => rfl | ⟨1, _⟩ => exact (Nat.zero_add _).symm | ⟨2, _⟩ => rfl).trans (nextW_val W d _)

theorem zero_of (i : Fin 1) : i = 0 := Fin.ext (by have := i.isLt; show i.val = 0; omega)

theorem eq_idx {n1 n2 : ℕ} (i : Shape.Idx ⟨3, ![1, n1, n2]⟩) : i = ix3 (n0 := 1) (n1 := n1) (n2 := n2) 0 (i 1) (i 2) := by
  funext a
  match a with
  | ⟨0, _⟩ => exact zero_of (i 0)
  | ⟨1, _⟩ => rfl
  | ⟨2, _⟩ => rfl

/-- The halved columns. -/
def halvedR (x : FVec Ideal S1x2048x1024 .f32) : FVec Ideal S1x2048x1024 .f32 :=
  mulf (broadcastInDim S1x2048x1024 ![] bcast_S_S1x2048x1024 (constant S_ .f32 0x3F000000#32)) x

theorem nextR_ref : (truncf .bf16 (concatenate S1x2048x4096 2
      [⟨S1x2048x3072, extractStridedSlice S1x2048x3072 ![0, 0, 2048] (nextW W) slices_S1x2048x6144_S1x2048x3072_0_0_2048⟩,
        ⟨S1x2048x1024, halvedR (extractStridedSlice S1x2048x1024 ![0, 0, 5120] (nextW W) slices_S1x2048x6144_S1x2048x1024_0_0_5120)⟩]
      concatenates_S1x2048x3072_S1x2048x1024_S1x2048x4096_d2) bitsLt_bf16_f32 : FVec Ideal S1x2048x4096 .bf16) = nextRS W := by
  funext i
  rw [eq_idx i]
  generalize i 1 = d
  generalize i 2 = o
  have ho : o.val < 4096 := o.isLt
  unfold nextRS
  show _ = if o.val < 3072 then _ else _
  by_cases h : o.val < 3072
  · rw [if_pos h]
    refine (concatenate_pair_apply_left (t := S1x2048x4096) (s₁ := S1x2048x3072) (s₂ := S1x2048x1024) 2 _ _ concatenates_S1x2048x3072_S1x2048x1024_S1x2048x4096_d2 _ rfl
      (ix3 (n0 := 1) (n1 := 2048) (n2 := 3072) 0 d ⟨o.val, h⟩) ?_).trans ?_
    · intro b; match b with | ⟨0, _⟩ => rfl | ⟨1, _⟩ => rfl | ⟨2, _⟩ => rfl
    · refine (extractStridedSlice_apply (s := S1x2048x6144) _ _ slices_S1x2048x6144_S1x2048x3072_0_0_2048 _
        (ix3 (n0 := 1) (n1 := 2048) (n2 := 6144) 0 d ⟨2048 + o.val, by omega⟩) fun b => ?_).trans (nextW_val W d _)
      match b with | ⟨0, _⟩ => rfl | ⟨1, _⟩ => exact (Nat.zero_add _).symm | ⟨2, _⟩ => rfl
  · rw [if_neg h]
    refine (concatenate_pair_apply_right (t := S1x2048x4096) (s₁ := S1x2048x3072) (s₂ := S1x2048x1024) 2 _ _ concatenates_S1x2048x3072_S1x2048x1024_S1x2048x4096_d2 _ rfl rfl
      (ix3 (n0 := 1) (n1 := 2048) (n2 := 1024) 0 d ⟨o.val - 3072, by omega⟩) ?_ ?_).trans ?_
    · intro b hb; match b with | ⟨0, _⟩ => rfl | ⟨1, _⟩ => rfl | ⟨2, _⟩ => exact absurd rfl hb
    · show o.val - 3072 + 3072 = o.val; omega
    · refine congrArg (fun x : EReal => Scalar.ofBits (F := Ideal) .f32 0x3F000000#32 * x) ((colsR_val W 5120 (by omega) _ d ⟨o.val - 3072, by omega⟩).trans (congrArg W ?_))
      exact congrArg (ix3 (n0 := 2) (n1 := 2048) (n2 := 6144) 1 d) (Fin.ext (show 5120 + (o.val - 3072) = 2048 + o.val by omega))

/-- The scan's weights before they are transposed. -/
def catT : FVec Ideal S1x2048x2048 .f32 :=
  concatenate S1x2048x2048 2
    [⟨S1x2048x1024, extractStridedSlice S1x2048x1024 ![0, 0, 0] (nextW W) slices_S1x2048x6144_S1x2048x1024_0_0_0⟩,
      ⟨S1x2048x1024, halvedR (extractStridedSlice S1x2048x1024 ![0, 0, 1024] (nextW W) slices_S1x2048x6144_S1x2048x1024_0_0_1024)⟩]
    concatenates_S1x2048x1024_S1x2048x1024_S1x2048x2048_d2

theorem catT_val (d o : Fin 2048) : catT W (ix3 (n0 := 1) (n1 := 2048) (n2 := 2048) 0 d o)
    = nextTS W (ix3 (n0 := 1) (n1 := 2048) (n2 := 2048) 0 o d) := by
  have ho : o.val < 2048 := o.isLt
  unfold catT nextTS
  show _ = if o.val < 1024 then _ else _
  by_cases h : o.val < 1024
  · rw [if_pos h]
    refine (concatenate_pair_apply_left (t := S1x2048x2048) (s₁ := S1x2048x1024) (s₂ := S1x2048x1024) 2 _ _ concatenates_S1x2048x1024_S1x2048x1024_S1x2048x2048_d2 _ rfl
      (ix3 (n0 := 1) (n1 := 2048) (n2 := 1024) 0 d ⟨o.val, h⟩) ?_).trans ?_
    · intro b; match b with | ⟨0, _⟩ => rfl | ⟨1, _⟩ => rfl | ⟨2, _⟩ => rfl
    · refine (colsR_val W 0 (by omega) _ d ⟨o.val, h⟩).trans (congrArg W ?_)
      exact congrArg (ix3 (n0 := 2) (n1 := 2048) (n2 := 6144) 1 d) (Fin.ext (Nat.zero_add _))
  · rw [if_neg h]
    refine (concatenate_pair_apply_right (t := S1x2048x2048) (s₁ := S1x2048x1024) (s₂ := S1x2048x1024) 2 _ _ concatenates_S1x2048x1024_S1x2048x1024_S1x2048x2048_d2 _ rfl rfl
      (ix3 (n0 := 1) (n1 := 2048) (n2 := 1024) 0 d ⟨o.val - 1024, by omega⟩) ?_ ?_).trans ?_
    · intro b hb; match b with | ⟨0, _⟩ => rfl | ⟨1, _⟩ => rfl | ⟨2, _⟩ => exact absurd rfl hb
    · show o.val - 1024 + 1024 = o.val; omega
    · refine congrArg (fun x : EReal => Scalar.ofBits (F := Ideal) .f32 0x3F000000#32 * x) ((colsR_val W 1024 (by omega) _ d ⟨o.val - 1024, by omega⟩).trans (congrArg W ?_))
      exact congrArg (ix3 (n0 := 2) (n1 := 2048) (n2 := 6144) 1 d) (Fin.ext (show 1024 + (o.val - 1024) = o.val by omega))

theorem nextT_ref : (truncf .bf16 (transpose S1x2048x2048 [0, 2, 1] (catT W) transposes_S1x2048x2048_S1x2048x2048_0_2_1) bitsLt_bf16_f32
    : FVec Ideal S1x2048x2048 .bf16) = nextTS W := by
  funext i
  rw [eq_idx i]
  generalize i 1 = o
  generalize i 2 = d
  refine Eq.trans (b := catT W (ix3 (n0 := 1) (n1 := 2048) (n2 := 2048) 0 d o)) ?_ (catT_val W d o)
  show transpose S1x2048x2048 [0, 2, 1] (catT W) transposes_S1x2048x2048_S1x2048x2048_0_2_1 (ix3 (n0 := 1) (n1 := 2048) (n2 := 2048) 0 o d) = _
  refine transpose_apply (s := S1x2048x2048) _ _ _ _ _ fun b => ?_
  match b with | ⟨0, _⟩ => rfl | ⟨1, _⟩ => rfl | ⟨2, _⟩ => rfl

end

/-! ## The projections -/

variable (m : (ℓ : Loc nD τ sig) → Buf (Elt Ideal) ℓ) (c : Dev nD)

abbrev R0 : FVec Ideal ⟨3, ![1, 8192, 2048]⟩ .f32 := m ((c.tc : Thread nD τ).loc main_arg0)
abbrev R1 : FVec Ideal ⟨3, ![4, 3, 2048]⟩ .f32 := m ((c.tc : Thread nD τ).loc main_arg1)
abbrev R2 : FVec Ideal ⟨3, ![1, 2048, 2048]⟩ .bf16 := m ((c.tc : Thread nD τ).loc main_arg2)
abbrev R3 : FVec Ideal ⟨3, ![1, 2048, 4096]⟩ .bf16 := m ((c.tc : Thread nD τ).loc main_arg3)
abbrev R4 : FVec Ideal ⟨3, ![2, 2048, 6144]⟩ .f32 := m ((c.tc : Thread nD τ).loc main_arg4)

theorem ref_z : Value.res_main_v71 m c = zS 0 (R0 m c) (R1 m c) (R2 m c) :=
  InProj.zR_val _ _ _ 0 slices_S4x3x2048_S1x1x2048_0_0_0 slices_S4x3x2048_S1x1x2048_0_1_0
theorem ref_cv : Value.res_main_v73 m c = cvS 0 (R0 m c) (R1 m c) (R3 m c) :=
  InProj.cvR_val _ _ _ 0 slices_S4x3x2048_S1x1x2048_0_0_0 slices_S4x3x2048_S1x1x2048_0_1_0
theorem ref_g : Value.res_main_v78 m c = gS 0 (R0 m c) (R1 m c) (R3 m c) :=
  InProj.gR_val _ _ _ 0 slices_S4x3x2048_S1x1x2048_0_0_0 slices_S4x3x2048_S1x1x2048_0_1_0

end Cert.Proof.InProjFirst

end
-- ==== Proof.lean ====
module

public import proofs.«01_k».proof.Defs
public import proofs.«01_k».proof.Proof.S5.Run
public import proofs.«01_k».proof.Proof.S5.Final
public import proofs.«01_k».proof.Proof.S5.RefRun
public import proofs.«01_k».proof.Proof.InProj.Run
public import proofs.«01_k».proof.Proof.InProj.Final
public import proofs.«01_k».proof.Proof.InProj.RefArr
public import proofs.«01_k».proof.Proof.InProjFirst.Run
public import proofs.«01_k».proof.Proof.InProjFirst.Final
public import proofs.«01_k».proof.Proof.InProjFirst.RefArr
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import Idealize.ShloMosaic.Adequacy
public import Idealize.ShloMosaic.Init
public import Idealize.ShloMosaic.Lib.Claim
public import Idealize.ShloMosaic.Lib.Pipeline.Quiescent

@[expose] public section

namespace Cert.Proof

open Idealize.ShloMosaic Idealize.ShloMosaic.TcCoe Idealize.SL.Sem

theorem claim : Cert.Claim := by
  refine ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts, Cert.Reference3Ideal.Gen.facts,
    ?_, ?_, ?_, ?_, ?_, ?_, ?_, ?_, ?_, ?_, ?_, ?_, ?_, ?_, ?_⟩
  · intro m g _
    exact cast (by sl_kernel_rfl) (θ_run_with_sems (Cert.KernelIdeal.Gen.frame_of (F := Bits) m g (S5.dats m) fun _ _ => rfl) (S5.run_main m g))
  · intro m g _
    exact θ_run_with_sems (Cert.KernelIdeal.Gen.frame_of (F := Ideal) m g (S5.dats m) fun _ _ => rfl) (S5.run_main m g)
  · intro m g _
    refine θ_run_mono (Cert.ReferenceIdeal.Value.run m g) fun r h => ⟨fun c => (h c).2.2.2, ?_⟩
    funext x
    rcases x with ⟨_, ⟨i⟩ | ⟨i⟩⟩ <;> exact i.elim0
  · intro m g _
    exact cast (by sl_kernel_rfl) (θ_run_with_sems (fun _ => InProj.unchanged (F := Bits) m g) (InProj.run_main m g))
  · intro m g _
    exact θ_run_with_sems (fun _ => InProj.unchanged (F := Ideal) m g) (InProj.run_main m g)
  · intro m g _
    refine θ_run_mono (Cert.Reference2Ideal.Value.run m g) fun r h => ⟨fun c => (h c).2.2.2.2.2, ?_⟩
    funext x
    rcases x with ⟨_, ⟨i⟩ | ⟨i⟩⟩ <;> exact i.elim0
  · intro m g _
    exact cast (by sl_kernel_rfl) (θ_run_with_sems (fun _ => InProjFirst.unchanged (F := Bits) m g) (InProjFirst.run_main m g))
  · intro m g _
    exact θ_run_with_sems (fun _ => InProjFirst.unchanged (F := Ideal) m g) (InProjFirst.run_main m g)
  · intro m g _
    refine θ_run_mono (Cert.Reference3Ideal.Value.run m g) fun r h => ⟨fun c => (h c).2.2.2.2.2.2.2, ?_⟩
    funext x
    rcases x with ⟨_, ⟨i⟩ | ⟨i⟩⟩ <;> exact i.elim0
  · trivial
  · intro m g m' g' _ hm
    refine ⟨fun c => S5.ylS (S5.K0 m c) (S5.K1 m c) (S5.K2 m c) (S5.K3 m c) (S5.K4 m c),
      fun c => S5.ycS (S5.K0 m c) (S5.K1 m c) (S5.K2 m c) (S5.K3 m c) (S5.K4 m c), fun c => S5.woS (S5.K5 m c), ?_, ?_⟩
    · have hv := S5.run_value m g
      have hf := Cert.KernelIdeal.Gen.frame_of (F := Ideal) m g (S5.dats m) (fun _ _ => rfl) (θ_run_mono (S5.run_main m g) fun _ h => h.1)
      exact θ_run_mono (θ_run_and hv hf) fun r h c => ⟨(h.1 c).1, (h.1 c).2.1, (h.1 c).2.2, h.2 c⟩
    · refine θ_run_mono (Cert.ReferenceIdeal.Value.run m' g') fun r h c => ?_
      obtain ⟨e0, e1, e2, e3, e4, e5⟩ := hm c
      obtain ⟨h0, h1, h2, hargs⟩ := h c
      have k0 : S5.R0 m' c = S5.K0 m c := e0
      have k1 : S5.R1 m' c = S5.K1 m c := e1
      have k2 : S5.R2 m' c = S5.K2 m c := e2
      have k3 : S5.R3 m' c = S5.K3 m c := e3
      have k4 : S5.R4 m' c = S5.K4 m c := e4
      have k5 : S5.R5 m' c = S5.K5 m c := e5
      refine ⟨h0.trans ((S5.out_latent m' c).trans ?_), h1.trans ((S5.out_context m' c).trans ?_), h2.trans ((S5.out_weight m' c).trans ?_), hargs⟩
      · rw [k0, k1, k2, k3, k4]
      · rw [k0, k1, k2, k3, k4]
      · rw [k5]
  · trivial
  · intro m g m' g' _ hm
    refine ⟨fun c => InProj.uS 2 (InProj.K0 m c) (InProj.K1 m c) (InProj.K2 m c), fun c => InProj.zS 2 (InProj.K0 m c) (InProj.K1 m c) (InProj.K2 m c),
      fun c => InProj.cvS 2 (InProj.K0 m c) (InProj.K1 m c) (InProj.K3 m c), fun c => InProj.bS 2 (InProj.K0 m c) (InProj.K1 m c) (InProj.K3 m c),
      fun c => InProj.gS 2 (InProj.K0 m c) (InProj.K1 m c) (InProj.K3 m c), ?_, ?_⟩
    · exact θ_run_mono (θ_run_and (InProj.run_value m g) (InProj.unchanged m g)) fun r h c =>
        ⟨(h.1 c).1, (h.1 c).2.1, (h.1 c).2.2.1, (h.1 c).2.2.2.1, (h.1 c).2.2.2.2, h.2 c⟩
    · refine θ_run_mono (Cert.Reference2Ideal.Value.run m' g') fun r h c => ?_
      obtain ⟨e0, e1, e2, e3⟩ := hm c
      obtain ⟨h0, h1, h2, h3, h4, hargs⟩ := h c
      have k0 : InProj.R0 m' c = InProj.K0 m c := e0
      have k1 : InProj.R1 m' c = InProj.K1 m c := e1
      have k2 : InProj.R2 m' c = InProj.K2 m c := e2
      have k3 : InProj.R3 m' c = InProj.K3 m c := e3
      refine ⟨h0.trans ((InProj.uR_val (InProj.R0 m' c) (InProj.R1 m' c) (InProj.R2 m' c) 2 Cert.Reference2Ideal.Gen.slices_S4x3x2048_S1x1x2048_2_0_0 Cert.Reference2Ideal.Gen.slices_S4x3x2048_S1x1x2048_2_1_0).trans ?_), h1.trans ((InProj.ref_z m' c).trans ?_),
        h2.trans ((InProj.ref_cv m' c).trans ?_), h3.trans ((InProj.bR_val (InProj.R0 m' c) (InProj.R1 m' c) (InProj.R3 m' c) 2 Cert.Reference2Ideal.Gen.slices_S4x3x2048_S1x1x2048_2_0_0 Cert.Reference2Ideal.Gen.slices_S4x3x2048_S1x1x2048_2_1_0).trans ?_),
        h4.trans ((InProj.ref_g m' c).trans ?_), hargs⟩
      · rw [k0, k1, k2]
      · rw [k0, k1, k2]
      · rw [k0, k1, k3]
      · rw [k0, k1, k3]
      · rw [k0, k1, k3]
  · trivial
  · intro m g m' g' _ hm
    refine ⟨fun c => InProj.uS 0 (InProjFirst.K0 m c) (InProjFirst.K1 m c) (InProjFirst.K2 m c), fun c => InProj.zS 0 (InProjFirst.K0 m c) (InProjFirst.K1 m c) (InProjFirst.K2 m c),
      fun c => InProj.cvS 0 (InProjFirst.K0 m c) (InProjFirst.K1 m c) (InProjFirst.K3 m c), fun c => InProj.bS 0 (InProjFirst.K0 m c) (InProjFirst.K1 m c) (InProjFirst.K3 m c),
      fun c => InProj.gS 0 (InProjFirst.K0 m c) (InProjFirst.K1 m c) (InProjFirst.K3 m c),
      fun c => InProj.nextRS (InProjFirst.K4 m c), fun c => InProj.nextTS (InProjFirst.K4 m c), ?_, ?_⟩
    · exact θ_run_mono (θ_run_and (InProjFirst.run_value m g) (InProjFirst.unchanged m g)) fun r h c =>
        ⟨(h.1 c).1, (h.1 c).2.1, (h.1 c).2.2.1, (h.1 c).2.2.2.1, (h.1 c).2.2.2.2.1, (h.1 c).2.2.2.2.2.1, (h.1 c).2.2.2.2.2.2, h.2 c⟩
    · refine θ_run_mono (Cert.Reference3Ideal.Value.run m' g') fun r h c => ?_
      obtain ⟨e0, e1, e2, e3, e4⟩ := hm c
      obtain ⟨h0, h1, h2, h3, h4, h5, h6, hargs⟩ := h c
      have k0 : InProjFirst.R0 m' c = InProjFirst.K0 m c := e0
      have k1 : InProjFirst.R1 m' c = InProjFirst.K1 m c := e1
      have k2 : InProjFirst.R2 m' c = InProjFirst.K2 m c := e2
      have k3 : InProjFirst.R3 m' c = InProjFirst.K3 m c := e3
      have k4 : InProjFirst.R4 m' c = InProjFirst.K4 m c := e4
      refine ⟨h0.trans ((InProj.uR_val (InProjFirst.R0 m' c) (InProjFirst.R1 m' c) (InProjFirst.R2 m' c) 0 Cert.Reference3Ideal.Gen.slices_S4x3x2048_S1x1x2048_0_0_0 Cert.Reference3Ideal.Gen.slices_S4x3x2048_S1x1x2048_0_1_0).trans ?_), h1.trans ((InProjFirst.ref_z m' c).trans ?_),
        h2.trans ((InProjFirst.ref_cv m' c).trans ?_), h3.trans ((InProj.bR_val (InProjFirst.R0 m' c) (InProjFirst.R1 m' c) (InProjFirst.R3 m' c) 0 Cert.Reference3Ideal.Gen.slices_S4x3x2048_S1x1x2048_0_0_0 Cert.Reference3Ideal.Gen.slices_S4x3x2048_S1x1x2048_0_1_0).trans ?_),
        h4.trans ((InProjFirst.ref_g m' c).trans ?_),
        h5.trans ((InProjFirst.nextR_ref (InProjFirst.R4 m' c)).trans ?_), h6.trans ((InProjFirst.nextT_ref (InProjFirst.R4 m' c)).trans ?_), hargs⟩
      · rw [k0, k1, k2]
      · rw [k0, k1, k2]
      · rw [k0, k1, k3]
      · rw [k0, k1, k3]
      · rw [k0, k1, k3]
      · rw [k4]
      · rw [k4]

end Cert.Proof
